-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelDwFfn (m : (ℓ : Loc Cert.KernelDwFfn.nD Cert.KernelDwFfn.τ Cert.KernelDwFfn.sig) → Buf (Elt Bits) ℓ) : Prop :=
  True

def Pre_KernelDwFfnIdeal (m : (ℓ : Loc Cert.KernelDwFfnIdeal.nD Cert.KernelDwFfnIdeal.τ Cert.KernelDwFfnIdeal.sig) → Buf (Elt Ideal) ℓ) : Prop :=
  True

def Pre_ReferenceDwFfnIdeal (m : (ℓ : Loc Cert.ReferenceDwFfnIdeal.nD Cert.ReferenceDwFfnIdeal.τ Cert.ReferenceDwFfnIdeal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_KernelInProjIdeal_in_proj_finite [hPre_in_proj_finite : Cert.Pre_in_proj_finite.Facts] (m : (ℓ : Loc Cert.KernelInProjIdeal.nD Cert.KernelInProjIdeal.τ Cert.KernelInProjIdeal.sig) → Buf (Elt Ideal) ℓ) : Prop :=
  ∀ c : Dev Cert.KernelInProjIdeal.nD,
    (Cert.Pre_in_proj_finite.fn (F := Ideal) (m ((c.tc : Thread Cert.KernelInProjIdeal.nD Cert.KernelInProjIdeal.τ).loc Cert.KernelInProjIdeal.main_arg0)) (m ((c.tc : Thread Cert.KernelInProjIdeal.nD Cert.KernelInProjIdeal.τ).loc Cert.KernelInProjIdeal.main_arg1)) (m ((c.tc : Thread Cert.KernelInProjIdeal.nD Cert.KernelInProjIdeal.τ).loc Cert.KernelInProjIdeal.main_arg2)) (m ((c.tc : Thread Cert.KernelInProjIdeal.nD Cert.KernelInProjIdeal.τ).loc Cert.KernelInProjIdeal.main_arg3)) (m ((c.tc : Thread Cert.KernelInProjIdeal.nD Cert.KernelInProjIdeal.τ).loc Cert.KernelInProjIdeal.main_arg4))) = (fun _ => 1#1)

def Pre_ReferenceInProjIdeal (m : (ℓ : Loc Cert.ReferenceInProjIdeal.nD Cert.ReferenceInProjIdeal.τ Cert.ReferenceInProjIdeal.sig) → Buf (Elt Ideal) ℓ) : Prop :=
  True

def Pre_ReferenceInProjIdeal_in_proj_finite [hPre_in_proj_finite : Cert.Pre_in_proj_finite.Facts] (m : (ℓ : Loc Cert.ReferenceInProjIdeal.nD Cert.ReferenceInProjIdeal.τ Cert.ReferenceInProjIdeal.sig) → Buf (Elt Ideal) ℓ) : Prop :=
  ∀ c : Dev Cert.ReferenceInProjIdeal.nD,
    (Cert.Pre_in_proj_finite.fn (F := Ideal) (m ((c.tc : Thread Cert.ReferenceInProjIdeal.nD Cert.ReferenceInProjIdeal.τ).loc Cert.ReferenceInProjIdeal.main_arg0)) (m ((c.tc : Thread Cert.ReferenceInProjIdeal.nD Cert.ReferenceInProjIdeal.τ).loc Cert.ReferenceInProjIdeal.main_arg1)) (m ((c.tc : Thread Cert.ReferenceInProjIdeal.nD Cert.ReferenceInProjIdeal.τ).loc Cert.ReferenceInProjIdeal.main_arg2)) (m ((c.tc : Thread Cert.ReferenceInProjIdeal.nD Cert.ReferenceInProjIdeal.τ).loc Cert.ReferenceInProjIdeal.main_arg3)) (m ((c.tc : Thread Cert.ReferenceInProjIdeal.nD Cert.ReferenceInProjIdeal.τ).loc Cert.ReferenceInProjIdeal.main_arg4))) = (fun _ => 1#1)

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_KernelFfnInIdeal_ffn_in_finite [hPre_ffn_in_finite : Cert.Pre_ffn_in_finite.Facts] (m : (ℓ : Loc Cert.KernelFfnInIdeal.nD Cert.KernelFfnInIdeal.τ Cert.KernelFfnInIdeal.sig) → Buf (Elt Ideal) ℓ) : Prop :=
  ∀ c : Dev Cert.KernelFfnInIdeal.nD,
    (Cert.Pre_ffn_in_finite.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4)) (m ((c.tc : Thread Cert.KernelFfnInIdeal.nD Cert.KernelFfnInIdeal.τ).loc Cert.KernelFfnInIdeal.main_arg5)) (m ((c.tc : Thread Cert.KernelFfnInIdeal.nD Cert.KernelFfnInIdeal.τ).loc Cert.KernelFfnInIdeal.main_arg6)) (m ((c.tc : Thread Cert.KernelFfnInIdeal.nD Cert.KernelFfnInIdeal.τ).loc Cert.KernelFfnInIdeal.main_arg7)) (m ((c.tc : Thread Cert.KernelFfnInIdeal.nD Cert.KernelFfnInIdeal.τ).loc Cert.KernelFfnInIdeal.main_arg8)) (m ((c.tc : Thread Cert.KernelFfnInIdeal.nD Cert.KernelFfnInIdeal.τ).loc Cert.KernelFfnInIdeal.main_arg9)) (m ((c.tc : Thread Cert.KernelFfnInIdeal.nD Cert.KernelFfnInIdeal.τ).loc Cert.KernelFfnInIdeal.main_arg10))) = (fun _ => 1#1)

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_ReferenceFfnInIdeal_ffn_in_finite [hPre_ffn_in_finite : Cert.Pre_ffn_in_finite.Facts] (m : (ℓ : Loc Cert.ReferenceFfnInIdeal.nD Cert.ReferenceFfnInIdeal.τ Cert.ReferenceFfnInIdeal.sig) → Buf (Elt Ideal) ℓ) : Prop :=
  ∀ c : Dev Cert.ReferenceFfnInIdeal.nD,
    (Cert.Pre_ffn_in_finite.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4)) (m ((c.tc : Thread Cert.ReferenceFfnInIdeal.nD Cert.ReferenceFfnInIdeal.τ).loc Cert.ReferenceFfnInIdeal.main_arg5)) (m ((c.tc : Thread Cert.ReferenceFfnInIdeal.nD Cert.ReferenceFfnInIdeal.τ).loc Cert.ReferenceFfnInIdeal.main_arg6)) (m ((c.tc : Thread Cert.ReferenceFfnInIdeal.nD Cert.ReferenceFfnInIdeal.τ).loc Cert.ReferenceFfnInIdeal.main_arg7)) (m ((c.tc : Thread Cert.ReferenceFfnInIdeal.nD Cert.ReferenceFfnInIdeal.τ).loc Cert.ReferenceFfnInIdeal.main_arg8)) (m ((c.tc : Thread Cert.ReferenceFfnInIdeal.nD Cert.ReferenceFfnInIdeal.τ).loc Cert.ReferenceFfnInIdeal.main_arg9)) (m ((c.tc : Thread Cert.ReferenceFfnInIdeal.nD Cert.ReferenceFfnInIdeal.τ).loc Cert.ReferenceFfnInIdeal.main_arg10))) = (fun _ => 1#1)

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_ReferenceFfnFwdIdeal (m : (ℓ : Loc Cert.ReferenceFfnFwdIdeal.nD Cert.ReferenceFfnFwdIdeal.τ Cert.ReferenceFfnFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1)
      ∧ r.2.mem ((c.tc : Thread Cert.KernelDwIn.nD Cert.KernelDwIn.τ).loc Cert.KernelDwIn.main_arg2) = m ((c.tc : Thread Cert.KernelDwIn.nD Cert.KernelDwIn.τ).loc Cert.KernelDwIn.main_arg2)
      ∧ r.2.mem ((c.tc : Thread Cert.KernelDwIn.nD Cert.KernelDwIn.τ).loc Cert.KernelDwIn.main_arg3) = m ((c.tc : Thread Cert.KernelDwIn.nD Cert.KernelDwIn.τ).loc Cert.KernelDwIn.main_arg3))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1)
      ∧ r.2.mem ((c.tc : Thread Cert.KernelDwInIdeal.nD Cert.KernelDwInIdeal.τ).loc Cert.KernelDwInIdeal.main_arg2) = m ((c.tc : Thread Cert.KernelDwInIdeal.nD Cert.KernelDwInIdeal.τ).loc Cert.KernelDwInIdeal.main_arg2)
      ∧ r.2.mem ((c.tc : Thread Cert.KernelDwInIdeal.nD Cert.KernelDwInIdeal.τ).loc Cert.KernelDwInIdeal.main_arg3) = m ((c.tc : Thread Cert.KernelDwInIdeal.nD Cert.KernelDwInIdeal.τ).loc Cert.KernelDwInIdeal.main_arg3))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1)
      ∧ r.2.mem ((c.tc : Thread Cert.ReferenceDwInIdeal.nD Cert.ReferenceDwInIdeal.τ).loc Cert.ReferenceDwInIdeal.main_arg2) = m ((c.tc : Thread Cert.ReferenceDwInIdeal.nD Cert.ReferenceDwInIdeal.τ).loc Cert.ReferenceDwInIdeal.main_arg2)
      ∧ r.2.mem ((c.tc : Thread Cert.ReferenceDwInIdeal.nD Cert.ReferenceDwInIdeal.τ).loc Cert.ReferenceDwInIdeal.main_arg3) = m ((c.tc : Thread Cert.ReferenceDwInIdeal.nD Cert.ReferenceDwInIdeal.τ).loc Cert.ReferenceDwInIdeal.main_arg3))
      ∧ r.2.sem = fun _ => 0)

def quiescent_KernelDwFfn [hKernelDwFfn : Cert.KernelDwFfn.Facts] : Prop :=
  ∀ (m : (ℓ : Loc Cert.KernelDwFfn.nD Cert.KernelDwFfn.τ Cert.KernelDwFfn.sig) → Buf (Elt Bits) ℓ) (g : Dev Cert.KernelDwFfn.nD → PrngReg), Pre_KernelDwFfn m →
    θ_run (Cert.KernelDwFfn.defs (F := Bits)) (onTc (τ := Cert.KernelDwFfn.τ) (Cert.KernelDwFfn.main (F := Bits))) ⟨m, fun _ => 0, g⟩ (fun r => (∀ c : Dev Cert.KernelDwFfn.nD,
      r.2.mem ((c.tc : Thread Cert.KernelDwFfn.nD Cert.KernelDwFfn.τ).loc Cert.KernelDwFfn.main_arg0) = m ((c.tc : Thread Cert.KernelDwFfn.nD Cert.KernelDwFfn.τ).loc Cert.KernelDwFfn.main_arg0)
      ∧ r.2.mem ((c.tc : Thread Cert.KernelDwFfn.nD Cert.KernelDwFfn.τ).loc Cert.KernelDwFfn.main_arg1) = m ((c.tc : Thread Cert.KernelDwFfn.nD Cert.KernelDwFfn.τ).loc Cert.KernelDwFfn.main_arg1)
      ∧ r.2.mem ((c.tc : Thread Cert.KernelDwFfn.nD Cert.KernelDwFfn.τ).loc Cert.KernelDwFfn.main_arg2) = m ((c.tc : Thread Cert.KernelDwFfn.nD Cert.KernelDwFfn.τ).loc Cert.KernelDwFfn.main_arg2)
      ∧ r.2.mem ((c.tc : Thread Cert.KernelDwFfn.nD Cert.KernelDwFfn.τ).loc Cert.KernelDwFfn.main_arg3) = m ((c.tc : Thread Cert.KernelDwFfn.nD Cert.KernelDwFfn.τ).loc Cert.KernelDwFfn.main_arg3))
      ∧ r.2.sem = fun _ => 0)

def quiescent_KernelDwFfnIdeal [hKernelDwFfnIdeal : Cert.KernelDwFfnIdeal.Facts] : Prop :=
  ∀ (m : (ℓ : Loc Cert.KernelDwFfnIdeal.nD Cert.KernelDwFfnIdeal.τ Cert.KernelDwFfnIdeal.sig) → Buf (Elt Ideal) ℓ) (g : Dev Cert.KernelDwFfnIdeal.nD → PrngReg), Pre_KernelDwFfnIdeal m →
    θ_run (Cert.KernelDwFfnIdeal.defs (F := Ideal)) (onTc (τ := Cert.KernelDwFfnIdeal.τ) (Cert.KernelDwFfnIdeal.main (F := Ideal))) ⟨m, fun _ => 0, g⟩ (fun r => (∀ c : Dev Cert.KernelDwFfnIdeal.nD,
      r.2.mem ((c.tc : Thread Cert.KernelDwFfnIdeal.nD Cert.KernelDwFfnIdeal.τ).loc Cert.KernelDwFfnIdeal.main_arg0) = m ((c.tc : Thread Cert.KernelDwFfnIdeal.nD Cert.KernelDwFfnIdeal.τ).loc Cert.KernelDwFfnIdeal.main_arg0)
      ∧ r.2.mem ((c.tc : Thread Cert.KernelDwFfnIdeal.nD Cert.KernelDwFfnIdeal.τ).loc Cert.KernelDwFfnIdeal.main_arg1) = m ((c.tc : Thread Cert.KernelDwFfnIdeal.nD Cert.KernelDwFfnIdeal.τ).loc Cert.KernelDwFfnIdeal.main_arg1)
      ∧ r.2.mem ((c.tc : Thread Cert.KernelDwFfnIdeal.nD Cert.KernelDwFfnIdeal.τ).loc Cert.KernelDwFfnIdeal.main_arg2) = m ((c.tc : Thread Cert.KernelDwFfnIdeal.nD Cert.KernelDwFfnIdeal.τ).loc Cert.KernelDwFfnIdeal.main_arg2)
      ∧ r.2.mem ((c.tc : Thread Cert.KernelDwFfnIdeal.nD Cert.KernelDwFfnIdeal.τ).loc Cert.KernelDwFfnIdeal.main_arg3) = m ((c.tc : Thread Cert.KernelDwFfnIdeal.nD Cert.KernelDwFfnIdeal.τ).loc Cert.KernelDwFfnIdeal.main_arg3))
      ∧ r.2.sem = fun _ => 0)

def quiescent_ReferenceDwFfnIdeal [hReferenceDwFfnIdeal : Cert.ReferenceDwFfnIdeal.Facts] : Prop :=
  ∀ (m : (ℓ : Loc Cert.ReferenceDwFfnIdeal.nD Cert.ReferenceDwFfnIdeal.τ Cert.ReferenceDwFfnIdeal.sig) → Buf (Elt Ideal) ℓ) (g : Dev Cert.ReferenceDwFfnIdeal.nD → PrngReg), Pre_ReferenceDwFfnIdeal m →
    θ_run (Cert.ReferenceDwFfnIdeal.defs (F := Ideal)) (onTc (τ := Cert.ReferenceDwFfnIdeal.τ) (Cert.ReferenceDwFfnIdeal.main (F := Ideal))) ⟨m, fun _ => 0, g⟩ (fun r => (∀ c : Dev Cert.ReferenceDwFfnIdeal.nD,
      r.2.mem ((c.tc : Thread Cert.ReferenceDwFfnIdeal.nD Cert.ReferenceDwFfnIdeal.τ).loc Cert.ReferenceDwFfnIdeal.main_arg0) = m ((c.tc : Thread Cert.ReferenceDwFfnIdeal.nD Cert.ReferenceDwFfnIdeal.τ).loc Cert.ReferenceDwFfnIdeal.main_arg0)
      ∧ r.2.mem ((c.tc : Thread Cert.ReferenceDwFfnIdeal.nD Cert.ReferenceDwFfnIdeal.τ).loc Cert.ReferenceDwFfnIdeal.main_arg1) = m ((c.tc : Thread Cert.ReferenceDwFfnIdeal.nD Cert.ReferenceDwFfnIdeal.τ).loc Cert.ReferenceDwFfnIdeal.main_arg1)
      ∧ r.2.mem ((c.tc : Thread Cert.ReferenceDwFfnIdeal.nD Cert.ReferenceDwFfnIdeal.τ).loc Cert.ReferenceDwFfnIdeal.main_arg2) = m ((c.tc : Thread Cert.ReferenceDwFfnIdeal.nD Cert.ReferenceDwFfnIdeal.τ).loc Cert.ReferenceDwFfnIdeal.main_arg2)
      ∧ r.2.mem ((c.tc : Thread Cert.ReferenceDwFfnIdeal.nD Cert.ReferenceDwFfnIdeal.τ).loc Cert.ReferenceDwFfnIdeal.main_arg3) = m ((c.tc : Thread Cert.ReferenceDwFfnIdeal.nD Cert.ReferenceDwFfnIdeal.τ).loc Cert.ReferenceDwFfnIdeal.main_arg3))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1)
      ∧ r.2.mem ((c.tc : Thread Cert.KernelInProj.nD Cert.KernelInProj.τ).loc Cert.KernelInProj.main_arg2) = m ((c.tc : Thread Cert.KernelInProj.nD Cert.KernelInProj.τ).loc Cert.KernelInProj.main_arg2)
      ∧ r.2.mem ((c.tc : Thread Cert.KernelInProj.nD Cert.KernelInProj.τ).loc Cert.KernelInProj.main_arg3) = m ((c.tc : Thread Cert.KernelInProj.nD Cert.KernelInProj.τ).loc Cert.KernelInProj.main_arg3)
      ∧ r.2.mem ((c.tc : Thread Cert.KernelInProj.nD Cert.KernelInProj.τ).loc Cert.KernelInProj.main_arg4) = m ((c.tc : Thread Cert.KernelInProj.nD Cert.KernelInProj.τ).loc Cert.KernelInProj.main_arg4))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
      ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2)
      ∧ r.2.mem ((c.tc : Thread Cert.KernelInProjIdeal.nD Cert.KernelInProjIdeal.τ).loc Cert.KernelInProjIdeal.main_arg3) = m ((c.tc : Thread Cert.KernelInProjIdeal.nD Cert.KernelInProjIdeal.τ).loc Cert.KernelInProjIdeal.main_arg3)
      ∧ r.2.mem ((c.tc : Thread Cert.KernelInProjIdeal.nD Cert.KernelInProjIdeal.τ).loc Cert.KernelInProjIdeal.main_arg4) = m ((c.tc : Thread Cert.KernelInProjIdeal.nD Cert.KernelInProjIdeal.τ).loc Cert.KernelInProjIdeal.main_arg4))
      ∧ r.2.sem = fun _ => 0)

def quiescent_KernelInProjIdeal_pre_in_proj_finite [hKernelInProjIdeal : Cert.KernelInProjIdeal.Facts] [hPre_in_proj_finite : Cert.Pre_in_proj_finite.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal_in_proj_finite m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
      ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2)
      ∧ r.2.mem ((c.tc : Thread Cert.KernelInProjIdeal.nD Cert.KernelInProjIdeal.τ).loc Cert.KernelInProjIdeal.main_arg3) = m ((c.tc : Thread Cert.KernelInProjIdeal.nD Cert.KernelInProjIdeal.τ).loc Cert.KernelInProjIdeal.main_arg3)
      ∧ r.2.mem ((c.tc : Thread Cert.KernelInProjIdeal.nD Cert.KernelInProjIdeal.τ).loc Cert.KernelInProjIdeal.main_arg4) = m ((c.tc : Thread Cert.KernelInProjIdeal.nD Cert.KernelInProjIdeal.τ).loc Cert.KernelInProjIdeal.main_arg4))
      ∧ r.2.sem = fun _ => 0)

def quiescent_ReferenceInProjIdeal [hReferenceInProjIdeal : Cert.ReferenceInProjIdeal.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1)
      ∧ r.2.mem ((c.tc : Thread Cert.ReferenceInProjIdeal.nD Cert.ReferenceInProjIdeal.τ).loc Cert.ReferenceInProjIdeal.main_arg2) = m ((c.tc : Thread Cert.ReferenceInProjIdeal.nD Cert.ReferenceInProjIdeal.τ).loc Cert.ReferenceInProjIdeal.main_arg2)
      ∧ r.2.mem ((c.tc : Thread Cert.ReferenceInProjIdeal.nD Cert.ReferenceInProjIdeal.τ).loc Cert.ReferenceInProjIdeal.main_arg3) = m ((c.tc : Thread Cert.ReferenceInProjIdeal.nD Cert.ReferenceInProjIdeal.τ).loc Cert.ReferenceInProjIdeal.main_arg3)
      ∧ r.2.mem ((c.tc : Thread Cert.ReferenceInProjIdeal.nD Cert.ReferenceInProjIdeal.τ).loc Cert.ReferenceInProjIdeal.main_arg4) = m ((c.tc : Thread Cert.ReferenceInProjIdeal.nD Cert.ReferenceInProjIdeal.τ).loc Cert.ReferenceInProjIdeal.main_arg4))
      ∧ r.2.sem = fun _ => 0)

def quiescent_ReferenceInProjIdeal_pre_in_proj_finite [hReferenceInProjIdeal : Cert.ReferenceInProjIdeal.Facts] [hPre_in_proj_finite : Cert.Pre_in_proj_finite.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal_in_proj_finite m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1)
      ∧ r.2.mem ((c.tc : Thread Cert.ReferenceInProjIdeal.nD Cert.ReferenceInProjIdeal.τ).loc Cert.ReferenceInProjIdeal.main_arg2) = m ((c.tc : Thread Cert.ReferenceInProjIdeal.nD Cert.ReferenceInProjIdeal.τ).loc Cert.ReferenceInProjIdeal.main_arg2)
      ∧ r.2.mem ((c.tc : Thread Cert.ReferenceInProjIdeal.nD Cert.ReferenceInProjIdeal.τ).loc Cert.ReferenceInProjIdeal.main_arg3) = m ((c.tc : Thread Cert.ReferenceInProjIdeal.nD Cert.ReferenceInProjIdeal.τ).loc Cert.ReferenceInProjIdeal.main_arg3)
      ∧ r.2.mem ((c.tc : Thread Cert.ReferenceInProjIdeal.nD Cert.ReferenceInProjIdeal.τ).loc Cert.ReferenceInProjIdeal.main_arg4) = m ((c.tc : Thread Cert.ReferenceInProjIdeal.nD Cert.ReferenceInProjIdeal.τ).loc Cert.ReferenceInProjIdeal.main_arg4))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2)
      ∧ r.2.mem ((c.tc : Thread Cert.KernelFfnIn.nD Cert.KernelFfnIn.τ).loc Cert.KernelFfnIn.main_arg3) = m ((c.tc : Thread Cert.KernelFfnIn.nD Cert.KernelFfnIn.τ).loc Cert.KernelFfnIn.main_arg3)
      ∧ r.2.mem ((c.tc : Thread Cert.KernelFfnIn.nD Cert.KernelFfnIn.τ).loc Cert.KernelFfnIn.main_arg4) = m ((c.tc : Thread Cert.KernelFfnIn.nD Cert.KernelFfnIn.τ).loc Cert.KernelFfnIn.main_arg4)
      ∧ r.2.mem ((c.tc : Thread Cert.KernelFfnIn.nD Cert.KernelFfnIn.τ).loc Cert.KernelFfnIn.main_arg5) = m ((c.tc : Thread Cert.KernelFfnIn.nD Cert.KernelFfnIn.τ).loc Cert.KernelFfnIn.main_arg5)
      ∧ r.2.mem ((c.tc : Thread Cert.KernelFfnIn.nD Cert.KernelFfnIn.τ).loc Cert.KernelFfnIn.main_arg6) = m ((c.tc : Thread Cert.KernelFfnIn.nD Cert.KernelFfnIn.τ).loc Cert.KernelFfnIn.main_arg6)
      ∧ r.2.mem ((c.tc : Thread Cert.KernelFfnIn.nD Cert.KernelFfnIn.τ).loc Cert.KernelFfnIn.main_arg7) = m ((c.tc : Thread Cert.KernelFfnIn.nD Cert.KernelFfnIn.τ).loc Cert.KernelFfnIn.main_arg7)
      ∧ r.2.mem ((c.tc : Thread Cert.KernelFfnIn.nD Cert.KernelFfnIn.τ).loc Cert.KernelFfnIn.main_arg8) = m ((c.tc : Thread Cert.KernelFfnIn.nD Cert.KernelFfnIn.τ).loc Cert.KernelFfnIn.main_arg8)
      ∧ r.2.mem ((c.tc : Thread Cert.KernelFfnIn.nD Cert.KernelFfnIn.τ).loc Cert.KernelFfnIn.main_arg9) = m ((c.tc : Thread Cert.KernelFfnIn.nD Cert.KernelFfnIn.τ).loc Cert.KernelFfnIn.main_arg9)
      ∧ r.2.mem ((c.tc : Thread Cert.KernelFfnIn.nD Cert.KernelFfnIn.τ).loc Cert.KernelFfnIn.main_arg10) = m ((c.tc : Thread Cert.KernelFfnIn.nD Cert.KernelFfnIn.τ).loc Cert.KernelFfnIn.main_arg10))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
      ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
      ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4)
      ∧ r.2.mem ((c.tc : Thread Cert.KernelFfnInIdeal.nD Cert.KernelFfnInIdeal.τ).loc Cert.KernelFfnInIdeal.main_arg5) = m ((c.tc : Thread Cert.KernelFfnInIdeal.nD Cert.KernelFfnInIdeal.τ).loc Cert.KernelFfnInIdeal.main_arg5)
      ∧ r.2.mem ((c.tc : Thread Cert.KernelFfnInIdeal.nD Cert.KernelFfnInIdeal.τ).loc Cert.KernelFfnInIdeal.main_arg6) = m ((c.tc : Thread Cert.KernelFfnInIdeal.nD Cert.KernelFfnInIdeal.τ).loc Cert.KernelFfnInIdeal.main_arg6)
      ∧ r.2.mem ((c.tc : Thread Cert.KernelFfnInIdeal.nD Cert.KernelFfnInIdeal.τ).loc Cert.KernelFfnInIdeal.main_arg7) = m ((c.tc : Thread Cert.KernelFfnInIdeal.nD Cert.KernelFfnInIdeal.τ).loc Cert.KernelFfnInIdeal.main_arg7)
      ∧ r.2.mem ((c.tc : Thread Cert.KernelFfnInIdeal.nD Cert.KernelFfnInIdeal.τ).loc Cert.KernelFfnInIdeal.main_arg8) = m ((c.tc : Thread Cert.KernelFfnInIdeal.nD Cert.KernelFfnInIdeal.τ).loc Cert.KernelFfnInIdeal.main_arg8)
      ∧ r.2.mem ((c.tc : Thread Cert.KernelFfnInIdeal.nD Cert.KernelFfnInIdeal.τ).loc Cert.KernelFfnInIdeal.main_arg9) = m ((c.tc : Thread Cert.KernelFfnInIdeal.nD Cert.KernelFfnInIdeal.τ).loc Cert.KernelFfnInIdeal.main_arg9)
      ∧ r.2.mem ((c.tc : Thread Cert.KernelFfnInIdeal.nD Cert.KernelFfnInIdeal.τ).loc Cert.KernelFfnInIdeal.main_arg10) = m ((c.tc : Thread Cert.KernelFfnInIdeal.nD Cert.KernelFfnInIdeal.τ).loc Cert.KernelFfnInIdeal.main_arg10))
      ∧ r.2.sem = fun _ => 0)

def quiescent_KernelFfnInIdeal_pre_ffn_in_finite [hKernelFfnInIdeal : Cert.KernelFfnInIdeal.Facts] [hPre_ffn_in_finite : Cert.Pre_ffn_in_finite.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal_ffn_in_finite m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
      ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
      ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4)
      ∧ r.2.mem ((c.tc : Thread Cert.KernelFfnInIdeal.nD Cert.KernelFfnInIdeal.τ).loc Cert.KernelFfnInIdeal.main_arg5) = m ((c.tc : Thread Cert.KernelFfnInIdeal.nD Cert.KernelFfnInIdeal.τ).loc Cert.KernelFfnInIdeal.main_arg5)
      ∧ r.2.mem ((c.tc : Thread Cert.KernelFfnInIdeal.nD Cert.KernelFfnInIdeal.τ).loc Cert.KernelFfnInIdeal.main_arg6) = m ((c.tc : Thread Cert.KernelFfnInIdeal.nD Cert.KernelFfnInIdeal.τ).loc Cert.KernelFfnInIdeal.main_arg6)
      ∧ r.2.mem ((c.tc : Thread Cert.KernelFfnInIdeal.nD Cert.KernelFfnInIdeal.τ).loc Cert.KernelFfnInIdeal.main_arg7) = m ((c.tc : Thread Cert.KernelFfnInIdeal.nD Cert.KernelFfnInIdeal.τ).loc Cert.KernelFfnInIdeal.main_arg7)
      ∧ r.2.mem ((c.tc : Thread Cert.KernelFfnInIdeal.nD Cert.KernelFfnInIdeal.τ).loc Cert.KernelFfnInIdeal.main_arg8) = m ((c.tc : Thread Cert.KernelFfnInIdeal.nD Cert.KernelFfnInIdeal.τ).loc Cert.KernelFfnInIdeal.main_arg8)
      ∧ r.2.mem ((c.tc : Thread Cert.KernelFfnInIdeal.nD Cert.KernelFfnInIdeal.τ).loc Cert.KernelFfnInIdeal.main_arg9) = m ((c.tc : Thread Cert.KernelFfnInIdeal.nD Cert.KernelFfnInIdeal.τ).loc Cert.KernelFfnInIdeal.main_arg9)
      ∧ r.2.mem ((c.tc : Thread Cert.KernelFfnInIdeal.nD Cert.KernelFfnInIdeal.τ).loc Cert.KernelFfnInIdeal.main_arg10) = m ((c.tc : Thread Cert.KernelFfnInIdeal.nD Cert.KernelFfnInIdeal.τ).loc Cert.KernelFfnInIdeal.main_arg10))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2)
      ∧ r.2.mem ((c.tc : Thread Cert.ReferenceFfnInIdeal.nD Cert.ReferenceFfnInIdeal.τ).loc Cert.ReferenceFfnInIdeal.main_arg3) = m ((c.tc : Thread Cert.ReferenceFfnInIdeal.nD Cert.ReferenceFfnInIdeal.τ).loc Cert.ReferenceFfnInIdeal.main_arg3)
      ∧ r.2.mem ((c.tc : Thread Cert.ReferenceFfnInIdeal.nD Cert.ReferenceFfnInIdeal.τ).loc Cert.ReferenceFfnInIdeal.main_arg4) = m ((c.tc : Thread Cert.ReferenceFfnInIdeal.nD Cert.ReferenceFfnInIdeal.τ).loc Cert.ReferenceFfnInIdeal.main_arg4)
      ∧ r.2.mem ((c.tc : Thread Cert.ReferenceFfnInIdeal.nD Cert.ReferenceFfnInIdeal.τ).loc Cert.ReferenceFfnInIdeal.main_arg5) = m ((c.tc : Thread Cert.ReferenceFfnInIdeal.nD Cert.ReferenceFfnInIdeal.τ).loc Cert.ReferenceFfnInIdeal.main_arg5)
      ∧ r.2.mem ((c.tc : Thread Cert.ReferenceFfnInIdeal.nD Cert.ReferenceFfnInIdeal.τ).loc Cert.ReferenceFfnInIdeal.main_arg6) = m ((c.tc : Thread Cert.ReferenceFfnInIdeal.nD Cert.ReferenceFfnInIdeal.τ).loc Cert.ReferenceFfnInIdeal.main_arg6)
      ∧ r.2.mem ((c.tc : Thread Cert.ReferenceFfnInIdeal.nD Cert.ReferenceFfnInIdeal.τ).loc Cert.ReferenceFfnInIdeal.main_arg7) = m ((c.tc : Thread Cert.ReferenceFfnInIdeal.nD Cert.ReferenceFfnInIdeal.τ).loc Cert.ReferenceFfnInIdeal.main_arg7)
      ∧ r.2.mem ((c.tc : Thread Cert.ReferenceFfnInIdeal.nD Cert.ReferenceFfnInIdeal.τ).loc Cert.ReferenceFfnInIdeal.main_arg8) = m ((c.tc : Thread Cert.ReferenceFfnInIdeal.nD Cert.ReferenceFfnInIdeal.τ).loc Cert.ReferenceFfnInIdeal.main_arg8)
      ∧ r.2.mem ((c.tc : Thread Cert.ReferenceFfnInIdeal.nD Cert.ReferenceFfnInIdeal.τ).loc Cert.ReferenceFfnInIdeal.main_arg9) = m ((c.tc : Thread Cert.ReferenceFfnInIdeal.nD Cert.ReferenceFfnInIdeal.τ).loc Cert.ReferenceFfnInIdeal.main_arg9)
      ∧ r.2.mem ((c.tc : Thread Cert.ReferenceFfnInIdeal.nD Cert.ReferenceFfnInIdeal.τ).loc Cert.ReferenceFfnInIdeal.main_arg10) = m ((c.tc : Thread Cert.ReferenceFfnInIdeal.nD Cert.ReferenceFfnInIdeal.τ).loc Cert.ReferenceFfnInIdeal.main_arg10))
      ∧ r.2.sem = fun _ => 0)

def quiescent_ReferenceFfnInIdeal_pre_ffn_in_finite [hReferenceFfnInIdeal : Cert.ReferenceFfnInIdeal.Facts] [hPre_ffn_in_finite : Cert.Pre_ffn_in_finite.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal_ffn_in_finite m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2)
      ∧ r.2.mem ((c.tc : Thread Cert.ReferenceFfnInIdeal.nD Cert.ReferenceFfnInIdeal.τ).loc Cert.ReferenceFfnInIdeal.main_arg3) = m ((c.tc : Thread Cert.ReferenceFfnInIdeal.nD Cert.ReferenceFfnInIdeal.τ).loc Cert.ReferenceFfnInIdeal.main_arg3)
      ∧ r.2.mem ((c.tc : Thread Cert.ReferenceFfnInIdeal.nD Cert.ReferenceFfnInIdeal.τ).loc Cert.ReferenceFfnInIdeal.main_arg4) = m ((c.tc : Thread Cert.ReferenceFfnInIdeal.nD Cert.ReferenceFfnInIdeal.τ).loc Cert.ReferenceFfnInIdeal.main_arg4)
      ∧ r.2.mem ((c.tc : Thread Cert.ReferenceFfnInIdeal.nD Cert.ReferenceFfnInIdeal.τ).loc Cert.ReferenceFfnInIdeal.main_arg5) = m ((c.tc : Thread Cert.ReferenceFfnInIdeal.nD Cert.ReferenceFfnInIdeal.τ).loc Cert.ReferenceFfnInIdeal.main_arg5)
      ∧ r.2.mem ((c.tc : Thread Cert.ReferenceFfnInIdeal.nD Cert.ReferenceFfnInIdeal.τ).loc Cert.ReferenceFfnInIdeal.main_arg6) = m ((c.tc : Thread Cert.ReferenceFfnInIdeal.nD Cert.ReferenceFfnInIdeal.τ).loc Cert.ReferenceFfnInIdeal.main_arg6)
      ∧ r.2.mem ((c.tc : Thread Cert.ReferenceFfnInIdeal.nD Cert.ReferenceFfnInIdeal.τ).loc Cert.ReferenceFfnInIdeal.main_arg7) = m ((c.tc : Thread Cert.ReferenceFfnInIdeal.nD Cert.ReferenceFfnInIdeal.τ).loc Cert.ReferenceFfnInIdeal.main_arg7)
      ∧ r.2.mem ((c.tc : Thread Cert.ReferenceFfnInIdeal.nD Cert.ReferenceFfnInIdeal.τ).loc Cert.ReferenceFfnInIdeal.main_arg8) = m ((c.tc : Thread Cert.ReferenceFfnInIdeal.nD Cert.ReferenceFfnInIdeal.τ).loc Cert.ReferenceFfnInIdeal.main_arg8)
      ∧ r.2.mem ((c.tc : Thread Cert.ReferenceFfnInIdeal.nD Cert.ReferenceFfnInIdeal.τ).loc Cert.ReferenceFfnInIdeal.main_arg9) = m ((c.tc : Thread Cert.ReferenceFfnInIdeal.nD Cert.ReferenceFfnInIdeal.τ).loc Cert.ReferenceFfnInIdeal.main_arg9)
      ∧ r.2.mem ((c.tc : Thread Cert.ReferenceFfnInIdeal.nD Cert.ReferenceFfnInIdeal.τ).loc Cert.ReferenceFfnInIdeal.main_arg10) = m ((c.tc : Thread Cert.ReferenceFfnInIdeal.nD Cert.ReferenceFfnInIdeal.τ).loc Cert.ReferenceFfnInIdeal.main_arg10))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3)
      ∧ r.2.mem ((c.tc : Thread Cert.KernelFfnFwd.nD Cert.KernelFfnFwd.τ).loc Cert.KernelFfnFwd.main_arg4) = m ((c.tc : Thread Cert.KernelFfnFwd.nD Cert.KernelFfnFwd.τ).loc Cert.KernelFfnFwd.main_arg4)
      ∧ r.2.mem ((c.tc : Thread Cert.KernelFfnFwd.nD Cert.KernelFfnFwd.τ).loc Cert.KernelFfnFwd.main_arg5) = m ((c.tc : Thread Cert.KernelFfnFwd.nD Cert.KernelFfnFwd.τ).loc Cert.KernelFfnFwd.main_arg5)
      ∧ r.2.mem ((c.tc : Thread Cert.KernelFfnFwd.nD Cert.KernelFfnFwd.τ).loc Cert.KernelFfnFwd.main_arg6) = m ((c.tc : Thread Cert.KernelFfnFwd.nD Cert.KernelFfnFwd.τ).loc Cert.KernelFfnFwd.main_arg6)
      ∧ r.2.mem ((c.tc : Thread Cert.KernelFfnFwd.nD Cert.KernelFfnFwd.τ).loc Cert.KernelFfnFwd.main_arg7) = m ((c.tc : Thread Cert.KernelFfnFwd.nD Cert.KernelFfnFwd.τ).loc Cert.KernelFfnFwd.main_arg7))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
      ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4)
      ∧ r.2.mem ((c.tc : Thread Cert.KernelFfnFwdIdeal.nD Cert.KernelFfnFwdIdeal.τ).loc Cert.KernelFfnFwdIdeal.main_arg5) = m ((c.tc : Thread Cert.KernelFfnFwdIdeal.nD Cert.KernelFfnFwdIdeal.τ).loc Cert.KernelFfnFwdIdeal.main_arg5)
      ∧ r.2.mem ((c.tc : Thread Cert.KernelFfnFwdIdeal.nD Cert.KernelFfnFwdIdeal.τ).loc Cert.KernelFfnFwdIdeal.main_arg6) = m ((c.tc : Thread Cert.KernelFfnFwdIdeal.nD Cert.KernelFfnFwdIdeal.τ).loc Cert.KernelFfnFwdIdeal.main_arg6)
      ∧ r.2.mem ((c.tc : Thread Cert.KernelFfnFwdIdeal.nD Cert.KernelFfnFwdIdeal.τ).loc Cert.KernelFfnFwdIdeal.main_arg7) = m ((c.tc : Thread Cert.KernelFfnFwdIdeal.nD Cert.KernelFfnFwdIdeal.τ).loc Cert.KernelFfnFwdIdeal.main_arg7))
      ∧ r.2.sem = fun _ => 0)

def quiescent_ReferenceFfnFwdIdeal [hReferenceFfnFwdIdeal : Cert.ReferenceFfnFwdIdeal.Facts] : Prop :=
  ∀ (m : (ℓ : Loc Cert.ReferenceFfnFwdIdeal.nD Cert.ReferenceFfnFwdIdeal.τ Cert.ReferenceFfnFwdIdeal.sig) → Buf (Elt Ideal) ℓ) (g : Dev Cert.ReferenceFfnFwdIdeal.nD → PrngReg), Pre_ReferenceFfnFwdIdeal m →
    θ_run (Cert.ReferenceFfnFwdIdeal.defs (F := Ideal)) (onTc (τ := Cert.ReferenceFfnFwdIdeal.τ) (Cert.ReferenceFfnFwdIdeal.main (F := Ideal))) ⟨m, fun _ => 0, g⟩ (fun r => (∀ c : Dev Cert.ReferenceFfnFwdIdeal.nD,
      r.2.mem ((c.tc : Thread Cert.ReferenceFfnFwdIdeal.nD Cert.ReferenceFfnFwdIdeal.τ).loc Cert.ReferenceFfnFwdIdeal.main_arg0) = m ((c.tc : Thread Cert.ReferenceFfnFwdIdeal.nD Cert.ReferenceFfnFwdIdeal.τ).loc Cert.ReferenceFfnFwdIdeal.main_arg0)
      ∧ r.2.mem ((c.tc : Thread Cert.ReferenceFfnFwdIdeal.nD Cert.ReferenceFfnFwdIdeal.τ).loc Cert.ReferenceFfnFwdIdeal.main_arg1) = m ((c.tc : Thread Cert.ReferenceFfnFwdIdeal.nD Cert.ReferenceFfnFwdIdeal.τ).loc Cert.ReferenceFfnFwdIdeal.main_arg1)
      ∧ r.2.mem ((c.tc : Thread Cert.ReferenceFfnFwdIdeal.nD Cert.ReferenceFfnFwdIdeal.τ).loc Cert.ReferenceFfnFwdIdeal.main_arg2) = m ((c.tc : Thread Cert.ReferenceFfnFwdIdeal.nD Cert.ReferenceFfnFwdIdeal.τ).loc Cert.ReferenceFfnFwdIdeal.main_arg2)
      ∧ r.2.mem ((c.tc : Thread Cert.ReferenceFfnFwdIdeal.nD Cert.ReferenceFfnFwdIdeal.τ).loc Cert.ReferenceFfnFwdIdeal.main_arg3) = m ((c.tc : Thread Cert.ReferenceFfnFwdIdeal.nD Cert.ReferenceFfnFwdIdeal.τ).loc Cert.ReferenceFfnFwdIdeal.main_arg3)
      ∧ r.2.mem ((c.tc : Thread Cert.ReferenceFfnFwdIdeal.nD Cert.ReferenceFfnFwdIdeal.τ).loc Cert.ReferenceFfnFwdIdeal.main_arg4) = m ((c.tc : Thread Cert.ReferenceFfnFwdIdeal.nD Cert.ReferenceFfnFwdIdeal.τ).loc Cert.ReferenceFfnFwdIdeal.main_arg4)
      ∧ r.2.mem ((c.tc : Thread Cert.ReferenceFfnFwdIdeal.nD Cert.ReferenceFfnFwdIdeal.τ).loc Cert.ReferenceFfnFwdIdeal.main_arg5) = m ((c.tc : Thread Cert.ReferenceFfnFwdIdeal.nD Cert.ReferenceFfnFwdIdeal.τ).loc Cert.ReferenceFfnFwdIdeal.main_arg5)
      ∧ r.2.mem ((c.tc : Thread Cert.ReferenceFfnFwdIdeal.nD Cert.ReferenceFfnFwdIdeal.τ).loc Cert.ReferenceFfnFwdIdeal.main_arg6) = m ((c.tc : Thread Cert.ReferenceFfnFwdIdeal.nD Cert.ReferenceFfnFwdIdeal.τ).loc Cert.ReferenceFfnFwdIdeal.main_arg6)
      ∧ r.2.mem ((c.tc : Thread Cert.ReferenceFfnFwdIdeal.nD Cert.ReferenceFfnFwdIdeal.τ).loc Cert.ReferenceFfnFwdIdeal.main_arg7) = m ((c.tc : Thread Cert.ReferenceFfnFwdIdeal.nD Cert.ReferenceFfnFwdIdeal.τ).loc Cert.ReferenceFfnFwdIdeal.main_arg7))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)
      ∧ m' ((c.tc : Thread Cert.ReferenceDwInIdeal.nD Cert.ReferenceDwInIdeal.τ).loc Cert.ReferenceDwInIdeal.main_arg2) = m ((c.tc : Thread Cert.KernelDwInIdeal.nD Cert.KernelDwInIdeal.τ).loc Cert.KernelDwInIdeal.main_arg2)
      ∧ m' ((c.tc : Thread Cert.ReferenceDwInIdeal.nD Cert.ReferenceDwInIdeal.τ).loc Cert.ReferenceDwInIdeal.main_arg3) = m ((c.tc : Thread Cert.KernelDwInIdeal.nD Cert.KernelDwInIdeal.τ).loc Cert.KernelDwInIdeal.main_arg3)) →
    ∃ (v0 : (c : Dev Cert.KernelDwInIdeal.nD) → Buf (Elt Ideal) ((c.tc : Thread Cert.KernelDwInIdeal.nD Cert.KernelDwInIdeal.τ).loc Cert.KernelDwInIdeal.main_v15)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v15) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1)
          ∧ r.2.mem ((c.tc : Thread Cert.KernelDwInIdeal.nD Cert.KernelDwInIdeal.τ).loc Cert.KernelDwInIdeal.main_arg2) = m ((c.tc : Thread Cert.KernelDwInIdeal.nD Cert.KernelDwInIdeal.τ).loc Cert.KernelDwInIdeal.main_arg2)
          ∧ r.2.mem ((c.tc : Thread Cert.KernelDwInIdeal.nD Cert.KernelDwInIdeal.τ).loc Cert.KernelDwInIdeal.main_arg3) = m ((c.tc : Thread Cert.KernelDwInIdeal.nD Cert.KernelDwInIdeal.τ).loc Cert.KernelDwInIdeal.main_arg3))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v17) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1)
          ∧ r.2.mem ((c.tc : Thread Cert.ReferenceDwInIdeal.nD Cert.ReferenceDwInIdeal.τ).loc Cert.ReferenceDwInIdeal.main_arg2) = m' ((c.tc : Thread Cert.ReferenceDwInIdeal.nD Cert.ReferenceDwInIdeal.τ).loc Cert.ReferenceDwInIdeal.main_arg2)
          ∧ r.2.mem ((c.tc : Thread Cert.ReferenceDwInIdeal.nD Cert.ReferenceDwInIdeal.τ).loc Cert.ReferenceDwInIdeal.main_arg3) = m' ((c.tc : Thread Cert.ReferenceDwInIdeal.nD Cert.ReferenceDwInIdeal.τ).loc Cert.ReferenceDwInIdeal.main_arg3))

def preserves_KernelDwFfn_KernelDwFfnIdeal : Prop :=
  True

def algebraic_KernelDwFfnIdeal_ReferenceDwFfnIdeal [hKernelDwFfnIdeal : Cert.KernelDwFfnIdeal.Facts] [hReferenceDwFfnIdeal : Cert.ReferenceDwFfnIdeal.Facts] : Prop :=
  ∀ (m : (ℓ : Loc Cert.KernelDwFfnIdeal.nD Cert.KernelDwFfnIdeal.τ Cert.KernelDwFfnIdeal.sig) → Buf (Elt Ideal) ℓ) (g : Dev Cert.KernelDwFfnIdeal.nD → PrngReg)
    (m' : (ℓ : Loc Cert.ReferenceDwFfnIdeal.nD Cert.ReferenceDwFfnIdeal.τ Cert.ReferenceDwFfnIdeal.sig) → Buf (Elt Ideal) ℓ) (g' : Dev Cert.ReferenceDwFfnIdeal.nD → PrngReg), Pre_KernelDwFfnIdeal m →
    (∀ c : Dev Cert.KernelDwFfnIdeal.nD,
      m' ((c.tc : Thread Cert.ReferenceDwFfnIdeal.nD Cert.ReferenceDwFfnIdeal.τ).loc Cert.ReferenceDwFfnIdeal.main_arg0) = m ((c.tc : Thread Cert.KernelDwFfnIdeal.nD Cert.KernelDwFfnIdeal.τ).loc Cert.KernelDwFfnIdeal.main_arg0)
      ∧ m' ((c.tc : Thread Cert.ReferenceDwFfnIdeal.nD Cert.ReferenceDwFfnIdeal.τ).loc Cert.ReferenceDwFfnIdeal.main_arg1) = m ((c.tc : Thread Cert.KernelDwFfnIdeal.nD Cert.KernelDwFfnIdeal.τ).loc Cert.KernelDwFfnIdeal.main_arg1)
      ∧ m' ((c.tc : Thread Cert.ReferenceDwFfnIdeal.nD Cert.ReferenceDwFfnIdeal.τ).loc Cert.ReferenceDwFfnIdeal.main_arg2) = m ((c.tc : Thread Cert.KernelDwFfnIdeal.nD Cert.KernelDwFfnIdeal.τ).loc Cert.KernelDwFfnIdeal.main_arg2)
      ∧ m' ((c.tc : Thread Cert.ReferenceDwFfnIdeal.nD Cert.ReferenceDwFfnIdeal.τ).loc Cert.ReferenceDwFfnIdeal.main_arg3) = m ((c.tc : Thread Cert.KernelDwFfnIdeal.nD Cert.KernelDwFfnIdeal.τ).loc Cert.KernelDwFfnIdeal.main_arg3)) →
    ∃ (v0 : (c : Dev Cert.KernelDwFfnIdeal.nD) → Buf (Elt Ideal) ((c.tc : Thread Cert.KernelDwFfnIdeal.nD Cert.KernelDwFfnIdeal.τ).loc Cert.KernelDwFfnIdeal.main_v15)),
      θ_run (Cert.KernelDwFfnIdeal.defs (F := Ideal)) (onTc (τ := Cert.KernelDwFfnIdeal.τ) (Cert.KernelDwFfnIdeal.main (F := Ideal))) ⟨m, fun _ => 0, g⟩ (fun r => ∀ c : Dev Cert.KernelDwFfnIdeal.nD,
          r.2.mem ((c.tc : Thread Cert.KernelDwFfnIdeal.nD Cert.KernelDwFfnIdeal.τ).loc Cert.KernelDwFfnIdeal.main_v15) = v0 c
          ∧ r.2.mem ((c.tc : Thread Cert.KernelDwFfnIdeal.nD Cert.KernelDwFfnIdeal.τ).loc Cert.KernelDwFfnIdeal.main_arg0) = m ((c.tc : Thread Cert.KernelDwFfnIdeal.nD Cert.KernelDwFfnIdeal.τ).loc Cert.KernelDwFfnIdeal.main_arg0)
          ∧ r.2.mem ((c.tc : Thread Cert.KernelDwFfnIdeal.nD Cert.KernelDwFfnIdeal.τ).loc Cert.KernelDwFfnIdeal.main_arg1) = m ((c.tc : Thread Cert.KernelDwFfnIdeal.nD Cert.KernelDwFfnIdeal.τ).loc Cert.KernelDwFfnIdeal.main_arg1)
          ∧ r.2.mem ((c.tc : Thread Cert.KernelDwFfnIdeal.nD Cert.KernelDwFfnIdeal.τ).loc Cert.KernelDwFfnIdeal.main_arg2) = m ((c.tc : Thread Cert.KernelDwFfnIdeal.nD Cert.KernelDwFfnIdeal.τ).loc Cert.KernelDwFfnIdeal.main_arg2)
          ∧ r.2.mem ((c.tc : Thread Cert.KernelDwFfnIdeal.nD Cert.KernelDwFfnIdeal.τ).loc Cert.KernelDwFfnIdeal.main_arg3) = m ((c.tc : Thread Cert.KernelDwFfnIdeal.nD Cert.KernelDwFfnIdeal.τ).loc Cert.KernelDwFfnIdeal.main_arg3))
      ∧ θ_run (Cert.ReferenceDwFfnIdeal.defs (F := Ideal)) (onTc (τ := Cert.ReferenceDwFfnIdeal.τ) (Cert.ReferenceDwFfnIdeal.main (F := Ideal))) ⟨m', fun _ => 0, g'⟩ (fun r => ∀ c : Dev Cert.ReferenceDwFfnIdeal.nD,
          r.2.mem ((c.tc : Thread Cert.ReferenceDwFfnIdeal.nD Cert.ReferenceDwFfnIdeal.τ).loc Cert.ReferenceDwFfnIdeal.main_v17) = v0 c
          ∧ r.2.mem ((c.tc : Thread Cert.ReferenceDwFfnIdeal.nD Cert.ReferenceDwFfnIdeal.τ).loc Cert.ReferenceDwFfnIdeal.main_arg0) = m' ((c.tc : Thread Cert.ReferenceDwFfnIdeal.nD Cert.ReferenceDwFfnIdeal.τ).loc Cert.ReferenceDwFfnIdeal.main_arg0)
          ∧ r.2.mem ((c.tc : Thread Cert.ReferenceDwFfnIdeal.nD Cert.ReferenceDwFfnIdeal.τ).loc Cert.ReferenceDwFfnIdeal.main_arg1) = m' ((c.tc : Thread Cert.ReferenceDwFfnIdeal.nD Cert.ReferenceDwFfnIdeal.τ).loc Cert.ReferenceDwFfnIdeal.main_arg1)
          ∧ r.2.mem ((c.tc : Thread Cert.ReferenceDwFfnIdeal.nD Cert.ReferenceDwFfnIdeal.τ).loc Cert.ReferenceDwFfnIdeal.main_arg2) = m' ((c.tc : Thread Cert.ReferenceDwFfnIdeal.nD Cert.ReferenceDwFfnIdeal.τ).loc Cert.ReferenceDwFfnIdeal.main_arg2)
          ∧ r.2.mem ((c.tc : Thread Cert.ReferenceDwFfnIdeal.nD Cert.ReferenceDwFfnIdeal.τ).loc Cert.ReferenceDwFfnIdeal.main_arg3) = m' ((c.tc : Thread Cert.ReferenceDwFfnIdeal.nD Cert.ReferenceDwFfnIdeal.τ).loc Cert.ReferenceDwFfnIdeal.main_arg3))

def preserves_KernelInProj_KernelInProjIdeal : Prop :=
  True

def algebraic_KernelInProjIdeal_ReferenceInProjIdeal_pre_in_proj_finite [hKernelInProjIdeal : Cert.KernelInProjIdeal.Facts] [hReferenceInProjIdeal : Cert.ReferenceInProjIdeal.Facts] [hPre_in_proj_finite : Cert.Pre_in_proj_finite.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg)
    (m' : (ℓ : Loc Cert.ReferenceInProjIdeal.nD Cert.ReferenceInProjIdeal.τ Cert.ReferenceInProjIdeal.sig) → Buf (Elt Ideal) ℓ) (g' : Dev Cert.ReferenceInProjIdeal.nD → PrngReg), Pre_KernelInProjIdeal_in_proj_finite m →
    (∀ c : Dev Cert.KernelInProjIdeal.nD,
      m' ((c.tc : Thread Cert.ReferenceInProjIdeal.nD Cert.ReferenceInProjIdeal.τ).loc Cert.ReferenceInProjIdeal.main_arg0) = m ((c.tc : Thread Cert.KernelInProjIdeal.nD Cert.KernelInProjIdeal.τ).loc Cert.KernelInProjIdeal.main_arg0)
      ∧ m' ((c.tc : Thread Cert.ReferenceInProjIdeal.nD Cert.ReferenceInProjIdeal.τ).loc Cert.ReferenceInProjIdeal.main_arg1) = m ((c.tc : Thread Cert.KernelInProjIdeal.nD Cert.KernelInProjIdeal.τ).loc Cert.KernelInProjIdeal.main_arg1)
      ∧ m' ((c.tc : Thread Cert.ReferenceInProjIdeal.nD Cert.ReferenceInProjIdeal.τ).loc Cert.ReferenceInProjIdeal.main_arg2) = m ((c.tc : Thread Cert.KernelInProjIdeal.nD Cert.KernelInProjIdeal.τ).loc Cert.KernelInProjIdeal.main_arg2)
      ∧ m' ((c.tc : Thread Cert.ReferenceInProjIdeal.nD Cert.ReferenceInProjIdeal.τ).loc Cert.ReferenceInProjIdeal.main_arg3) = m ((c.tc : Thread Cert.KernelInProjIdeal.nD Cert.KernelInProjIdeal.τ).loc Cert.KernelInProjIdeal.main_arg3)
      ∧ m' ((c.tc : Thread Cert.ReferenceInProjIdeal.nD Cert.ReferenceInProjIdeal.τ).loc Cert.ReferenceInProjIdeal.main_arg4) = m ((c.tc : Thread Cert.KernelInProjIdeal.nD Cert.KernelInProjIdeal.τ).loc Cert.KernelInProjIdeal.main_arg4)) →
    ∃ (v0 : (c : Dev Cert.KernelInProjIdeal.nD) → Buf (Elt Ideal) ((c.tc : Thread Cert.KernelInProjIdeal.nD Cert.KernelInProjIdeal.τ).loc Cert.KernelInProjIdeal.main_v5_0)) (v1 : (c : Dev Cert.KernelInProjIdeal.nD) → Buf (Elt Ideal) ((c.tc : Thread Cert.KernelInProjIdeal.nD Cert.KernelInProjIdeal.τ).loc Cert.KernelInProjIdeal.main_v5_1)),
      θ_run (Cert.KernelInProjIdeal.defs (F := Ideal)) (onTc (τ := Cert.KernelInProjIdeal.τ) (Cert.KernelInProjIdeal.main (F := Ideal))) ⟨m, fun _ => 0, g⟩ (fun r => ∀ c : Dev Cert.KernelInProjIdeal.nD,
          r.2.mem ((c.tc : Thread Cert.KernelInProjIdeal.nD Cert.KernelInProjIdeal.τ).loc Cert.KernelInProjIdeal.main_v5_0) = v0 c
          ∧ r.2.mem ((c.tc : Thread Cert.KernelInProjIdeal.nD Cert.KernelInProjIdeal.τ).loc Cert.KernelInProjIdeal.main_v5_1) = v1 c
          ∧ r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
          ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
          ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2)
          ∧ r.2.mem ((c.tc : Thread Cert.KernelInProjIdeal.nD Cert.KernelInProjIdeal.τ).loc Cert.KernelInProjIdeal.main_arg3) = m ((c.tc : Thread Cert.KernelInProjIdeal.nD Cert.KernelInProjIdeal.τ).loc Cert.KernelInProjIdeal.main_arg3)
          ∧ r.2.mem ((c.tc : Thread Cert.KernelInProjIdeal.nD Cert.KernelInProjIdeal.τ).loc Cert.KernelInProjIdeal.main_arg4) = m ((c.tc : Thread Cert.KernelInProjIdeal.nD Cert.KernelInProjIdeal.τ).loc Cert.KernelInProjIdeal.main_arg4))
      ∧ θ_run (Cert.ReferenceInProjIdeal.defs (F := Ideal)) (onTc (τ := Cert.ReferenceInProjIdeal.τ) (Cert.ReferenceInProjIdeal.main (F := Ideal))) ⟨m', fun _ => 0, g'⟩ (fun r => ∀ c : Dev Cert.ReferenceInProjIdeal.nD,
          r.2.mem ((c.tc : Thread Cert.ReferenceInProjIdeal.nD Cert.ReferenceInProjIdeal.τ).loc Cert.ReferenceInProjIdeal.main_v38) = v0 c
          ∧ r.2.mem ((c.tc : Thread Cert.ReferenceInProjIdeal.nD Cert.ReferenceInProjIdeal.τ).loc Cert.ReferenceInProjIdeal.main_v40) = v1 c
          ∧ r.2.mem ((c.tc : Thread Cert.ReferenceInProjIdeal.nD Cert.ReferenceInProjIdeal.τ).loc Cert.ReferenceInProjIdeal.main_arg0) = m' ((c.tc : Thread Cert.ReferenceInProjIdeal.nD Cert.ReferenceInProjIdeal.τ).loc Cert.ReferenceInProjIdeal.main_arg0)
          ∧ r.2.mem ((c.tc : Thread Cert.ReferenceInProjIdeal.nD Cert.ReferenceInProjIdeal.τ).loc Cert.ReferenceInProjIdeal.main_arg1) = m' ((c.tc : Thread Cert.ReferenceInProjIdeal.nD Cert.ReferenceInProjIdeal.τ).loc Cert.ReferenceInProjIdeal.main_arg1)
          ∧ r.2.mem ((c.tc : Thread Cert.ReferenceInProjIdeal.nD Cert.ReferenceInProjIdeal.τ).loc Cert.ReferenceInProjIdeal.main_arg2) = m' ((c.tc : Thread Cert.ReferenceInProjIdeal.nD Cert.ReferenceInProjIdeal.τ).loc Cert.ReferenceInProjIdeal.main_arg2)
          ∧ r.2.mem ((c.tc : Thread Cert.ReferenceInProjIdeal.nD Cert.ReferenceInProjIdeal.τ).loc Cert.ReferenceInProjIdeal.main_arg3) = m' ((c.tc : Thread Cert.ReferenceInProjIdeal.nD Cert.ReferenceInProjIdeal.τ).loc Cert.ReferenceInProjIdeal.main_arg3)
          ∧ r.2.mem ((c.tc : Thread Cert.ReferenceInProjIdeal.nD Cert.ReferenceInProjIdeal.τ).loc Cert.ReferenceInProjIdeal.main_arg4) = m' ((c.tc : Thread Cert.ReferenceInProjIdeal.nD Cert.ReferenceInProjIdeal.τ).loc Cert.ReferenceInProjIdeal.main_arg4))

def preserves_KernelFfnIn_KernelFfnInIdeal : Prop :=
  True

def algebraic_KernelFfnInIdeal_ReferenceFfnInIdeal_pre_ffn_in_finite [hKernelFfnInIdeal : Cert.KernelFfnInIdeal.Facts] [hReferenceFfnInIdeal : Cert.ReferenceFfnInIdeal.Facts] [hPre_ffn_in_finite : Cert.Pre_ffn_in_finite.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal_ffn_in_finite m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)
      ∧ m' ((c.tc : Thread Cert.ReferenceFfnInIdeal.nD Cert.ReferenceFfnInIdeal.τ).loc Cert.ReferenceFfnInIdeal.main_arg3) = m ((c.tc : Thread Cert.KernelFfnInIdeal.nD Cert.KernelFfnInIdeal.τ).loc Cert.KernelFfnInIdeal.main_arg3)
      ∧ m' ((c.tc : Thread Cert.ReferenceFfnInIdeal.nD Cert.ReferenceFfnInIdeal.τ).loc Cert.ReferenceFfnInIdeal.main_arg4) = m ((c.tc : Thread Cert.KernelFfnInIdeal.nD Cert.KernelFfnInIdeal.τ).loc Cert.KernelFfnInIdeal.main_arg4)
      ∧ m' ((c.tc : Thread Cert.ReferenceFfnInIdeal.nD Cert.ReferenceFfnInIdeal.τ).loc Cert.ReferenceFfnInIdeal.main_arg5) = m ((c.tc : Thread Cert.KernelFfnInIdeal.nD Cert.KernelFfnInIdeal.τ).loc Cert.KernelFfnInIdeal.main_arg5)
      ∧ m' ((c.tc : Thread Cert.ReferenceFfnInIdeal.nD Cert.ReferenceFfnInIdeal.τ).loc Cert.ReferenceFfnInIdeal.main_arg6) = m ((c.tc : Thread Cert.KernelFfnInIdeal.nD Cert.KernelFfnInIdeal.τ).loc Cert.KernelFfnInIdeal.main_arg6)
      ∧ m' ((c.tc : Thread Cert.ReferenceFfnInIdeal.nD Cert.ReferenceFfnInIdeal.τ).loc Cert.ReferenceFfnInIdeal.main_arg7) = m ((c.tc : Thread Cert.KernelFfnInIdeal.nD Cert.KernelFfnInIdeal.τ).loc Cert.KernelFfnInIdeal.main_arg7)
      ∧ m' ((c.tc : Thread Cert.ReferenceFfnInIdeal.nD Cert.ReferenceFfnInIdeal.τ).loc Cert.ReferenceFfnInIdeal.main_arg8) = m ((c.tc : Thread Cert.KernelFfnInIdeal.nD Cert.KernelFfnInIdeal.τ).loc Cert.KernelFfnInIdeal.main_arg8)
      ∧ m' ((c.tc : Thread Cert.ReferenceFfnInIdeal.nD Cert.ReferenceFfnInIdeal.τ).loc Cert.ReferenceFfnInIdeal.main_arg9) = m ((c.tc : Thread Cert.KernelFfnInIdeal.nD Cert.KernelFfnInIdeal.τ).loc Cert.KernelFfnInIdeal.main_arg9)
      ∧ m' ((c.tc : Thread Cert.ReferenceFfnInIdeal.nD Cert.ReferenceFfnInIdeal.τ).loc Cert.ReferenceFfnInIdeal.main_arg10) = m ((c.tc : Thread Cert.KernelFfnInIdeal.nD Cert.KernelFfnInIdeal.τ).loc Cert.KernelFfnInIdeal.main_arg10)) →
    ∃ (v0 : (c : Dev Cert.KernelFfnInIdeal.nD) → Buf (Elt Ideal) ((c.tc : Thread Cert.KernelFfnInIdeal.nD Cert.KernelFfnInIdeal.τ).loc Cert.KernelFfnInIdeal.main_v13_0)) (v1 : (c : Dev Cert.KernelFfnInIdeal.nD) → Buf (Elt Ideal) ((c.tc : Thread Cert.KernelFfnInIdeal.nD Cert.KernelFfnInIdeal.τ).loc Cert.KernelFfnInIdeal.main_v13_1)) (v2 : (c : Dev Cert.KernelFfnInIdeal.nD) → Buf (Elt Ideal) ((c.tc : Thread Cert.KernelFfnInIdeal.nD Cert.KernelFfnInIdeal.τ).loc Cert.KernelFfnInIdeal.main_v13_2)) (v3 : (c : Dev Cert.KernelFfnInIdeal.nD) → Buf (Elt Ideal) ((c.tc : Thread Cert.KernelFfnInIdeal.nD Cert.KernelFfnInIdeal.τ).loc Cert.KernelFfnInIdeal.main_v13_3)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v13_0) = v0 c
          ∧ r.2.mem ((c.tc : Thread Cert.KernelFfnInIdeal.nD Cert.KernelFfnInIdeal.τ).loc Cert.KernelFfnInIdeal.main_v13_1) = v1 c
          ∧ r.2.mem ((c.tc : Thread Cert.KernelFfnInIdeal.nD Cert.KernelFfnInIdeal.τ).loc Cert.KernelFfnInIdeal.main_v13_2) = v2 c
          ∧ r.2.mem ((c.tc : Thread Cert.KernelFfnInIdeal.nD Cert.KernelFfnInIdeal.τ).loc Cert.KernelFfnInIdeal.main_v13_3) = v3 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
          ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
          ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4)
          ∧ r.2.mem ((c.tc : Thread Cert.KernelFfnInIdeal.nD Cert.KernelFfnInIdeal.τ).loc Cert.KernelFfnInIdeal.main_arg5) = m ((c.tc : Thread Cert.KernelFfnInIdeal.nD Cert.KernelFfnInIdeal.τ).loc Cert.KernelFfnInIdeal.main_arg5)
          ∧ r.2.mem ((c.tc : Thread Cert.KernelFfnInIdeal.nD Cert.KernelFfnInIdeal.τ).loc Cert.KernelFfnInIdeal.main_arg6) = m ((c.tc : Thread Cert.KernelFfnInIdeal.nD Cert.KernelFfnInIdeal.τ).loc Cert.KernelFfnInIdeal.main_arg6)
          ∧ r.2.mem ((c.tc : Thread Cert.KernelFfnInIdeal.nD Cert.KernelFfnInIdeal.τ).loc Cert.KernelFfnInIdeal.main_arg7) = m ((c.tc : Thread Cert.KernelFfnInIdeal.nD Cert.KernelFfnInIdeal.τ).loc Cert.KernelFfnInIdeal.main_arg7)
          ∧ r.2.mem ((c.tc : Thread Cert.KernelFfnInIdeal.nD Cert.KernelFfnInIdeal.τ).loc Cert.KernelFfnInIdeal.main_arg8) = m ((c.tc : Thread Cert.KernelFfnInIdeal.nD Cert.KernelFfnInIdeal.τ).loc Cert.KernelFfnInIdeal.main_arg8)
          ∧ r.2.mem ((c.tc : Thread Cert.KernelFfnInIdeal.nD Cert.KernelFfnInIdeal.τ).loc Cert.KernelFfnInIdeal.main_arg9) = m ((c.tc : Thread Cert.KernelFfnInIdeal.nD Cert.KernelFfnInIdeal.τ).loc Cert.KernelFfnInIdeal.main_arg9)
          ∧ r.2.mem ((c.tc : Thread Cert.KernelFfnInIdeal.nD Cert.KernelFfnInIdeal.τ).loc Cert.KernelFfnInIdeal.main_arg10) = m ((c.tc : Thread Cert.KernelFfnInIdeal.nD Cert.KernelFfnInIdeal.τ).loc Cert.KernelFfnInIdeal.main_arg10))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v41) = v0 c
          ∧ r.2.mem ((c.tc : Thread Cert.ReferenceFfnInIdeal.nD Cert.ReferenceFfnInIdeal.τ).loc Cert.ReferenceFfnInIdeal.main_v42) = v1 c
          ∧ r.2.mem ((c.tc : Thread Cert.ReferenceFfnInIdeal.nD Cert.ReferenceFfnInIdeal.τ).loc Cert.ReferenceFfnInIdeal.main_v56) = v2 c
          ∧ r.2.mem ((c.tc : Thread Cert.ReferenceFfnInIdeal.nD Cert.ReferenceFfnInIdeal.τ).loc Cert.ReferenceFfnInIdeal.main_v58) = v3 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2)
          ∧ r.2.mem ((c.tc : Thread Cert.ReferenceFfnInIdeal.nD Cert.ReferenceFfnInIdeal.τ).loc Cert.ReferenceFfnInIdeal.main_arg3) = m' ((c.tc : Thread Cert.ReferenceFfnInIdeal.nD Cert.ReferenceFfnInIdeal.τ).loc Cert.ReferenceFfnInIdeal.main_arg3)
          ∧ r.2.mem ((c.tc : Thread Cert.ReferenceFfnInIdeal.nD Cert.ReferenceFfnInIdeal.τ).loc Cert.ReferenceFfnInIdeal.main_arg4) = m' ((c.tc : Thread Cert.ReferenceFfnInIdeal.nD Cert.ReferenceFfnInIdeal.τ).loc Cert.ReferenceFfnInIdeal.main_arg4)
          ∧ r.2.mem ((c.tc : Thread Cert.ReferenceFfnInIdeal.nD Cert.ReferenceFfnInIdeal.τ).loc Cert.ReferenceFfnInIdeal.main_arg5) = m' ((c.tc : Thread Cert.ReferenceFfnInIdeal.nD Cert.ReferenceFfnInIdeal.τ).loc Cert.ReferenceFfnInIdeal.main_arg5)
          ∧ r.2.mem ((c.tc : Thread Cert.ReferenceFfnInIdeal.nD Cert.ReferenceFfnInIdeal.τ).loc Cert.ReferenceFfnInIdeal.main_arg6) = m' ((c.tc : Thread Cert.ReferenceFfnInIdeal.nD Cert.ReferenceFfnInIdeal.τ).loc Cert.ReferenceFfnInIdeal.main_arg6)
          ∧ r.2.mem ((c.tc : Thread Cert.ReferenceFfnInIdeal.nD Cert.ReferenceFfnInIdeal.τ).loc Cert.ReferenceFfnInIdeal.main_arg7) = m' ((c.tc : Thread Cert.ReferenceFfnInIdeal.nD Cert.ReferenceFfnInIdeal.τ).loc Cert.ReferenceFfnInIdeal.main_arg7)
          ∧ r.2.mem ((c.tc : Thread Cert.ReferenceFfnInIdeal.nD Cert.ReferenceFfnInIdeal.τ).loc Cert.ReferenceFfnInIdeal.main_arg8) = m' ((c.tc : Thread Cert.ReferenceFfnInIdeal.nD Cert.ReferenceFfnInIdeal.τ).loc Cert.ReferenceFfnInIdeal.main_arg8)
          ∧ r.2.mem ((c.tc : Thread Cert.ReferenceFfnInIdeal.nD Cert.ReferenceFfnInIdeal.τ).loc Cert.ReferenceFfnInIdeal.main_arg9) = m' ((c.tc : Thread Cert.ReferenceFfnInIdeal.nD Cert.ReferenceFfnInIdeal.τ).loc Cert.ReferenceFfnInIdeal.main_arg9)
          ∧ r.2.mem ((c.tc : Thread Cert.ReferenceFfnInIdeal.nD Cert.ReferenceFfnInIdeal.τ).loc Cert.ReferenceFfnInIdeal.main_arg10) = m' ((c.tc : Thread Cert.ReferenceFfnInIdeal.nD Cert.ReferenceFfnInIdeal.τ).loc Cert.ReferenceFfnInIdeal.main_arg10))

def preserves_KernelFfnFwd_KernelFfnFwdIdeal : Prop :=
  True

def algebraic_KernelFfnFwdIdeal_ReferenceFfnFwdIdeal [hKernelFfnFwdIdeal : Cert.KernelFfnFwdIdeal.Facts] [hReferenceFfnFwdIdeal : Cert.ReferenceFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.ReferenceFfnFwdIdeal.nD Cert.ReferenceFfnFwdIdeal.τ Cert.ReferenceFfnFwdIdeal.sig) → Buf (Elt Ideal) ℓ) (g' : Dev Cert.ReferenceFfnFwdIdeal.nD → PrngReg), Pre_KernelFfnFwdIdeal m →
    (∀ c : Dev Cert.KernelFfnFwdIdeal.nD,
      m' ((c.tc : Thread Cert.ReferenceFfnFwdIdeal.nD Cert.ReferenceFfnFwdIdeal.τ).loc Cert.ReferenceFfnFwdIdeal.main_arg0) = m ((c.tc : Thread Cert.KernelFfnFwdIdeal.nD Cert.KernelFfnFwdIdeal.τ).loc Cert.KernelFfnFwdIdeal.main_arg0)
      ∧ m' ((c.tc : Thread Cert.ReferenceFfnFwdIdeal.nD Cert.ReferenceFfnFwdIdeal.τ).loc Cert.ReferenceFfnFwdIdeal.main_arg1) = m ((c.tc : Thread Cert.KernelFfnFwdIdeal.nD Cert.KernelFfnFwdIdeal.τ).loc Cert.KernelFfnFwdIdeal.main_arg1)
      ∧ m' ((c.tc : Thread Cert.ReferenceFfnFwdIdeal.nD Cert.ReferenceFfnFwdIdeal.τ).loc Cert.ReferenceFfnFwdIdeal.main_arg2) = m ((c.tc : Thread Cert.KernelFfnFwdIdeal.nD Cert.KernelFfnFwdIdeal.τ).loc Cert.KernelFfnFwdIdeal.main_arg2)
      ∧ m' ((c.tc : Thread Cert.ReferenceFfnFwdIdeal.nD Cert.ReferenceFfnFwdIdeal.τ).loc Cert.ReferenceFfnFwdIdeal.main_arg3) = m ((c.tc : Thread Cert.KernelFfnFwdIdeal.nD Cert.KernelFfnFwdIdeal.τ).loc Cert.KernelFfnFwdIdeal.main_arg3)
      ∧ m' ((c.tc : Thread Cert.ReferenceFfnFwdIdeal.nD Cert.ReferenceFfnFwdIdeal.τ).loc Cert.ReferenceFfnFwdIdeal.main_arg4) = m ((c.tc : Thread Cert.KernelFfnFwdIdeal.nD Cert.KernelFfnFwdIdeal.τ).loc Cert.KernelFfnFwdIdeal.main_arg4)
      ∧ m' ((c.tc : Thread Cert.ReferenceFfnFwdIdeal.nD Cert.ReferenceFfnFwdIdeal.τ).loc Cert.ReferenceFfnFwdIdeal.main_arg5) = m ((c.tc : Thread Cert.KernelFfnFwdIdeal.nD Cert.KernelFfnFwdIdeal.τ).loc Cert.KernelFfnFwdIdeal.main_arg5)
      ∧ m' ((c.tc : Thread Cert.ReferenceFfnFwdIdeal.nD Cert.ReferenceFfnFwdIdeal.τ).loc Cert.ReferenceFfnFwdIdeal.main_arg6) = m ((c.tc : Thread Cert.KernelFfnFwdIdeal.nD Cert.KernelFfnFwdIdeal.τ).loc Cert.KernelFfnFwdIdeal.main_arg6)
      ∧ m' ((c.tc : Thread Cert.ReferenceFfnFwdIdeal.nD Cert.ReferenceFfnFwdIdeal.τ).loc Cert.ReferenceFfnFwdIdeal.main_arg7) = m ((c.tc : Thread Cert.KernelFfnFwdIdeal.nD Cert.KernelFfnFwdIdeal.τ).loc Cert.KernelFfnFwdIdeal.main_arg7)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v11_0)) (v1 : (c : Dev Cert.KernelFfnFwdIdeal.nD) → Buf (Elt Ideal) ((c.tc : Thread Cert.KernelFfnFwdIdeal.nD Cert.KernelFfnFwdIdeal.τ).loc Cert.KernelFfnFwdIdeal.main_v11_1)) (v2 : (c : Dev Cert.KernelFfnFwdIdeal.nD) → Buf (Elt Ideal) ((c.tc : Thread Cert.KernelFfnFwdIdeal.nD Cert.KernelFfnFwdIdeal.τ).loc Cert.KernelFfnFwdIdeal.main_v11_2)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v11_0) = v0 c
          ∧ r.2.mem ((c.tc : Thread Cert.KernelFfnFwdIdeal.nD Cert.KernelFfnFwdIdeal.τ).loc Cert.KernelFfnFwdIdeal.main_v11_1) = v1 c
          ∧ r.2.mem ((c.tc : Thread Cert.KernelFfnFwdIdeal.nD Cert.KernelFfnFwdIdeal.τ).loc Cert.KernelFfnFwdIdeal.main_v11_2) = v2 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
          ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4)
          ∧ r.2.mem ((c.tc : Thread Cert.KernelFfnFwdIdeal.nD Cert.KernelFfnFwdIdeal.τ).loc Cert.KernelFfnFwdIdeal.main_arg5) = m ((c.tc : Thread Cert.KernelFfnFwdIdeal.nD Cert.KernelFfnFwdIdeal.τ).loc Cert.KernelFfnFwdIdeal.main_arg5)
          ∧ r.2.mem ((c.tc : Thread Cert.KernelFfnFwdIdeal.nD Cert.KernelFfnFwdIdeal.τ).loc Cert.KernelFfnFwdIdeal.main_arg6) = m ((c.tc : Thread Cert.KernelFfnFwdIdeal.nD Cert.KernelFfnFwdIdeal.τ).loc Cert.KernelFfnFwdIdeal.main_arg6)
          ∧ r.2.mem ((c.tc : Thread Cert.KernelFfnFwdIdeal.nD Cert.KernelFfnFwdIdeal.τ).loc Cert.KernelFfnFwdIdeal.main_arg7) = m ((c.tc : Thread Cert.KernelFfnFwdIdeal.nD Cert.KernelFfnFwdIdeal.τ).loc Cert.KernelFfnFwdIdeal.main_arg7))
      ∧ θ_run (Cert.ReferenceFfnFwdIdeal.defs (F := Ideal)) (onTc (τ := Cert.ReferenceFfnFwdIdeal.τ) (Cert.ReferenceFfnFwdIdeal.main (F := Ideal))) ⟨m', fun _ => 0, g'⟩ (fun r => ∀ c : Dev Cert.ReferenceFfnFwdIdeal.nD,
          r.2.mem ((c.tc : Thread Cert.ReferenceFfnFwdIdeal.nD Cert.ReferenceFfnFwdIdeal.τ).loc Cert.ReferenceFfnFwdIdeal.main_v18) = v0 c
          ∧ r.2.mem ((c.tc : Thread Cert.ReferenceFfnFwdIdeal.nD Cert.ReferenceFfnFwdIdeal.τ).loc Cert.ReferenceFfnFwdIdeal.main_v19) = v1 c
          ∧ r.2.mem ((c.tc : Thread Cert.ReferenceFfnFwdIdeal.nD Cert.ReferenceFfnFwdIdeal.τ).loc Cert.ReferenceFfnFwdIdeal.main_v20) = v2 c
          ∧ r.2.mem ((c.tc : Thread Cert.ReferenceFfnFwdIdeal.nD Cert.ReferenceFfnFwdIdeal.τ).loc Cert.ReferenceFfnFwdIdeal.main_arg0) = m' ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1) = m' ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2) = m' ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3) = m' ((c.tc : Thread Cert.ReferenceFfnFwdIdeal.nD Cert.ReferenceFfnFwdIdeal.τ).loc Cert.ReferenceFfnFwdIdeal.main_arg3)
          ∧ r.2.mem ((c.tc : Thread Cert.ReferenceFfnFwdIdeal.nD Cert.ReferenceFfnFwdIdeal.τ).loc Cert.ReferenceFfnFwdIdeal.main_arg4) = m' ((c.tc : Thread Cert.ReferenceFfnFwdIdeal.nD Cert.ReferenceFfnFwdIdeal.τ).loc Cert.ReferenceFfnFwdIdeal.main_arg4)
          ∧ r.2.mem ((c.tc : Thread Cert.ReferenceFfnFwdIdeal.nD Cert.ReferenceFfnFwdIdeal.τ).loc Cert.ReferenceFfnFwdIdeal.main_arg5) = m' ((c.tc : Thread Cert.ReferenceFfnFwdIdeal.nD Cert.ReferenceFfnFwdIdeal.τ).loc Cert.ReferenceFfnFwdIdeal.main_arg5)
          ∧ r.2.mem ((c.tc : Thread Cert.ReferenceFfnFwdIdeal.nD Cert.ReferenceFfnFwdIdeal.τ).loc Cert.ReferenceFfnFwdIdeal.main_arg6) = m' ((c.tc : Thread Cert.ReferenceFfnFwdIdeal.nD Cert.ReferenceFfnFwdIdeal.τ).loc Cert.ReferenceFfnFwdIdeal.main_arg6)
          ∧ r.2.mem ((c.tc : Thread Cert.ReferenceFfnFwdIdeal.nD Cert.ReferenceFfnFwdIdeal.τ).loc Cert.ReferenceFfnFwdIdeal.main_arg7) = m' ((c.tc : Thread Cert.ReferenceFfnFwdIdeal.nD Cert.ReferenceFfnFwdIdeal.τ).loc Cert.ReferenceFfnFwdIdeal.main_arg7))

def Claim : Prop :=
  ∃ (hKernel : Cert.Kernel.Facts) (hKernelIdeal : Cert.KernelIdeal.Facts) (hReferenceIdeal : Cert.ReferenceIdeal.Facts) (hKernelDwIn : Cert.KernelDwIn.Facts) (hKernelDwInIdeal : Cert.KernelDwInIdeal.Facts) (hReferenceDwInIdeal : Cert.ReferenceDwInIdeal.Facts) (hKernelDwFfn : Cert.KernelDwFfn.Facts) (hKernelDwFfnIdeal : Cert.KernelDwFfnIdeal.Facts) (hReferenceDwFfnIdeal : Cert.ReferenceDwFfnIdeal.Facts) (hKernelInProj : Cert.KernelInProj.Facts) (hKernelInProjIdeal : Cert.KernelInProjIdeal.Facts) (hReferenceInProjIdeal : Cert.ReferenceInProjIdeal.Facts) (hKernelFfnIn : Cert.KernelFfnIn.Facts) (hKernelFfnInIdeal : Cert.KernelFfnInIdeal.Facts) (hReferenceFfnInIdeal : Cert.ReferenceFfnInIdeal.Facts) (hKernelFfnFwd : Cert.KernelFfnFwd.Facts) (hKernelFfnFwdIdeal : Cert.KernelFfnFwdIdeal.Facts) (hReferenceFfnFwdIdeal : Cert.ReferenceFfnFwdIdeal.Facts) (hPre_all_finite : Cert.Pre_all_finite.Facts) (hPre_in_proj_finite : Cert.Pre_in_proj_finite.Facts) (hPre_ffn_in_finite : Cert.Pre_ffn_in_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelDwFfn (hKernelDwFfn := hKernelDwFfn)
    ∧ quiescent_KernelDwFfnIdeal (hKernelDwFfnIdeal := hKernelDwFfnIdeal)
    ∧ quiescent_ReferenceDwFfnIdeal (hReferenceDwFfnIdeal := hReferenceDwFfnIdeal)
    ∧ quiescent_KernelInProj (hKernelInProj := hKernelInProj)
    ∧ quiescent_KernelInProjIdeal (hKernelInProjIdeal := hKernelInProjIdeal)
    ∧ quiescent_KernelInProjIdeal_pre_in_proj_finite (hKernelInProjIdeal := hKernelInProjIdeal) (hPre_in_proj_finite := hPre_in_proj_finite)
    ∧ quiescent_ReferenceInProjIdeal (hReferenceInProjIdeal := hReferenceInProjIdeal)
    ∧ quiescent_ReferenceInProjIdeal_pre_in_proj_finite (hReferenceInProjIdeal := hReferenceInProjIdeal) (hPre_in_proj_finite := hPre_in_proj_finite)
    ∧ quiescent_KernelFfnIn (hKernelFfnIn := hKernelFfnIn)
    ∧ quiescent_KernelFfnInIdeal (hKernelFfnInIdeal := hKernelFfnInIdeal)
    ∧ quiescent_KernelFfnInIdeal_pre_ffn_in_finite (hKernelFfnInIdeal := hKernelFfnInIdeal) (hPre_ffn_in_finite := hPre_ffn_in_finite)
    ∧ quiescent_ReferenceFfnInIdeal (hReferenceFfnInIdeal := hReferenceFfnInIdeal)
    ∧ quiescent_ReferenceFfnInIdeal_pre_ffn_in_finite (hReferenceFfnInIdeal := hReferenceFfnInIdeal) (hPre_ffn_in_finite := hPre_ffn_in_finite)
    ∧ quiescent_KernelFfnFwd (hKernelFfnFwd := hKernelFfnFwd)
    ∧ quiescent_KernelFfnFwdIdeal (hKernelFfnFwdIdeal := hKernelFfnFwdIdeal)
    ∧ quiescent_ReferenceFfnFwdIdeal (hReferenceFfnFwdIdeal := hReferenceFfnFwdIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelDwFfn_KernelDwFfnIdeal
    ∧ algebraic_KernelDwFfnIdeal_ReferenceDwFfnIdeal (hKernelDwFfnIdeal := hKernelDwFfnIdeal) (hReferenceDwFfnIdeal := hReferenceDwFfnIdeal)
    ∧ preserves_KernelInProj_KernelInProjIdeal
    ∧ algebraic_KernelInProjIdeal_ReferenceInProjIdeal_pre_in_proj_finite (hKernelInProjIdeal := hKernelInProjIdeal) (hReferenceInProjIdeal := hReferenceInProjIdeal) (hPre_in_proj_finite := hPre_in_proj_finite)
    ∧ preserves_KernelFfnIn_KernelFfnInIdeal
    ∧ algebraic_KernelFfnInIdeal_ReferenceFfnInIdeal_pre_ffn_in_finite (hKernelFfnInIdeal := hKernelFfnInIdeal) (hReferenceFfnInIdeal := hReferenceFfnInIdeal) (hPre_ffn_in_finite := hPre_ffn_in_finite)
    ∧ preserves_KernelFfnFwd_KernelFfnFwdIdeal
    ∧ algebraic_KernelFfnFwdIdeal_ReferenceFfnFwdIdeal (hKernelFfnFwdIdeal := hKernelFfnFwdIdeal) (hReferenceFfnFwdIdeal := hReferenceFfnFwdIdeal)
-- ==== Pre_all_finite.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg8 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg8
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S8192x1024 .f32) (main_arg3 : FVec F S1024x1024 .f32) (main_arg4 : FVec F S1024x1024 .f32) (main_arg5 : FVec F S1024x1024 .f32) (main_arg6 : FVec F S1024x2816 .f32) (main_arg7 : FVec F S1024x2816 .f32) (main_arg8 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x2816 .f32 := Host.absf main_arg7
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg8 main_v13 main_v16
-- ==== Pre_ffn_in_finite.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg9 : FVec F S8192x2816 .f32) (main_arg10 : FVec F S8192x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S8192x2816 .f32 := Host.absf main_arg9
  let main_cst_6 : FVec F S_ .f32 := constant S_ .f32 0x7F800000#32
  let main_v20 : FVec F S8192x2816 .f32 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  let main_v24 : FVec F S8192x2816 .f32 := Host.absf main_arg10
  let main_cst_8 : FVec F S_ .f32 := constant S_ .f32 0x7F800000#32
  let main_v25 : FVec F S8192x2816 .f32 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S8192x1024 .f32) (main_arg3 : FVec F S1024x1024 .f32) (main_arg4 : FVec F S1024x1024 .f32) (main_arg5 : FVec F S1024x1024 .f32) (main_arg6 : FVec F S1024x2816 .f32) (main_arg7 : FVec F S1024x2816 .f32) (main_arg8 : FVec F S2816x1024 .f32) (main_arg9 : FVec F S8192x2816 .f32) (main_arg10 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg6
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg7
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg9 main_arg10 main_v13 main_v16
-- ==== Pre_in_proj_finite.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S8192x7168 : S_.BroadcastsInDim S8192x7168 (![] : Fin 0 → Fin S8192x7168.rank)
  reducesTo_S8192x7168_S_d0_1 : S8192x7168.ReducesTo [0, 1] S_

variable [Facts]

def fn_part1 {F : FTy → Type} [FloatOps F] (main_v13 : IVec S_ 1) (main_v16 : IVec S8192x7168 1) : IVec S_ 1 :=
  let main_c_5 : IVec S_ 1 := constantI S_ 1 1#1
  let main_v17 : IVec S_ 1 := (fun x v => Host.reduce IntOp.andi x v reducesTo_S8192x7168_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x7168 .f32) (main_arg3 : FVec F S8192x7168 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7168 .f32 := Host.absf main_arg2
  let main_cst_2 : FVec F S_ .f32 := constant S_ .f32 0x7F800000#32
  let main_v10 : FVec F S1024x7168 .f32 := broadcastInDim S1024x7168 ![] bcast_S_S1024x7168 main_cst_2
  let main_v11 : IVec S1024x7168 1 := cmpf .olt main_v9 main_v10
  let main_c_3 : IVec S_ 1 := constantI S_ 1 1#1
  let main_v12 : IVec S_ 1 := (fun x v => Host.reduce IntOp.andi x v reducesTo_S1024x7168_S_d0_1 h_S_) main_v11 main_c_3
  let main_v13 : IVec S_ 1 := andi main_v8 main_v12
  let main_v14 : FVec F S8192x7168 .f32 := Host.absf main_arg3
  let main_cst_4 : FVec F S_ .f32 := constant S_ .f32 0x7F800000#32
  let main_v15 : FVec F S8192x7168 .f32 := broadcastInDim S8192x7168 ![] bcast_S_S8192x7168 main_cst_4
  let main_v16 : IVec S8192x7168 1 := cmpf .olt main_v14 main_v15
  fn_part1 (F := F) main_v13 main_v16
-- ==== Kernel.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S512x1024 : Shape := ⟨2, ![512, 1024]⟩
abbrev S512x2816 : Shape := ⟨2, ![512, 2816]⟩
abbrev S8 : Shape := ⟨1, ![8]⟩
abbrev S1 : Shape := ⟨1, ![1]⟩
abbrev S352x1024 : Shape := ⟨2, ![352, 1024]⟩
abbrev S1x352x1024 : Shape := ⟨3, ![1, 352, 1024]⟩
abbrev S256x1024 : Shape := ⟨2, ![256, 1024]⟩
abbrev S512x256 : Shape := ⟨2, ![512, 256]⟩

abbrev nBuf : Space → Nat
  | .hbm => 42
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .bf16⟩
  | .hbm, ⟨27, _⟩ => ⟨S8192x2816, .f32⟩
  | .hbm, ⟨28, _⟩ => ⟨S8192x2816, .bf16⟩
  | .hbm, ⟨29, _⟩ => ⟨S2816x1024, .f32⟩
  | .hbm, ⟨30, _⟩ => ⟨S2816x1024, .f32⟩
  | .hbm, ⟨31, _⟩ => ⟨S8x128x1024, .f32⟩
  | .hbm, ⟨32, _⟩ => ⟨S8x128x1024, .f32⟩
  | .hbm, ⟨33, _⟩ => ⟨S8x128x1024, .f32⟩
  | .hbm, ⟨34, _⟩ => ⟨S8x352x1024, .f32⟩
  | .hbm, ⟨35, _⟩ => ⟨S8x352x1024, .f32⟩
  | .hbm, ⟨36, _⟩ => ⟨S8x352x1024, .f32⟩
  | .hbm, ⟨37, _⟩ => ⟨S8x1440x1024, .f32⟩
  | .hbm, ⟨38, _⟩ => ⟨S8x1440x1024, .bf16⟩
  | .hbm, ⟨39, _⟩ => ⟨S8192x2816, .bf16⟩
  | .hbm, ⟨40, _⟩ => ⟨S8192x2816, .bf16⟩
  | .hbm, ⟨41, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S2816x1024, .bf16⟩
  | .local _ .vmem, ⟨11, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S1024x2816, .f32⟩
  | .hbm, ⟨43, _⟩ => ⟨S2816x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .bf16⟩
  | .hbm, ⟨52, _⟩ => ⟨S8192x2816, .bf16⟩
  | .hbm, ⟨53, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v15_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v15_1 : Ref sig .tc := ⟨.hbm, 38, rfl⟩
abbrev main_v15_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]
-- ==== KernelDwIn.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7168x1024 : Shape := ⟨2, ![7168, 1024]⟩
abbrev S2048x1792 : Shape := ⟨2, ![2048, 1792]⟩
abbrev S2048x1024 : Shape := ⟨2, ![2048, 1024]⟩
abbrev S1792x1024 : Shape := ⟨2, ![1792, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .f32⟩
  | .hbm, ⟨4, _⟩ => ⟨S8192x7168, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S7168x1024, .bf16⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S2048x1024, .bf16⟩
  | .local _ .vmem, ⟨4, _⟩ => ⟨S1792x1024, .bf16⟩
  | .local _ .vmem, ⟨5, _⟩ => ⟨S1792x1024, .bf16⟩
  | .local _ .vmem, ⟨6, _⟩ => ⟨S1792x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwInIdeal.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7168x1024 : Shape := ⟨2, ![7168, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x7168, .f32⟩
  | .hbm, ⟨21, _⟩ => ⟨S7168x1024, .f32⟩
  | .hbm, ⟨22, _⟩ => ⟨S1024x7168, .f32⟩
  | .hbm, ⟨23, _⟩ => ⟨S7168x1024, .f32⟩
  | .hbm, ⟨24, _⟩ => ⟨S7168x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelDwFfn.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x2816, .f32⟩
  | .hbm, ⟨4, _⟩ => ⟨S8192x2816, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwFfnIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S2816x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelInProj.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S7168x1024 : Shape := ⟨2, ![7168, 1024]⟩
abbrev S8x896x1024 : Shape := ⟨3, ![8, 896, 1024]⟩
abbrev S1x1024 : Shape := ⟨2, ![1, 1024]⟩
abbrev S8x1024 : Shape := ⟨2, ![8, 1024]⟩
abbrev S512x7168 : Shape := ⟨2, ![512, 7168]⟩
abbrev S512x1024 : Shape := ⟨2, ![512, 1024]⟩
abbrev S8 : Shape := ⟨1, ![8]⟩
abbrev S1 : Shape := ⟨1, ![1]⟩
abbrev S_ : Shape := ⟨0, ![]⟩
abbrev S896x1024 : Shape := ⟨2, ![896, 1024]⟩
abbrev S1x896x1024 : Shape := ⟨3, ![1, 896, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .f32⟩
  | .hbm, ⟨4, _⟩ => ⟨S8192x1024, .f32⟩
  | .hbm, ⟨5, _⟩ => ⟨S7168x1024, .f32⟩
  | .hbm, ⟨6, _⟩ => ⟨S8x896x1024, .f32⟩
  | .hbm, ⟨7, _⟩ => ⟨S8x896x1024, .bf16⟩
  | .hbm, ⟨8, _⟩ => ⟨S8192x7168, .bf16⟩
  | .hbm, ⟨9, _⟩ => ⟨S1x1024, .f32⟩
  | .hbm, ⟨10, _⟩ => ⟨S8192x1024, .f32⟩
  | .hbm, ⟨11, _⟩ => ⟨S8x1024, .f32⟩
  | .local _ .vmem, ⟨0, _⟩ => ⟨S512x7168, .bf16⟩
  | .local _ .vmem, ⟨1, _⟩ => ⟨S512x7168, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S7168x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceInProjIdeal.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7168, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .i32⟩
  | .hbm, ⟨55, _⟩ => ⟨S_, .f32⟩
  | .hbm, ⟨56, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== KernelFfnIn.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x2816 : Shape := ⟨2, ![8192, 2816]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S16 : Shape := ⟨1, ![16]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩

abbrev nBuf : Space → Nat
  | .hbm => 28
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S2816x1024, .f32⟩
  | .hbm, ⟨13, _⟩ => ⟨S8x128x1024, .f32⟩
  | .hbm, ⟨14, _⟩ => ⟨S8x128x1024, .f32⟩
  | .hbm, ⟨15, _⟩ => ⟨S8x128x1024, .f32⟩
  | .hbm, ⟨16, _⟩ => ⟨S8x352x1024, .f32⟩
  | .hbm, ⟨17, _⟩ => ⟨S8x352x1024, .f32⟩
  | .hbm, ⟨18, _⟩ => ⟨S8x352x1024, .f32⟩
  | .hbm, ⟨19, _⟩ => ⟨S8x1440x1024, .f32⟩
  | .hbm, ⟨20, _⟩ => ⟨S8x1440x1024, .bf16⟩
  | .hbm, ⟨21, _⟩ => ⟨S8192x2816, .bf16⟩
  | .hbm, ⟨22, _⟩ => ⟨S8192x2816, .bf16⟩
  | .hbm, ⟨23, _⟩ => ⟨S1x1024, .f32⟩
  | .hbm, ⟨24, _⟩ => ⟨S8192x1024, .f32⟩
  | .hbm, ⟨25, _⟩ => ⟨S8192x1024, .bf16⟩
  | .hbm, ⟨26, _⟩ => ⟨S8192x1024, .bf16⟩
  | .hbm, ⟨27, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S2816x1024, .bf16⟩
  | .local _ .vmem, ⟨17, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceFfnInIdeal.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S8192x2816, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S1x1024, .f32⟩
  | .hbm, ⟨81, _⟩ => ⟨S_, .i32⟩
  | .hbm, ⟨82, _⟩ => ⟨S_, .f32⟩
  | .hbm, ⟨83, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_call0_v0 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== KernelFfnFwd.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8x128x1024 : Shape := ⟨3, ![8, 128, 1024]⟩
abbrev S8x352x1024 : Shape := ⟨3, ![8, 352, 1024]⟩
abbrev S8x1440x1024 : Shape := ⟨3, ![8, 1440, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S24 : Shape := ⟨1, ![24]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 22
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S8x128x1024, .f32⟩
  | .hbm, ⟨11, _⟩ => ⟨S8x128x1024, .f32⟩
  | .hbm, ⟨12, _⟩ => ⟨S8x128x1024, .f32⟩
  | .hbm, ⟨13, _⟩ => ⟨S8x352x1024, .f32⟩
  | .hbm, ⟨14, _⟩ => ⟨S8x352x1024, .f32⟩
  | .hbm, ⟨15, _⟩ => ⟨S8x352x1024, .f32⟩
  | .hbm, ⟨16, _⟩ => ⟨S8x1440x1024, .f32⟩
  | .hbm, ⟨17, _⟩ => ⟨S8x1440x1024, .bf16⟩
  | .hbm, ⟨18, _⟩ => ⟨S1x1024, .f32⟩
  | .hbm, ⟨19, _⟩ => ⟨S8192x1024, .f32⟩
  | .hbm, ⟨20, _⟩ => ⟨S8192x2816, .bf16⟩
  | .hbm, ⟨21, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceFfnFwdIdeal.lean ====
abbrev S8192x1024 : Shape := ⟨2, ![8192, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Act.RunA.lean ====
/-
  The body of the kernel at the first grid point: it copies the weights into its scratch by eight copies in flight at once, clears the
  accumulator and does its block.
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `main_v26` held whole is what remains after eighteen read shares together with the shares: one for each semaphore, by its number, so that
    each of the eight copies out of it reads through its own share. -/
theorem read_shares (c : Dev nD) (f : HbBuf0 (F := F) c hbM0_0) :
    (hbPt0 c hbM0_0 f : sProp 𝕄) ⊣⊢ iprop((hbM0_0.view.loc (c : Thread nD τ) ↦{Transfers.shareDrop fullShare 18} f) ∗
      (hbM0_0.view.loc (c : Thread nD τ) ↦{Transfers.shareTokN fullShare 0} f) ∗
      (hbM0_0.view.loc (c : Thread nD τ) ↦{Transfers.shareTokN fullShare 1} f) ∗
      (hbM0_0.view.loc (c : Thread nD τ) ↦{Transfers.shareTokN fullShare 2} f) ∗
      (hbM0_0.view.loc (c : Thread nD τ) ↦{Transfers.shareTokN fullShare 3} f) ∗
      (hbM0_0.view.loc (c : Thread nD τ) ↦{Transfers.shareTokN fullShare 4} f) ∗
      (hbM0_0.view.loc (c : Thread nD τ) ↦{Transfers.shareTokN fullShare 5} f) ∗
      (hbM0_0.view.loc (c : Thread nD τ) ↦{Transfers.shareTokN fullShare 6} f) ∗
      (hbM0_0.view.loc (c : Thread nD τ) ↦{Transfers.shareTokN fullShare 7} f) ∗
      (hbM0_0.view.loc (c : Thread nD τ) ↦{Transfers.shareTokN fullShare 8} f) ∗
      (hbM0_0.view.loc (c : Thread nD τ) ↦{Transfers.shareTokN fullShare 9} f) ∗
      (hbM0_0.view.loc (c : Thread nD τ) ↦{Transfers.shareTokN fullShare 10} f) ∗
      (hbM0_0.view.loc (c : Thread nD τ) ↦{Transfers.shareTokN fullShare 11} f) ∗
      (hbM0_0.view.loc (c : Thread nD τ) ↦{Transfers.shareTokN fullShare 12} f) ∗
      (hbM0_0.view.loc (c : Thread nD τ) ↦{Transfers.shareTokN fullShare 13} f) ∗
      (hbM0_0.view.loc (c : Thread nD τ) ↦{Transfers.shareTokN fullShare 14} f) ∗
      (hbM0_0.view.loc (c : Thread nD τ) ↦{Transfers.shareTokN fullShare 15} f) ∗
      (hbM0_0.view.loc (c : Thread nD τ) ↦{Transfers.shareTokN fullShare 16} f) ∗
      (hbM0_0.view.loc (c : Thread nD τ) ↦{Transfers.shareTokN fullShare 17} f)) := by
  have h := Transfers.pointsTo_toks_range (nD := nD) (τ := τ) (sig := sig) (Ix := Unit) (Val := Elt F) (Name := ℕ) (U := Pipeline.UD sig nD τ) (Lvl := ℕ)
    (ℓ := hbM0_0.view.loc (c : Thread nD τ)) (S := Finset.univ) (f := f) fullShare 18
  rw [BI.bigSep_eq_bigSepL_of_eq [0, 1, 2, 3, 4, 5, 6, 7, 8, 9, 10, 11, 12, 13, 14, 15, 16, 17] (by decide) (by decide)] at h
  exact h

-- (the run's proof term is large: the definition's epilogue — `abstractNestedProofs` — walks it past the default budget)
set_option maxHeartbeats 4000000 in
-- each copy into the weights' buffer takes its own rows only
set_option sl_exec.dmaWindow true in
set_option sl_exec.dmaWindowSet true in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) :
    Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg8 fullShare d) ∗ (∃ d, owns (c : Thread nD τ) arg9 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_ffn_bwd_act i arg1 harg1 arg2 harg2 arg3 harg3 (Memref.whole main_v26) (Memref.isWhole_whole _) arg5 harg5 arg6 harg6 (Memref.whole main_v27_2) (Memref.isWhole_whole _) arg8 harg8 arg9 harg9 cc0_scratch2) K } := by
  refine ⟨?_, ?_, ?_, ?_, ?_, fun W K => ?run⟩
  case run =>
    simp only [cc0_ffn_bwd_act_eq_skeleton]; unfold cc0_ffn_bwd_act_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hq0, Hq1, Hq2, Hq3, Hq4, Hq5, Hq6, Hq7, Hh0, Hh1, HW, Hk⟩
    obtain rfl := harg1.eq_unread hf0; obtain rfl := harg2.eq_unread hf1; obtain rfl := harg3.eq_unread hf2
    ihave Hh0 := (read_shares c fh0).1 $$ Hh0
    icases Hh0 with ⟨Hd, Ht0, Ht1, Ht2, Ht3, Ht4, Ht5, Ht6, Ht7, Ht8, Ht9, Ht10, Ht11, Ht12, Ht13, Ht14, Ht15, Ht16, Ht17⟩
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hd Ht0 Ht1 Ht2 Ht3 Ht4 Ht5 Ht6 Ht7 Ht8 Ht9 Ht10 Ht11 Ht12 Ht13 Ht14 Ht15 Ht16 Ht17]
    · iapply (read_shares c fh0).2
      isplitl [Hd]; · iexact Hd
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      iexact Ht17
    isplitl [Hh1]; · iexact Hh1
    iexists _; iexact HW

end Cert.KernelIdeal.Gen

end
-- ==== Proof.Act.RunB.lean ====
/-
  The body of the kernel at a point between the first and the last.
-/
module

public import proofs.«01_k».proof.Proof.Act.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) :
    Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ owns (c : Thread nD τ) arg8 fullShare xs0 ∗ owns (c : Thread nD τ) arg9 fullShare xs1 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg8 fullShare xs0 ∗ (∃ f, arg9.view.loc (c : Thread nD τ) ↦[arg9.view.set]{fullShare} arg9.view.writes (Elt F) f LS1) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_ffn_bwd_act i arg1 harg1 arg2 harg2 arg3 harg3 (Memref.whole main_v26) (Memref.isWhole_whole _) arg5 harg5 arg6 harg6 (Memref.whole main_v27_2) (Memref.isWhole_whole _) arg8 harg8 arg9 harg9 cc0_scratch2) K } := by
  refine ⟨?_, ?_, [], ?_, ?_, fun W K => ?run⟩
  case run =>
    simp only [cc0_ffn_bwd_act_eq_skeleton]; unfold cc0_ffn_bwd_act_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]
    · iexists _; isplitr; · ipureintro; exact harg8.read_unread _
      iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelIdeal.Gen

end
-- ==== Proof.Act.RunC.lean ====
/-
  The body of the kernel at the last grid point, where it also copies the accumulated gradient out.
-/
module

public import proofs.«01_k».proof.Proof.Act.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) :
    Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ owns (c : Thread nD τ) arg8 fullShare xs0 ∗ owns (c : Thread nD τ) arg9 fullShare xs1 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_ffn_bwd_act i arg1 harg1 arg2 harg2 arg3 harg3 (Memref.whole main_v26) (Memref.isWhole_whole _) arg5 harg5 arg6 harg6 (Memref.whole main_v27_2) (Memref.isWhole_whole _) arg8 harg8 arg9 harg9 cc0_scratch2) K } := by
  refine ⟨?_, ?_, ?_, ?_, ?_, fun W K => ?run⟩
  case run =>
    simp only [cc0_ffn_bwd_act_eq_skeleton]; unfold cc0_ffn_bwd_act_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelIdeal.Gen

end
-- ==== Proof.Act.Frame.lean ====
/-
  What the buffers hold point by point, the launch over the runs of `RunA`, `RunB` and `RunC`, and the frame.
-/
module

public import proofs.«01_k».proof.Proof.Act.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 3 tile its block (11 stores of `S512x256`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) (y : S512x2816.Idx) :
    ∃ pc ∈ (kernelRun0_A c i arg1 harg1 arg2 harg2 arg3 harg3 arg5 harg5 arg6 harg6 arg8 harg8 arg9 harg9 hc0 hc1 x0 x1 x2 fh0 fw1).1, y ∈ pc.1.set :=
  View.cover_of_tiledL (kernelRun0_A c i arg1 harg1 arg2 harg2 arg3 harg3 arg5 harg5 arg6 harg6 arg8 harg8 arg9 harg9 hc0 hc1 x0 x1 x2 fh0 fw1).1 S512x256.size (by sl_kernel_rfl) y

/-- What case A leaves in output 3's staging buffer: its pieces read back over junk. -/
def out0_A_3 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) : Vec F S512x2816 .bf16 :=
  VO0_3.read (Elt F) (VO0_3.writes (Elt F) VO0_3.junk (kernelRun0_A c i arg1 harg1 arg2 harg2 arg3 harg3 arg5 harg5 arg6 harg6 arg8 harg8 arg9 harg9 hc0 hc1 x0 x1 x2 fh0 fw1).1)

/-- Case A's pieces for output 4 tile its block (11 stores of `S512x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) (y : S512x2816.Idx) :
    ∃ pc ∈ (kernelRun0_A c i arg1 harg1 arg2 harg2 arg3 harg3 arg5 harg5 arg6 harg6 arg8 harg8 arg9 harg9 hc0 hc1 x0 x1 x2 fh0 fw1).2.1, y ∈ pc.1.set :=
  View.cover_of_tiledL (kernelRun0_A c i arg1 harg1 arg2 harg2 arg3 harg3 arg5 harg5 arg6 harg6 arg8 harg8 arg9 harg9 hc0 hc1 x0 x1 x2 fh0 fw1).2.1 S512x256.size (by sl_kernel_rfl) y

/-- What case A leaves in output 4's staging buffer: its pieces read back over junk. -/
def out0_A_4 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) : Vec F S512x2816 .bf16 :=
  VO0_4.read (Elt F) (VO0_4.writes (Elt F) VO0_4.junk (kernelRun0_A c i arg1 harg1 arg2 harg2 arg3 harg3 arg5 harg5 arg6 harg6 arg8 harg8 arg9 harg9 hc0 hc1 x0 x1 x2 fh0 fw1).2.1)

/-- Case A's pieces for scratch `arg8`, which the kernel carries between points, cover it: 8 pieces of `S352x1024` tiling it (Lib/Ring.lean `Piece.tiledL`). -/
theorem scover0_A_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) (y : S2816x1024.Idx) :
    ∃ pc ∈ (kernelRun0_A c i arg1 harg1 arg2 harg2 arg3 harg3 arg5 harg5 arg6 harg6 arg8 harg8 arg9 harg9 hc0 hc1 x0 x1 x2 fh0 fw1).2.2.1, y ∈ pc.1.set :=
  View.cover_of_tiledL (kernelRun0_A c i arg1 harg1 arg2 harg2 arg3 harg3 arg5 harg5 arg6 harg6 arg8 harg8 arg9 harg9 hc0 hc1 x0 x1 x2 fh0 fw1).2.2.1 S352x1024.size (by sl_kernel_rfl) y

/-- What case A leaves in scratch `arg8`: its pieces read back over junk. -/
def sout0_A_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) : Vec F S2816x1024 .bf16 :=
  VS0_0.read (Elt F) (VS0_0.writes (Elt F) VS0_0.junk (kernelRun0_A c i arg1 harg1 arg2 harg2 arg3 harg3 arg5 harg5 arg6 harg6 arg8 harg8 arg9 harg9 hc0 hc1 x0 x1 x2 fh0 fw1).2.2.1)

/-- Case A's pieces for scratch `arg9`, which the kernel carries between points, cover it: one of them a store of the WHOLE buffer (Lib/Ring.lean `sl_whole_mem`). -/
theorem scover0_A_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) (y : S2816x1024.Idx) :
    ∃ pc ∈ (kernelRun0_A c i arg1 harg1 arg2 harg2 arg3 harg3 arg5 harg5 arg6 harg6 arg8 harg8 arg9 harg9 hc0 hc1 x0 x1 x2 fh0 fw1).2.2.2.1, y ∈ pc.1.set :=
  View.cover_of_wholeMem (kernelRun0_A c i arg1 harg1 arg2 harg2 arg3 harg3 arg5 harg5 arg6 harg6 arg8 harg8 arg9 harg9 hc0 hc1 x0 x1 x2 fh0 fw1).2.2.2.1 (by sl_whole_mem) y

/-- What case A leaves in scratch `arg9`: its pieces read back over junk. -/
def sout0_A_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) : Vec F S2816x1024 .f32 :=
  VS0_1.read (Elt F) (VS0_1.writes (Elt F) VS0_1.junk (kernelRun0_A c i arg1 harg1 arg2 harg2 arg3 harg3 arg5 harg5 arg6 harg6 arg8 harg8 arg9 harg9 hc0 hc1 x0 x1 x2 fh0 fw1).2.2.2.1)

/-- Case A copies nothing into `main_v27_2`: it holds the contents it started from (`fw1`), as the run
    hands them back. -/
def hbw0_A_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : cond0_0 i) (hc1 : ¬cond0_1 i)
    (x0 : Vec F S512x1024 .f32) (x1 : Vec F S512x2816 .bf16) (x2 : Vec F S512x2816 .bf16) (fh0 : HbBuf0 (F := F) c hbM0_0) (fw1 : HbBuf0 (F := F) c hbM0_1) : HbBuf0 (F := F) c hbM0_1 := (kernelRun0_A c i arg1 harg1 arg2 harg2 arg3 harg3 arg5 harg5 arg6 harg6 arg8 harg8 arg9 harg9 hc0 hc1 x0 x1 x2 fh0 fw1).2.2.2.2.1

/-- Case B's pieces for output 3 tile its block (11 stores of `S512x256`, checked by the kernel's evaluation: Lib/Ring.lean `Piece.tiledL`, linear in the pieces, through a loop's `@[irreducible]` trip theorem too), so they cover it. -/
theorem cover0_B_3 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) (y : S512x2816.Idx) :
    ∃ pc ∈ (kernelRun0_B c i arg1 harg1 arg2 harg2 arg3 harg3 arg5 harg5 arg6 harg6 arg8 harg8 arg9 harg9 hc0 hc1 x0 x1 x2 xs0 xs1 fh0 fw1).1, y ∈ pc.1.set :=
  View.cover_of_tiledL (kernelRun0_B c i arg1 harg1 arg2 harg2 arg3 harg3 arg5 harg5 arg6 harg6 arg8 harg8 arg9 harg9 hc0 hc1 x0 x1 x2 xs0 xs1 fh0 fw1).1 S512x256.size (by sl_kernel_rfl) y

/-- What case B leaves in output 3's staging buffer: its pieces read back over junk. -/
def out0_B_3 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S512x2816 .bf16 :=
  VO0_3.read (Elt F) (VO0_3.writes (Elt F) VO0_3.junk (kernelRun0_B c i arg1 harg1 arg2 harg2 arg3 harg3 arg5 harg5 arg6 harg6 arg8 harg8 arg9 harg9 hc0 hc1 x0 x1 x2 xs0 xs1 fh0 fw1).1)

/-- Case B's pieces for output 4 tile its block (11 stores of `S512x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) (y : S512x2816.Idx) :
    ∃ pc ∈ (kernelRun0_B c i arg1 harg1 arg2 harg2 arg3 harg3 arg5 harg5 arg6 harg6 arg8 harg8 arg9 harg9 hc0 hc1 x0 x1 x2 xs0 xs1 fh0 fw1).2.1, y ∈ pc.1.set :=
  View.cover_of_tiledL (kernelRun0_B c i arg1 harg1 arg2 harg2 arg3 harg3 arg5 harg5 arg6 harg6 arg8 harg8 arg9 harg9 hc0 hc1 x0 x1 x2 xs0 xs1 fh0 fw1).2.1 S512x256.size (by sl_kernel_rfl) y

/-- What case B leaves in output 4's staging buffer: its pieces read back over junk. -/
def out0_B_4 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S512x2816 .bf16 :=
  VO0_4.read (Elt F) (VO0_4.writes (Elt F) VO0_4.junk (kernelRun0_B c i arg1 harg1 arg2 harg2 arg3 harg3 arg5 harg5 arg6 harg6 arg8 harg8 arg9 harg9 hc0 hc1 x0 x1 x2 xs0 xs1 fh0 fw1).2.1)

/-- Case B stores nothing into scratch `arg8`: it holds what the point before left. -/
def sout0_B_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S2816x1024 .bf16 := xs0

/-- Case B's pieces for scratch `arg9`, which the kernel carries between points, cover it: 11 pieces of `S256x1024` tiling it (Lib/Ring.lean `Piece.tiledL`). -/
theorem scover0_B_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) (y : S2816x1024.Idx) :
    ∃ pc ∈ (kernelRun0_B c i arg1 harg1 arg2 harg2 arg3 harg3 arg5 harg5 arg6 harg6 arg8 harg8 arg9 harg9 hc0 hc1 x0 x1 x2 xs0 xs1 fh0 fw1).2.2.2.1, y ∈ pc.1.set :=
  View.cover_of_tiledL (kernelRun0_B c i arg1 harg1 arg2 harg2 arg3 harg3 arg5 harg5 arg6 harg6 arg8 harg8 arg9 harg9 hc0 hc1 x0 x1 x2 xs0 xs1 fh0 fw1).2.2.2.1 S256x1024.size (by sl_kernel_rfl) y

/-- What case B leaves in scratch `arg9`: its pieces read back over junk. -/
def sout0_B_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S2816x1024 .f32 :=
  VS0_1.read (Elt F) (VS0_1.writes (Elt F) VS0_1.junk (kernelRun0_B c i arg1 harg1 arg2 harg2 arg3 harg3 arg5 harg5 arg6 harg6 arg8 harg8 arg9 harg9 hc0 hc1 x0 x1 x2 xs0 xs1 fh0 fw1).2.2.2.1)

/-- Case B copies nothing into `main_v27_2`: it holds the contents it started from (`fw1`), as the run
    hands them back. -/
def hbw0_B_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : ¬cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : HbBuf0 (F := F) c hbM0_1 := (kernelRun0_B c i arg1 harg1 arg2 harg2 arg3 harg3 arg5 harg5 arg6 harg6 arg8 harg8 arg9 harg9 hc0 hc1 x0 x1 x2 xs0 xs1 fh0 fw1).2.2.2.2.1

/-- Case C's pieces for output 3 tile its block (11 stores of `S512x256`, checked by the kernel's evaluation: Lib/Ring.lean `Piece.tiledL`, linear in the pieces, through a loop's `@[irreducible]` trip theorem too), so they cover it. -/
theorem cover0_C_3 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) (y : S512x2816.Idx) :
    ∃ pc ∈ (kernelRun0_C c i arg1 harg1 arg2 harg2 arg3 harg3 arg5 harg5 arg6 harg6 arg8 harg8 arg9 harg9 hc0 hc1 x0 x1 x2 xs0 xs1 fh0 fw1).1, y ∈ pc.1.set :=
  View.cover_of_tiledL (kernelRun0_C c i arg1 harg1 arg2 harg2 arg3 harg3 arg5 harg5 arg6 harg6 arg8 harg8 arg9 harg9 hc0 hc1 x0 x1 x2 xs0 xs1 fh0 fw1).1 S512x256.size (by sl_kernel_rfl) y

/-- What case C leaves in output 3's staging buffer: its pieces read back over junk. -/
def out0_C_3 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S512x2816 .bf16 :=
  VO0_3.read (Elt F) (VO0_3.writes (Elt F) VO0_3.junk (kernelRun0_C c i arg1 harg1 arg2 harg2 arg3 harg3 arg5 harg5 arg6 harg6 arg8 harg8 arg9 harg9 hc0 hc1 x0 x1 x2 xs0 xs1 fh0 fw1).1)

/-- Case C's pieces for output 4 tile its block (11 stores of `S512x256`, checked by the kernel's evaluation: Lib/Ring.lean `Piece.tiledL`, linear in the pieces, through a loop's `@[irreducible]` trip theorem too), so they cover it. -/
theorem cover0_C_4 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) (y : S512x2816.Idx) :
    ∃ pc ∈ (kernelRun0_C c i arg1 harg1 arg2 harg2 arg3 harg3 arg5 harg5 arg6 harg6 arg8 harg8 arg9 harg9 hc0 hc1 x0 x1 x2 xs0 xs1 fh0 fw1).2.1, y ∈ pc.1.set :=
  View.cover_of_tiledL (kernelRun0_C c i arg1 harg1 arg2 harg2 arg3 harg3 arg5 harg5 arg6 harg6 arg8 harg8 arg9 harg9 hc0 hc1 x0 x1 x2 xs0 xs1 fh0 fw1).2.1 S512x256.size (by sl_kernel_rfl) y

/-- What case C leaves in output 4's staging buffer: its pieces read back over junk. -/
def out0_C_4 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S512x2816 .bf16 :=
  VO0_4.read (Elt F) (VO0_4.writes (Elt F) VO0_4.junk (kernelRun0_C c i arg1 harg1 arg2 harg2 arg3 harg3 arg5 harg5 arg6 harg6 arg8 harg8 arg9 harg9 hc0 hc1 x0 x1 x2 xs0 xs1 fh0 fw1).2.1)

/-- Case C's pieces for scratch `arg8`, which the kernel carries between points, cover it: 1 piece of `S2816x1024` tiling it (Lib/Ring.lean `Piece.tiledL`). -/
theorem scover0_C_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) (y : S2816x1024.Idx) :
    ∃ pc ∈ (kernelRun0_C c i arg1 harg1 arg2 harg2 arg3 harg3 arg5 harg5 arg6 harg6 arg8 harg8 arg9 harg9 hc0 hc1 x0 x1 x2 xs0 xs1 fh0 fw1).2.2.1, y ∈ pc.1.set :=
  View.cover_of_tiledL (kernelRun0_C c i arg1 harg1 arg2 harg2 arg3 harg3 arg5 harg5 arg6 harg6 arg8 harg8 arg9 harg9 hc0 hc1 x0 x1 x2 xs0 xs1 fh0 fw1).2.2.1 S2816x1024.size (by sl_kernel_rfl) y

/-- What case C leaves in scratch `arg8`: its pieces read back over junk. -/
def sout0_C_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S2816x1024 .bf16 :=
  VS0_0.read (Elt F) (VS0_0.writes (Elt F) VS0_0.junk (kernelRun0_C c i arg1 harg1 arg2 harg2 arg3 harg3 arg5 harg5 arg6 harg6 arg8 harg8 arg9 harg9 hc0 hc1 x0 x1 x2 xs0 xs1 fh0 fw1).2.2.1)

/-- Case C's pieces for scratch `arg9`, which the kernel carries between points, cover it: 11 pieces of `S256x1024` tiling it (Lib/Ring.lean `Piece.tiledL`). -/
theorem scover0_C_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) (y : S2816x1024.Idx) :
    ∃ pc ∈ (kernelRun0_C c i arg1 harg1 arg2 harg2 arg3 harg3 arg5 harg5 arg6 harg6 arg8 harg8 arg9 harg9 hc0 hc1 x0 x1 x2 xs0 xs1 fh0 fw1).2.2.2.1, y ∈ pc.1.set :=
  View.cover_of_tiledL (kernelRun0_C c i arg1 harg1 arg2 harg2 arg3 harg3 arg5 harg5 arg6 harg6 arg8 harg8 arg9 harg9 hc0 hc1 x0 x1 x2 xs0 xs1 fh0 fw1).2.2.2.1 S256x1024.size (by sl_kernel_rfl) y

/-- What case C leaves in scratch `arg9`: its pieces read back over junk. -/
def sout0_C_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : Vec F S2816x1024 .f32 :=
  VS0_1.read (Elt F) (VS0_1.writes (Elt F) VS0_1.junk (kernelRun0_C c i arg1 harg1 arg2 harg2 arg3 harg3 arg5 harg5 arg6 harg6 arg8 harg8 arg9 harg9 hc0 hc1 x0 x1 x2 xs0 xs1 fh0 fw1).2.2.2.1)

/-- What case C leaves in `main_v27_2`, the result left in HBM its copies out of scratch write: the contents
    it started from (`fw1`: what the point before left there, at the first point the launch's) with those copies written over
    them — the contents term the run finds, its witness. -/
def hbw0_C_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole) (hc0 : ¬cond0_0 i) (hc1 : cond0_1 i)
    (x0 : Vec F S512x1024 .f32) (x1 : Vec F S512x2816 .bf16) (x2 : Vec F S512x2816 .bf16) (xs0 : Vec F S2816x1024 .bf16) (xs1 : Vec F S2816x1024 .f32) (fh0 : HbBuf0 (F := F) c hbM0_0) (fw1 : HbBuf0 (F := F) c hbM0_1) : HbBuf0 (F := F) c hbM0_1 := (kernelRun0_C c i arg1 harg1 arg2 harg2 arg3 harg3 arg5 harg5 arg6 harg6 arg8 harg8 arg9 harg9 hc0 hc1 x0 x1 x2 xs0 xs1 fh0 fw1).2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2816 .bf16 × Vec F S512x2816 .bf16 × Vec F S2816x1024 .bf16 × Vec F S2816x1024 .f32 × HbBuf0 (F := F) c hbM0_1
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_v26) (V m c main_v27_2), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_v26) (V m c main_v27_2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_v26) (V m c main_v27_2), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_v26) (V m c main_v27_2), hbw0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (V m c main_v26) (V m c main_v27_2))
  | n + 1, hn =>
    if h0 : (n + 1) % 16 = 0 then
      if h1 : (n + 1) % 16 = 15 then
        False.elim (by have hN : n + 1 < 16 := lt_of_lt_of_eq hn (show cfg0.N = 16 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_v26) (V m c main_v27_2), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_v26) (V m c main_v27_2), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_v26) (V m c main_v27_2), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_v26) (V m c main_v27_2), hbw0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (V m c main_v26) (V m c main_v27_2))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, hbw0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2, hbw0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (V m c main_v26) (outsAt0 c n (Nat.lt_of_succ_lt hn)).2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (V m c main_v26) (V m c main_v27_2), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (V m c main_v26) (V m c main_v27_2), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (V m c main_v26) (V m c main_v27_2), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (V m c main_v26) (V m c main_v27_2), hbw0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (V m c main_v26) (V m c main_v27_2)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, hbw0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2, hbw0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.1) ∗ owns (c : Thread nD τ) scM0_1 fullShare ((outsAt0 m c n hn).2.2.2.1)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v26)) ∗ iprop(hbPt0 c hbM0_1 ((outsAt0 m c n hn).2.2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v26)) ∗ iprop(hbPt0 c hbM0_1 ((outsAt0 m c n hn).2.2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v26)) ∗ iprop(hbPt0 c hbM0_1 ((outsAt0 m c (n - 1) (by omega)).2.2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4800000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 15
    · exfalso; omega
    · by_cases hz : t.val = 0
      · rw [PhiS_castSucc m c t, PhiS_zero m c _ _ hz, PhiDRG0_in_eq]
        rw [outsAt0_A m c t h0 h1]
        unfold out0_A_3 out0_A_4 sout0_A_0 sout0_A_1 hbw0_A_1; (try dsimp only)
        iintro ⟨⟨⟨HS0, HS1⟩, Hg, ⟨Hq0, Hq1, Hq2, Hq3, Hq4, Hq5, Hq6, Hq7⟩, Hh0, Hh1⟩, ⟨%W, -, HW⟩, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (V m c main_v26) _).2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%es1, HS1⟩, Hq0, Hq1, Hq2, Hq3, Hq4, Hq5, Hq6, Hq7, Hh0, Hh1, ⟨%W', HW'⟩⟩
        isplitl [HS0 HS1 Hg Hq0 Hq1 Hq2 Hq3 Hq4 Hq5 Hq6 Hq7 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _)
          isplitl [Hg]
          · iexact Hg
          isplitl [Hq0 Hq1 Hq2 Hq3 Hq4 Hq5 Hq6 Hq7]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            iexact Hq7
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        unfold owns; iexists _; isplitr
        swap; · iexact H4
        ipureintro; exact View.read_writes_of_cover _ _ _ _ _ (cover0_A_4 c _ _ _ _ _ _ _ _ _ _ _ _ _ _ _ _ _ _ _ _ _ _)
      · exfalso; have hN : t.val < 16 := lt_of_lt_of_eq t.isLt (show cfg0.N = 16 from N_0); omega
  · by_cases h1 : t.val % 16 = 15
    · by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_3 out0_C_4 sout0_C_0 sout0_C_1 hbw0_C_1; (try dsimp only)
        iintro ⟨⟨⟨HS0, HS1⟩, Hg, ⟨Hq0, Hq1, Hq2, Hq3, Hq4, Hq5, Hq6, Hq7⟩, Hh0, Hh1⟩, ⟨%W, -, HW⟩, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ (V m c main_v26) _).2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hh0]; · iexact Hh0
        isplitl [Hh1]; · iexact Hh1
        isplitl [HW]; · iexact HW
        iintro ⟨H0, H1, H2, ⟨%e3, H3⟩, ⟨%e4, H4⟩, ⟨%es0, HS0⟩, ⟨%es1, HS1⟩, Hq0, Hq1, Hq2, Hq3, Hq4, Hq5, Hq6, Hq7, Hh0, Hh1, ⟨%W', HW'⟩⟩
        isplitl [HS0 HS1 Hg Hq0 Hq1 Hq2 Hq3 Hq4 Hq5 Hq6 Hq7 Hh0 Hh1]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _)
          isplitl [Hg]
          · iexact Hg
          isplitl [Hq0 Hq1 Hq2 Hq3 Hq4 Hq5 Hq6 Hq7]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            iexact Hq7
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _)
    · by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_3 out0_B_4 sout0_B_0 sout0_B_1 hbw0_B_1; (try dsimp only)
        iintro ⟨⟨⟨HS0, HS1⟩, Hg, ⟨Hq0, Hq1, Hq2, Hq3, Hq4, Hq5, Hq6, Hq7⟩, Hh0, Hh1⟩, ⟨%W, -, HW⟩, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ (V m c main_v26) _).2.2.2.2.2 W _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hh0]; · iexact Hh0
        isplitl [Hh1]; · iexact Hh1
        isplitl [HW]; · iexact HW
        iintro ⟨H0, H1, H2, ⟨%e3, H3⟩, ⟨%e4, H4⟩, HS0, ⟨%es1, HS1⟩, Hq0, Hq1, Hq2, Hq3, Hq4, Hq5, Hq6, Hq7, Hh0, Hh1, ⟨%W', HW'⟩⟩
        isplitl [HS0 HS1 Hg Hq0 Hq1 Hq2 Hq3 Hq4 Hq5 Hq6 Hq7 Hh0 Hh1]
        · isplitl [HS0 HS1]
          · isplitl [HS0]; · iexact HS0
            unfold owns; iexists _; isplitr
            swap; · iexact HS1
            ipureintro; exact View.read_writes_of_cover _ _ _ _ _ (scover0_B_1 c _ _ _ _ _ _ _ _ _ _ _ _ _ _ _ _ _ _ _ _ _ _ _ _)
          isplitl [Hg]
          · iexact Hg
          isplitl [Hq0 Hq1 Hq2 Hq3 Hq4 Hq5 Hq6 Hq7]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            iexact Hq7
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _)
        unfold owns; iexists _; isplitr
        swap; · iexact H4
        ipureintro; exact View.read_writes_of_cover _ _ _ _ _ (cover0_B_4 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v27_2 (outsAt0 m c ((Fin.last cfg0.N).val - 1) (by rw [Fin.val_last]; have : cfg0.N = 16 := N_0; omega)).2.2.2.2
/-- `hbG0` at `main_v27_2`: `outsAt0`'s component. -/
theorem hbG0_1 (c : Dev nD) : hbG0 m c main_v27_2 = (outsAt0 m c ((Fin.last cfg0.N).val - 1) (by rw [Fin.val_last]; have : cfg0.N = 16 := N_0; omega)).2.2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_1 ((outsAt0 m c ((Fin.last cfg0.N).val - 1) (by rw [Fin.val_last]; have : cfg0.N = 16 := N_0; omega)).2.2.2.2)) := by
  unfold Pipeline.routed; rw [BI.bigSep_eq_bigSepL_of_eq [main_v27_2] (by decide) (by decide)]
  simp only [BI.bigSepL_singleton, hbG0_1]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v26)) ∗ iprop(hbPt0 c hbM0_1 ((outsAt0 m c ((Fin.last cfg0.N).val - 1) (by rw [Fin.val_last]; have : cfg0.N = 16 := N_0; omega)).2.2.2.2))) := by
  rw [Pipeline.ΦDRG_eq, scopedRest0_eq, ownSems00_eq, hbmPts0_eq, heldG0_eq]; simp only [scM0_0, scM0_1, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiDRG0_out_eq]
  iintro ⟨⟨HS0, HS1⟩, Hg, ⟨Hq0, Hq1, Hq2, Hq3, Hq4, Hq5, Hq6, Hq7⟩, Hh0, Hh1⟩
  isplitl [HS0 HS1]
  · isplitl [HS0]
    · iexists _; iexact HS0
    iexists _; iexact HS1
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]
  · iexact Hh0
  iexact Hh1

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.Act.Value.lean ====
/-
  The results after the launch, block by block.
-/
module

public import proofs.«01_k».proof.Proof.Act.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 16 = 0) (h1 : ¬t.val % 16 = 15) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (V m c main_v26) (V m c main_v27_2)) := by
  rw [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 16 = 0) (h1 : ¬t.val % 16 = 15) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2) := by
  rw [flushed3, outsAt0_B m c t h0 h1]

/-- The index map sends distinct grid points to distinct block indices (decided over the 16 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8192x2816.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 16 = 0) (h1 : ¬t.val % 16 = 15) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (V m c main_v26) (V m c main_v27_2)) := by
  rw [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 16 = 0) (h1 : ¬t.val % 16 = 15) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v26) (outsAt0 m c (t.val - 1) (Nat.lt_of_le_of_lt (Nat.sub_le _ _) t.isLt)).2.2.2.2) := by
  rw [flushed4, outsAt0_B m c t h0 h1]

/-- The index map sends distinct grid points to distinct block indices (decided over the 16 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x2816.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 3's array is `(dats m 0 c).arrAt 3 N`. -/
theorem post3 (r : PUnit × MemSt nD τ sig (Elt F)) (h : Pipeline.FramePostRG cfgs (dats m) 0 R0 (V m) (hbG0 m) r) (c : Dev nD) :
    r.2.mem ((c : Thread nD τ).loc main_v27_0) = (dats m 0 c).arrAt 3 cfg0.N :=
  (h.toR c).1 3

/-- After the frame run, output window 4's array is `(dats m 0 c).arrAt 4 N`. -/
theorem post4 (r : PUnit × MemSt nD τ sig (Elt F)) (h : Pipeline.FramePostRG cfgs (dats m) 0 R0 (V m) (hbG0 m) r) (c : Dev nD) :
    r.2.mem ((c : Thread nD τ).loc main_v27_1) = (dats m 0 c).arrAt 4 cfg0.N :=
  (h.toR c).1 4

/-- After the frame run, argument `main_arg0` is as launched: no window stages it, and the run leaves the region's other buffers as they were (it is none of `Gen.R0`, the buffers the body itself writes). -/
theorem kept_main_arg0 (r : PUnit × MemSt nD τ sig (Elt F)) (h : Pipeline.FramePostRG cfgs (dats m) 0 R0 (V m) (hbG0 m) r) (c : Dev nD) :
    r.2.mem ((c : Thread nD τ).loc main_arg0) = m ((c : Thread nD τ).loc main_arg0) :=
  ((h.toR c).2 main_arg0 (Finset.mem_sdiff.mpr ⟨Pipeline.mem_restRefs_of main_arg0 (by decide) (by decide), by decide⟩)).trans (V_main_arg0 m c)

/-- After the frame run, argument `main_arg1` is as launched: no window stages it, and the run leaves the region's other buffers as they were (it is none of `Gen.R0`, the buffers the body itself writes). -/
theorem kept_main_arg1 (r : PUnit × MemSt nD τ sig (Elt F)) (h : Pipeline.FramePostRG cfgs (dats m) 0 R0 (V m) (hbG0 m) r) (c : Dev nD) :
    r.2.mem ((c : Thread nD τ).loc main_arg1) = m ((c : Thread nD τ).loc main_arg1) :=
  ((h.toR c).2 main_arg1 (Finset.mem_sdiff.mpr ⟨Pipeline.mem_restRefs_of main_arg1 (by decide) (by decide), by decide⟩)).trans (V_main_arg1 m c)

/-- After the frame run, argument `main_arg2` is as launched: input window 0 stages it and never writes it back. -/
theorem kept_main_arg2 (r : PUnit × MemSt nD τ sig (Elt F)) (h : Pipeline.FramePostRG cfgs (dats m) 0 R0 (V m) (hbG0 m) r) (c : Dev nD) :
    r.2.mem ((c : Thread nD τ).loc main_arg2) = m ((c : Thread nD τ).loc main_arg2) :=
  ((h.toR c).1 0).trans (((dats m 0 c).arrAt_in 0 rfl _).trans ((A_eq m c 0).trans (V_main_arg2 m c)))

/-- After the frame run, argument `main_arg3` is as launched: no window stages it, and the run leaves the region's other buffers as they were (it is none of `Gen.R0`, the buffers the body itself writes). -/
theorem kept_main_arg3 (r : PUnit × MemSt nD τ sig (Elt F)) (h : Pipeline.FramePostRG cfgs (dats m) 0 R0 (V m) (hbG0 m) r) (c : Dev nD) :
    r.2.mem ((c : Thread nD τ).loc main_arg3) = m ((c : Thread nD τ).loc main_arg3) :=
  ((h.toR c).2 main_arg3 (Finset.mem_sdiff.mpr ⟨Pipeline.mem_restRefs_of main_arg3 (by decide) (by decide), by decide⟩)).trans (V_main_arg3 m c)

/-- After the frame run, argument `main_arg4` is as launched: no window stages it, and the run leaves the region's other buffers as they were (it is none of `Gen.R0`, the buffers the body itself writes). -/
theorem kept_main_arg4 (r : PUnit × MemSt nD τ sig (Elt F)) (h : Pipeline.FramePostRG cfgs (dats m) 0 R0 (V m) (hbG0 m) r) (c : Dev nD) :
    r.2.mem ((c : Thread nD τ).loc main_arg4) = m ((c : Thread nD τ).loc main_arg4) :=
  ((h.toR c).2 main_arg4 (Finset.mem_sdiff.mpr ⟨Pipeline.mem_restRefs_of main_arg4 (by decide) (by decide), by decide⟩)).trans (V_main_arg4 m c)

/-- After the frame run, argument `main_arg5` is as launched: no window stages it, and the run leaves the region's other buffers as they were (it is none of `Gen.R0`, the buffers the body itself writes). -/
theorem kept_main_arg5 (r : PUnit × MemSt nD τ sig (Elt F)) (h : Pipeline.FramePostRG cfgs (dats m) 0 R0 (V m) (hbG0 m) r) (c : Dev nD) :
    r.2.mem ((c : Thread nD τ).loc main_arg5) = m ((c : Thread nD τ).loc main_arg5) :=
  ((h.toR c).2 main_arg5 (Finset.mem_sdiff.mpr ⟨Pipeline.mem_restRefs_of main_arg5 (by decide) (by decide), by decide⟩)).trans (V_main_arg5 m c)

/-- After the frame run, argument `main_arg6` is as launched: no window stages it, and the run leaves the region's other buffers as they were (it is none of `Gen.R0`, the buffers the body itself writes). -/
theorem kept_main_arg6 (r : PUnit × MemSt nD τ sig (Elt F)) (h : Pipeline.FramePostRG cfgs (dats m) 0 R0 (V m) (hbG0 m) r) (c : Dev nD) :
    r.2.mem ((c : Thread nD τ).loc main_arg6) = m ((c : Thread nD τ).loc main_arg6) :=
  ((h.toR c).2 main_arg6 (Finset.mem_sdiff.mpr ⟨Pipeline.mem_restRefs_of main_arg6 (by decide) (by decide), by decide⟩)).trans (V_main_arg6 m c)

/-- After the frame run, argument `main_arg7` is as launched: no window stages it, and the run leaves the region's other buffers as they were (it is none of `Gen.R0`, the buffers the body itself writes). -/
theorem kept_main_arg7 (r : PUnit × MemSt nD τ sig (Elt F)) (h : Pipeline.FramePostRG cfgs (dats m) 0 R0 (V m) (hbG0 m) r) (c : Dev nD) :
    r.2.mem ((c : Thread nD τ).loc main_arg7) = m ((c : Thread nD τ).loc main_arg7) :=
  ((h.toR c).2 main_arg7 (Finset.mem_sdiff.mpr ⟨Pipeline.mem_restRefs_of main_arg7 (by decide) (by decide), by decide⟩)).trans (V_main_arg7 m c)

/-- After the frame run, argument `main_arg8` is as launched: no window stages it, and the run leaves the region's other buffers as they were (it is none of `Gen.R0`, the buffers the body itself writes). -/
theorem kept_main_arg8 (r : PUnit × MemSt nD τ sig (Elt F)) (h : Pipeline.FramePostRG cfgs (dats m) 0 R0 (V m) (hbG0 m) r) (c : Dev nD) :
    r.2.mem ((c : Thread nD τ).loc main_arg8) = m ((c : Thread nD τ).loc main_arg8) :=
  ((h.toR c).2 main_arg8 (Finset.mem_sdiff.mpr ⟨Pipeline.mem_restRefs_of main_arg8 (by decide) (by decide), by decide⟩)).trans (V_main_arg8 m c)

/-- After the frame run, `main_v27_2`, a result left in HBM that the body's copies out of scratch write, holds what the LAST point left
    in it: `Gen.outsAt0`'s component for it there (the value post states it at `Gen.hbG0`, which `Gen.hbG0_1` unfolds). -/
theorem held_main_v27_2 (r : PUnit × MemSt nD τ sig (Elt F)) (h : Pipeline.FramePostRG cfgs (dats m) 0 R0 (V m) (hbG0 m) r) (c : Dev nD) :
    r.2.mem ((c : Thread nD τ).loc main_v27_2) = (outsAt0 m c ((Fin.last cfg0.N).val - 1) (by rw [Fin.val_last]; have : cfg0.N = 16 := N_0; omega)).2.2.2.2 :=
  (h.written c (by decide : main_v27_2 ∈ R0)).trans (hbG0_1 m c)

/-- The frame run with each output array after the run NAMED — `(dats m 0 c).arrAt w N`, which `blocks_w` / `entry_w` read —,
    the arguments unchanged; each result the body's copies out write at what the last point left in it. -/
theorem run_blocks : θ_run defs (onTc (τ := τ) (main (F := F))) ⟨m, fun _ => 0, ρ⟩ fun r => ∀ c : Dev nD,
      r.2.mem ((c : Thread nD τ).loc main_v27_0) = (dats m 0 c).arrAt 3 cfg0.N
      ∧ r.2.mem ((c : Thread nD τ).loc main_v27_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_v27_2) = (outsAt0 m c ((Fin.last cfg0.N).val - 1) (by rw [Fin.val_last]; have : cfg0.N = 16 := N_0; omega)).2.2.2.2 :=
  (θ_run defs _ _).mono (fun r h c => ⟨post3 m r h c,
      post4 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      held_main_v27_2 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2816x1024 .bf16) : Vec F S2816x1024 .bf16 :=
  if h0 : n % 16 = 0 then
    if h1 : n % 16 = 15 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (V m c main_v26) (V m c main_v27_2)
  else
    if h1 : n % 16 = 15 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.1 (V m c main_v26) (outsAt0 m c ((⟨n, hb⟩ : Fin cfg0.N).val - 1) (Nat.lt_of_le_of_lt (Nat.sub_le _ _) (⟨n, hb⟩ : Fin cfg0.N).isLt)).2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.1 (V m c main_v26) (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.1) 16 (fun n h => scAt0_0 m c n h (VS0_0.read (Elt F) VS0_0.junk)) (scAt0_0 m c)
    (fun n h hn => by
      have hN := lt_of_lt_of_eq h (show cfg0.N = 16 from N_0)
      by_cases h0 : n % 16 = 0 <;> by_cases h1 : n % 16 = 15
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 16 from N_0)
      by_cases h0 : (n + 1) % 16 = 0 <;> by_cases h1 : (n + 1) % 16 = 15
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S2816x1024 .f32) : Vec F S2816x1024 .f32 :=
  if h0 : n % 16 = 0 then
    if h1 : n % 16 = 15 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (V m c main_v26) (V m c main_v27_2)
  else
    if h1 : n % 16 = 15 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (V m c main_v26) (outsAt0 m c ((⟨n, hb⟩ : Fin cfg0.N).val - 1) (Nat.lt_of_le_of_lt (Nat.sub_le _ _) (⟨n, hb⟩ : Fin cfg0.N).isLt)).2.2.2.2
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (V m c main_v26) (outsAt0 m c ((⟨n, hb⟩ : Fin cfg0.N).val - 1) (Nat.lt_of_le_of_lt (Nat.sub_le _ _) (⟨n, hb⟩ : Fin cfg0.N).isLt)).2.2.2.2

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.1 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2.2.1) 16 (fun n h => scAt0_1 m c n h (VS0_1.read (Elt F) VS0_1.junk)) (scAt0_1 m c)
    (fun n h hn => by
      have hN := lt_of_lt_of_eq h (show cfg0.N = 16 from N_0)
      by_cases h0 : n % 16 = 0 <;> by_cases h1 : n % 16 = 15
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 16 from N_0)
      by_cases h0 : (n + 1) % 16 = 0 <;> by_cases h1 : (n + 1) % 16 = 15
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.KernelIdeal.Value

end
-- ==== Proof.Act.Chunk.lean ====
/- The values of one block of the SwiGLU backward: what its eleven chunks leave in the two result windows and in the
   accumulator, as functions of the block's operands. -/
module

public import proofs.«01_k».proof.Proof.Act.Value
public import Idealize.ShloMosaic.Lib.Pointwise
public import Idealize.ShloMosaic.Lib.Pipeline.ReadBack

@[expose] public section

set_option maxRecDepth 16384

noncomputable section

namespace Cert.KernelIdeal.Value

open Idealize.ShloMosaic Idealize.SL.Sem Cert.KernelIdeal Cert.KernelIdeal.Gen
open scoped BigOperators

/-- An index of a rectangle placed in the shape, coordinate by coordinate. -/
theorem emb_norm {s : Shape} (r : Rect s) (x : r.shape.Idx) :
    r.emb x = Shape.Idx.norm fun a => ⟨r.off a + r.stride a * (x a).val, r.coord_lt a (x a).isLt⟩ := rfl

/-- A load out of stores that are blocks of `G` and cover the buffer reads `G`. -/
theorem readCov_of_piecesOf {sp : Space} {s : Shape} {e : EltTy} (v : View sig .tc sp s e) (G : s.Idx → Elt Ideal e) (L : List (View.Piece (Elt Ideal) s e))
    (hp : View.PiecesOf G L) (hc : ∀ y, ∃ p ∈ L, y ∈ p.1.set) (r : Rect s) : v.readCov L r.toLoadRect = View.ld G r := by
  rw [View.readCov_eq_canon']
  exact funext fun j => View.canon_apply_of_pieces G L hp.mem _ (hc _)

/-- The logistic function as the kernel spells it. -/
def sg (g : EReal) : EReal := Ideal.div 1 (1 + Ideal.exp (0 - g))

/-- The down product's gradient at row `t` and hidden column `f`. -/
def Df (dx : Vec Ideal S512x1024 .f32) (W : Vec Ideal S2816x1024 .bf16) (i : S512x2816.Idx) : EReal :=
  ∑ k : Fin 1024, dx (ix2 (i 0) k) * W (ix2 (i 1) k)

/-- The up gradient of a block. -/
def Duu (dx : Vec Ideal S512x1024 .f32) (G : Vec Ideal S512x2816 .bf16) (W : Vec Ideal S2816x1024 .bf16) (i : S512x2816.Idx) : EReal :=
  Df dx W i * (G i * sg (G i))

/-- The gate gradient of a block. -/
def Dgg (dx : Vec Ideal S512x1024 .f32) (G U : Vec Ideal S512x2816 .bf16) (W : Vec Ideal S2816x1024 .bf16) (i : S512x2816.Idx) : EReal :=
  Df dx W i * U i * (sg (G i) * (1 + G i * (1 - sg (G i))))

/-- A block's share of the down weight's gradient. -/
def Dwd (dx : Vec Ideal S512x1024 .f32) (G U : Vec Ideal S512x2816 .bf16) (i : S2816x1024.Idx) : EReal :=
  ∑ t : Fin 512, G (ix2 t (i 0)) * sg (G (ix2 t (i 0))) * U (ix2 t (i 0)) * dx (ix2 t (i 1))

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole)
    (x0 : Vec Ideal S512x1024 .f32) (x1 : Vec Ideal S512x2816 .bf16) (x2 : Vec Ideal S512x2816 .bf16) (xs0 : Vec Ideal S2816x1024 .bf16) (xs1 : Vec Ideal S2816x1024 .f32) (fh0 : HbBuf0 (F := Ideal) c hbM0_0) (fw1 : HbBuf0 (F := Ideal) c hbM0_1)

/-- The up gradient's window after a middle block. Store by store. -/
theorem pieces0_B_4 (hc0 : ¬cond0_0 i) (hc1 : ¬cond0_1 i) :
    View.PiecesOf (Duu x0 x1 xs0) (kernelRun0_B c i arg1 harg1 arg2 harg2 arg3 harg3 arg5 harg5 arg6 harg6 arg8 harg8 arg9 harg9 hc0 hc1 x0 x1 x2 xs0 xs1 fh0 fw1).2.1 := by
  unfold kernelRun0_B
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_B.sl.cst_103, kernelRun0_B.sl.cst_19, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v119, kernelRun0_B.sl.v152, kernelRun0_B.sl.v185, kernelRun0_B.sl.v218, kernelRun0_B.sl.v251, kernelRun0_B.sl.v284, kernelRun0_B.sl.v317, kernelRun0_B.sl.v350, kernelRun0_B.sl.v53, kernelRun0_B.sl.v86, View.readAt_eq_ld, Memref.IsWhole.read_unread]
    unfold_payloads
    pointwise [Duu, Dgg, Dwd, Df, sg, emb_norm]

/-- The up gradient's window after a middle block. -/
theorem out0_B_4_eq (hc0 : ¬cond0_0 i) (hc1 : ¬cond0_1 i) :
    out0_B_4 c i arg1 harg1 arg2 harg2 arg3 harg3 arg5 harg5 arg6 harg6 arg8 harg8 arg9 harg9 hc0 hc1 x0 x1 x2 xs0 xs1 fh0 fw1 = Duu x0 x1 xs0 := by
  unfold out0_B_4
  rw [View.read_writes_junk_eq_canon]
  exact funext fun y => View.canon_apply_of_pieces (Duu x0 x1 xs0) _ (pieces0_B_4 c i arg1 harg1 arg2 harg2 arg3 harg3 arg5 harg5 arg6 harg6 arg8 harg8 arg9 harg9 x0 x1 x2 xs0 xs1 fh0 fw1 hc0 hc1).mem y (cover0_B_4 c i arg1 harg1 arg2 harg2 arg3 harg3 arg5 harg5 arg6 harg6 arg8 harg8 arg9 harg9 hc0 hc1 x0 x1 x2 xs0 xs1 fh0 fw1 y)

/-- The gate gradient's window after a middle block. Store by store. -/
theorem pieces0_B_3 (hc0 : ¬cond0_0 i) (hc1 : ¬cond0_1 i) :
    View.PiecesOf (Dgg x0 x1 x2 xs0) (kernelRun0_B c i arg1 harg1 arg2 harg2 arg3 harg3 arg5 harg5 arg6 harg6 arg8 harg8 arg9 harg9 hc0 hc1 x0 x1 x2 xs0 xs1 fh0 fw1).1 := by
  unfold kernelRun0_B
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_B.sl.cst_103, kernelRun0_B.sl.cst_19, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v119, kernelRun0_B.sl.v152, kernelRun0_B.sl.v185, kernelRun0_B.sl.v218, kernelRun0_B.sl.v251, kernelRun0_B.sl.v284, kernelRun0_B.sl.v317, kernelRun0_B.sl.v350, kernelRun0_B.sl.v53, kernelRun0_B.sl.v86, View.readAt_eq_ld, Memref.IsWhole.read_unread]
    unfold_payloads
    pointwise [Duu, Dgg, Dwd, Df, sg, emb_norm]

/-- The gate gradient's window after a middle block. -/
theorem out0_B_3_eq (hc0 : ¬cond0_0 i) (hc1 : ¬cond0_1 i) :
    out0_B_3 c i arg1 harg1 arg2 harg2 arg3 harg3 arg5 harg5 arg6 harg6 arg8 harg8 arg9 harg9 hc0 hc1 x0 x1 x2 xs0 xs1 fh0 fw1 = Dgg x0 x1 x2 xs0 := by
  unfold out0_B_3
  rw [View.read_writes_junk_eq_canon]
  exact funext fun y => View.canon_apply_of_pieces (Dgg x0 x1 x2 xs0) _ (pieces0_B_3 c i arg1 harg1 arg2 harg2 arg3 harg3 arg5 harg5 arg6 harg6 arg8 harg8 arg9 harg9 x0 x1 x2 xs0 xs1 fh0 fw1 hc0 hc1).mem y (cover0_B_3 c i arg1 harg1 arg2 harg2 arg3 harg3 arg5 harg5 arg6 harg6 arg8 harg8 arg9 harg9 hc0 hc1 x0 x1 x2 xs0 xs1 fh0 fw1 y)

/-- The accumulator after a middle block. Store by store. -/
theorem pieces0_B_s1 (hc0 : ¬cond0_0 i) (hc1 : ¬cond0_1 i) :
    View.PiecesOf (fun j => xs1 j + Dwd x0 x1 x2 j) (kernelRun0_B c i arg1 harg1 arg2 harg2 arg3 harg3 arg5 harg5 arg6 harg6 arg8 harg8 arg9 harg9 hc0 hc1 x0 x1 x2 xs0 xs1 fh0 fw1).2.2.2.1 := by
  unfold kernelRun0_B
  dsimp only
  refine ⟨fun x => ?_, fun x => ?_, fun x => ?_, fun x => ?_, fun x => ?_, fun x => ?_, fun x => ?_, fun x => ?_, fun x => ?_, fun x => ?_, fun x => ?_, trivial⟩
  all_goals
    change S256x1024.Idx at x
    simp only [kernelRun0_B.sl.cst_103, kernelRun0_B.sl.cst_19, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v119, kernelRun0_B.sl.v152, kernelRun0_B.sl.v185, kernelRun0_B.sl.v218, kernelRun0_B.sl.v251, kernelRun0_B.sl.v284, kernelRun0_B.sl.v317, kernelRun0_B.sl.v350, kernelRun0_B.sl.v53, kernelRun0_B.sl.v86, View.readAt_eq_ld, Memref.IsWhole.read_unread]
    unfold_payloads
    pointwise [Duu, Dgg, Dwd, Df, sg, emb_norm]

/-- The accumulator after a middle block. -/
theorem sout0_B_1_eq (hc0 : ¬cond0_0 i) (hc1 : ¬cond0_1 i) :
    sout0_B_1 c i arg1 harg1 arg2 harg2 arg3 harg3 arg5 harg5 arg6 harg6 arg8 harg8 arg9 harg9 hc0 hc1 x0 x1 x2 xs0 xs1 fh0 fw1 = (fun j => xs1 j + Dwd x0 x1 x2 j) := by
  unfold sout0_B_1
  rw [View.read_writes_junk_eq_canon]
  exact funext fun y => View.canon_apply_of_pieces (fun j => xs1 j + Dwd x0 x1 x2 j) _ (pieces0_B_s1 c i arg1 harg1 arg2 harg2 arg3 harg3 arg5 harg5 arg6 harg6 arg8 harg8 arg9 harg9 x0 x1 x2 xs0 xs1 fh0 fw1 hc0 hc1).mem y (scover0_B_1 c i arg1 harg1 arg2 harg2 arg3 harg3 arg5 harg5 arg6 harg6 arg8 harg8 arg9 harg9 hc0 hc1 x0 x1 x2 xs0 xs1 fh0 fw1 y)

end Cert.KernelIdeal.Value

end
-- ==== Proof.Act.ChunkA.lean ====
/- The values of the first block, which loads the weight and clears the accumulator. -/
module

public import proofs.«01_k».proof.Proof.Act.Chunk
public import Idealize.ShloMosaic.Lib.Pointwise
public import Idealize.ShloMosaic.Lib.Pipeline.ReadBack
public import Idealize.ShloMosaic.Lib.VecWindow

@[expose] public section

set_option maxRecDepth 16384

noncomputable section

namespace Cert.KernelIdeal.Value

open Idealize.ShloMosaic Idealize.SL.Sem Cert.KernelIdeal Cert.KernelIdeal.Gen
open scoped BigOperators

/-- The down weight's rows out of the gathered weights. -/
def Wg (g : Vec Ideal S8x1440x1024 .bf16) (j : S2816x1024.Idx) : EReal :=
  g (ix3 ⟨(j 0).val / 352, by have := (j 0).isLt; exact Nat.div_lt_of_lt_mul this⟩ ⟨1088 + (j 0).val % 352, by have := Nat.mod_lt (j 0).val (by norm_num : 0 < 352); exact Nat.lt_of_lt_of_le (Nat.add_lt_add_left this 1088) (by norm_num)⟩ (j 1))

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole)
    (x0 : Vec Ideal S512x1024 .f32) (x1 : Vec Ideal S512x2816 .bf16) (x2 : Vec Ideal S512x2816 .bf16) (fh0 : HbBuf0 (F := Ideal) c hbM0_0) (fw1 : HbBuf0 (F := Ideal) c hbM0_1)

/-- The rows of the weight out of shard 0. -/
theorem dma0_A_0 (x : S352x1024.Idx) :
    kernelRun0_A.sl.dma0 c fh0 x = Wg fh0 (ix2 ⟨0 + (x 0).val, Nat.lt_of_lt_of_le (Nat.add_lt_add_left (x 0).isLt 0) (by decide)⟩ (x 1)) := by
  simp only [kernelRun0_A.sl.dma0, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 0 + 1 * 0 = x0.val / 352
    omega
  · show 1088 + 1 * x0.val = 1088 + x0.val % 352
    omega
  · show 0 + 1 * x1.val = x1.val
    omega

/-- The rows of the weight out of shard 1. -/
theorem dma0_A_1 (x : S352x1024.Idx) :
    kernelRun0_A.sl.dma0_1 c fh0 x = Wg fh0 (ix2 ⟨352 + (x 0).val, Nat.lt_of_lt_of_le (Nat.add_lt_add_left (x 0).isLt 352) (by decide)⟩ (x 1)) := by
  simp only [kernelRun0_A.sl.dma0_1, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 1 + 1 * 0 = (352 + x0.val) / 352
    omega
  · show 1088 + 1 * x0.val = 1088 + (352 + x0.val) % 352
    omega
  · show 0 + 1 * x1.val = x1.val
    omega

/-- The rows of the weight out of shard 2. -/
theorem dma0_A_2 (x : S352x1024.Idx) :
    kernelRun0_A.sl.dma0_2 c fh0 x = Wg fh0 (ix2 ⟨704 + (x 0).val, Nat.lt_of_lt_of_le (Nat.add_lt_add_left (x 0).isLt 704) (by decide)⟩ (x 1)) := by
  simp only [kernelRun0_A.sl.dma0_2, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 2 + 1 * 0 = (704 + x0.val) / 352
    omega
  · show 1088 + 1 * x0.val = 1088 + (704 + x0.val) % 352
    omega
  · show 0 + 1 * x1.val = x1.val
    omega

/-- The rows of the weight out of shard 3. -/
theorem dma0_A_3 (x : S352x1024.Idx) :
    kernelRun0_A.sl.dma0_3 c fh0 x = Wg fh0 (ix2 ⟨1056 + (x 0).val, Nat.lt_of_lt_of_le (Nat.add_lt_add_left (x 0).isLt 1056) (by decide)⟩ (x 1)) := by
  simp only [kernelRun0_A.sl.dma0_3, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 3 + 1 * 0 = (1056 + x0.val) / 352
    omega
  · show 1088 + 1 * x0.val = 1088 + (1056 + x0.val) % 352
    omega
  · show 0 + 1 * x1.val = x1.val
    omega

/-- The rows of the weight out of shard 4. -/
theorem dma0_A_4 (x : S352x1024.Idx) :
    kernelRun0_A.sl.dma0_4 c fh0 x = Wg fh0 (ix2 ⟨1408 + (x 0).val, Nat.lt_of_lt_of_le (Nat.add_lt_add_left (x 0).isLt 1408) (by decide)⟩ (x 1)) := by
  simp only [kernelRun0_A.sl.dma0_4, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 4 + 1 * 0 = (1408 + x0.val) / 352
    omega
  · show 1088 + 1 * x0.val = 1088 + (1408 + x0.val) % 352
    omega
  · show 0 + 1 * x1.val = x1.val
    omega

/-- The rows of the weight out of shard 5. -/
theorem dma0_A_5 (x : S352x1024.Idx) :
    kernelRun0_A.sl.dma0_5 c fh0 x = Wg fh0 (ix2 ⟨1760 + (x 0).val, Nat.lt_of_lt_of_le (Nat.add_lt_add_left (x 0).isLt 1760) (by decide)⟩ (x 1)) := by
  simp only [kernelRun0_A.sl.dma0_5, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 5 + 1 * 0 = (1760 + x0.val) / 352
    omega
  · show 1088 + 1 * x0.val = 1088 + (1760 + x0.val) % 352
    omega
  · show 0 + 1 * x1.val = x1.val
    omega

/-- The rows of the weight out of shard 6. -/
theorem dma0_A_6 (x : S352x1024.Idx) :
    kernelRun0_A.sl.dma0_6 c fh0 x = Wg fh0 (ix2 ⟨2112 + (x 0).val, Nat.lt_of_lt_of_le (Nat.add_lt_add_left (x 0).isLt 2112) (by decide)⟩ (x 1)) := by
  simp only [kernelRun0_A.sl.dma0_6, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 6 + 1 * 0 = (2112 + x0.val) / 352
    omega
  · show 1088 + 1 * x0.val = 1088 + (2112 + x0.val) % 352
    omega
  · show 0 + 1 * x1.val = x1.val
    omega

/-- The rows of the weight out of shard 7. -/
theorem dma0_A_7 (x : S352x1024.Idx) :
    kernelRun0_A.sl.dma0_7 c fh0 x = Wg fh0 (ix2 ⟨2464 + (x 0).val, Nat.lt_of_lt_of_le (Nat.add_lt_add_left (x 0).isLt 2464) (by decide)⟩ (x 1)) := by
  simp only [kernelRun0_A.sl.dma0_7, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 7 + 1 * 0 = (2464 + x0.val) / 352
    omega
  · show 1088 + 1 * x0.val = 1088 + (2464 + x0.val) % 352
    omega
  · show 0 + 1 * x1.val = x1.val
    omega

/-- The eight copies of the weight, copy by copy. -/
theorem pieces0_A_s0 (hc0 : cond0_0 i) (hc1 : ¬cond0_1 i) :
    View.PiecesOf (Wg fh0) (kernelRun0_A c i arg1 harg1 arg2 harg2 arg3 harg3 arg5 harg5 arg6 harg6 arg8 harg8 arg9 harg9 hc0 hc1 x0 x1 x2 fh0 fw1).2.2.1 := by
  unfold kernelRun0_A
  dsimp only
  refine ⟨fun x => ?_, fun x => ?_, fun x => ?_, fun x => ?_, fun x => ?_, fun x => ?_, fun x => ?_, fun x => ?_, trivial⟩
  · change S352x1024.Idx at x
    refine (dma0_A_7 c fh0 x).trans ?_
    pointwise [emb_norm]
  · change S352x1024.Idx at x
    refine (dma0_A_6 c fh0 x).trans ?_
    pointwise [emb_norm]
  · change S352x1024.Idx at x
    refine (dma0_A_5 c fh0 x).trans ?_
    pointwise [emb_norm]
  · change S352x1024.Idx at x
    refine (dma0_A_4 c fh0 x).trans ?_
    pointwise [emb_norm]
  · change S352x1024.Idx at x
    refine (dma0_A_3 c fh0 x).trans ?_
    pointwise [emb_norm]
  · change S352x1024.Idx at x
    refine (dma0_A_2 c fh0 x).trans ?_
    pointwise [emb_norm]
  · change S352x1024.Idx at x
    refine (dma0_A_1 c fh0 x).trans ?_
    pointwise [emb_norm]
  · change S352x1024.Idx at x
    refine (dma0_A_0 c fh0 x).trans ?_
    pointwise [emb_norm]
/-- The weight the first block loads. -/
theorem sout0_A_0_eq (hc0 : cond0_0 i) (hc1 : ¬cond0_1 i) :
    sout0_A_0 c i arg1 harg1 arg2 harg2 arg3 harg3 arg5 harg5 arg6 harg6 arg8 harg8 arg9 harg9 hc0 hc1 x0 x1 x2 fh0 fw1 = Wg fh0 := by
  unfold sout0_A_0
  rw [View.read_writes_junk_eq_canon]
  exact funext fun y => View.canon_apply_of_pieces (Wg fh0) _ (pieces0_A_s0 c i arg1 harg1 arg2 harg2 arg3 harg3 arg5 harg5 arg6 harg6 arg8 harg8 arg9 harg9 x0 x1 x2 fh0 fw1 hc0 hc1).mem y (scover0_A_0 c i arg1 harg1 arg2 harg2 arg3 harg3 arg5 harg5 arg6 harg6 arg8 harg8 arg9 harg9 hc0 hc1 x0 x1 x2 fh0 fw1 y)

/-- What a load of the weight reads within the first block. -/
theorem load0_A (hc0 : cond0_0 i) (hc1 : ¬cond0_1 i) (r : Rect S2816x1024) :
    arg8.view.readCov (Val := Elt Ideal) (kernelRun0_A c i arg1 harg1 arg2 harg2 arg3 harg3 arg5 harg5 arg6 harg6 arg8 harg8 arg9 harg9 hc0 hc1 x0 x1 x2 fh0 fw1).2.2.1 r.toLoadRect = View.ld (Wg fh0) r :=
  readCov_of_piecesOf _ _ _ (pieces0_A_s0 c i arg1 harg1 arg2 harg2 arg3 harg3 arg5 harg5 arg6 harg6 arg8 harg8 arg9 harg9 x0 x1 x2 fh0 fw1 hc0 hc1) (scover0_A_0 c i arg1 harg1 arg2 harg2 arg3 harg3 arg5 harg5 arg6 harg6 arg8 harg8 arg9 harg9 hc0 hc1 x0 x1 x2 fh0 fw1) r

/-- The accumulator's rows from 0 on, before chunk 0, hold zero. -/
theorem acc_A_0 : kernelRun0_A.sl.v20 (F := Ideal) c arg9 = View.ld (k0_pay7 (F := Ideal)) (Rect.unit (s := S2816x1024) ![0, 0] S256x1024.size inb_S2816x1024_S256x1024_0_0) := by
  unfold kernelRun0_A.sl.v20 kernelRun0_A.sl.HS1_1
  exact View.readCov_fill _ _ _ _ _ (by decide)

/-- The accumulator's rows from 256 on, before chunk 1, hold zero. -/
theorem acc_A_1 : kernelRun0_A.sl.v53 (F := Ideal) c arg1 harg1 arg2 harg2 arg3 harg3 arg9 x0 x1 x2 = View.ld (k0_pay7 (F := Ideal)) (Rect.unit (s := S2816x1024) ![256, 0] S256x1024.size inb_S2816x1024_S256x1024_256_0) := by
  unfold kernelRun0_A.sl.v53 kernelRun0_A.sl.HS1_2 kernelRun0_A.sl.HS1_1
  refine (View.readCov_skip _ _ _ _ _ (by rfl)).trans ?_
  exact View.readCov_fill _ _ _ _ _ (by decide)

/-- The accumulator's rows from 512 on, before chunk 2, hold zero. -/
theorem acc_A_2 : kernelRun0_A.sl.v86 (F := Ideal) c arg1 harg1 arg2 harg2 arg3 harg3 arg9 x0 x1 x2 = View.ld (k0_pay7 (F := Ideal)) (Rect.unit (s := S2816x1024) ![512, 0] S256x1024.size inb_S2816x1024_S256x1024_512_0) := by
  unfold kernelRun0_A.sl.v86 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  exact View.readCov_fill _ _ _ _ _ (by decide)

/-- The accumulator's rows from 768 on, before chunk 3, hold zero. -/
theorem acc_A_3 : kernelRun0_A.sl.v119 (F := Ideal) c arg1 harg1 arg2 harg2 arg3 harg3 arg9 x0 x1 x2 = View.ld (k0_pay7 (F := Ideal)) (Rect.unit (s := S2816x1024) ![768, 0] S256x1024.size inb_S2816x1024_S256x1024_768_0) := by
  unfold kernelRun0_A.sl.v119 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

/-- The accumulator's rows from 1024 on, before chunk 4, hold zero. -/
theorem acc_A_4 : kernelRun0_A.sl.v152 (F := Ideal) c arg1 harg1 arg2 harg2 arg3 harg3 arg9 x0 x1 x2 = View.ld (k0_pay7 (F := Ideal)) (Rect.unit (s := S2816x1024) ![1024, 0] S256x1024.size inb_S2816x1024_S256x1024_1024_0) := by
  unfold kernelRun0_A.sl.v152 kernelRun0_A.sl.HS1_5 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

/-- The accumulator's rows from 1280 on, before chunk 5, hold zero. -/
theorem acc_A_5 : kernelRun0_A.sl.v185 (F := Ideal) c arg1 harg1 arg2 harg2 arg3 harg3 arg9 x0 x1 x2 = View.ld (k0_pay7 (F := Ideal)) (Rect.unit (s := S2816x1024) ![1280, 0] S256x1024.size inb_S2816x1024_S256x1024_1280_0) := by
  unfold kernelRun0_A.sl.v185 kernelRun0_A.sl.HS1_6 kernelRun0_A.sl.HS1_5 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

/-- The accumulator's rows from 1536 on, before chunk 6, hold zero. -/
theorem acc_A_6 : kernelRun0_A.sl.v218 (F := Ideal) c arg1 harg1 arg2 harg2 arg3 harg3 arg9 x0 x1 x2 = View.ld (k0_pay7 (F := Ideal)) (Rect.unit (s := S2816x1024) ![1536, 0] S256x1024.size inb_S2816x1024_S256x1024_1536_0) := by
  unfold kernelRun0_A.sl.v218 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

/-- The accumulator's rows from 1792 on, before chunk 7, hold zero. -/
theorem acc_A_7 : kernelRun0_A.sl.v251 (F := Ideal) c arg1 harg1 arg2 harg2 arg3 harg3 arg9 x0 x1 x2 = View.ld (k0_pay7 (F := Ideal)) (Rect.unit (s := S2816x1024) ![1792, 0] S256x1024.size inb_S2816x1024_S256x1024_1792_0) := by
  unfold kernelRun0_A.sl.v251 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

/-- The accumulator's rows from 2048 on, before chunk 8, hold zero. -/
theorem acc_A_8 : kernelRun0_A.sl.v284 (F := Ideal) c arg1 harg1 arg2 harg2 arg3 harg3 arg9 x0 x1 x2 = View.ld (k0_pay7 (F := Ideal)) (Rect.unit (s := S2816x1024) ![2048, 0] S256x1024.size inb_S2816x1024_S256x1024_2048_0) := by
  unfold kernelRun0_A.sl.v284 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

/-- The accumulator's rows from 2304 on, before chunk 9, hold zero. -/
theorem acc_A_9 : kernelRun0_A.sl.v317 (F := Ideal) c arg1 harg1 arg2 harg2 arg3 harg3 arg9 x0 x1 x2 = View.ld (k0_pay7 (F := Ideal)) (Rect.unit (s := S2816x1024) ![2304, 0] S256x1024.size inb_S2816x1024_S256x1024_2304_0) := by
  unfold kernelRun0_A.sl.v317 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

/-- The accumulator's rows from 2560 on, before chunk 10, hold zero. -/
theorem acc_A_10 : kernelRun0_A.sl.v350 (F := Ideal) c arg1 harg1 arg2 harg2 arg3 harg3 arg9 x0 x1 x2 = View.ld (k0_pay7 (F := Ideal)) (Rect.unit (s := S2816x1024) ![2560, 0] ![256, 1024] inb_S2816x1024_S256x1024_2560_0) := by
  unfold kernelRun0_A.sl.v350 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact View.readCov_fill _ _ _ _ _ (by decide)

include i arg1 harg1 arg2 harg2 arg3 harg3 arg5 harg5 arg6 harg6 arg8 harg8 arg9 harg9 x0 x1 x2 fh0 fw1 in
/-- The weight's rows from 0 on, as the first block reads them. -/
theorem wt_A_0 (hc0 : cond0_0 i) (hc1 : ¬cond0_1 i) :
    kernelRun0_A.sl.v5 (F := Ideal) c arg8 fh0 = View.ld (Wg fh0) (Rect.unit (s := S2816x1024) ![0, 0] S256x1024.size inb_S2816x1024_S256x1024_0_0) := by
  unfold kernelRun0_A.sl.v5
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 256 on, as the first block reads them. -/
theorem wt_A_1 (hc0 : cond0_0 i) (hc1 : ¬cond0_1 i) :
    kernelRun0_A.sl.v38 (F := Ideal) c arg8 fh0 = View.ld (Wg fh0) (Rect.unit (s := S2816x1024) ![256, 0] S256x1024.size inb_S2816x1024_S256x1024_256_0) := by
  unfold kernelRun0_A.sl.v38
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 512 on, as the first block reads them. -/
theorem wt_A_2 (hc0 : cond0_0 i) (hc1 : ¬cond0_1 i) :
    kernelRun0_A.sl.v71 (F := Ideal) c arg8 fh0 = View.ld (Wg fh0) (Rect.unit (s := S2816x1024) ![512, 0] S256x1024.size inb_S2816x1024_S256x1024_512_0) := by
  unfold kernelRun0_A.sl.v71
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 768 on, as the first block reads them. -/
theorem wt_A_3 (hc0 : cond0_0 i) (hc1 : ¬cond0_1 i) :
    kernelRun0_A.sl.v104 (F := Ideal) c arg8 fh0 = View.ld (Wg fh0) (Rect.unit (s := S2816x1024) ![768, 0] S256x1024.size inb_S2816x1024_S256x1024_768_0) := by
  unfold kernelRun0_A.sl.v104
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 1024 on, as the first block reads them. -/
theorem wt_A_4 (hc0 : cond0_0 i) (hc1 : ¬cond0_1 i) :
    kernelRun0_A.sl.v137 (F := Ideal) c arg8 fh0 = View.ld (Wg fh0) (Rect.unit (s := S2816x1024) ![1024, 0] S256x1024.size inb_S2816x1024_S256x1024_1024_0) := by
  unfold kernelRun0_A.sl.v137
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 1280 on, as the first block reads them. -/
theorem wt_A_5 (hc0 : cond0_0 i) (hc1 : ¬cond0_1 i) :
    kernelRun0_A.sl.v170 (F := Ideal) c arg8 fh0 = View.ld (Wg fh0) (Rect.unit (s := S2816x1024) ![1280, 0] S256x1024.size inb_S2816x1024_S256x1024_1280_0) := by
  unfold kernelRun0_A.sl.v170
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 1536 on, as the first block reads them. -/
theorem wt_A_6 (hc0 : cond0_0 i) (hc1 : ¬cond0_1 i) :
    kernelRun0_A.sl.v203 (F := Ideal) c arg8 fh0 = View.ld (Wg fh0) (Rect.unit (s := S2816x1024) ![1536, 0] S256x1024.size inb_S2816x1024_S256x1024_1536_0) := by
  unfold kernelRun0_A.sl.v203
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 1792 on, as the first block reads them. -/
theorem wt_A_7 (hc0 : cond0_0 i) (hc1 : ¬cond0_1 i) :
    kernelRun0_A.sl.v236 (F := Ideal) c arg8 fh0 = View.ld (Wg fh0) (Rect.unit (s := S2816x1024) ![1792, 0] S256x1024.size inb_S2816x1024_S256x1024_1792_0) := by
  unfold kernelRun0_A.sl.v236
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 2048 on, as the first block reads them. -/
theorem wt_A_8 (hc0 : cond0_0 i) (hc1 : ¬cond0_1 i) :
    kernelRun0_A.sl.v269 (F := Ideal) c arg8 fh0 = View.ld (Wg fh0) (Rect.unit (s := S2816x1024) ![2048, 0] S256x1024.size inb_S2816x1024_S256x1024_2048_0) := by
  unfold kernelRun0_A.sl.v269
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 2304 on, as the first block reads them. -/
theorem wt_A_9 (hc0 : cond0_0 i) (hc1 : ¬cond0_1 i) :
    kernelRun0_A.sl.v302 (F := Ideal) c arg8 fh0 = View.ld (Wg fh0) (Rect.unit (s := S2816x1024) ![2304, 0] S256x1024.size inb_S2816x1024_S256x1024_2304_0) := by
  unfold kernelRun0_A.sl.v302
  exact load0_A c i arg1 harg1 arg2 harg2 arg3 harg3 arg5 harg5 arg6 harg6 arg8 harg8 arg9 harg9 x0 x1 x2 fh0 fw1 hc0 hc1 _

include i arg1 harg1 arg2 harg2 arg3 harg3 arg5 harg5 arg6 harg6 arg8 harg8 arg9 harg9 x0 x1 x2 fh0 fw1 in
/-- The weight's rows from 2560 on, as the first block reads them. -/
theorem wt_A_10 (hc0 : cond0_0 i) (hc1 : ¬cond0_1 i) :
    kernelRun0_A.sl.v335 (F := Ideal) c arg8 fh0 = View.ld (Wg fh0) (Rect.unit (s := S2816x1024) ![2560, 0] S256x1024.size inb_S2816x1024_S256x1024_2560_0) := by
  unfold kernelRun0_A.sl.v335
  exact load0_A c i arg1 harg1 arg2 harg2 arg3 harg3 arg5 harg5 arg6 harg6 arg8 harg8 arg9 harg9 x0 x1 x2 fh0 fw1 hc0 hc1 _

/-- The up gradient's window after the first block. Store by store. -/
theorem pieces0_A_4 (hc0 : cond0_0 i) (hc1 : ¬cond0_1 i) :
    View.PiecesOf (Duu x0 x1 (Wg fh0)) (kernelRun0_A c i arg1 harg1 arg2 harg2 arg3 harg3 arg5 harg5 arg6 harg6 arg8 harg8 arg9 harg9 hc0 hc1 x0 x1 x2 fh0 fw1).2.1 := by
  unfold kernelRun0_A
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_A.sl.cst_103, kernelRun0_A.sl.cst_19, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, acc_A_0, acc_A_1, acc_A_2, acc_A_3, acc_A_4, acc_A_5, acc_A_6, acc_A_7, acc_A_8, acc_A_9, acc_A_10, wt_A_0 c i arg1 harg1 arg2 harg2 arg3 harg3 arg5 harg5 arg6 harg6 arg8 harg8 arg9 harg9 x0 x1 x2 fh0 fw1 hc0 hc1, wt_A_1 c i arg1 harg1 arg2 harg2 arg3 harg3 arg5 harg5 arg6 harg6 arg8 harg8 arg9 harg9 x0 x1 x2 fh0 fw1 hc0 hc1, wt_A_2 c i arg1 harg1 arg2 harg2 arg3 harg3 arg5 harg5 arg6 harg6 arg8 harg8 arg9 harg9 x0 x1 x2 fh0 fw1 hc0 hc1, wt_A_3 c i arg1 harg1 arg2 harg2 arg3 harg3 arg5 harg5 arg6 harg6 arg8 harg8 arg9 harg9 x0 x1 x2 fh0 fw1 hc0 hc1, wt_A_4 c i arg1 harg1 arg2 harg2 arg3 harg3 arg5 harg5 arg6 harg6 arg8 harg8 arg9 harg9 x0 x1 x2 fh0 fw1 hc0 hc1, wt_A_5 c i arg1 harg1 arg2 harg2 arg3 harg3 arg5 harg5 arg6 harg6 arg8 harg8 arg9 harg9 x0 x1 x2 fh0 fw1 hc0 hc1, wt_A_6 c i arg1 harg1 arg2 harg2 arg3 harg3 arg5 harg5 arg6 harg6 arg8 harg8 arg9 harg9 x0 x1 x2 fh0 fw1 hc0 hc1, wt_A_7 c i arg1 harg1 arg2 harg2 arg3 harg3 arg5 harg5 arg6 harg6 arg8 harg8 arg9 harg9 x0 x1 x2 fh0 fw1 hc0 hc1, wt_A_8 c i arg1 harg1 arg2 harg2 arg3 harg3 arg5 harg5 arg6 harg6 arg8 harg8 arg9 harg9 x0 x1 x2 fh0 fw1 hc0 hc1, wt_A_9 c i arg1 harg1 arg2 harg2 arg3 harg3 arg5 harg5 arg6 harg6 arg8 harg8 arg9 harg9 x0 x1 x2 fh0 fw1 hc0 hc1, wt_A_10 c i arg1 harg1 arg2 harg2 arg3 harg3 arg5 harg5 arg6 harg6 arg8 harg8 arg9 harg9 x0 x1 x2 fh0 fw1 hc0 hc1, View.readAt_eq_ld, Memref.IsWhole.read_unread]
    unfold_payloads
    pointwise [Duu, Dgg, Dwd, Df, sg, emb_norm]

/-- The up gradient's window after the first block. -/
theorem out0_A_4_eq (hc0 : cond0_0 i) (hc1 : ¬cond0_1 i) :
    out0_A_4 c i arg1 harg1 arg2 harg2 arg3 harg3 arg5 harg5 arg6 harg6 arg8 harg8 arg9 harg9 hc0 hc1 x0 x1 x2 fh0 fw1 = Duu x0 x1 (Wg fh0) := by
  unfold out0_A_4
  rw [View.read_writes_junk_eq_canon]
  exact funext fun y => View.canon_apply_of_pieces (Duu x0 x1 (Wg fh0)) _ (pieces0_A_4 c i arg1 harg1 arg2 harg2 arg3 harg3 arg5 harg5 arg6 harg6 arg8 harg8 arg9 harg9 x0 x1 x2 fh0 fw1 hc0 hc1).mem y (cover0_A_4 c i arg1 harg1 arg2 harg2 arg3 harg3 arg5 harg5 arg6 harg6 arg8 harg8 arg9 harg9 hc0 hc1 x0 x1 x2 fh0 fw1 y)

/-- The gate gradient's window after the first block. Store by store. -/
theorem pieces0_A_3 (hc0 : cond0_0 i) (hc1 : ¬cond0_1 i) :
    View.PiecesOf (Dgg x0 x1 x2 (Wg fh0)) (kernelRun0_A c i arg1 harg1 arg2 harg2 arg3 harg3 arg5 harg5 arg6 harg6 arg8 harg8 arg9 harg9 hc0 hc1 x0 x1 x2 fh0 fw1).1 := by
  unfold kernelRun0_A
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_A.sl.cst_103, kernelRun0_A.sl.cst_19, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, acc_A_0, acc_A_1, acc_A_2, acc_A_3, acc_A_4, acc_A_5, acc_A_6, acc_A_7, acc_A_8, acc_A_9, acc_A_10, wt_A_0 c i arg1 harg1 arg2 harg2 arg3 harg3 arg5 harg5 arg6 harg6 arg8 harg8 arg9 harg9 x0 x1 x2 fh0 fw1 hc0 hc1, wt_A_1 c i arg1 harg1 arg2 harg2 arg3 harg3 arg5 harg5 arg6 harg6 arg8 harg8 arg9 harg9 x0 x1 x2 fh0 fw1 hc0 hc1, wt_A_2 c i arg1 harg1 arg2 harg2 arg3 harg3 arg5 harg5 arg6 harg6 arg8 harg8 arg9 harg9 x0 x1 x2 fh0 fw1 hc0 hc1, wt_A_3 c i arg1 harg1 arg2 harg2 arg3 harg3 arg5 harg5 arg6 harg6 arg8 harg8 arg9 harg9 x0 x1 x2 fh0 fw1 hc0 hc1, wt_A_4 c i arg1 harg1 arg2 harg2 arg3 harg3 arg5 harg5 arg6 harg6 arg8 harg8 arg9 harg9 x0 x1 x2 fh0 fw1 hc0 hc1, wt_A_5 c i arg1 harg1 arg2 harg2 arg3 harg3 arg5 harg5 arg6 harg6 arg8 harg8 arg9 harg9 x0 x1 x2 fh0 fw1 hc0 hc1, wt_A_6 c i arg1 harg1 arg2 harg2 arg3 harg3 arg5 harg5 arg6 harg6 arg8 harg8 arg9 harg9 x0 x1 x2 fh0 fw1 hc0 hc1, wt_A_7 c i arg1 harg1 arg2 harg2 arg3 harg3 arg5 harg5 arg6 harg6 arg8 harg8 arg9 harg9 x0 x1 x2 fh0 fw1 hc0 hc1, wt_A_8 c i arg1 harg1 arg2 harg2 arg3 harg3 arg5 harg5 arg6 harg6 arg8 harg8 arg9 harg9 x0 x1 x2 fh0 fw1 hc0 hc1, wt_A_9 c i arg1 harg1 arg2 harg2 arg3 harg3 arg5 harg5 arg6 harg6 arg8 harg8 arg9 harg9 x0 x1 x2 fh0 fw1 hc0 hc1, wt_A_10 c i arg1 harg1 arg2 harg2 arg3 harg3 arg5 harg5 arg6 harg6 arg8 harg8 arg9 harg9 x0 x1 x2 fh0 fw1 hc0 hc1, View.readAt_eq_ld, Memref.IsWhole.read_unread]
    unfold_payloads
    pointwise [Duu, Dgg, Dwd, Df, sg, emb_norm]

/-- The gate gradient's window after the first block. -/
theorem out0_A_3_eq (hc0 : cond0_0 i) (hc1 : ¬cond0_1 i) :
    out0_A_3 c i arg1 harg1 arg2 harg2 arg3 harg3 arg5 harg5 arg6 harg6 arg8 harg8 arg9 harg9 hc0 hc1 x0 x1 x2 fh0 fw1 = Dgg x0 x1 x2 (Wg fh0) := by
  unfold out0_A_3
  rw [View.read_writes_junk_eq_canon]
  exact funext fun y => View.canon_apply_of_pieces (Dgg x0 x1 x2 (Wg fh0)) _ (pieces0_A_3 c i arg1 harg1 arg2 harg2 arg3 harg3 arg5 harg5 arg6 harg6 arg8 harg8 arg9 harg9 x0 x1 x2 fh0 fw1 hc0 hc1).mem y (cover0_A_3 c i arg1 harg1 arg2 harg2 arg3 harg3 arg5 harg5 arg6 harg6 arg8 harg8 arg9 harg9 hc0 hc1 x0 x1 x2 fh0 fw1 y)

/-- The accumulator's stores of the first block after the clearing. -/
theorem pieces0_A_s1 (hc0 : cond0_0 i) (hc1 : ¬cond0_1 i) :
    View.PiecesOf (Dwd x0 x1 x2) ((kernelRun0_A c i arg1 harg1 arg2 harg2 arg3 harg3 arg5 harg5 arg6 harg6 arg8 harg8 arg9 harg9 hc0 hc1 x0 x1 x2 fh0 fw1).2.2.2.1.take 11) := by
  unfold kernelRun0_A
  dsimp only
  unfold kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine ⟨fun x => ?_, fun x => ?_, fun x => ?_, fun x => ?_, fun x => ?_, fun x => ?_, fun x => ?_, fun x => ?_, fun x => ?_, fun x => ?_, fun x => ?_, trivial⟩
  all_goals
    change S256x1024.Idx at x
    simp only [kernelRun0_A.sl.cst_103, kernelRun0_A.sl.cst_19, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, acc_A_0, acc_A_1, acc_A_2, acc_A_3, acc_A_4, acc_A_5, acc_A_6, acc_A_7, acc_A_8, acc_A_9, acc_A_10, wt_A_0 c i arg1 harg1 arg2 harg2 arg3 harg3 arg5 harg5 arg6 harg6 arg8 harg8 arg9 harg9 x0 x1 x2 fh0 fw1 hc0 hc1, wt_A_1 c i arg1 harg1 arg2 harg2 arg3 harg3 arg5 harg5 arg6 harg6 arg8 harg8 arg9 harg9 x0 x1 x2 fh0 fw1 hc0 hc1, wt_A_2 c i arg1 harg1 arg2 harg2 arg3 harg3 arg5 harg5 arg6 harg6 arg8 harg8 arg9 harg9 x0 x1 x2 fh0 fw1 hc0 hc1, wt_A_3 c i arg1 harg1 arg2 harg2 arg3 harg3 arg5 harg5 arg6 harg6 arg8 harg8 arg9 harg9 x0 x1 x2 fh0 fw1 hc0 hc1, wt_A_4 c i arg1 harg1 arg2 harg2 arg3 harg3 arg5 harg5 arg6 harg6 arg8 harg8 arg9 harg9 x0 x1 x2 fh0 fw1 hc0 hc1, wt_A_5 c i arg1 harg1 arg2 harg2 arg3 harg3 arg5 harg5 arg6 harg6 arg8 harg8 arg9 harg9 x0 x1 x2 fh0 fw1 hc0 hc1, wt_A_6 c i arg1 harg1 arg2 harg2 arg3 harg3 arg5 harg5 arg6 harg6 arg8 harg8 arg9 harg9 x0 x1 x2 fh0 fw1 hc0 hc1, wt_A_7 c i arg1 harg1 arg2 harg2 arg3 harg3 arg5 harg5 arg6 harg6 arg8 harg8 arg9 harg9 x0 x1 x2 fh0 fw1 hc0 hc1, wt_A_8 c i arg1 harg1 arg2 harg2 arg3 harg3 arg5 harg5 arg6 harg6 arg8 harg8 arg9 harg9 x0 x1 x2 fh0 fw1 hc0 hc1, wt_A_9 c i arg1 harg1 arg2 harg2 arg3 harg3 arg5 harg5 arg6 harg6 arg8 harg8 arg9 harg9 x0 x1 x2 fh0 fw1 hc0 hc1, wt_A_10 c i arg1 harg1 arg2 harg2 arg3 harg3 arg5 harg5 arg6 harg6 arg8 harg8 arg9 harg9 x0 x1 x2 fh0 fw1 hc0 hc1, View.readAt_eq_ld, Memref.IsWhole.read_unread]
    unfold_payloads
    pointwise [Duu, Dgg, Dwd, Df, sg, emb_norm]

/-- The accumulator after the first block. -/
theorem sout0_A_1_eq (hc0 : cond0_0 i) (hc1 : ¬cond0_1 i) :
    sout0_A_1 c i arg1 harg1 arg2 harg2 arg3 harg3 arg5 harg5 arg6 harg6 arg8 harg8 arg9 harg9 hc0 hc1 x0 x1 x2 fh0 fw1 = Dwd x0 x1 x2 := by
  unfold sout0_A_1
  rw [View.read_writes_junk_eq_canon, ← List.take_append_drop 11 (kernelRun0_A c i arg1 harg1 arg2 harg2 arg3 harg3 arg5 harg5 arg6 harg6 arg8 harg8 arg9 harg9 hc0 hc1 x0 x1 x2 fh0 fw1).2.2.2.1]
  have hc := View.cover_of_tiledL ((kernelRun0_A c i arg1 harg1 arg2 harg2 arg3 harg3 arg5 harg5 arg6 harg6 arg8 harg8 arg9 harg9 hc0 hc1 x0 x1 x2 fh0 fw1).2.2.2.1.take 11) S256x1024.size (by sl_kernel_rfl)
  exact funext fun y => View.canon_append_of_piecesOf (Dwd x0 x1 x2) _ _ (pieces0_A_s1 c i arg1 harg1 arg2 harg2 arg3 harg3 arg5 harg5 arg6 harg6 arg8 harg8 arg9 harg9 x0 x1 x2 fh0 fw1 hc0 hc1) y (hc y)

end Cert.KernelIdeal.Value

end
-- ==== Proof.Act.ChunkC.lean ====
/- The values of the last block, whose accumulator is also written out. -/
module

public import proofs.«01_k».proof.Proof.Act.Chunk
public import Idealize.ShloMosaic.Lib.Pointwise
public import Idealize.ShloMosaic.Lib.Pipeline.ReadBack
public import Idealize.ShloMosaic.Lib.VecWindow

@[expose] public section

set_option maxRecDepth 16384

noncomputable section

namespace Cert.KernelIdeal.Value

open Idealize.ShloMosaic Idealize.SL.Sem Cert.KernelIdeal Cert.KernelIdeal.Gen
open scoped BigOperators

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg5 : Memref sig .tc .vmem S512x2816 .bf16) (harg5 : arg5.IsWhole) (arg6 : Memref sig .tc .vmem S512x2816 .bf16) (harg6 : arg6.IsWhole) (arg8 : Memref sig .tc .vmem S2816x1024 .bf16) (harg8 : arg8.IsWhole) (arg9 : Memref sig .tc .vmem S2816x1024 .f32) (harg9 : arg9.IsWhole)
    (x0 : Vec Ideal S512x1024 .f32) (x1 : Vec Ideal S512x2816 .bf16) (x2 : Vec Ideal S512x2816 .bf16) (xs0 : Vec Ideal S2816x1024 .bf16) (xs1 : Vec Ideal S2816x1024 .f32) (fh0 : HbBuf0 (F := Ideal) c hbM0_0) (fw1 : HbBuf0 (F := Ideal) c hbM0_1)

/-- The up gradient's window after the last block. Store by store. -/
theorem pieces0_C_4 (hc0 : ¬cond0_0 i) (hc1 : cond0_1 i) :
    View.PiecesOf (Duu x0 x1 xs0) (kernelRun0_C c i arg1 harg1 arg2 harg2 arg3 harg3 arg5 harg5 arg6 harg6 arg8 harg8 arg9 harg9 hc0 hc1 x0 x1 x2 xs0 xs1 fh0 fw1).2.1 := by
  unfold kernelRun0_C
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_C.sl.cst_103, kernelRun0_C.sl.cst_19, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v119, kernelRun0_C.sl.v152, kernelRun0_C.sl.v185, kernelRun0_C.sl.v218, kernelRun0_C.sl.v251, kernelRun0_C.sl.v284, kernelRun0_C.sl.v317, kernelRun0_C.sl.v350, kernelRun0_C.sl.v53, kernelRun0_C.sl.v86, View.readAt_eq_ld, Memref.IsWhole.read_unread]
    unfold_payloads
    pointwise [Duu, Dgg, Dwd, Df, sg, emb_norm]

/-- The up gradient's window after the last block. -/
theorem out0_C_4_eq (hc0 : ¬cond0_0 i) (hc1 : cond0_1 i) :
    out0_C_4 c i arg1 harg1 arg2 harg2 arg3 harg3 arg5 harg5 arg6 harg6 arg8 harg8 arg9 harg9 hc0 hc1 x0 x1 x2 xs0 xs1 fh0 fw1 = Duu x0 x1 xs0 := by
  unfold out0_C_4
  rw [View.read_writes_junk_eq_canon]
  exact funext fun y => View.canon_apply_of_pieces (Duu x0 x1 xs0) _ (pieces0_C_4 c i arg1 harg1 arg2 harg2 arg3 harg3 arg5 harg5 arg6 harg6 arg8 harg8 arg9 harg9 x0 x1 x2 xs0 xs1 fh0 fw1 hc0 hc1).mem y (cover0_C_4 c i arg1 harg1 arg2 harg2 arg3 harg3 arg5 harg5 arg6 harg6 arg8 harg8 arg9 harg9 hc0 hc1 x0 x1 x2 xs0 xs1 fh0 fw1 y)

/-- The gate gradient's window after the last block. Store by store. -/
theorem pieces0_C_3 (hc0 : ¬cond0_0 i) (hc1 : cond0_1 i) :
    View.PiecesOf (Dgg x0 x1 x2 xs0) (kernelRun0_C c i arg1 harg1 arg2 harg2 arg3 harg3 arg5 harg5 arg6 harg6 arg8 harg8 arg9 harg9 hc0 hc1 x0 x1 x2 xs0 xs1 fh0 fw1).1 := by
  unfold kernelRun0_C
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_C.sl.cst_103, kernelRun0_C.sl.cst_19, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v119, kernelRun0_C.sl.v152, kernelRun0_C.sl.v185, kernelRun0_C.sl.v218, kernelRun0_C.sl.v251, kernelRun0_C.sl.v284, kernelRun0_C.sl.v317, kernelRun0_C.sl.v350, kernelRun0_C.sl.v53, kernelRun0_C.sl.v86, View.readAt_eq_ld, Memref.IsWhole.read_unread]
    unfold_payloads
    pointwise [Duu, Dgg, Dwd, Df, sg, emb_norm]

/-- The gate gradient's window after the last block. -/
theorem out0_C_3_eq (hc0 : ¬cond0_0 i) (hc1 : cond0_1 i) :
    out0_C_3 c i arg1 harg1 arg2 harg2 arg3 harg3 arg5 harg5 arg6 harg6 arg8 harg8 arg9 harg9 hc0 hc1 x0 x1 x2 xs0 xs1 fh0 fw1 = Dgg x0 x1 x2 xs0 := by
  unfold out0_C_3
  rw [View.read_writes_junk_eq_canon]
  exact funext fun y => View.canon_apply_of_pieces (Dgg x0 x1 x2 xs0) _ (pieces0_C_3 c i arg1 harg1 arg2 harg2 arg3 harg3 arg5 harg5 arg6 harg6 arg8 harg8 arg9 harg9 x0 x1 x2 xs0 xs1 fh0 fw1 hc0 hc1).mem y (cover0_C_3 c i arg1 harg1 arg2 harg2 arg3 harg3 arg5 harg5 arg6 harg6 arg8 harg8 arg9 harg9 hc0 hc1 x0 x1 x2 xs0 xs1 fh0 fw1 y)

/-- The accumulator after the last block. Store by store. -/
theorem pieces0_C_s1 (hc0 : ¬cond0_0 i) (hc1 : cond0_1 i) :
    View.PiecesOf (fun j => xs1 j + Dwd x0 x1 x2 j) (kernelRun0_C c i arg1 harg1 arg2 harg2 arg3 harg3 arg5 harg5 arg6 harg6 arg8 harg8 arg9 harg9 hc0 hc1 x0 x1 x2 xs0 xs1 fh0 fw1).2.2.2.1 := by
  unfold kernelRun0_C
  dsimp only
  refine ⟨fun x => ?_, fun x => ?_, fun x => ?_, fun x => ?_, fun x => ?_, fun x => ?_, fun x => ?_, fun x => ?_, fun x => ?_, fun x => ?_, fun x => ?_, trivial⟩
  all_goals
    change S256x1024.Idx at x
    simp only [kernelRun0_C.sl.cst_103, kernelRun0_C.sl.cst_19, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v119, kernelRun0_C.sl.v152, kernelRun0_C.sl.v185, kernelRun0_C.sl.v218, kernelRun0_C.sl.v251, kernelRun0_C.sl.v284, kernelRun0_C.sl.v317, kernelRun0_C.sl.v350, kernelRun0_C.sl.v53, kernelRun0_C.sl.v86, View.readAt_eq_ld, Memref.IsWhole.read_unread]
    unfold_payloads
    pointwise [Duu, Dgg, Dwd, Df, sg, emb_norm]

/-- What the last block copies out: the whole accumulator. -/
theorem hbw0_C_1_eq (hc0 : ¬cond0_0 i) (hc1 : cond0_1 i) :
    hbw0_C_1 c i arg1 harg1 arg2 harg2 arg3 harg3 arg5 harg5 arg6 harg6 arg8 harg8 arg9 harg9 hc0 hc1 x0 x1 x2 xs0 xs1 fh0 fw1 = (fun j => xs1 j + Dwd x0 x1 x2 j) := by
  unfold hbw0_C_1 kernelRun0_C
  dsimp only
  rw [View.write_whole_univ]
  funext j
  have e : kernelRun0_C.sl.v371 c arg1 harg1 arg2 harg2 arg3 harg3 arg9 harg9 x0 x1 x2 xs1 = (fun j => xs1 j + Dwd x0 x1 x2 j) :=
    (readCov_of_piecesOf _ _ _ (pieces0_C_s1 c i arg1 harg1 arg2 harg2 arg3 harg3 arg5 harg5 arg6 harg6 arg8 harg8 arg9 harg9 x0 x1 x2 xs0 xs1 fh0 fw1 hc0 hc1) (scover0_C_1 c i arg1 harg1 arg2 harg2 arg3 harg3 arg5 harg5 arg6 harg6 arg8 harg8 arg9 harg9 hc0 hc1 x0 x1 x2 xs0 xs1 fh0 fw1) _).trans (by funext k; pointwise)
  unfold kernelRun0_C.sl.dma114 kernelRun0_C.sl.HS0_1
  rw [e]
  refine (congrFun (View.read_writes_full (s := S2816x1024) _ _ _ _ _) j).trans ?_
  pointwise [k0_pay6]

end Cert.KernelIdeal.Value

end
-- ==== Proof.Act.Sweep.lean ====
/- What each block of rows leaves: the weight it holds, the sum it carries, and its two results. -/
module

public import proofs.«01_k».proof.Proof.Act.ChunkA
public import proofs.«01_k».proof.Proof.Act.ChunkC
public import proofs.«01_k».proof.Proof.Act.Value
public import Idealize.ShloMosaic.Lib.Pointwise

@[expose] public section

set_option maxRecDepth 16384

noncomputable section

namespace Cert.KernelIdeal.Value

open Idealize.ShloMosaic Idealize.SL.Sem Cert.KernelIdeal Cert.KernelIdeal.Gen
open scoped BigOperators

variable (m : (ℓ : Loc nD τ sig) → Buf (Elt Ideal) ℓ)

/-- The down weight's gradient over block `s`. -/
def Mwd (c : Dev nD) (s : ℕ) (j : S2816x1024.Idx) : EReal :=
  if h : s < cfg0.N then Dwd (iblk m c 0 ⟨s, h⟩) (iblk m c 1 ⟨s, h⟩) (iblk m c 2 ⟨s, h⟩) j else 0

theorem mwd_at (c : Dev nD) (t : Fin cfg0.N) (j : S2816x1024.Idx) : Mwd m c t.val j = Dwd (iblk m c 0 t) (iblk m c 1 t) (iblk m c 2 t) j :=
  dif_pos t.isLt

theorem wt_first (c : Dev nD) (t : Fin cfg0.N) (h0 : t.val % 16 = 0) (h1 : ¬t.val % 16 = 15) :
    (outsAt0 m c t.val t.isLt).2.2.1 = Wg (V m c main_v26) := by
  rw [outsAt0_A m c t h0 h1]
  dsimp only
  exact sout0_A_0_eq _ _ _ _ _ _ _ _ _ _ _ _ _ _ _ _ _ _ _  _ _ ((hcond0_0 t).mpr h0) (fun h => h1 ((hcond0_1 t).mp h))

theorem wt_next (c : Dev nD) (t : Fin cfg0.N) (h0 : ¬t.val % 16 = 0) (h1 : ¬t.val % 16 = 15) :
    (outsAt0 m c t.val t.isLt).2.2.1 = (outsAt0 m c (t.val - 1) (Nat.lt_of_le_of_lt (Nat.sub_le _ _) t.isLt)).2.2.1 := by
  conv_lhs => rw [outsAt0_B m c t h0 h1]
  rfl

theorem acc_first (c : Dev nD) (t : Fin cfg0.N) (h0 : t.val % 16 = 0) (h1 : ¬t.val % 16 = 15) :
    (outsAt0 m c t.val t.isLt).2.2.2.1 = Mwd m c t.val := by
  rw [outsAt0_A m c t h0 h1]
  dsimp only
  rw [sout0_A_1_eq]
  exact funext fun j => (mwd_at m c t j).symm

theorem acc_next (c : Dev nD) (t : Fin cfg0.N) (h0 : ¬t.val % 16 = 0) (h1 : ¬t.val % 16 = 15) :
    (outsAt0 m c t.val t.isLt).2.2.2.1 = fun j => (outsAt0 m c (t.val - 1) (Nat.lt_of_le_of_lt (Nat.sub_le _ _) t.isLt)).2.2.2.1 j + Mwd m c t.val j := by
  conv_lhs => rw [outsAt0_B m c t h0 h1]
  dsimp only
  rw [sout0_B_1_eq]
  exact funext fun j => congrArg _ (mwd_at m c t j).symm

theorem hbm_next (c : Dev nD) (t : Fin cfg0.N) (h0 : ¬t.val % 16 = 0) (h1 : t.val % 16 = 15) :
    (outsAt0 m c t.val t.isLt).2.2.2.2 = fun j => (outsAt0 m c (t.val - 1) (Nat.lt_of_le_of_lt (Nat.sub_le _ _) t.isLt)).2.2.2.1 j + Mwd m c t.val j := by
  conv_lhs => rw [outsAt0_C m c t h0 h1]
  dsimp only
  rw [hbw0_C_1_eq]
  exact funext fun j => congrArg _ (mwd_at m c t j).symm

/-- After each block but the last the weight is held whole. -/
theorem wt_held (c : Dev nD) : ∀ n, ∀ hn : n < cfg0.N, n < 15 → (outsAt0 m c n hn).2.2.1 = Wg (V m c main_v26)
  | 0, hn, _ => wt_first m c ⟨0, hn⟩ (by rfl) (by show ¬0 % 16 = 15; decide)
  | n + 1, hn, h => (wt_next m c ⟨n + 1, hn⟩ (by show ¬(n + 1) % 16 = 0; omega) (by show ¬(n + 1) % 16 = 15; omega)).trans
      (wt_held c n (Nat.lt_of_succ_lt hn) (by omega))

/-- After block `n` the accumulator holds the sum over the blocks so far. -/
theorem acc_held (c : Dev nD) : ∀ n, ∀ hn : n < cfg0.N, n < 15 →
    (outsAt0 m c n hn).2.2.2.1 = fun j => ∑ s ∈ Finset.range (n + 1), Mwd m c s j
  | 0, hn, _ => (acc_first m c ⟨0, hn⟩ (by rfl) (by show ¬0 % 16 = 15; decide)).trans (funext fun j => by simp)
  | n + 1, hn, h => (acc_next m c ⟨n + 1, hn⟩ (by show ¬(n + 1) % 16 = 0; omega) (by show ¬(n + 1) % 16 = 15; omega)).trans
      (funext fun j => (congrArg (· + Mwd m c (n + 1) j) (congrFun (acc_held c n (Nat.lt_of_succ_lt hn) (by omega)) j)).trans
        (Finset.sum_range_succ (fun s => Mwd m c s j) (n + 1)).symm)

/-- The gradient of the down weight, written by the last block. -/
theorem hbm_last (c : Dev nD) (t : Fin cfg0.N) (ht : t.val = 15) :
    (outsAt0 m c t.val t.isLt).2.2.2.2 = fun j => ∑ s ∈ Finset.range 16, Mwd m c s j := by
  have h0 : ¬t.val % 16 = 0 := by omega
  have h1 : t.val % 16 = 15 := by omega
  refine (hbm_next m c t h0 h1).trans (funext fun j => ?_)
  have hp : t.val - 1 = 14 := by omega
  have e := congrFun (acc_held m c (t.val - 1) (Nat.lt_of_le_of_lt (Nat.sub_le _ _) t.isLt) (by omega)) j
  refine (congrArg (· + Mwd m c t.val j) e).trans ?_
  rw [hp, ht]
  exact (Finset.sum_range_succ (fun s => Mwd m c s j) 15).symm

theorem dgg_at (c : Dev nD) (t : Fin cfg0.N) :
    (outsAt0 m c t.val t.isLt).1 = Dgg (iblk m c 0 t) (iblk m c 1 t) (iblk m c 2 t) (Wg (V m c main_v26)) := by
  have hN : t.val < 16 := t.isLt
  by_cases h0 : t.val % 16 = 0
  · have h1 : ¬t.val % 16 = 15 := by omega
    rw [outsAt0_A m c t h0 h1]
    dsimp only
    rw [out0_A_3_eq]
  · have hw := wt_held m c (t.val - 1) (Nat.lt_of_le_of_lt (Nat.sub_le _ _) t.isLt) (by omega)
    by_cases h1 : t.val % 16 = 15
    · rw [outsAt0_C m c t h0 h1]
      dsimp only
      rw [out0_C_3_eq, hw]
    · rw [outsAt0_B m c t h0 h1]
      dsimp only
      rw [out0_B_3_eq, hw]

theorem duu_at (c : Dev nD) (t : Fin cfg0.N) :
    (outsAt0 m c t.val t.isLt).2.1 = Duu (iblk m c 0 t) (iblk m c 1 t) (Wg (V m c main_v26)) := by
  have hN : t.val < 16 := t.isLt
  by_cases h0 : t.val % 16 = 0
  · have h1 : ¬t.val % 16 = 15 := by omega
    rw [outsAt0_A m c t h0 h1]
    dsimp only
    rw [out0_A_4_eq]
  · have hw := wt_held m c (t.val - 1) (Nat.lt_of_le_of_lt (Nat.sub_le _ _) t.isLt) (by omega)
    by_cases h1 : t.val % 16 = 15
    · rw [outsAt0_C m c t h0 h1]
      dsimp only
      rw [out0_C_4_eq, hw]
    · rw [outsAt0_B m c t h0 h1]
      dsimp only
      rw [out0_B_4_eq, hw]

end Cert.KernelIdeal.Value
-- ==== Proof.Act.Arrays.lean ====
/- The three result arrays of the call, index by index over the arrays it reads. -/
module

public import proofs.«01_k».proof.Proof.Act.Sweep
public import Idealize.ShloMosaic.Lib.Pointwise
public import Idealize.ShloMosaic.Lib.Pipeline.ValueKit

@[expose] public section

set_option maxRecDepth 16384

noncomputable section

namespace Cert.KernelIdeal.Value

open Idealize.ShloMosaic Idealize.SL.Sem Cert.KernelIdeal Cert.KernelIdeal.Gen
open scoped BigOperators

/-- The gradient at the gated product: a row of `dx2` against a row of the down weight. -/
def gDf (dx : S8192x1024.Idx → EReal) (W : S2816x1024.Idx → EReal) (i : S8192x2816.Idx) : EReal :=
  ∑ k : Fin 1024, dx (ix2 (i 0) k) * W (ix2 (i 1) k)

/-- The gradient of the up product. -/
def gDuu (dx : S8192x1024.Idx → EReal) (G : S8192x2816.Idx → EReal) (W : S2816x1024.Idx → EReal) (i : S8192x2816.Idx) : EReal :=
  gDf dx W i * (G i * sg (G i))

/-- The gradient of the gate product. -/
def gDgg (dx : S8192x1024.Idx → EReal) (G U : S8192x2816.Idx → EReal) (W : S2816x1024.Idx → EReal) (i : S8192x2816.Idx) : EReal :=
  gDf dx W i * U i * (sg (G i) * (1 + G i * (1 - sg (G i))))

/-- One row's part in the gradient of the down weight. -/
def tDwd (dx : S8192x1024.Idx → EReal) (G U : S8192x2816.Idx → EReal) (i : S2816x1024.Idx) (t : Fin 8192) : EReal :=
  G (ix2 t (i 0)) * sg (G (ix2 t (i 0))) * U (ix2 t (i 0)) * dx (ix2 t (i 1))

/-- The gradient of the down weight. -/
def gDwd (dx : S8192x1024.Idx → EReal) (G U : S8192x2816.Idx → EReal) (i : S2816x1024.Idx) : EReal :=
  ∑ t : Fin 8192, tDwd dx G U i t

variable (m : (ℓ : Loc nD τ sig) → Buf (Elt Ideal) ℓ)

theorem idx_row (t : Fin cfg0.N) : win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0]) t

theorem blk0_at (c : Dev nD) (t : Fin cfg0.N) (r : Fin 512) (k : Fin 1024) (h : 512 * t.val + r.val < 8192) :
    iblk m c 0 t (ix2 r k) = V m c main_arg2 (ix2 ⟨512 * t.val + r.val, h⟩ k) := by
  obtain ⟨e0, e1, e2, e3, e4⟩ := idx_row t
  blk_ext [iblk, e0]

theorem blk1_at (c : Dev nD) (t : Fin cfg0.N) (r : Fin 512) (k : Fin 2816) (h : 512 * t.val + r.val < 8192) :
    iblk m c 1 t (ix2 r k) = V m c main_v14 (ix2 ⟨512 * t.val + r.val, h⟩ k) := by
  obtain ⟨e0, e1, e2, e3, e4⟩ := idx_row t
  blk_ext [iblk, e1]

theorem blk2_at (c : Dev nD) (t : Fin cfg0.N) (r : Fin 512) (k : Fin 2816) (h : 512 * t.val + r.val < 8192) :
    iblk m c 2 t (ix2 r k) = V m c main_v16 (ix2 ⟨512 * t.val + r.val, h⟩ k) := by
  obtain ⟨e0, e1, e2, e3, e4⟩ := idx_row t
  blk_ext [iblk, e2]

theorem dgg_block (c : Dev nD) (t : Fin cfg0.N) (r : Fin 512) (f : Fin 2816) (h : 512 * t.val + r.val < 8192) (W : S2816x1024.Idx → EReal) :
    Dgg (iblk m c 0 t) (iblk m c 1 t) (iblk m c 2 t) W (ix2 r f) = gDgg (V m c main_arg2) (V m c main_v14) (V m c main_v16) W (ix2 ⟨512 * t.val + r.val, h⟩ f) := by
  have e : Df (iblk m c 0 t) W (ix2 r f) = gDf (V m c main_arg2) W (ix2 ⟨512 * t.val + r.val, h⟩ f) :=
    Finset.sum_congr rfl fun k _ => congrArg (· * W (ix2 f k)) (blk0_at m c t r k h)
  unfold Dgg gDgg
  rw [e, blk1_at m c t r f h, blk2_at m c t r f h]

theorem duu_block (c : Dev nD) (t : Fin cfg0.N) (r : Fin 512) (f : Fin 2816) (h : 512 * t.val + r.val < 8192) (W : S2816x1024.Idx → EReal) :
    Duu (iblk m c 0 t) (iblk m c 1 t) W (ix2 r f) = gDuu (V m c main_arg2) (V m c main_v14) W (ix2 ⟨512 * t.val + r.val, h⟩ f) := by
  have e : Df (iblk m c 0 t) W (ix2 r f) = gDf (V m c main_arg2) W (ix2 ⟨512 * t.val + r.val, h⟩ f) :=
    Finset.sum_congr rfl fun k _ => congrArg (· * W (ix2 f k)) (blk0_at m c t r k h)
  unfold Duu gDuu
  rw [e, blk1_at m c t r f h]

theorem dgg_point (c : Dev nD) (t : Fin cfg0.N) (y : S512x2816.Idx) (i : S8192x2816.Idx) (h0 : (i 0).val = 512 * t.val + (y 0).val) (h1 : (i 1).val = (y 1).val) (W : S2816x1024.Idx → EReal) :
    Dgg (iblk m c 0 t) (iblk m c 1 t) (iblk m c 2 t) W y = gDgg (V m c main_arg2) (V m c main_v14) (V m c main_v16) W i := by
  have h : 512 * t.val + (y 0).val < 8192 := h0 ▸ (i 0).isLt
  have hy : y = ix2 (y 0) (y 1) := by funext a; fin_cases a <;> rfl
  have hi : i = ix2 ⟨512 * t.val + (y 0).val, h⟩ (y 1) := by
    funext a; fin_cases a
    · exact Fin.ext h0
    · exact Fin.ext h1
  rw [hy, hi]
  exact dgg_block m c t (y 0) (y 1) h W

/-- The gradient of the gate product after the run. -/
theorem arr3 (c : Dev nD) : (dats m 0 c).arrAt 3 cfg0.N = gDgg (V m c main_arg2) (V m c main_v14) (V m c main_v16) (Wg (V m c main_v26)) := by
  refine (dats m 0 c).arrAt_eq_of_covers 3 _ (by decide +kernel) fun t hf y => ?_
  obtain ⟨e0, e1, e2, e3, e4⟩ := idx_row t
  blk_simp
  rw [after0_3, dgg_at]
  refine dgg_point m c t y _ ?_ ?_ _
  · blk_simp [e3]; omega
  · blk_simp [e3]

theorem duu_point (c : Dev nD) (t : Fin cfg0.N) (y : S512x2816.Idx) (i : S8192x2816.Idx) (h0 : (i 0).val = 512 * t.val + (y 0).val) (h1 : (i 1).val = (y 1).val) (W : S2816x1024.Idx → EReal) :
    Duu (iblk m c 0 t) (iblk m c 1 t) W y = gDuu (V m c main_arg2) (V m c main_v14) W i := by
  have h : 512 * t.val + (y 0).val < 8192 := h0 ▸ (i 0).isLt
  have hy : y = ix2 (y 0) (y 1) := by funext a; fin_cases a <;> rfl
  have hi : i = ix2 ⟨512 * t.val + (y 0).val, h⟩ (y 1) := by
    funext a; fin_cases a
    · exact Fin.ext h0
    · exact Fin.ext h1
  rw [hy, hi]
  exact duu_block m c t (y 0) (y 1) h W

/-- The gradient of the up product after the run. -/
theorem arr4 (c : Dev nD) : (dats m 0 c).arrAt 4 cfg0.N = gDuu (V m c main_arg2) (V m c main_v14) (Wg (V m c main_v26)) := by
  refine (dats m 0 c).arrAt_eq_of_covers 4 _ (by decide +kernel) fun t hf y => ?_
  obtain ⟨e0, e1, e2, e3, e4⟩ := idx_row t
  blk_simp
  rw [after0_4, duu_at]
  refine duu_point m c t y _ ?_ ?_ _
  · blk_simp [e4]; omega
  · blk_simp [e4]

/-- One block's part in the gradient of the down weight. -/
theorem mwd_block (c : Dev nD) (t : Fin cfg0.N) (j : S2816x1024.Idx) (h : ∀ r : Fin 512, 512 * t.val + r.val < 8192) :
    Mwd m c t.val j = ∑ r : Fin 512, tDwd (V m c main_arg2) (V m c main_v14) (V m c main_v16) j ⟨512 * t.val + r.val, h r⟩ := by
  rw [mwd_at m c t j]
  unfold Dwd tDwd
  refine Finset.sum_congr rfl fun r _ => ?_
  rw [blk1_at m c t r (j 0) (h r), blk2_at m c t r (j 0) (h r), blk0_at m c t r (j 1) (h r)]

theorem sum_blocks (f : Fin 8192 → EReal) (h : ∀ (s : Fin 16) (r : Fin 512), 512 * s.val + r.val < 8192) :
    ∑ s : Fin 16, ∑ r : Fin 512, f ⟨512 * s.val + r.val, h s r⟩ = ∑ t : Fin 8192, f t := by
  have e := Fin.sum_univ_univ_mul_add (M := EReal) 16 512 (fun n => if hn : n < 8192 then f ⟨n, hn⟩ else 0)
  refine (Finset.sum_congr rfl fun s _ => Finset.sum_congr rfl fun r _ => ?_).trans (e.trans (Finset.sum_congr rfl fun t _ => ?_))
  · have h' : s.val * 512 + r.val < 8192 := by have := h s r; omega
    rw [dif_pos h']
    exact congrArg f (Fin.ext (by show 512 * s.val + r.val = s.val * 512 + r.val; omega))
  · exact dif_pos t.isLt

/-- The gradient of the down weight after the run. -/
theorem hbm_after (c : Dev nD) (t : Fin cfg0.N) (ht : t.val = 15) :
    (outsAt0 m c t.val t.isLt).2.2.2.2 = gDwd (V m c main_arg2) (V m c main_v14) (V m c main_v16) := by
  rw [hbm_last m c t ht]
  funext j
  rw [Finset.sum_range (fun s => Mwd m c s j)]
  exact (Finset.sum_congr rfl fun s _ => mwd_block m c s j fun r => by have : s.val < 16 := s.isLt; omega).trans
    (sum_blocks (tDwd (V m c main_arg2) (V m c main_v14) (V m c main_v16) j) fun s r => by omega)

end Cert.KernelIdeal.Value
-- ==== Proof.Act.Prefix.lean ====
/- What the host leaves in the arrays the call reads. -/
module

public import proofs.«01_k».proof.Proof.Act.ChunkA
public import Idealize.ShloMosaic.Lib.Pointwise
public import Idealize.ShloMosaic.Lib.StableHlo.ReadAt

@[expose] public section

set_option maxRecDepth 16384

noncomputable section

namespace Cert.KernelIdeal.Value

open Idealize.ShloMosaic Idealize.SL.Sem Cert.KernelIdeal Cert.KernelIdeal.Gen
open Idealize.ShloMosaic.StableHlo
open scoped BigOperators

variable (m : (ℓ : Loc nD τ sig) → Buf (Elt Ideal) ℓ)

/-- The normalised activations, as the host computes them. -/
def Hn (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))

/-- A product of the normalised activations with a weight. -/
def Hdot (x : FVec Ideal S8192x1024 .f32) (g : FVec Ideal S1024 .f32) (w : FVec Ideal S1024x2816 .f32) : FVec Ideal S8192x2816 .f32 :=
  Host.dotGeneral dot_S8192x1024_S1024x2816_S8192x2816_1_0_0_1_n_n none (Hn x g) w

theorem gg_host (c : Dev nD) : V m c main_v14 = Hdot (m ((c.tc : Thread nD τ).loc main_arg0)) (m ((c.tc : Thread nD τ).loc main_arg1)) (m ((c.tc : Thread nD τ).loc main_arg6)) := by
  unfold V
  after_reads_simp
  rfl

theorem uu_host (c : Dev nD) : V m c main_v16 = Hdot (m ((c.tc : Thread nD τ).loc main_arg0)) (m ((c.tc : Thread nD τ).loc main_arg1)) (m ((c.tc : Thread nD τ).loc main_arg7)) := by
  unfold V
  after_reads_simp
  rfl

theorem gath_host (c : Dev nD) (w : S2816x1024.Idx → EReal) (hw : w = m ((c.tc : Thread nD τ).loc main_arg8)) (p : Fin 8) (r : Fin 352) (k : Fin 1024) (h : 1088 + r.val < 1440) (h' : 352 * p.val + r.val < 2816) :
    V m c main_v26 (ix3 p ⟨1088 + r.val, h⟩ k) = w (ix2 ⟨352 * p.val + r.val, h'⟩ k) := by
  unfold V
  after_reads_at
  rw [dif_neg (by omega), dif_neg (by omega), dif_neg (by omega), dif_neg (by omega), dif_neg (by omega)]
  after_reads_at
  rw [hw]
  exact congrArg (m ((c.tc : Thread nD τ).loc main_arg8)) (congrArg (fun q => ix2 q k) (Fin.ext (by show p.val * 352 + (1088 + r.val - 128 - 128 - 128 - 352 - 352) = 352 * p.val + r.val; omega)))

/-- The weight the call holds is the down weight. -/
theorem wg_host (c : Dev nD) (w : S2816x1024.Idx → EReal) (hw : w = m ((c.tc : Thread nD τ).loc main_arg8)) : Wg (V m c main_v26) = w := by
  funext j
  have hj : (j 0).val < 2816 := (j 0).isLt
  have hp : (j 0).val / 352 < 8 := by omega
  have hr : (j 0).val % 352 < 352 := Nat.mod_lt _ (by norm_num)
  refine (gath_host m c w hw ⟨(j 0).val / 352, hp⟩ ⟨(j 0).val % 352, hr⟩ (j 1) (by show 1088 + (j 0).val % 352 < 1440; omega) (by show 352 * ((j 0).val / 352) + (j 0).val % 352 < 2816; omega)).trans (congrArg w ?_)
  funext a
  fin_cases a
  · exact Fin.ext (Nat.div_add_mod _ _)
  · rfl

end Cert.KernelIdeal.Value
-- ==== Proof.Act.Real.lean ====
/- Extended reals that are real numbers, and the gate's derivative over them. -/
module

public import Idealize.ShloMosaic.Lib.Pointwise
public import Idealize.ShloMosaic.Lib.IdealHost
public import Idealize.ShloMosaic.Lib.ReduceAll

@[expose] public section

noncomputable section

namespace Cert.ActReal

open Idealize.ShloMosaic
open scoped BigOperators

/-- `x` is a real number. -/
def R (x : EReal) : Prop := ∃ r : ℝ, x = (r : EReal)

theorem R.mul {x y : EReal} (hx : R x) (hy : R y) : R (x * y) := by
  obtain ⟨a, rfl⟩ := hx
  obtain ⟨b, rfl⟩ := hy
  exact ⟨a * b, (EReal.coe_mul a b).symm⟩

theorem R.add {x y : EReal} (hx : R x) (hy : R y) : R (x + y) := by
  obtain ⟨a, rfl⟩ := hx
  obtain ⟨b, rfl⟩ := hy
  exact ⟨a + b, (EReal.coe_add a b).symm⟩

theorem R.sum {ι : Type} (s : Finset ι) (f : ι → EReal) (h : ∀ i, R (f i)) : R (∑ i ∈ s, f i) :=
  Finset.sum_induction f R (fun _ _ => R.add) ⟨0, rfl⟩ fun i _ => h i

/-- A number whose absolute value is below infinity is real. -/
theorem R.of_abs {x : EReal} (h : max x (-x) < ⊤) : R x := by
  induction x using EReal.rec with
  | bot => simp at h
  | top => simp at h
  | coe r => exact ⟨r, rfl⟩

/-- A real number that is not negative. -/
def R0 (x : EReal) : Prop := ∃ r : ℝ, 0 ≤ r ∧ x = (r : EReal)

theorem R0.sum {ι : Type} (s : Finset ι) (f : ι → EReal) (h : ∀ i, R0 (f i)) : R0 (∑ i ∈ s, f i) :=
  Finset.sum_induction f R0 (fun _ _ ⟨a, ha, ea⟩ ⟨b, hb, eb⟩ => ⟨a + b, add_nonneg ha hb, by rw [ea, eb, EReal.coe_add]⟩) ⟨0, le_refl _, rfl⟩ fun i _ => h i

theorem R0.sq {x : EReal} (hx : R x) : R0 (x * x) := by
  obtain ⟨a, rfl⟩ := hx
  exact ⟨a * a, mul_self_nonneg a, (EReal.coe_mul a a).symm⟩

/-- The reciprocal root of a mean plus a positive number is real. -/
theorem R.rsqrt_mean {x : EReal} (hx : R0 x) {n e : ℝ} (hn : 0 < n) (he : 0 < e) : R (Ideal.rsqrt (Ideal.div x (n : EReal) + (e : EReal))) := by
  obtain ⟨a, ha, rfl⟩ := hx
  have hn' : (n : EReal) ≠ 0 := by exact_mod_cast hn.ne'
  rw [Ideal.div, if_neg hn', ← EReal.coe_inv, ← EReal.coe_mul, ← EReal.coe_add, Ideal.rsqrt_coe]
  have hp : 0 < a * n⁻¹ + e := add_pos_of_nonneg_of_pos (mul_nonneg ha (inv_nonneg.2 hn.le)) he
  rw [if_neg (not_lt.2 hp.le), if_neg hp.ne']
  exact ⟨_, rfl⟩

/-- The logistic function. -/
def lgs (g : EReal) : EReal := Ideal.div 1 (1 + Ideal.exp (-g))

theorem lgs_top : lgs ⊤ = 1 := by simp [lgs, Ideal.div]

theorem lgs_bot : lgs ⊥ = 0 := by
  have : (1 : EReal) + ⊤ = ⊤ := rfl
  simp [lgs, Ideal.div, this]

theorem lgs_coe (g : ℝ) : lgs (g : EReal) = (((1 + Real.exp (-g))⁻¹ : ℝ) : EReal) := by
  have h : (1 + Real.exp (-g)) ≠ 0 := (add_pos one_pos (Real.exp_pos _)).ne'
  have h' : ((1 + Real.exp (-g) : ℝ) : EReal) ≠ 0 := by exact_mod_cast h
  have e : (1 : EReal) + Ideal.exp (-(g : EReal)) = ((1 + Real.exp (-g) : ℝ) : EReal) := by
    rw [← EReal.coe_neg, Ideal.exp_coe, EReal.coe_add, EReal.coe_one]
  rw [lgs, e, Ideal.div, if_neg h', one_mul, EReal.coe_inv]

/-- The gate's derivative, in the two orders it is computed in. -/
theorem gate_deriv {p : EReal} (hp : R p) (g : EReal) :
    p * (lgs g * (1 + g * (1 - lgs g))) = p * lgs g + g * p * (lgs g * (1 - lgs g)) := by
  obtain ⟨a, rfl⟩ := hp
  induction g using EReal.rec with
  | bot => rw [lgs_bot]; simp
  | top =>
    have h : (1 : EReal) - 1 = 0 := by rw [← EReal.coe_one, ← EReal.coe_sub, sub_self, EReal.coe_zero]
    rw [lgs_top, h]; simp
  | coe g =>
    rw [lgs_coe]
    generalize (1 + Real.exp (-g))⁻¹ = s
    have e : (1 : EReal) = ((1 : ℝ) : EReal) := rfl
    rw [e]
    norm_cast
    ring

end Cert.ActReal
-- ==== Proof.Act.RefVal.lean ====
/- The reference's three results over the two products and the arrays it is given. -/
module

public import proofs.«01_k».proof.Proof.Act.Arrays
public import proofs.«01_k».proof.Proof.Act.Prefix
public import proofs.«01_k».proof.Proof.Act.Real
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ActRef

open Idealize.ShloMosaic Idealize.SL.Sem Cert.ReferenceIdeal Cert.ReferenceIdeal.Gen Cert.ReferenceIdeal.Value Cert.ActReal
open Cert.KernelIdeal.Value (Hn Hdot gDf gDuu gDgg gDwd tDwd sg)
open scoped BigOperators

/-- The reference's gate gradient. -/
def rgg (dx : FVec Ideal S8192x1024 .f32) (G U : FVec Ideal S8192x2816 .f32) (W : FVec Ideal S2816x1024 .f32) : FVec Ideal S8192x2816 .bf16 :=
  truncf .bf16 (addf (mulf (mulf (Host.dotGeneral dot_S8192x1024_S2816x1024_S8192x2816_1_1_0_0_n_n none dx W) U) (Host.divf (broadcastInDim S8192x2816 ![] bcast_S_S8192x2816 (constant S_ .f32 0x3F800000#32)) (addf (broadcastInDim S8192x2816 ![] bcast_S_S8192x2816 (constant S_ .f32 0x3F800000#32)) (Host.exp (Host.negf G))))) (mulf (mulf G (mulf (Host.dotGeneral dot_S8192x1024_S2816x1024_S8192x2816_1_1_0_0_n_n none dx W) U)) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf G)))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf G)))))))) bitsLt_bf16_f32

/-- The reference's up gradient. -/
def ruu (dx : FVec Ideal S8192x1024 .f32) (G : FVec Ideal S8192x2816 .f32) (W : FVec Ideal S2816x1024 .f32) : FVec Ideal S8192x2816 .bf16 :=
  truncf .bf16 (mulf (mulf G (Host.divf (broadcastInDim S8192x2816 ![] bcast_S_S8192x2816 (constant S_ .f32 0x3F800000#32)) (addf (broadcastInDim S8192x2816 ![] bcast_S_S8192x2816 (constant S_ .f32 0x3F800000#32)) (Host.exp (Host.negf G))))) (Host.dotGeneral dot_S8192x1024_S2816x1024_S8192x2816_1_1_0_0_n_n none dx W)) bitsLt_bf16_f32

/-- The reference's gradient of the down weight. -/
def rwd (dx : FVec Ideal S8192x1024 .f32) (G U : FVec Ideal S8192x2816 .f32) : FVec Ideal S2816x1024 .bf16 :=
  truncf .bf16 (transpose S2816x1024 [1, 0] (Host.dotGeneral dot_S8192x1024_S8192x2816_S1024x2816_0_0_1_1_n_n none dx (mulf (mulf G (Host.divf (broadcastInDim S8192x2816 ![] bcast_S_S8192x2816 (constant S_ .f32 0x3F800000#32)) (addf (broadcastInDim S8192x2816 ![] bcast_S_S8192x2816 (constant S_ .f32 0x3F800000#32)) (Host.exp (Host.negf G))))) U)) transposes_S1024x2816_S2816x1024_1_0) bitsLt_bf16_f32

theorem sg_eq (g : EReal) : sg g = lgs g := by unfold sg lgs; rw [zero_sub]

theorem ruu_at (dx : FVec Ideal S8192x1024 .f32) (G : FVec Ideal S8192x2816 .f32) (W : FVec Ideal S2816x1024 .f32) :
    ruu dx G W = gDuu dx G W := by
  funext i
  idx_vars i
  unfold ruu gDuu gDf
  pointwise [sg]
  rw [zero_sub]
  exact mul_comm _ _

theorem rwd_at (dx : FVec Ideal S8192x1024 .f32) (G U : FVec Ideal S8192x2816 .f32) :
    rwd dx G U = gDwd dx G U := by
  funext i
  idx_vars i
  unfold rwd gDwd tDwd
  pointwise [sg]
  refine Finset.sum_congr rfl fun t _ => ?_
  rw [zero_sub]
  exact mul_comm _ _

theorem rgg_at (dx : FVec Ideal S8192x1024 .f32) (G U : FVec Ideal S8192x2816 .f32) (W : FVec Ideal S2816x1024 .f32)
    (h : ∀ i, R (gDf dx W i * U i)) : rgg dx G U W = gDgg dx G U W := by
  funext i
  have hi := h i
  revert hi
  unfold rgg gDgg
  rw [sg_eq]
  idx_vars i
  pointwise [gDf, lgs]
  exact fun hi => (gate_deriv hi _).symm

theorem ref_gg (m : (ℓ : Loc nD τ sig) → Buf (Elt Ideal) ℓ) (c : Dev nD) :
    res_main_v24 m c = rgg (m ((c.tc : Thread nD τ).loc main_arg2)) (Hdot (m ((c.tc : Thread nD τ).loc main_arg0)) (m ((c.tc : Thread nD τ).loc main_arg1)) (m ((c.tc : Thread nD τ).loc main_arg6))) (Hdot (m ((c.tc : Thread nD τ).loc main_arg0)) (m ((c.tc : Thread nD τ).loc main_arg1)) (m ((c.tc : Thread nD τ).loc main_arg7))) (m ((c.tc : Thread nD τ).loc main_arg8)) := by
  rfl

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = rgg (m ((c.tc : Thread nD τ).loc main_arg2)) (Hdot (m ((c.tc : Thread nD τ).loc main_arg0)) (m ((c.tc : Thread nD τ).loc main_arg1)) (m ((c.tc : Thread nD τ).loc main_arg6))) (Hdot (m ((c.tc : Thread nD τ).loc main_arg0)) (m ((c.tc : Thread nD τ).loc main_arg1)) (m ((c.tc : Thread nD τ).loc main_arg7))) (m ((c.tc : Thread nD τ).loc main_arg8))
      ∧ r.2.mem ((c.tc : Thread nD τ).loc main_v25) = ruu (m ((c.tc : Thread nD τ).loc main_arg2)) (Hdot (m ((c.tc : Thread nD τ).loc main_arg0)) (m ((c.tc : Thread nD τ).loc main_arg1)) (m ((c.tc : Thread nD τ).loc main_arg6))) (m ((c.tc : Thread nD τ).loc main_arg8))
      ∧ r.2.mem ((c.tc : Thread nD τ).loc main_v26) = rwd (m ((c.tc : Thread nD τ).loc main_arg2)) (Hdot (m ((c.tc : Thread nD τ).loc main_arg0)) (m ((c.tc : Thread nD τ).loc main_arg1)) (m ((c.tc : Thread nD τ).loc main_arg6))) (Hdot (m ((c.tc : Thread nD τ).loc main_arg0)) (m ((c.tc : Thread nD τ).loc main_arg1)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (ref_gg m c), (h c).2.1, (h c).2.2⟩) (run m ρ)

end Cert.ActRef
-- ==== Proof.Act.Finite.lean ====
/- Finite arguments: the products that the gate's gradient multiplies are real numbers. -/
module

public import proofs.«01_k».proof.Proof.Act.RefVal
public import proofs.«01_k».proof.Proof.Gen.Pre_all_finite
public import proofs.«01_k».proof.Pre_all_finite

@[expose] public section

set_option maxRecDepth 16384

noncomputable section

namespace Cert.ActReal

open Idealize.ShloMosaic Idealize.SL.Sem
open Cert.KernelIdeal.Value (Hn Hdot gDf)
open scoped BigOperators

theorem real_of_lt {s : Shape} (x y : FVec Ideal s .f32) (i : s.Idx) (hy : y i = (⊤ : EReal)) (h : cmpf .olt (Host.absf x) y i = 1#1) : R (x i) := by
  have h' : BitVec.ofBool (decide (max (x i : EReal) (-(x i : EReal)) < (y i : EReal))) = 1#1 := h
  rw [hy] at h'
  refine R.of_abs ?_
  by_contra hn
  rw [decide_eq_false hn] at h'
  exact absurd h' (by decide)

theorem inf_word : Ideal.ofBits .f32 0x7F800000#32 = ⊤ := by simp [Ideal.ofBits, Ideal.ieee]

theorem word_1024 : Ideal.ofBits .f32 1149239296#32 = ((1024 : ℝ) : EReal) := by
  simp [Ideal.ofBits, Ideal.ieee]
  rw [← EReal.coe_mul]
  congr 1
  norm_num

theorem word_eps : ∃ e : ℝ, 0 < e ∧ Ideal.ofBits .f32 897988541#32 = (e : EReal) := by
  simp [Ideal.ofBits, Ideal.ieee]
  exact ⟨8796093 * ((2 ^ 43 : ℝ))⁻¹, by norm_num, by rw [EReal.coe_mul]⟩

section
open Cert.Pre_all_finite Cert.Pre_all_finite.Gen

theorem finite_args (a0 : FVec Ideal S8192x1024 .f32) (a1 : FVec Ideal S1024 .f32) (a2 : FVec Ideal S8192x1024 .f32) (a3 a4 a5 : FVec Ideal S1024x1024 .f32)
    (a6 a7 : FVec Ideal S1024x2816 .f32) (a8 : FVec Ideal S2816x1024 .f32) (h : fn (F := Ideal) a0 a1 a2 a3 a4 a5 a6 a7 a8 = fun _ => 1#1) :
    (∀ i, R (a0 i)) ∧ (∀ i, R (a1 i)) ∧ (∀ i, R (a2 i)) ∧ (∀ i, R (a7 i)) ∧ ∀ i, R (a8 i) := by
  have e := congrFun h (fun a => a.elim0)
  haveI : Subsingleton S_.Idx := ⟨fun a b => funext fun k => k.elim0⟩
  unfold fn fn_part1 at e
  dsimp only at e
  obtain ⟨e, e8⟩ := IntOp.andi_eq_one.1 e
  obtain ⟨e, e7⟩ := IntOp.andi_eq_one.1 e
  obtain ⟨e, e2⟩ := IntOp.andi_eq_one.1 e
  obtain ⟨e0, e1⟩ := IntOp.andi_eq_one.1 e
  exact ⟨fun i => real_of_lt _ _ i inf_word (Host.reduce_andi_all _ _ _ _ _ e0 i), fun i => real_of_lt _ _ i inf_word (Host.reduce_andi_all _ _ _ _ _ e1 i),
    fun i => real_of_lt _ _ i inf_word (Host.reduce_andi_all _ _ _ _ _ e2 i), fun i => real_of_lt _ _ i inf_word (Host.reduce_andi_all _ _ _ _ _ e7 i),
    fun i => real_of_lt _ _ i inf_word (Host.reduce_andi_all _ _ _ _ _ e8 i)⟩
end

section
open Cert.KernelIdeal Cert.KernelIdeal.Gen

theorem hn_real (x : FVec Ideal S8192x1024 .f32) (g : FVec Ideal S1024 .f32) (hx : ∀ i, R (x i)) (hg : ∀ i, R (g i)) (i : S8192x1024.Idx) : R (Hn x g i) := by
  idx_vars i
  pointwise [Hn]
  rw [word_1024, (word_eps).choose_spec.2]
  exact ((hx _).mul (R.rsqrt_mean (R0.sum _ _ fun k => R0.sq (hx _)) (by norm_num) (word_eps).choose_spec.1)).mul (hg _)

theorem hdot_real (x : FVec Ideal S8192x1024 .f32) (g : FVec Ideal S1024 .f32) (w : FVec Ideal S1024x2816 .f32) (hx : ∀ i, R (x i)) (hg : ∀ i, R (g i)) (hw : ∀ i, R (w i))
    (i : S8192x2816.Idx) : R (Hdot x g w i) := by
  have hh := hn_real x g hx hg
  unfold Hdot
  generalize Hn x g = H at hh
  idx_vars i
  pointwise
  exact R.sum _ _ fun k => (hh _).mul (hw _)

theorem df_real (dx : FVec Ideal S8192x1024 .f32) (W : FVec Ideal S2816x1024 .f32) (hd : ∀ i, R (dx i)) (hw : ∀ i, R (W i)) (i : S8192x2816.Idx) : R (gDf dx W i) :=
  R.sum _ _ fun _ => (hd _).mul (hw _)
end

end Cert.ActReal
-- ==== Proof.Act.Same.lean ====
/- The two printed programs have the same text: their tables of kernels and their main functions are equal. -/
module

public import proofs.«01_k».proof.Proof.Gen.Kernel
public import proofs.«01_k».proof.Proof.Act.Frame
public import proofs.«01_k».proof.Defs

@[expose] public section
set_option maxRecDepth 16384
noncomputable section
namespace Cert.ActSame
open Idealize.ShloMosaic Idealize.SL.Sem Cert.Kernel.Gen Cert.KernelIdeal.Gen

theorem kernels_eq : @Kernel.defs₀ Bits _ _ = @KernelIdeal.defs₀ Bits _ _ := by
  unfold Kernel.defs₀ KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : @Kernel.defs Bits _ _ = @KernelIdeal.defs Bits _ _ := congrArg (Pipeline.defs (KernelIdeal.pcfgs (F := Bits))) kernels_eq

theorem main_eq : @Kernel.main Bits _ _ = @KernelIdeal.main Bits _ _ := rfl

/-- The chip's program at the chip's own arithmetic ends with its arguments kept and its counters at zero. -/
theorem frame_kernel : Cert.quiescent_Kernel := fun m ρ _ => by
  have h := KernelIdeal.Gen.frame (F := Bits) m ρ
  rw [← defs_eq, ← main_eq] at h
  exact h
end Cert.ActSame
-- ==== Proof.Dw.DwIn.lean ====
/- The weight gradient of the input projection: the sum over the blocks of rows is the sum over all rows. -/
module

public import proofs.«01_k».proof.Proof.Gen.KernelDwInIdeal
public import proofs.«01_k».proof.Proof.Gen.KernelDwInIdeal.Value
public import Idealize.ShloMosaic.Lib.Pointwise
public import Idealize.ShloMosaic.Lib.Pipeline.ValueKit

@[expose] public section

set_option maxRecDepth 16384

noncomputable section

namespace Cert.KernelDwInIdeal.Value

open Idealize.ShloMosaic Idealize.SL.Sem Cert.KernelDwInIdeal Cert.KernelDwInIdeal.Gen
open scoped BigOperators

/-- The weight's gradient: over all rows, the incoming gradient times the layer's input. -/
def dwAll (A : S8192x7168.Idx → EReal) (B : S8192x1024.Idx → EReal) (i : S7168x1024.Idx) : EReal :=
  ∑ k : Fin 8192, A (ix2 k (i 0)) * B (ix2 k (i 1))

/-- One block of rows' part in it. -/
def dwPart (A : S2048x1792.Idx → EReal) (B : S2048x1024.Idx → EReal) (i : S1792x1024.Idx) : EReal :=
  ∑ k : Fin 2048, A (ix2 k (i 0)) * B (ix2 k (i 1))

theorem add_at (acc : FVec Ideal S1792x1024 .f32) (A : FVec Ideal S2048x1792 .bf16) (B : FVec Ideal S2048x1024 .bf16) (j : S1792x1024.Idx) :
    k0_pay2 (F := Ideal) acc A B j = acc j + dwPart A B j := by
  idx_vars j
  pointwise [k0_pay2, dwPart]

theorem zero_at (j : S1792x1024.Idx) : k0_pay1 (F := Ideal) j = (0 : EReal) := by
  idx_vars j
  pointwise [k0_pay1]

theorem out_at (acc : FVec Ideal S1792x1024 .f32) (j : S1792x1024.Idx) : k0_pay3 (F := Ideal) acc j = acc j := rfl

variable (m : (ℓ : Loc nD τ sig) → Buf (Elt Ideal) ℓ)

theorem idx_at (t : Fin cfg0.N) : win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0]) t

theorem acc_first (c : Dev nD) (t : Fin cfg0.N) (h : t.val % 4 = 0) (j : S1792x1024.Idx) :
    (outsAt0 m c t.val t.isLt).2 j = 0 + dwPart (iblk m c 0 t) (iblk m c 1 t) j := by
  rw [outsAt0_A m c t h (by omega)]
  frame_out
  rw [add_at, zero_at]

theorem acc_next (c : Dev nD) (t : Fin cfg0.N) (h : ¬t.val % 4 = 0) (j : S1792x1024.Idx) :
    (outsAt0 m c t.val t.isLt).2 j = (outsAt0 m c (t.val - 1) (Nat.lt_of_le_of_lt (Nat.sub_le _ _) t.isLt)).2 j + dwPart (iblk m c 0 t) (iblk m c 1 t) j := by
  by_cases h1 : t.val % 4 = 3
  · rw [outsAt0_C m c t h h1]
    frame_out
    rw [add_at]
    exact congrArg (· + _) (congrFun ((Memref.isWhole_whole cc0_scratch0).read_unread _) j)
  · rw [outsAt0_B m c t h h1]
    frame_out
    rw [add_at]
    exact congrArg (· + _) (congrFun ((Memref.isWhole_whole cc0_scratch0).read_unread _) j)

/-- At a run's last point the block written back is the accumulator. -/
theorem out_last (c : Dev nD) (t : Fin cfg0.N) (h : t.val % 4 = 3) (j : S1792x1024.Idx) :
    (outsAt0 m c t.val t.isLt).1 j = (outsAt0 m c t.val t.isLt).2 j := by
  rw [outsAt0_C m c t (by omega) h]
  frame_out
  rw [out_at]

theorem blk0_at (c : Dev nD) (s : Fin cfg0.N) (r : Fin 2048) (k : Fin 1792) (h : s.val % 4 * 2048 + r.val < 8192) (h' : s.val / 4 * 1792 + k.val < 7168) :
    iblk m c 0 s (ix2 r k) = V m c main_v0 (ix2 ⟨s.val % 4 * 2048 + r.val, h⟩ ⟨s.val / 4 * 1792 + k.val, h'⟩) := by
  obtain ⟨e0, e1, e2⟩ := idx_at s
  blk_ext [iblk, e0]

theorem blk1_at (c : Dev nD) (s : Fin cfg0.N) (r : Fin 2048) (k : Fin 1024) (h : s.val % 4 * 2048 + r.val < 8192) :
    iblk m c 1 s (ix2 r k) = V m c main_v14 (ix2 ⟨s.val % 4 * 2048 + r.val, h⟩ k) := by
  obtain ⟨e0, e1, e2⟩ := idx_at s
  blk_ext [iblk, e1]

theorem blk_at (c : Dev nD) (t s : Fin cfg0.N) (y : S1792x1024.Idx) (i : S7168x1024.Idx) (r : Fin 2048) (q : Fin 8192) (hs : s.val / 4 = t.val / 4)
    (hq : q.val = s.val % 4 * 2048 + r.val) (h0 : (i 0).val = t.val / 4 * 1792 + (y 0).val) (h1 : (i 1).val = (y 1).val) :
    iblk m c 0 s (ix2 r (y 0)) = V m c main_v0 (ix2 q (i 0)) ∧ iblk m c 1 s (ix2 r (y 1)) = V m c main_v14 (ix2 q (i 1)) := by
  have hr : s.val % 4 * 2048 + r.val < 8192 := hq ▸ q.isLt
  have hi : s.val / 4 * 1792 + (y 0).val < 7168 := by rw [hs]; exact h0 ▸ (i 0).isLt
  have eq : q = ⟨s.val % 4 * 2048 + r.val, hr⟩ := Fin.ext hq
  have ei : i 0 = (⟨s.val / 4 * 1792 + (y 0).val, hi⟩ : Fin 7168) := Fin.ext (by rw [h0]; show _ = s.val / 4 * 1792 + (y 0).val; rw [hs])
  have ey : i 1 = (y 1 : Fin 1024) := Fin.ext h1
  rw [eq, ei, ey]
  exact ⟨blk0_at m c s r (y 0) hr hi, blk1_at m c s r (y 1) hr⟩

theorem dw_point (c : Dev nD) (t : Fin cfg0.N) (ht : t.val % 4 = 3) (y : S1792x1024.Idx) (i : S7168x1024.Idx)
    (h0 : (i 0).val = t.val / 4 * 1792 + (y 0).val) (h1 : (i 1).val = (y 1).val) :
    (outsAt0 m c t.val t.isLt).1 y = dwAll (V m c main_v0) (V m c main_v14) i := by
  rw [out_last m c t ht]
  rw [Pipeline.eq_sum_fin_of_reset_step_apply_of_flush (fun n h => (outsAt0 m c n h).2) 4 (fun _ => (0 : EReal)) (fun p => dwPart (iblk m c 0 p) (iblk m c 1 p))
    (fun t h j => acc_first m c t h j) (fun t h j => acc_next m c t h j) t ht y, zero_add]
  unfold dwPart dwAll
  refine Fin.sum_mul_add_congr fun s k hl => ?_
  refine (fun h => congrArg₂ (fun a b : EReal => a * b) h.1 h.2) (blk_at m c t _ y i k ⟨s.val * 2048 + k.val, hl⟩ ?_ ?_ h0 h1)
  · show (4 * (t.val / 4) + s.val) / 4 = _
    have := s.isLt; omega
  · show s.val * 2048 + k.val = (4 * (t.val / 4) + s.val) % 4 * 2048 + k.val
    have := s.isLt
    rw [show (4 * (t.val / 4) + s.val) % 4 = s.val by omega]

/-- The array after the run. -/
theorem arr (c : Dev nD) : (dats m 0 c).arrAt 2 cfg0.N = dwAll (V m c main_v0) (V m c main_v14) := by
  refine (dats m 0 c).arrAt_eq_of_covers 2 _ (by decide +kernel) fun t hf y => ?_
  obtain ⟨e0, e1, e2⟩ := idx_at t
  blk_simp
  rw [after0_2]
  refine dw_point m c t ((flush0_2 t).mp hf) y _ ?_ ?_
  · blk_simp [e2]
  · blk_simp [e2]

end Cert.KernelDwInIdeal.Value
-- ==== Proof.Dw.InAgree.lean ====
/- The weight gradient of the input projection: host arrays, the reference's value, and the claims about both programs. -/
module

public import proofs.«01_k».proof.Proof.Dw.DwIn
public import proofs.«01_k».proof.Proof.Gen.KernelDwIn
public import proofs.«01_k».proof.Proof.Gen.KernelDwInIdeal.Frame
public import proofs.«01_k».proof.Proof.Gen.ReferenceDwInIdeal
public import proofs.«01_k».proof.Proof.Gen.ReferenceDwInIdeal.Run
public import Idealize.ShloMosaic.Lib.StableHlo.ReadAt
public import Idealize.ShloMosaic.Lib.Quiescent
public import proofs.«01_k».proof.Proof.Gen.Kernel
public import proofs.«01_k».proof.Proof.Gen.KernelIdeal
public import proofs.«01_k».proof.Proof.Gen.ReferenceIdeal
public import proofs.«01_k».proof.Proof.Gen.Pre_all_finite
public import proofs.«01_k».proof.Defs

@[expose] public section

set_option maxRecDepth 16384
set_option maxHeartbeats 1000000

noncomputable section

namespace Cert.KernelDwInIdeal.Value

open Idealize.ShloMosaic Idealize.SL.Sem Cert.KernelDwInIdeal Cert.KernelDwInIdeal.Gen
open Idealize.ShloMosaic.StableHlo

variable (m : (ℓ : Loc nD τ sig) → Buf (Elt Ideal) ℓ)

/-- The normalised activations, as the host computes them. -/
def Hn (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))

theorem a_host (c : Dev nD) : V m c main_v0 = m ((c.tc : Thread nD τ).loc main_arg3) := by
  unfold V
  after_reads_simp
  rfl

theorem b_host (c : Dev nD) : V m c main_v14 = Hn (m ((c.tc : Thread nD τ).loc main_arg0)) (m ((c.tc : Thread nD τ).loc main_arg1)) := by
  unfold V
  after_reads_simp
  rfl

end Cert.KernelDwInIdeal.Value

namespace Cert.DwIn

section
open Idealize.ShloMosaic Idealize.SL.Sem Cert.ReferenceDwInIdeal Cert.ReferenceDwInIdeal.Gen Cert.ReferenceDwInIdeal.Value

/-- The reference's gradient is the sum over all rows. -/
theorem ref_at (A : FVec Ideal S8192x7168 .f32) (B : FVec Ideal S8192x1024 .f32) :
    (truncf .bf16 (transpose S7168x1024 [1, 0] (transpose S1024x7168 [1, 0] (Host.dotGeneral dot_S8192x7168_S8192x1024_S7168x1024_0_0_1_1_n_n none A B) transposes_S7168x1024_S1024x7168_1_0) transposes_S1024x7168_S7168x1024_1_0) bitsLt_bf16_f32 : FVec Ideal S7168x1024 .bf16)
      = Cert.KernelDwInIdeal.Value.dwAll A B := by
  funext i
  idx_vars i
  unfold Cert.KernelDwInIdeal.Value.dwAll
  pointwise

/-- The reference has no semaphores, so their counters are zero throughout. -/
theorem frame_reference : Cert.quiescent_ReferenceDwInIdeal := fun m ρ _ =>
  (θ_run defs _ _).mono (fun r h => ⟨fun c => (h c).2, sem_eq_zero_of_no_sems rfl r.2⟩) (run m ρ)
end

section
open Idealize.ShloMosaic Idealize.SL.Sem

/-- At bit vectors the kernel and its idealized form run the same body. -/
theorem kernels_eq : @KernelDwIn.defs₀ Bits _ _ = @KernelDwInIdeal.defs₀ Bits _ _ := by
  unfold KernelDwIn.defs₀ KernelDwInIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : @KernelDwIn.defs Bits _ _ = @KernelDwInIdeal.defs Bits _ _ := congrArg (Pipeline.defs (KernelDwInIdeal.pcfgs (F := Bits))) kernels_eq

theorem main_eq : @KernelDwIn.main Bits _ _ = @KernelDwInIdeal.main Bits _ _ := rfl

theorem frame_kernel : Cert.quiescent_KernelDwIn := fun m ρ _ => by
  have h := KernelDwInIdeal.Gen.frame (F := Bits) m ρ
  rw [← defs_eq, ← main_eq] at h
  exact h

theorem frame_ideal : Cert.quiescent_KernelDwInIdeal := fun m ρ _ => KernelDwInIdeal.Gen.frame (F := Ideal) m ρ

theorem agree : Cert.algebraic_KernelDwInIdeal_ReferenceDwInIdeal := by
  intro m g m' g' _ hargs
  refine ⟨fun c => Cert.KernelDwInIdeal.Value.dwAll (m (c.tc.loc Cert.KernelDwInIdeal.main_arg3)) (Cert.KernelDwInIdeal.Value.Hn (m (c.tc.loc Cert.KernelDwInIdeal.main_arg0)) (m (c.tc.loc Cert.KernelDwInIdeal.main_arg1))), ?_, ?_⟩
  · refine (θ_run Cert.KernelDwInIdeal.defs _ _).mono (fun r h c => ?_) (Cert.KernelDwInIdeal.Value.run_blocks m g)
    obtain ⟨h0, kept⟩ := h c
    refine ⟨h0.trans ?_, kept⟩
    rw [Cert.KernelDwInIdeal.Value.arr m c, Cert.KernelDwInIdeal.Value.a_host m c, Cert.KernelDwInIdeal.Value.b_host m c]
  · refine (θ_run Cert.ReferenceDwInIdeal.defs _ _).mono (fun r h c => ?_) (Cert.ReferenceDwInIdeal.Value.run m' g')
    obtain ⟨h0, kept⟩ := h c
    obtain ⟨e0, e1, e2, e3⟩ := hargs c
    refine ⟨h0.trans ?_, kept⟩
    rw [e0, e1, e3]
    exact ref_at _ _
end

end Cert.DwIn
-- ==== Proof.Dw.DwFfn.lean ====
/- The weight gradient of the gate (or up) projection: the sum over the blocks of rows is the sum over all rows. -/
module

public import proofs.«01_k».proof.Proof.Gen.KernelDwFfnIdeal
public import proofs.«01_k».proof.Proof.Gen.KernelDwFfnIdeal.Value
public import Idealize.ShloMosaic.Lib.Pointwise
public import Idealize.ShloMosaic.Lib.Pipeline.ValueKit

@[expose] public section

set_option maxRecDepth 16384

noncomputable section

namespace Cert.KernelDwFfnIdeal.Value

open Idealize.ShloMosaic Idealize.SL.Sem Cert.KernelDwFfnIdeal Cert.KernelDwFfnIdeal.Gen
open scoped BigOperators

/-- The weight's gradient: over all rows, the incoming gradient times the layer's input. -/
def dwAll (A : S8192x2816.Idx → EReal) (B : S8192x1024.Idx → EReal) (i : S2816x1024.Idx) : EReal :=
  ∑ k : Fin 8192, A (ix2 k (i 0)) * B (ix2 k (i 1))

/-- One block of rows' part in it. -/
def dwPart (A : S1024x2816.Idx → EReal) (B : S1024x1024.Idx → EReal) (i : S2816x1024.Idx) : EReal :=
  ∑ k : Fin 1024, A (ix2 k (i 0)) * B (ix2 k (i 1))

theorem add_at (acc : FVec Ideal S2816x1024 .f32) (A : FVec Ideal S1024x2816 .bf16) (B : FVec Ideal S1024x1024 .bf16) (j : S2816x1024.Idx) :
    k0_pay2 (F := Ideal) acc A B j = acc j + dwPart A B j := by
  idx_vars j
  pointwise [k0_pay2, dwPart]

theorem zero_at (j : S2816x1024.Idx) : k0_pay1 (F := Ideal) j = (0 : EReal) := by
  idx_vars j
  pointwise [k0_pay1]

theorem out_at (acc : FVec Ideal S2816x1024 .f32) (j : S2816x1024.Idx) : k0_pay3 (F := Ideal) acc j = acc j := rfl

variable (m : (ℓ : Loc nD τ sig) → Buf (Elt Ideal) ℓ)

theorem idx_at (t : Fin cfg0.N) : win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0]) t

theorem acc_first (c : Dev nD) (t : Fin cfg0.N) (h : t.val % 8 = 0) (j : S2816x1024.Idx) :
    (outsAt0 m c t.val t.isLt).2 j = 0 + dwPart (iblk m c 0 t) (iblk m c 1 t) j := by
  rw [outsAt0_A m c t h (by omega)]
  frame_out
  rw [add_at, zero_at]

theorem acc_next (c : Dev nD) (t : Fin cfg0.N) (h : ¬t.val % 8 = 0) (j : S2816x1024.Idx) :
    (outsAt0 m c t.val t.isLt).2 j = (outsAt0 m c (t.val - 1) (Nat.lt_of_le_of_lt (Nat.sub_le _ _) t.isLt)).2 j + dwPart (iblk m c 0 t) (iblk m c 1 t) j := by
  by_cases h1 : t.val % 8 = 7
  · rw [outsAt0_C m c t h h1]
    frame_out
    rw [add_at]
    exact congrArg (· + _) (congrFun ((Memref.isWhole_whole cc0_scratch0).read_unread _) j)
  · rw [outsAt0_B m c t h h1]
    frame_out
    rw [add_at]
    exact congrArg (· + _) (congrFun ((Memref.isWhole_whole cc0_scratch0).read_unread _) j)

/-- At a run's last point the block written back is the accumulator. -/
theorem out_last (c : Dev nD) (t : Fin cfg0.N) (h : t.val % 8 = 7) (j : S2816x1024.Idx) :
    (outsAt0 m c t.val t.isLt).1 j = (outsAt0 m c t.val t.isLt).2 j := by
  rw [outsAt0_C m c t (by omega) h]
  frame_out
  rw [out_at]

theorem blk0_at (c : Dev nD) (s : Fin cfg0.N) (r : Fin 1024) (k : Fin 2816) (h : s.val % 8 * 1024 + r.val < 8192) (h' : s.val / 8 * 2816 + k.val < 2816) :
    iblk m c 0 s (ix2 r k) = V m c main_v0 (ix2 ⟨s.val % 8 * 1024 + r.val, h⟩ ⟨s.val / 8 * 2816 + k.val, h'⟩) := by
  obtain ⟨e0, e1, e2⟩ := idx_at s
  blk_ext [iblk, e0]

theorem blk1_at (c : Dev nD) (s : Fin cfg0.N) (r : Fin 1024) (k : Fin 1024) (h : s.val % 8 * 1024 + r.val < 8192) :
    iblk m c 1 s (ix2 r k) = V m c main_v14 (ix2 ⟨s.val % 8 * 1024 + r.val, h⟩ k) := by
  obtain ⟨e0, e1, e2⟩ := idx_at s
  blk_ext [iblk, e1]

theorem blk_at (c : Dev nD) (t s : Fin cfg0.N) (y : S2816x1024.Idx) (i : S2816x1024.Idx) (r : Fin 1024) (q : Fin 8192) (hs : s.val / 8 = t.val / 8)
    (hq : q.val = s.val % 8 * 1024 + r.val) (h0 : (i 0).val = t.val / 8 * 2816 + (y 0).val) (h1 : (i 1).val = (y 1).val) :
    iblk m c 0 s (ix2 r (y 0)) = V m c main_v0 (ix2 q (i 0)) ∧ iblk m c 1 s (ix2 r (y 1)) = V m c main_v14 (ix2 q (i 1)) := by
  have hr : s.val % 8 * 1024 + r.val < 8192 := hq ▸ q.isLt
  have hi : s.val / 8 * 2816 + (y 0).val < 2816 := by rw [hs]; exact h0 ▸ (i 0).isLt
  have eq : q = ⟨s.val % 8 * 1024 + r.val, hr⟩ := Fin.ext hq
  have ei : i 0 = (⟨s.val / 8 * 2816 + (y 0).val, hi⟩ : Fin 2816) := Fin.ext (by rw [h0]; show _ = s.val / 8 * 2816 + (y 0).val; rw [hs])
  have ey : i 1 = (y 1 : Fin 1024) := Fin.ext h1
  rw [eq, ei, ey]
  exact ⟨blk0_at m c s r (y 0) hr hi, blk1_at m c s r (y 1) hr⟩

theorem dw_point (c : Dev nD) (t : Fin cfg0.N) (ht : t.val % 8 = 7) (y : S2816x1024.Idx) (i : S2816x1024.Idx)
    (h0 : (i 0).val = t.val / 8 * 2816 + (y 0).val) (h1 : (i 1).val = (y 1).val) :
    (outsAt0 m c t.val t.isLt).1 y = dwAll (V m c main_v0) (V m c main_v14) i := by
  rw [out_last m c t ht]
  rw [Pipeline.eq_sum_fin_of_reset_step_apply_of_flush (fun n h => (outsAt0 m c n h).2) 8 (fun _ => (0 : EReal)) (fun p => dwPart (iblk m c 0 p) (iblk m c 1 p))
    (fun t h j => acc_first m c t h j) (fun t h j => acc_next m c t h j) t ht y, zero_add]
  unfold dwPart dwAll
  refine Fin.sum_mul_add_congr fun s k hl => ?_
  refine (fun h => congrArg₂ (fun a b : EReal => a * b) h.1 h.2) (blk_at m c t _ y i k ⟨s.val * 1024 + k.val, hl⟩ ?_ ?_ h0 h1)
  · show (8 * (t.val / 8) + s.val) / 8 = _
    have := s.isLt; omega
  · show s.val * 1024 + k.val = (8 * (t.val / 8) + s.val) % 8 * 1024 + k.val
    have := s.isLt
    rw [show (8 * (t.val / 8) + s.val) % 8 = s.val by omega]

/-- The array after the run. -/
theorem arr (c : Dev nD) : (dats m 0 c).arrAt 2 cfg0.N = dwAll (V m c main_v0) (V m c main_v14) := by
  refine (dats m 0 c).arrAt_eq_of_covers 2 _ (by decide +kernel) fun t hf y => ?_
  obtain ⟨e0, e1, e2⟩ := idx_at t
  blk_simp
  rw [after0_2]
  refine dw_point m c t ((flush0_2 t).mp hf) y _ ?_ ?_
  · blk_simp [e2]
  · blk_simp [e2]

end Cert.KernelDwFfnIdeal.Value
-- ==== Proof.Dw.FfnAgree.lean ====
/- The weight gradient of the gate and up weights: host arrays, the reference's value, and the claims about both programs. -/
module

public import proofs.«01_k».proof.Proof.Dw.DwFfn
public import proofs.«01_k».proof.Proof.Gen.KernelDwFfn
public import proofs.«01_k».proof.Proof.Gen.KernelDwFfnIdeal.Frame
public import proofs.«01_k».proof.Proof.Gen.ReferenceDwFfnIdeal
public import proofs.«01_k».proof.Proof.Gen.ReferenceDwFfnIdeal.Run
public import Idealize.ShloMosaic.Lib.StableHlo.ReadAt
public import Idealize.ShloMosaic.Lib.Quiescent
public import proofs.«01_k».proof.Proof.Gen.Kernel
public import proofs.«01_k».proof.Proof.Gen.KernelIdeal
public import proofs.«01_k».proof.Proof.Gen.ReferenceIdeal
public import proofs.«01_k».proof.Proof.Gen.Pre_all_finite
public import proofs.«01_k».proof.Defs

@[expose] public section

set_option maxRecDepth 16384
set_option maxHeartbeats 1000000

noncomputable section

namespace Cert.KernelDwFfnIdeal.Value

open Idealize.ShloMosaic Idealize.SL.Sem Cert.KernelDwFfnIdeal Cert.KernelDwFfnIdeal.Gen
open Idealize.ShloMosaic.StableHlo

variable (m : (ℓ : Loc nD τ sig) → Buf (Elt Ideal) ℓ)

/-- The normalised activations, as the host computes them. -/
def Hn (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))

theorem a_host (c : Dev nD) : V m c main_v0 = m ((c.tc : Thread nD τ).loc main_arg3) := by
  unfold V
  after_reads_simp
  rfl

theorem b_host (c : Dev nD) : V m c main_v14 = Hn (m ((c.tc : Thread nD τ).loc main_arg0)) (m ((c.tc : Thread nD τ).loc main_arg1)) := by
  unfold V
  after_reads_simp
  rfl

end Cert.KernelDwFfnIdeal.Value

namespace Cert.DwFfn

section
open Idealize.ShloMosaic Idealize.SL.Sem Cert.ReferenceDwFfnIdeal Cert.ReferenceDwFfnIdeal.Gen Cert.ReferenceDwFfnIdeal.Value

/-- The reference's gradient is the sum over all rows. -/
theorem ref_at (A : FVec Ideal S8192x2816 .f32) (B : FVec Ideal S8192x1024 .f32) :
    (truncf .bf16 (transpose S2816x1024 [1, 0] (transpose S1024x2816 [1, 0] (Host.dotGeneral dot_S8192x2816_S8192x1024_S2816x1024_0_0_1_1_n_n none A B) transposes_S2816x1024_S1024x2816_1_0) transposes_S1024x2816_S2816x1024_1_0) bitsLt_bf16_f32 : FVec Ideal S2816x1024 .bf16)
      = Cert.KernelDwFfnIdeal.Value.dwAll A B := by
  funext i
  idx_vars i
  unfold Cert.KernelDwFfnIdeal.Value.dwAll
  pointwise

/-- The reference has no semaphores, so their counters are zero throughout. -/
theorem frame_reference : Cert.quiescent_ReferenceDwFfnIdeal := fun m ρ _ =>
  (θ_run defs _ _).mono (fun r h => ⟨fun c => (h c).2, sem_eq_zero_of_no_sems rfl r.2⟩) (run m ρ)
end

section
open Idealize.ShloMosaic Idealize.SL.Sem

/-- At bit vectors the kernel and its idealized form run the same body. -/
theorem kernels_eq : @KernelDwFfn.defs₀ Bits _ _ = @KernelDwFfnIdeal.defs₀ Bits _ _ := by
  unfold KernelDwFfn.defs₀ KernelDwFfnIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : @KernelDwFfn.defs Bits _ _ = @KernelDwFfnIdeal.defs Bits _ _ := congrArg (Pipeline.defs (KernelDwFfnIdeal.pcfgs (F := Bits))) kernels_eq

theorem main_eq : @KernelDwFfn.main Bits _ _ = @KernelDwFfnIdeal.main Bits _ _ := rfl

theorem frame_kernel : Cert.quiescent_KernelDwFfn := fun m ρ _ => by
  have h := KernelDwFfnIdeal.Gen.frame (F := Bits) m ρ
  rw [← defs_eq, ← main_eq] at h
  exact h

theorem frame_ideal : Cert.quiescent_KernelDwFfnIdeal := fun m ρ _ => KernelDwFfnIdeal.Gen.frame (F := Ideal) m ρ

theorem agree : Cert.algebraic_KernelDwFfnIdeal_ReferenceDwFfnIdeal := by
  intro m g m' g' _ hargs
  refine ⟨fun c => Cert.KernelDwFfnIdeal.Value.dwAll (m (c.tc.loc Cert.KernelDwFfnIdeal.main_arg3)) (Cert.KernelDwFfnIdeal.Value.Hn (m (c.tc.loc Cert.KernelDwFfnIdeal.main_arg0)) (m (c.tc.loc Cert.KernelDwFfnIdeal.main_arg1))), ?_, ?_⟩
  · refine (θ_run Cert.KernelDwFfnIdeal.defs _ _).mono (fun r h c => ?_) (Cert.KernelDwFfnIdeal.Value.run_blocks m g)
    obtain ⟨h0, kept⟩ := h c
    refine ⟨h0.trans ?_, kept⟩
    rw [Cert.KernelDwFfnIdeal.Value.arr m c, Cert.KernelDwFfnIdeal.Value.a_host m c, Cert.KernelDwFfnIdeal.Value.b_host m c]
  · refine (θ_run Cert.ReferenceDwFfnIdeal.defs _ _).mono (fun r h c => ?_) (Cert.ReferenceDwFfnIdeal.Value.run m' g')
    obtain ⟨h0, kept⟩ := h c
    obtain ⟨e0, e1, e2, e3⟩ := hargs c
    refine ⟨h0.trans ?_, kept⟩
    rw [e0, e1, e3]
    exact ref_at _ _
end

end Cert.DwFfn
-- ==== Proof.Inp.RunA.lean ====
/- GENERATED, UNTRUSTED: the whole-body RUN of `proofs.«01_k».proof.KernelInProjIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.KernelInProjIdeal.Frame.Runs

@[expose] public section

-- membership in a rectangle of production extents (`View.cover_of_tiled`): the elaborator's structural look
-- recurses once per coordinate of the long axes
set_option maxRecDepth 16384

noncomputable section

namespace Cert.KernelInProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The gathered weights held whole are what remains after twenty read shares together with the shares: one for each
    semaphore, by its number, so that each of the copies out of the array reads through its own share. -/
theorem read_shares (c : Dev nD) (f : HbBuf0 (F := F) c hbM0_0) :
    (hbPt0 c hbM0_0 f : sProp 𝕄) ⊣⊢ iprop((hbM0_0.view.loc (c : Thread nD τ) ↦{Transfers.shareDrop fullShare 20} f) ∗
      (hbM0_0.view.loc (c : Thread nD τ) ↦{Transfers.shareTokN fullShare 0} f) ∗
      (hbM0_0.view.loc (c : Thread nD τ) ↦{Transfers.shareTokN fullShare 1} f) ∗
      (hbM0_0.view.loc (c : Thread nD τ) ↦{Transfers.shareTokN fullShare 2} f) ∗
      (hbM0_0.view.loc (c : Thread nD τ) ↦{Transfers.shareTokN fullShare 3} f) ∗
      (hbM0_0.view.loc (c : Thread nD τ) ↦{Transfers.shareTokN fullShare 4} f) ∗
      (hbM0_0.view.loc (c : Thread nD τ) ↦{Transfers.shareTokN fullShare 5} f) ∗
      (hbM0_0.view.loc (c : Thread nD τ) ↦{Transfers.shareTokN fullShare 6} f) ∗
      (hbM0_0.view.loc (c : Thread nD τ) ↦{Transfers.shareTokN fullShare 7} f) ∗
      (hbM0_0.view.loc (c : Thread nD τ) ↦{Transfers.shareTokN fullShare 8} f) ∗
      (hbM0_0.view.loc (c : Thread nD τ) ↦{Transfers.shareTokN fullShare 9} f) ∗
      (hbM0_0.view.loc (c : Thread nD τ) ↦{Transfers.shareTokN fullShare 10} f) ∗
      (hbM0_0.view.loc (c : Thread nD τ) ↦{Transfers.shareTokN fullShare 11} f) ∗
      (hbM0_0.view.loc (c : Thread nD τ) ↦{Transfers.shareTokN fullShare 12} f) ∗
      (hbM0_0.view.loc (c : Thread nD τ) ↦{Transfers.shareTokN fullShare 13} f) ∗
      (hbM0_0.view.loc (c : Thread nD τ) ↦{Transfers.shareTokN fullShare 14} f) ∗
      (hbM0_0.view.loc (c : Thread nD τ) ↦{Transfers.shareTokN fullShare 15} f) ∗
      (hbM0_0.view.loc (c : Thread nD τ) ↦{Transfers.shareTokN fullShare 16} f) ∗
      (hbM0_0.view.loc (c : Thread nD τ) ↦{Transfers.shareTokN fullShare 17} f) ∗
      (hbM0_0.view.loc (c : Thread nD τ) ↦{Transfers.shareTokN fullShare 18} f) ∗
      (hbM0_0.view.loc (c : Thread nD τ) ↦{Transfers.shareTokN fullShare 19} f)) := by
  have h := Transfers.pointsTo_toks_range (nD := nD) (τ := τ) (sig := sig) (Ix := Unit) (Val := Elt F) (Name := ℕ) (U := Pipeline.UD sig nD τ) (Lvl := ℕ)
    (ℓ := hbM0_0.view.loc (c : Thread nD τ)) (S := Finset.univ) (f := f) fullShare 20
  rw [BI.bigSep_eq_bigSepL_of_eq [0, 1, 2, 3, 4, 5, 6, 7, 8, 9, 10, 11, 12, 13, 14, 15, 16, 17, 18, 19] (by decide) (by decide)] at h
  exact h

-- (the run's proof term is large: the definition's epilogue — `abstractNestedProofs` — walks it past the default budget)
set_option maxHeartbeats 4000000 in
-- each copy into the weights takes its own rows only
set_option sl_exec.dmaWindow true in
set_option sl_exec.dmaWindowSet true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : cond0_0 i)
    (x0 : Vec F S512x7168 .bf16) (x1 : Vec F S512x1024 .f32) (x2 : Vec F S512x1024 .f32) (x3 : Vec F S1x1024 .f32) (fh0 : HbBuf0 (F := F) c hbM0_0) :
    Σ' (L4 : List (View.Piece (Elt F) S512x1024 .f32)), Σ' (L5 : List (View.Piece (Elt F) S8x1024 .f32)), { LS0 : List (View.Piece (Elt F) S7168x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0_in_proj_bwd i arg1 harg1 arg2 harg2 arg3 harg3 arg4 harg4 (Memref.whole main_v2) (Memref.isWhole_whole _) arg6 harg6 arg7 harg7 arg8 harg8 cc0_scratch1) K } := by
  refine ⟨?_, ?_, ?_, fun W K => ?run⟩
  case run =>
    simp only [cc0_in_proj_bwd_eq_skeleton]; unfold cc0_in_proj_bwd_skel
    simp only [k0_part4_eq_skeleton, k0_part1_eq_skeleton, k0_part2_eq_skeleton, k0_part3_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3
    ihave Hh0 := (read_shares c fh0).1 $$ Hh0
    icases Hh0 with ⟨Hd, Ht0, Ht1, Ht2, Ht3, Ht4, Ht5, Ht6, Ht7, Ht8, Ht9, Ht10, Ht11, Ht12, Ht13, Ht14, Ht15, Ht16, Ht17, Ht18, Ht19⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hd Ht0 Ht1 Ht2 Ht3 Ht4 Ht5 Ht6 Ht7 Ht8 Ht9 Ht10 Ht11 Ht12 Ht13 Ht14 Ht15 Ht16 Ht17 Ht18 Ht19]
    · iapply (read_shares c fh0).2
      isplitl [Hd]; · iexact Hd
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      iexact Ht19
    iexists _; iexact HW

end Cert.KernelInProjIdeal.Gen

end
-- ==== Proof.Inp.RunB.lean ====
/- GENERATED, UNTRUSTED: the whole-body RUN of `proofs.«01_k».proof.KernelInProjIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Inp.RunA

@[expose] public section

-- membership in a rectangle of production extents (`View.cover_of_tiled`): the elaborator's structural look
-- recurses once per coordinate of the long axes
set_option maxRecDepth 16384

noncomputable section

namespace Cert.KernelInProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (5) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : ¬cond0_0 i)
    (x0 : Vec F S512x7168 .bf16) (x1 : Vec F S512x1024 .f32) (x2 : Vec F S512x1024 .f32) (x3 : Vec F S1x1024 .f32) (xo5 : Vec F S8x1024 .f32) (xs0 : Vec F S7168x1024 .bf16) (fh0 : HbBuf0 (F := F) c hbM0_0) :
    Σ' (L4 : List (View.Piece (Elt F) S512x1024 .f32)), Σ' (L5 : List (View.Piece (Elt F) S8x1024 .f32)), { LS0 : List (View.Piece (Elt F) S7168x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare xo5 ∗ owns (c : Thread nD τ) arg8 fullShare xs0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread xo5) L5) ∗ owns (c : Thread nD τ) arg8 fullShare xs0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0_in_proj_bwd i arg1 harg1 arg2 harg2 arg3 harg3 arg4 harg4 (Memref.whole main_v2) (Memref.isWhole_whole _) arg6 harg6 arg7 harg7 arg8 harg8 cc0_scratch1) K } := by
  refine ⟨?_, ?_, [], fun W K => ?run⟩
  case run =>
    simp only [cc0_in_proj_bwd_eq_skeleton]; unfold cc0_in_proj_bwd_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg7.eq_unread hf5; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    isplitl [HS0]
    · iexists _; isplitr; · ipureintro; exact harg8.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.KernelInProjIdeal.Gen

end
-- ==== Proof.Inp.Frame.lean ====
/- GENERATED, UNTRUSTED: the FRAME CERTIFICATE of `proofs.«01_k».proof.KernelInProjIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs,
   a scratch accumulator CARRIED between points (stored whole at the grid's first point, its contents after each point stated), `scf.if`s on the coordinates, an operand left in HBM copied into scratch by the body's own DMA within the point —
   framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame_dma`) and `Gen.frame` — the frame claim at any `F`: Proof.lean is
   `theorem Cert.Proof.claim : Cert.Claim := ⟨Gen.facts, fun m ρ _ => Gen.frame m ρ⟩`.
   CLASS R (2 cases of its conditionals, 1 scratch operand, 1 operand staged by the body's own DMA, scratch `arg8` carried between points, outputs [5] live (their block's contents carried over from the point before)): the certificate is whole here — not class A: the kernel takes operands the pipeline does not stage (scratch, semaphores, tables, arrays left in HBM). DO NOT EDIT. -/
module

public import proofs.«01_k».proof.Proof.Inp.RunB
public import Idealize.ShloMosaic.Lib.Claim

@[expose] public section

-- membership in a rectangle of production extents (`View.cover_of_tiled`): the elaborator's structural look
-- recurses once per coordinate of the long axes
set_option maxRecDepth 16384

noncomputable section

namespace Cert.KernelInProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 4 tile its block (1 store of `S512x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : cond0_0 i)
    (x0 : Vec F S512x7168 .bf16) (x1 : Vec F S512x1024 .f32) (x2 : Vec F S512x1024 .f32) (x3 : Vec F S1x1024 .f32) (fh0 : HbBuf0 (F := F) c hbM0_0) (y : S512x1024.Idx) :
    ∃ pc ∈ (kernelRun0_A c i arg1 harg1 arg2 harg2 arg3 harg3 arg4 harg4 arg6 harg6 arg7 harg7 arg8 harg8 hc0 x0 x1 x2 x3 fh0).1, y ∈ pc.1.set :=
  View.cover_of_tiledL (kernelRun0_A c i arg1 harg1 arg2 harg2 arg3 harg3 arg4 harg4 arg6 harg6 arg7 harg7 arg8 harg8 hc0 x0 x1 x2 x3 fh0).1 S512x1024.size (by sl_kernel_rfl) y

/-- What case A leaves in output 4's staging buffer: its pieces read back over junk. -/
def out0_A_4 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : cond0_0 i)
    (x0 : Vec F S512x7168 .bf16) (x1 : Vec F S512x1024 .f32) (x2 : Vec F S512x1024 .f32) (x3 : Vec F S1x1024 .f32) (fh0 : HbBuf0 (F := F) c hbM0_0) : Vec F S512x1024 .f32 :=
  VO0_4.read (Elt F) (VO0_4.writes (Elt F) VO0_4.junk (kernelRun0_A c i arg1 harg1 arg2 harg2 arg3 harg3 arg4 harg4 arg6 harg6 arg7 harg7 arg8 harg8 hc0 x0 x1 x2 x3 fh0).1)

/-- Case A's pieces for output 5 are of SEVERAL sizes (2 stores of `S1x1024`, `S8x1024`): cut into blocks of `![1, 1024]` they tile its block (checked by the kernel's evaluation: Lib/Ring.lean `Piece.tiledBy`), so they cover it. -/
theorem cover0_A_5 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : cond0_0 i)
    (x0 : Vec F S512x7168 .bf16) (x1 : Vec F S512x1024 .f32) (x2 : Vec F S512x1024 .f32) (x3 : Vec F S1x1024 .f32) (fh0 : HbBuf0 (F := F) c hbM0_0) (y : S8x1024.Idx) :
    ∃ pc ∈ (kernelRun0_A c i arg1 harg1 arg2 harg2 arg3 harg3 arg4 harg4 arg6 harg6 arg7 harg7 arg8 harg8 hc0 x0 x1 x2 x3 fh0).2.1, y ∈ pc.1.set :=
  View.cover_of_tiledBy (kernelRun0_A c i arg1 harg1 arg2 harg2 arg3 harg3 arg4 harg4 arg6 harg6 arg7 harg7 arg8 harg8 hc0 x0 x1 x2 x3 fh0).2.1 ![1, 1024] (by sl_kernel_rfl) y

/-- What case A leaves in output 5's staging buffer: its pieces read back over junk. -/
def out0_A_5 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : cond0_0 i)
    (x0 : Vec F S512x7168 .bf16) (x1 : Vec F S512x1024 .f32) (x2 : Vec F S512x1024 .f32) (x3 : Vec F S1x1024 .f32) (fh0 : HbBuf0 (F := F) c hbM0_0) : Vec F S8x1024 .f32 :=
  VO0_5.read (Elt F) (VO0_5.writes (Elt F) VO0_5.junk (kernelRun0_A c i arg1 harg1 arg2 harg2 arg3 harg3 arg4 harg4 arg6 harg6 arg7 harg7 arg8 harg8 hc0 x0 x1 x2 x3 fh0).2.1)

/-- Case A's pieces for scratch `arg8`, which the kernel carries between points, cover it: 8 pieces of `S896x1024` tiling it (Lib/Ring.lean `Piece.tiledL`). -/
theorem scover0_A_0 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : cond0_0 i)
    (x0 : Vec F S512x7168 .bf16) (x1 : Vec F S512x1024 .f32) (x2 : Vec F S512x1024 .f32) (x3 : Vec F S1x1024 .f32) (fh0 : HbBuf0 (F := F) c hbM0_0) (y : S7168x1024.Idx) :
    ∃ pc ∈ (kernelRun0_A c i arg1 harg1 arg2 harg2 arg3 harg3 arg4 harg4 arg6 harg6 arg7 harg7 arg8 harg8 hc0 x0 x1 x2 x3 fh0).2.2.1, y ∈ pc.1.set :=
  View.cover_of_tiledL (kernelRun0_A c i arg1 harg1 arg2 harg2 arg3 harg3 arg4 harg4 arg6 harg6 arg7 harg7 arg8 harg8 hc0 x0 x1 x2 x3 fh0).2.2.1 S896x1024.size (by sl_kernel_rfl) y

/-- What case A leaves in scratch `arg8`: its pieces read back over junk. -/
def sout0_A_0 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : cond0_0 i)
    (x0 : Vec F S512x7168 .bf16) (x1 : Vec F S512x1024 .f32) (x2 : Vec F S512x1024 .f32) (x3 : Vec F S1x1024 .f32) (fh0 : HbBuf0 (F := F) c hbM0_0) : Vec F S7168x1024 .bf16 :=
  VS0_0.read (Elt F) (VS0_0.writes (Elt F) VS0_0.junk (kernelRun0_A c i arg1 harg1 arg2 harg2 arg3 harg3 arg4 harg4 arg6 harg6 arg7 harg7 arg8 harg8 hc0 x0 x1 x2 x3 fh0).2.2.1)

/-- Case B's pieces for output 4 tile its block (1 store of `S512x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : ¬cond0_0 i)
    (x0 : Vec F S512x7168 .bf16) (x1 : Vec F S512x1024 .f32) (x2 : Vec F S512x1024 .f32) (x3 : Vec F S1x1024 .f32) (xo5 : Vec F S8x1024 .f32) (xs0 : Vec F S7168x1024 .bf16) (fh0 : HbBuf0 (F := F) c hbM0_0) (y : S512x1024.Idx) :
    ∃ pc ∈ (kernelRun0_B c i arg1 harg1 arg2 harg2 arg3 harg3 arg4 harg4 arg6 harg6 arg7 harg7 arg8 harg8 hc0 x0 x1 x2 x3 xo5 xs0 fh0).1, y ∈ pc.1.set :=
  View.cover_of_tiledL (kernelRun0_B c i arg1 harg1 arg2 harg2 arg3 harg3 arg4 harg4 arg6 harg6 arg7 harg7 arg8 harg8 hc0 x0 x1 x2 x3 xo5 xs0 fh0).1 S512x1024.size (by sl_kernel_rfl) y

/-- What case B leaves in output 4's staging buffer: its pieces read back over junk. -/
def out0_B_4 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : ¬cond0_0 i)
    (x0 : Vec F S512x7168 .bf16) (x1 : Vec F S512x1024 .f32) (x2 : Vec F S512x1024 .f32) (x3 : Vec F S1x1024 .f32) (xo5 : Vec F S8x1024 .f32) (xs0 : Vec F S7168x1024 .bf16) (fh0 : HbBuf0 (F := F) c hbM0_0) : Vec F S512x1024 .f32 :=
  VO0_4.read (Elt F) (VO0_4.writes (Elt F) VO0_4.junk (kernelRun0_B c i arg1 harg1 arg2 harg2 arg3 harg3 arg4 harg4 arg6 harg6 arg7 harg7 arg8 harg8 hc0 x0 x1 x2 x3 xo5 xs0 fh0).1)

/-- What case B leaves in output 5's staging buffer: its stores read back over what the point before left there (they do not cover the block). -/
def out0_B_5 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : ¬cond0_0 i)
    (x0 : Vec F S512x7168 .bf16) (x1 : Vec F S512x1024 .f32) (x2 : Vec F S512x1024 .f32) (x3 : Vec F S1x1024 .f32) (xo5 : Vec F S8x1024 .f32) (xs0 : Vec F S7168x1024 .bf16) (fh0 : HbBuf0 (F := F) c hbM0_0) : Vec F S8x1024 .f32 :=
  arg7.view.read (Elt F) (arg7.view.writes (Elt F) (harg7.unread xo5) (kernelRun0_B c i arg1 harg1 arg2 harg2 arg3 harg3 arg4 harg4 arg6 harg6 arg7 harg7 arg8 harg8 hc0 x0 x1 x2 x3 xo5 xs0 fh0).2.1)

/-- Case B stores nothing into scratch `arg8`: it holds what the point before left. -/
def sout0_B_0 (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole) (hc0 : ¬cond0_0 i)
    (x0 : Vec F S512x7168 .bf16) (x1 : Vec F S512x1024 .f32) (x2 : Vec F S512x1024 .f32) (x3 : Vec F S1x1024 .f32) (xo5 : Vec F S8x1024 .f32) (xs0 : Vec F S7168x1024 .bf16) (fh0 : HbBuf0 (F := F) c hbM0_0) : Vec F S7168x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S8x1024 .f32 × Vec F S7168x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v2), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v2))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v2), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v2), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v2))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_v2), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_v2), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_v2))

/-- `outsAt0` at a point of case A: that case's contents. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v2), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v2)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v2), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v2), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v2)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_4 out0_A_5 sout0_A_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (V m c main_v2)).2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, ⟨%e4, H4⟩, ⟨%e5, H5⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_5_B m c t h0]
      unfold out0_B_4 out0_B_5 sout0_B_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _ _ (V m c main_v2)).2.2.2 W _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, ⟨%e4, H4⟩, H5, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _)
      unfold owns; iexists _; isplitr
      swap; · iexact H5
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelInProjIdeal`'s statement (Defs.lean) at any `F` — Proof.lean cites it at `Bits`:
    `theorem Cert.Proof.claim : Cert.Claim := ⟨Cert.KernelInProjIdeal.Gen.facts, fun m ρ _ => Cert.KernelInProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelInProjIdeal.Gen

end
-- ==== Proof.Inp.Value.lean ====
/- The VALUE LEG of proofs.«01_k».proof.KernelInProjIdeal's certificate (Lib/Pipeline/Value.lean) for this class-R kernel, in two forms. BLOCKWISE,
   whatever its body computes: `run_blocks` is the frame run `Gen.run_main` with each output array after the run NAMED
   (`(Gen.dats …).arrAt w N`), and per output window `w`: `flushed_w` — what grid point `t` would write back is the
   run's contents for the window (`Gen.outsAtK`) read through the block —, per case `flushed_w_κ` — at a point of that case,
   the case's NAMED TERM (`Gen.outK_κ_W`: its pieces read back; for an output the case reads back, over what the point
   before left) —, when the index map is injective (decided) `disjoint_w` / `blocks_w` — block `t` of the final array
   IS what point `t` wrote —, `entry_w` — an index no block covers keeps the region-entry
   contents. The ACCUMULATED form (`run`: each output array one function of the arguments) is NOT written for this
   kernel:
   the body has transfers of its own: the accumulated form is not written for such a kernel yet.
   The certificate's hand proof unfolds the named terms `flushed_w_κ` cites and sets `run_blocks` beside the
   reference's run. For each carried scratch reset at evenly spaced points the module closes with what a
   point leaves in it over what the point before left (`scAtK_N`) and the scratch after any point as that function's
   fold from the run's last reset (`soutsAtK_N_eq`, `Pipeline.eq_accAt_of_mod`): what a hand proof over it inducts on. -/
module

public import proofs.«01_k».proof.Proof.Inp.Frame
public import Idealize.ShloMosaic.Lib.Pipeline.Value

@[expose] public section

noncomputable section

namespace Cert.KernelInProjIdeal.Value

open Cert.KernelInProjIdeal Cert.KernelInProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 16 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v2)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 16 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v2)) := by
  simp only [flushed4, outsAt0_B m c t h0]

/-- The index map sends distinct grid points to distinct block indices (decided over the 16 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x1024.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v2)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v2)) := by
  simp only [flushed5, outsAt0_B m c t h0]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S8x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v5_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v5_1) = (dats m 0 c).arrAt 5 cfg0.N :=
  (h c).1 5

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 2 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 2).trans (((dats m 0 c).arrAt_in 2 rfl _).trans ((A_eq m c 2).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 4 cfg0.N
      ∧ r.2.mem ((c : Thread nD τ).loc main_v5_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S7168x1024 .bf16) : Vec F S7168x1024 .bf16 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (V m c main_v2)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (V m c main_v2)

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.KernelInProjIdeal.Value

end
-- ==== Proof.Inp.Pay.lean ====
/- What the input projection's backward stores for one block of rows, entry by entry. -/
module

public import proofs.«01_k».proof.Proof.Gen.KernelInProjIdeal
public import proofs.«01_k».proof.Proof.Gen.KernelInProjIdeal.Skeleton
public import Idealize.ShloMosaic.Lib.Pointwise
public import Idealize.ShloMosaic.Lib.VecWindow
public import Idealize.ShloMosaic.Lib.Pipeline.ValueKit

@[expose] public section

set_option maxRecDepth 16384

noncomputable section

namespace Cert.KernelInProjIdeal.Value

open Idealize.ShloMosaic Idealize.SL.Sem Cert.KernelInProjIdeal Cert.KernelInProjIdeal.Gen
open scoped BigOperators

/-- The gradient of the normalised rows: the incoming gradient through the weights. -/
def dhB (A : S512x7168.Idx → EReal) (W : S7168x1024.Idx → EReal) (i : S512x1024.Idx) : EReal :=
  ∑ k : Fin 7168, A (ix2 (i 0) k) * W (ix2 k (i 1))

/-- A row's reciprocal root mean square. -/
def rsB (X : S512x1024.Idx → EReal) (r : Fin 512) : EReal :=
  Ideal.rsqrt (Ideal.div (∑ n : Fin 1024, X (ix2 r n) * X (ix2 r n)) (Ideal.ofBits .f32 0x44800000#32) + Ideal.ofBits .f32 0x358637BD#32)

/-- The gradient of a block's rows, onto the gradient that comes in beside it. -/
def dxB (H X D : S512x1024.Idx → EReal) (g : S1x1024.Idx → EReal) (i : S512x1024.Idx) : EReal :=
  D i + rsB X (i 0) * (H i * g (ix2 0 (i 1)) - X i * rsB X (i 0) *
    Ideal.div (∑ n : Fin 1024, H (ix2 (i 0) n) * g (ix2 0 n) * (X (ix2 (i 0) n) * rsB X (i 0))) (Ideal.ofBits .f32 0x44800000#32))

/-- A block's part in the scale's gradient. -/
def dgB (H X : S512x1024.Idx → EReal) (n : Fin 1024) : EReal :=
  ∑ r : Fin 512, H (ix2 r n) * (X (ix2 r n) * rsB X r)

/-- Seven blocks of 1024 columns are all columns. -/
theorem sum7 (f : Fin 7168 → EReal) :
    (((((((∑ k : Fin 1024, f ⟨k.val, by omega⟩) + ∑ k : Fin 1024, f ⟨1024 + k.val, by omega⟩) + ∑ k : Fin 1024, f ⟨2048 + k.val, by omega⟩)
      + ∑ k : Fin 1024, f ⟨3072 + k.val, by omega⟩) + ∑ k : Fin 1024, f ⟨4096 + k.val, by omega⟩) + ∑ k : Fin 1024, f ⟨5120 + k.val, by omega⟩)
      + ∑ k : Fin 1024, f ⟨6144 + k.val, by omega⟩) = ∑ k : Fin 7168, f k := by
  have h : ∑ s : Fin 7, ∑ k : Fin 1024, f ⟨s.val * 1024 + k.val, by omega⟩ = ∑ k : Fin 7168, f k :=
    Fin.sum_mul_add_congr fun s k hl => rfl
  rw [← h, Fin.sum_univ_seven (fun s : Fin 7 => ∑ k : Fin 1024, f ⟨s.val * 1024 + k.val, by omega⟩)]
  refine congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) ?_ ?_) ?_) ?_) ?_) ?_) ?_
  · exact Finset.sum_congr rfl fun k _ => congrArg f (Fin.ext (by show k.val = 0 * 1024 + k.val; omega))
  all_goals exact Finset.sum_congr rfl fun k _ => congrArg f (Fin.ext rfl)

/-- The block's product with the weights, as the seven products over 1024 columns each. -/
def dhK (A : Vec Ideal S512x7168 .bf16) (W : Vec Ideal S7168x1024 .bf16) : FVec Ideal S512x1024 .f32 :=
  k0_pay5 (F := Ideal)
    (k0_pay3 (F := Ideal) (View.ld A (Rect.unit (s := S512x7168) ![0, 0] S512x1024.size inb_S512x7168_S512x1024_0_0)) (View.ld W (Rect.unit (s := S7168x1024) ![0, 0] S1024x1024.size inb_S7168x1024_S1024x1024_0_0))
      (View.ld A (Rect.unit (s := S512x7168) ![0, 1024] S512x1024.size inb_S512x7168_S512x1024_0_1024)) (View.ld W (Rect.unit (s := S7168x1024) ![1024, 0] S1024x1024.size inb_S7168x1024_S1024x1024_1024_0))
      (View.ld A (Rect.unit (s := S512x7168) ![0, 2048] S512x1024.size inb_S512x7168_S512x1024_0_2048)) (View.ld W (Rect.unit (s := S7168x1024) ![2048, 0] S1024x1024.size inb_S7168x1024_S1024x1024_2048_0))
      (View.ld A (Rect.unit (s := S512x7168) ![0, 3072] S512x1024.size inb_S512x7168_S512x1024_0_3072)) (View.ld W (Rect.unit (s := S7168x1024) ![3072, 0] S1024x1024.size inb_S7168x1024_S1024x1024_3072_0))
      (View.ld A (Rect.unit (s := S512x7168) ![0, 4096] S512x1024.size inb_S512x7168_S512x1024_0_4096)) (View.ld W (Rect.unit (s := S7168x1024) ![4096, 0] S1024x1024.size inb_S7168x1024_S1024x1024_4096_0)))
    (k0_pay4 (F := Ideal) (View.ld A (Rect.unit (s := S512x7168) ![0, 5120] S512x1024.size inb_S512x7168_S512x1024_0_5120)))
    (View.ld W (Rect.unit (s := S7168x1024) ![5120, 0] S1024x1024.size inb_S7168x1024_S1024x1024_5120_0))
    (View.ld A (Rect.unit (s := S512x7168) ![0, 6144] S512x1024.size inb_S512x7168_S512x1024_0_6144))
    (View.ld W (Rect.unit (s := S7168x1024) ![6144, 0] S1024x1024.size inb_S7168x1024_S1024x1024_6144_0))

theorem dhK_at (A : Vec Ideal S512x7168 .bf16) (W : Vec Ideal S7168x1024 .bf16) (j : S512x1024.Idx) : dhK A W j = dhB A W j := by
  unfold dhK dhB
  rw [← sum7]
  idx_vars j
  pointwise [k0_pay5, k0_pay4, k0_pay3]

section
variable (v26 : FVec Ideal S512x1024 .f32) (v28 : FVec Ideal S512x1024 .bf16) (v29 : Vec Ideal S1024x1024 .bf16) (v32 : Vec Ideal S512x1024 .bf16) (v34 : Vec Ideal S1024x1024 .bf16)

theorem dg_at (X : Vec Ideal S512x1024 .f32) (a : Vec Ideal S1x1024 .f32) (z : Fin 1) (n : Fin 1024) :
    k0_pay8 (F := Ideal) v26 v28 v29 v32 v34 X a (ix2 z n) = a (ix2 z n) + dgB (k0_pay5 (F := Ideal) v26 v28 v29 v32 v34) X n := by
  unfold k0_pay8
  generalize k0_pay5 (F := Ideal) v26 v28 v29 v32 v34 = H
  pointwise [k0_pay7, k0_pay6, rsB, dgB]

theorem dx_at (X D : Vec Ideal S512x1024 .f32) (g : Vec Ideal S1x1024 .f32) (j : S512x1024.Idx) :
    k0_pay1 (F := Ideal) (k0_pay6 X) (k0_pay7 X) (k0_pay9 v26 v28 v29 v32 v34 g) D (k0_pay10 v26 v28 v29 v32 v34 X g) k0_pay11 j
      = dxB (k0_pay5 (F := Ideal) v26 v28 v29 v32 v34) X D g j := by
  unfold k0_pay10 k0_pay9
  generalize k0_pay5 (F := Ideal) v26 v28 v29 v32 v34 = H
  idx_vars j
  pointwise [k0_pay1, k0_pay7, k0_pay6, k0_pay11, rsB, dxB]

end

theorem zero_at (j : S8x1024.Idx) : k0_pay2 (F := Ideal) j = (0 : EReal) := by
  idx_vars j
  pointwise [k0_pay2]

end Cert.KernelInProjIdeal.Value
-- ==== Proof.Inp.Load.lean ====
/- The weights the first block's copies bring into the kept buffer. -/
module

public import proofs.«01_k».proof.Proof.Inp.Value
public import proofs.«01_k».proof.Proof.Inp.Pay
public import Idealize.ShloMosaic.Lib.Pipeline.ReadBack

@[expose] public section

set_option maxRecDepth 16384

noncomputable section

namespace Cert.KernelInProjIdeal.Value

open Idealize.ShloMosaic Idealize.SL.Sem Cert.KernelInProjIdeal Cert.KernelInProjIdeal.Gen
open scoped BigOperators

/-- The eight shards of the weights, one after the other. -/
def Wi (g : Vec Ideal S8x896x1024 .bf16) (j : S7168x1024.Idx) : EReal :=
  g (ix3 ⟨(j 0).val / 896, by have := (j 0).isLt; exact Nat.div_lt_of_lt_mul this⟩ ⟨(j 0).val % 896, Nat.mod_lt _ (by norm_num)⟩ (j 1))

/-- A load out of stores that are blocks of `G` and cover the buffer reads `G`. -/
theorem readCov_of_piecesOf {sp : Space} {s : Shape} {e : EltTy} (v : View sig .tc sp s e) (G : s.Idx → Elt Ideal e) (L : List (View.Piece (Elt Ideal) s e))
    (hp : View.PiecesOf G L) (hc : ∀ y, ∃ p ∈ L, y ∈ p.1.set) (r : Rect s) : v.readCov L r.toLoadRect = View.ld G r := by
  rw [View.readCov_eq_canon']
  exact funext fun j => View.canon_apply_of_pieces G L hp.mem _ (hc _)

theorem emb_norm {s : Shape} (r : Rect s) (x : r.shape.Idx) :
    r.emb x = Shape.Idx.norm fun a => ⟨r.off a + r.stride a * (x a).val, r.coord_lt a (x a).isLt⟩ := rfl

variable (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole)
    (x0 : Vec Ideal S512x7168 .bf16) (x1 : Vec Ideal S512x1024 .f32) (x2 : Vec Ideal S512x1024 .f32) (x3 : Vec Ideal S1x1024 .f32) (fh0 : HbBuf0 (F := Ideal) c hbM0_0)

/-- The rows of the weights out of shard 0. -/
theorem dma_0 (x : S896x1024.Idx) :
    kernelRun0_A.sl.dma0 c fh0 x = Wi fh0 (ix2 ⟨0 + (x 0).val, Nat.lt_of_lt_of_le (Nat.add_lt_add_left (x 0).isLt 0) (by decide)⟩ (x 1)) := by
  simp only [kernelRun0_A.sl.dma0, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 0 + 1 * 0 = x0.val / 896
    omega
  · show 0 + 1 * x0.val = x0.val % 896
    omega
  · show 0 + 1 * x1.val = x1.val
    omega

/-- The rows of the weights out of shard 1. -/
theorem dma_1 (x : S896x1024.Idx) :
    kernelRun0_A.sl.dma0_1 c fh0 x = Wi fh0 (ix2 ⟨896 + (x 0).val, Nat.lt_of_lt_of_le (Nat.add_lt_add_left (x 0).isLt 896) (by decide)⟩ (x 1)) := by
  simp only [kernelRun0_A.sl.dma0_1, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 1 + 1 * 0 = (896 + x0.val) / 896
    omega
  · show 0 + 1 * x0.val = (896 + x0.val) % 896
    omega
  · show 0 + 1 * x1.val = x1.val
    omega

/-- The rows of the weights out of shard 2. -/
theorem dma_2 (x : S896x1024.Idx) :
    kernelRun0_A.sl.dma0_2 c fh0 x = Wi fh0 (ix2 ⟨1792 + (x 0).val, Nat.lt_of_lt_of_le (Nat.add_lt_add_left (x 0).isLt 1792) (by decide)⟩ (x 1)) := by
  simp only [kernelRun0_A.sl.dma0_2, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 2 + 1 * 0 = (1792 + x0.val) / 896
    omega
  · show 0 + 1 * x0.val = (1792 + x0.val) % 896
    omega
  · show 0 + 1 * x1.val = x1.val
    omega

/-- The rows of the weights out of shard 3. -/
theorem dma_3 (x : S896x1024.Idx) :
    kernelRun0_A.sl.dma0_3 c fh0 x = Wi fh0 (ix2 ⟨2688 + (x 0).val, Nat.lt_of_lt_of_le (Nat.add_lt_add_left (x 0).isLt 2688) (by decide)⟩ (x 1)) := by
  simp only [kernelRun0_A.sl.dma0_3, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 3 + 1 * 0 = (2688 + x0.val) / 896
    omega
  · show 0 + 1 * x0.val = (2688 + x0.val) % 896
    omega
  · show 0 + 1 * x1.val = x1.val
    omega

/-- The rows of the weights out of shard 4. -/
theorem dma_4 (x : S896x1024.Idx) :
    kernelRun0_A.sl.dma0_4 c fh0 x = Wi fh0 (ix2 ⟨3584 + (x 0).val, Nat.lt_of_lt_of_le (Nat.add_lt_add_left (x 0).isLt 3584) (by decide)⟩ (x 1)) := by
  simp only [kernelRun0_A.sl.dma0_4, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 4 + 1 * 0 = (3584 + x0.val) / 896
    omega
  · show 0 + 1 * x0.val = (3584 + x0.val) % 896
    omega
  · show 0 + 1 * x1.val = x1.val
    omega

/-- The rows of the weights out of shard 5. -/
theorem dma_5 (x : S896x1024.Idx) :
    kernelRun0_A.sl.dma0_5 c fh0 x = Wi fh0 (ix2 ⟨4480 + (x 0).val, Nat.lt_of_lt_of_le (Nat.add_lt_add_left (x 0).isLt 4480) (by decide)⟩ (x 1)) := by
  simp only [kernelRun0_A.sl.dma0_5, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 5 + 1 * 0 = (4480 + x0.val) / 896
    omega
  · show 0 + 1 * x0.val = (4480 + x0.val) % 896
    omega
  · show 0 + 1 * x1.val = x1.val
    omega

/-- The rows of the weights out of shard 6. -/
theorem dma_6 (x : S896x1024.Idx) :
    kernelRun0_A.sl.dma0_6 c fh0 x = Wi fh0 (ix2 ⟨5376 + (x 0).val, Nat.lt_of_lt_of_le (Nat.add_lt_add_left (x 0).isLt 5376) (by decide)⟩ (x 1)) := by
  simp only [kernelRun0_A.sl.dma0_6, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 6 + 1 * 0 = (5376 + x0.val) / 896
    omega
  · show 0 + 1 * x0.val = (5376 + x0.val) % 896
    omega
  · show 0 + 1 * x1.val = x1.val
    omega

/-- The rows of the weights out of shard 7. -/
theorem dma_7 (x : S896x1024.Idx) :
    kernelRun0_A.sl.dma0_7 c fh0 x = Wi fh0 (ix2 ⟨6272 + (x 0).val, Nat.lt_of_lt_of_le (Nat.add_lt_add_left (x 0).isLt 6272) (by decide)⟩ (x 1)) := by
  simp only [kernelRun0_A.sl.dma0_7, View.read_apply, cast_eq]
  simp only [View.emb, Function.Embedding.trans_apply, Equiv.coe_toEmbedding, Function.Embedding.refl_apply]
  idx_vars x
  pointwise [Wi]
  have hx := x0.isLt
  refine congrArg fh0 (funext fun a => Fin.ext ?_)
  fin_cases a
  · show 7 + 1 * 0 = (6272 + x0.val) / 896
    omega
  · show 0 + 1 * x0.val = (6272 + x0.val) % 896
    omega
  · show 0 + 1 * x1.val = x1.val
    omega

/-- What the copies store are blocks of the weights. -/
theorem pieces_s (hc0 : cond0_0 i) :
    View.PiecesOf (Wi fh0) (kernelRun0_A c i arg1 harg1 arg2 harg2 arg3 harg3 arg4 harg4 arg6 harg6 arg7 harg7 arg8 harg8 hc0 x0 x1 x2 x3 fh0).2.2.1 := by
  unfold kernelRun0_A
  dsimp only
  refine ⟨fun x => ?_, fun x => ?_, fun x => ?_, fun x => ?_, fun x => ?_, fun x => ?_, fun x => ?_, fun x => ?_, trivial⟩
  · change S896x1024.Idx at x
    refine (dma_7 c fh0 x).trans ?_
    pointwise [emb_norm]
  · change S896x1024.Idx at x
    refine (dma_6 c fh0 x).trans ?_
    pointwise [emb_norm]
  · change S896x1024.Idx at x
    refine (dma_5 c fh0 x).trans ?_
    pointwise [emb_norm]
  · change S896x1024.Idx at x
    refine (dma_4 c fh0 x).trans ?_
    pointwise [emb_norm]
  · change S896x1024.Idx at x
    refine (dma_3 c fh0 x).trans ?_
    pointwise [emb_norm]
  · change S896x1024.Idx at x
    refine (dma_2 c fh0 x).trans ?_
    pointwise [emb_norm]
  · change S896x1024.Idx at x
    refine (dma_1 c fh0 x).trans ?_
    pointwise [emb_norm]
  · change S896x1024.Idx at x
    refine (dma_0 c fh0 x).trans ?_
    pointwise [emb_norm]

theorem sout_A (hc0 : cond0_0 i) : sout0_A_0 c i arg1 harg1 arg2 harg2 arg3 harg3 arg4 harg4 arg6 harg6 arg7 harg7 arg8 harg8 hc0 x0 x1 x2 x3 fh0 = Wi fh0 := by
  unfold sout0_A_0
  rw [View.read_writes_junk_eq_canon]
  exact funext fun y => View.canon_apply_of_pieces (Wi fh0) _ (pieces_s c i arg1 harg1 arg2 harg2 arg3 harg3 arg4 harg4 arg6 harg6 arg7 harg7 arg8 harg8 x0 x1 x2 x3 fh0 hc0).mem y (scover0_A_0 c i arg1 harg1 arg2 harg2 arg3 harg3 arg4 harg4 arg6 harg6 arg7 harg7 arg8 harg8 hc0 x0 x1 x2 x3 fh0 y)

/-- What a load of the weights reads within the first block. -/
theorem load_A (hc0 : cond0_0 i) (r : Rect S7168x1024) :
    arg8.view.readCov (Val := Elt Ideal) (kernelRun0_A c i arg1 harg1 arg2 harg2 arg3 harg3 arg4 harg4 arg6 harg6 arg7 harg7 arg8 harg8 hc0 x0 x1 x2 x3 fh0).2.2.1 r.toLoadRect = View.ld (Wi fh0) r :=
  readCov_of_piecesOf _ _ _ (pieces_s c i arg1 harg1 arg2 harg2 arg3 harg3 arg4 harg4 arg6 harg6 arg7 harg7 arg8 harg8 x0 x1 x2 x3 fh0 hc0) (scover0_A_0 c i arg1 harg1 arg2 harg2 arg3 harg3 arg4 harg4 arg6 harg6 arg7 harg7 arg8 harg8 hc0 x0 x1 x2 x3 fh0) r

end Cert.KernelInProjIdeal.Value
-- ==== Proof.Inp.Body.lean ====
/- What each block of rows leaves in the two results and in the kept weights. -/
module

public import proofs.«01_k».proof.Proof.Inp.Load

@[expose] public section

set_option maxRecDepth 16384

noncomputable section

namespace Cert.KernelInProjIdeal.Value

open Idealize.ShloMosaic Idealize.SL.Sem Cert.KernelInProjIdeal Cert.KernelInProjIdeal.Gen
open scoped BigOperators

section
variable (c : Dev nD) (i : grid0.Coords) (arg1 : Memref sig .tc .vmem S512x7168 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg6 : Memref sig .tc .vmem S512x1024 .f32) (harg6 : arg6.IsWhole) (arg7 : Memref sig .tc .vmem S8x1024 .f32) (harg7 : arg7.IsWhole) (arg8 : Memref sig .tc .vmem S7168x1024 .bf16) (harg8 : arg8.IsWhole)
    (x0 : Vec Ideal S512x7168 .bf16) (x1 : Vec Ideal S512x1024 .f32) (x2 : Vec Ideal S512x1024 .f32) (x3 : Vec Ideal S1x1024 .f32) (fh0 : HbBuf0 (F := Ideal) c hbM0_0)

/-- The product as the first block forms it, out of what its copies stored. -/
theorem dhK_first (hc0 : cond0_0 i) (A : Vec Ideal S512x7168 .bf16) :
    k0_pay5 (F := Ideal) (k0_pay3 (F := Ideal) (View.ld A (Rect.unit (s := S512x7168) ![0, 0] S512x1024.size inb_S512x7168_S512x1024_0_0)) (arg8.view.readCov (Val := Elt Ideal) (kernelRun0_A c i arg1 harg1 arg2 harg2 arg3 harg3 arg4 harg4 arg6 harg6 arg7 harg7 arg8 harg8 hc0 x0 x1 x2 x3 fh0).2.2.1 (Rect.unit (s := S7168x1024) ![0, 0] S1024x1024.size inb_S7168x1024_S1024x1024_0_0).toLoadRect) (View.ld A (Rect.unit (s := S512x7168) ![0, 1024] S512x1024.size inb_S512x7168_S512x1024_0_1024)) (arg8.view.readCov (Val := Elt Ideal) (kernelRun0_A c i arg1 harg1 arg2 harg2 arg3 harg3 arg4 harg4 arg6 harg6 arg7 harg7 arg8 harg8 hc0 x0 x1 x2 x3 fh0).2.2.1 (Rect.unit (s := S7168x1024) ![1024, 0] S1024x1024.size inb_S7168x1024_S1024x1024_1024_0).toLoadRect) (View.ld A (Rect.unit (s := S512x7168) ![0, 2048] S512x1024.size inb_S512x7168_S512x1024_0_2048)) (arg8.view.readCov (Val := Elt Ideal) (kernelRun0_A c i arg1 harg1 arg2 harg2 arg3 harg3 arg4 harg4 arg6 harg6 arg7 harg7 arg8 harg8 hc0 x0 x1 x2 x3 fh0).2.2.1 (Rect.unit (s := S7168x1024) ![2048, 0] S1024x1024.size inb_S7168x1024_S1024x1024_2048_0).toLoadRect) (View.ld A (Rect.unit (s := S512x7168) ![0, 3072] S512x1024.size inb_S512x7168_S512x1024_0_3072)) (arg8.view.readCov (Val := Elt Ideal) (kernelRun0_A c i arg1 harg1 arg2 harg2 arg3 harg3 arg4 harg4 arg6 harg6 arg7 harg7 arg8 harg8 hc0 x0 x1 x2 x3 fh0).2.2.1 (Rect.unit (s := S7168x1024) ![3072, 0] S1024x1024.size inb_S7168x1024_S1024x1024_3072_0).toLoadRect) (View.ld A (Rect.unit (s := S512x7168) ![0, 4096] S512x1024.size inb_S512x7168_S512x1024_0_4096)) (arg8.view.readCov (Val := Elt Ideal) (kernelRun0_A c i arg1 harg1 arg2 harg2 arg3 harg3 arg4 harg4 arg6 harg6 arg7 harg7 arg8 harg8 hc0 x0 x1 x2 x3 fh0).2.2.1 (Rect.unit (s := S7168x1024) ![4096, 0] S1024x1024.size inb_S7168x1024_S1024x1024_4096_0).toLoadRect))
      (k0_pay4 (F := Ideal) (View.ld A (Rect.unit (s := S512x7168) ![0, 5120] S512x1024.size inb_S512x7168_S512x1024_0_5120))) (arg8.view.readCov (Val := Elt Ideal) (kernelRun0_A c i arg1 harg1 arg2 harg2 arg3 harg3 arg4 harg4 arg6 harg6 arg7 harg7 arg8 harg8 hc0 x0 x1 x2 x3 fh0).2.2.1 (Rect.unit (s := S7168x1024) ![5120, 0] S1024x1024.size inb_S7168x1024_S1024x1024_5120_0).toLoadRect) (View.ld A (Rect.unit (s := S512x7168) ![0, 6144] S512x1024.size inb_S512x7168_S512x1024_0_6144)) (arg8.view.readCov (Val := Elt Ideal) (kernelRun0_A c i arg1 harg1 arg2 harg2 arg3 harg3 arg4 harg4 arg6 harg6 arg7 harg7 arg8 harg8 hc0 x0 x1 x2 x3 fh0).2.2.1 (Rect.unit (s := S7168x1024) ![6144, 0] S1024x1024.size inb_S7168x1024_S1024x1024_6144_0).toLoadRect) = dhK A (Wi fh0) := by
  unfold dhK
  simp only [load_A]

end

/-- The product as a later block forms it, out of the kept weights. -/
theorem dhK_next (A : Vec Ideal S512x7168 .bf16) (W : Vec Ideal S7168x1024 .bf16) :
    k0_pay5 (F := Ideal) (k0_pay3 (F := Ideal) (View.ld A (Rect.unit (s := S512x7168) ![0, 0] S512x1024.size inb_S512x7168_S512x1024_0_0)) (View.ld (View.read (Elt Ideal) (View.whole cc0_scratch0) ((Memref.isWhole_whole cc0_scratch0).unread W)) (Rect.unit (s := S7168x1024) ![0, 0] S1024x1024.size inb_S7168x1024_S1024x1024_0_0)) (View.ld A (Rect.unit (s := S512x7168) ![0, 1024] S512x1024.size inb_S512x7168_S512x1024_0_1024)) (View.ld (View.read (Elt Ideal) (View.whole cc0_scratch0) ((Memref.isWhole_whole cc0_scratch0).unread W)) (Rect.unit (s := S7168x1024) ![1024, 0] S1024x1024.size inb_S7168x1024_S1024x1024_1024_0)) (View.ld A (Rect.unit (s := S512x7168) ![0, 2048] S512x1024.size inb_S512x7168_S512x1024_0_2048)) (View.ld (View.read (Elt Ideal) (View.whole cc0_scratch0) ((Memref.isWhole_whole cc0_scratch0).unread W)) (Rect.unit (s := S7168x1024) ![2048, 0] S1024x1024.size inb_S7168x1024_S1024x1024_2048_0)) (View.ld A (Rect.unit (s := S512x7168) ![0, 3072] S512x1024.size inb_S512x7168_S512x1024_0_3072)) (View.ld (View.read (Elt Ideal) (View.whole cc0_scratch0) ((Memref.isWhole_whole cc0_scratch0).unread W)) (Rect.unit (s := S7168x1024) ![3072, 0] S1024x1024.size inb_S7168x1024_S1024x1024_3072_0)) (View.ld A (Rect.unit (s := S512x7168) ![0, 4096] S512x1024.size inb_S512x7168_S512x1024_0_4096)) (View.ld (View.read (Elt Ideal) (View.whole cc0_scratch0) ((Memref.isWhole_whole cc0_scratch0).unread W)) (Rect.unit (s := S7168x1024) ![4096, 0] S1024x1024.size inb_S7168x1024_S1024x1024_4096_0)))
      (k0_pay4 (F := Ideal) (View.ld A (Rect.unit (s := S512x7168) ![0, 5120] S512x1024.size inb_S512x7168_S512x1024_0_5120))) (View.ld (View.read (Elt Ideal) (View.whole cc0_scratch0) ((Memref.isWhole_whole cc0_scratch0).unread W)) (Rect.unit (s := S7168x1024) ![5120, 0] S1024x1024.size inb_S7168x1024_S1024x1024_5120_0)) (View.ld A (Rect.unit (s := S512x7168) ![0, 6144] S512x1024.size inb_S512x7168_S512x1024_0_6144)) (View.ld (View.read (Elt Ideal) (View.whole cc0_scratch0) ((Memref.isWhole_whole cc0_scratch0).unread W)) (Rect.unit (s := S7168x1024) ![6144, 0] S1024x1024.size inb_S7168x1024_S1024x1024_6144_0)) = dhK A W := by
  have h : View.read (Elt Ideal) (View.whole cc0_scratch0) ((Memref.isWhole_whole cc0_scratch0).unread W) = W := (Memref.isWhole_whole cc0_scratch0).read_unread W
  unfold dhK
  rw [h]
  rfl

/-- A store into the first row, over what was stored before. -/
theorem row0_canon (w : (Rect.unit (s := S8x1024) ![0, 0] S1x1024.size inb_S8x1024_S1x1024_0_0).shape.Idx → Elt Ideal .f32) (L : List (View.Piece (Elt Ideal) S8x1024 .f32)) (y : S8x1024.Idx) :
    View.canon ((⟨Rect.unit (s := S8x1024) ![0, 0] S1x1024.size inb_S8x1024_S1x1024_0_0, w⟩ : View.Piece (Elt Ideal) S8x1024 .f32) :: L) y
      = if (y 0).val = 0 then w (ix2 0 (y 1)) else View.canon L y := by
  by_cases hj : (y 0).val = 0
  · rw [if_pos hj]
    have e : y = (Rect.unit (s := S8x1024) ![0, 0] S1x1024.size inb_S8x1024_S1x1024_0_0).emb (ix2 0 (y 1)) := funext fun a => Fin.ext (by
      fin_cases a
      · exact hj
      · show (y 1).val = 0 + 1 * (y 1).val
        omega)
    exact (congrArg _ e).trans (View.canon_cons_emb _ w L _)
  · rw [if_neg hj]
    refine View.canon_cons_of_not_mem _ _ fun h => hj ?_
    have := (Rect.mem_set_unit (s := S8x1024) (off := ![0, 0]) (size := S1x1024.size) (inb := inb_S8x1024_S1x1024_0_0) (i := y) |>.mp h 0).2
    have h1 : (y 0).val < 0 + 1 := this
    omega

/-- The same, over any contents. -/
theorem row0_writes {κ : Kind} {sp : Space} (v : View sig κ sp S8x1024 .f32) (f : v.ty.Contents (Elt Ideal)) (w : (Rect.unit (s := S8x1024) ![0, 0] S1x1024.size inb_S8x1024_S1x1024_0_0).shape.Idx → Elt Ideal .f32) (y : S8x1024.Idx) :
    v.read (Elt Ideal) (v.writes (Elt Ideal) f [(⟨Rect.unit (s := S8x1024) ![0, 0] S1x1024.size inb_S8x1024_S1x1024_0_0, w⟩ : View.Piece (Elt Ideal) S8x1024 .f32)]) y
      = if (y 0).val = 0 then w (ix2 0 (y 1)) else v.read (Elt Ideal) f y := by
  by_cases hj : (y 0).val = 0
  · rw [if_pos hj]
    exact View.read_writes_cons_unit_of_mem v f inb_S8x1024_S1x1024_0_0 w [] y (ix2 0 (y 1)) rfl fun a => by
      fin_cases a
      · exact hj
      · show (y 1).val = 0 + (y 1).val
        omega
  · rw [if_neg hj]
    refine View.read_writes_cons_unit_of_not_mem v f inb_S8x1024_S1x1024_0_0 w [] y rfl 0 (Or.inr ?_)
    show 0 + 1 ≤ (y 0).val
    omega

variable (m : (ℓ : Loc nD τ sig) → Buf (Elt Ideal) ℓ)

theorem kept_first (c : Dev nD) (t : Fin cfg0.N) (h0 : t.val % 16 = 0) : (outsAt0 m c t.val t.isLt).2.2 = Wi (V m c main_v2) := by
  rw [outsAt0_A m c t h0]
  dsimp only
  exact sout_A _ _ _ _ _ _ _ _ _ _ _ _ _ _ _ _ _ _ _ _ _ ((hcond0_0 t).mpr h0)

theorem kept_next (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  rfl

/-- The kept weights after any block are the gathered ones. -/
theorem kept (c : Dev nD) : ∀ (n : ℕ) (h : n < cfg0.N), (outsAt0 m c n h).2.2 = Wi (V m c main_v2) := by
  intro n
  induction n with
  | zero =>
    intro h
    exact kept_first m c ⟨0, h⟩ rfl
  | succ n ih =>
    intro h
    have hN : cfg0.N = 16 := rfl
    exact (kept_next m c ⟨n + 1, h⟩ (by show ¬(n + 1) % 16 = 0; omega)).trans (ih (Nat.lt_of_succ_lt h))

/-- The rows' gradient after a block. -/
theorem dx_block (c : Dev nD) (t : Fin cfg0.N) (j : S512x1024.Idx) :
    (outsAt0 m c t.val t.isLt).1 j = dxB (dhK (iblk m c 0 t) (Wi (V m c main_v2))) (iblk m c 1 t) (iblk m c 2 t) (iblk m c 3 t) j := by
  by_cases h0 : t.val % 16 = 0
  · rw [outsAt0_A m c t h0]
    frame_out
    rw [dx_at]
    exact congrArg (fun H => dxB H (iblk m c 1 t) (iblk m c 2 t) (iblk m c 3 t) j) (dhK_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (V m c main_v2) ((hcond0_0 t).mpr h0) (iblk m c 0 t))
  · rw [outsAt0_B m c t h0]
    frame_out
    rw [dx_at]
    rw [← kept m c (t.val - 1) (Nat.lt_of_le_of_lt (Nat.sub_le _ _) t.isLt)]
    exact congrArg (fun H => dxB H (iblk m c 1 t) (iblk m c 2 t) (iblk m c 3 t) j) (dhK_next (iblk m c 0 t) _)

theorem dg_first (c : Dev nD) (t : Fin cfg0.N) (h0 : t.val % 16 = 0) (j : S8x1024.Idx) :
    (outsAt0 m c t.val t.isLt).2.1 j = if (j 0).val = 0 then 0 + dgB (dhK (iblk m c 0 t) (Wi (V m c main_v2))) (iblk m c 1 t) (j 1) else 0 := by
  rw [outsAt0_A m c t h0]
  frame_out
  refine (row0_canon _ _ j).trans ?_
  by_cases hj : (j 0).val = 0
  · rw [if_pos hj, if_pos hj]
    refine (dg_at _ _ _ _ _ _ _ 0 (j 1)).trans ?_
    refine congrArg₂ (fun a b : EReal => a + b) ?_ (congrArg (fun H => dgB H (iblk m c 1 t) (j 1)) (dhK_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (V m c main_v2) ((hcond0_0 t).mpr h0) (iblk m c 0 t)))
    rw [View.readCov_fill _ _ _ _ _ (by decide)]
    exact zero_at _
  · rw [if_neg hj, if_neg hj, View.canon_cons_unit_lit _ _ _ (by decide)]
    exact zero_at _

theorem dg_next (c : Dev nD) (t : Fin cfg0.N) (h0 : ¬t.val % 16 = 0) (j : S8x1024.Idx) :
    (outsAt0 m c t.val t.isLt).2.1 j = (outsAt0 m c (t.val - 1) (Nat.lt_of_le_of_lt (Nat.sub_le _ _) t.isLt)).2.1 j
      + if (j 0).val = 0 then dgB (dhK (iblk m c 0 t) (Wi (V m c main_v2))) (iblk m c 1 t) (j 1) else 0 := by
  rw [outsAt0_B m c t h0]
  frame_out
  refine (row0_writes _ _ _ j).trans ?_
  have hr : View.read (Elt Ideal) (ms0_5 t).view ((hs0_5 t).unread (outsAt0 m c (t.val - 1) (Nat.lt_of_le_of_lt (Nat.sub_le _ _) t.isLt)).2.1) = (outsAt0 m c (t.val - 1) (Nat.lt_of_le_of_lt (Nat.sub_le _ _) t.isLt)).2.1 := (hs0_5 t).read_unread _
  by_cases hj : (j 0).val = 0
  · rw [if_pos hj, if_pos hj]
    refine (dg_at _ _ _ _ _ _ _ 0 (j 1)).trans ?_
    rw [← kept m c (t.val - 1) (Nat.lt_of_le_of_lt (Nat.sub_le _ _) t.isLt)]
    refine congrArg₂ (fun a b : EReal => a + b) ?_ (congrArg (fun H => dgB H (iblk m c 1 t) (j 1)) (dhK_next (iblk m c 0 t) _))
    refine congrArg (outsAt0 m c (t.val - 1) (Nat.lt_of_le_of_lt (Nat.sub_le _ _) t.isLt)).2.1 (funext fun a => Fin.ext ?_)
    fin_cases a
    · exact hj.symm
    · show 0 + 1 * (j 1).val = (j 1).val
      omega
  · rw [if_neg hj, if_neg hj, add_zero]
    exact congrFun hr j

end Cert.KernelInProjIdeal.Value
-- ==== Proof.Inp.Arrays.lean ====
/- The two results of the input projection's backward after the run: every row's gradient, and the scale's gradient summed over all rows. -/
module

public import proofs.«01_k».proof.Proof.Inp.Body

@[expose] public section

set_option maxRecDepth 16384

noncomputable section

namespace Cert.KernelInProjIdeal.Value

open Idealize.ShloMosaic Idealize.SL.Sem Cert.KernelInProjIdeal Cert.KernelInProjIdeal.Gen
open scoped BigOperators

/-- The gradient of the normalised rows, over all rows. -/
def dhA (A : S8192x7168.Idx → EReal) (W : S7168x1024.Idx → EReal) (i : S8192x1024.Idx) : EReal :=
  ∑ k : Fin 7168, A (ix2 (i 0) k) * W (ix2 k (i 1))

/-- A row's reciprocal root mean square. -/
def rsA (X : S8192x1024.Idx → EReal) (r : Fin 8192) : EReal :=
  Ideal.rsqrt (Ideal.div (∑ n : Fin 1024, X (ix2 r n) * X (ix2 r n)) (Ideal.ofBits .f32 0x44800000#32) + Ideal.ofBits .f32 0x358637BD#32)

/-- The gradient of all rows. -/
def dxA (H X D : S8192x1024.Idx → EReal) (g : S1x1024.Idx → EReal) (i : S8192x1024.Idx) : EReal :=
  D i + rsA X (i 0) * (H i * g (ix2 0 (i 1)) - X i * rsA X (i 0) *
    Ideal.div (∑ n : Fin 1024, H (ix2 (i 0) n) * g (ix2 0 n) * (X (ix2 (i 0) n) * rsA X (i 0))) (Ideal.ofBits .f32 0x44800000#32))

/-- The scale's gradient in the first row, zeros below. -/
def dgA (H X : S8192x1024.Idx → EReal) (i : S8x1024.Idx) : EReal :=
  if (i 0).val = 0 then ∑ r : Fin 8192, H (ix2 r (i 1)) * (X (ix2 r (i 1)) * rsA X r) else 0

theorem rs_eq (X : S512x1024.Idx → EReal) (X' : S8192x1024.Idx → EReal) (r : Fin 512) (q : Fin 8192) (hX : ∀ n, X (ix2 r n) = X' (ix2 q n)) : rsB X r = rsA X' q := by
  unfold rsB rsA
  simp only [hX]

theorem dh_eq (A : S512x7168.Idx → EReal) (A' : S8192x7168.Idx → EReal) (W : S7168x1024.Idx → EReal) (r : Fin 512) (q : Fin 8192) (hA : ∀ k, A (ix2 r k) = A' (ix2 q k)) (n : Fin 1024) :
    dhB A W (ix2 r n) = dhA A' W (ix2 q n) := by
  show ∑ k : Fin 7168, A (ix2 r k) * W (ix2 k n) = ∑ k : Fin 7168, A' (ix2 q k) * W (ix2 k n)
  simp only [hA]

theorem dx_eq (H X D : S512x1024.Idx → EReal) (H' X' D' : S8192x1024.Idx → EReal) (g g' : S1x1024.Idx → EReal) (r : Fin 512) (q : Fin 8192) (hH : ∀ n, H (ix2 r n) = H' (ix2 q n))
    (hX : ∀ n, X (ix2 r n) = X' (ix2 q n)) (hD : ∀ n, D (ix2 r n) = D' (ix2 q n)) (hg : g = g') (n : Fin 1024) : dxB H X D g (ix2 r n) = dxA H' X' D' g' (ix2 q n) := by
  subst hg
  show D (ix2 r n) + rsB X r * (H (ix2 r n) * g (ix2 0 n) - X (ix2 r n) * rsB X r * Ideal.div (∑ n : Fin 1024, H (ix2 r n) * g (ix2 0 n) * (X (ix2 r n) * rsB X r)) (Ideal.ofBits .f32 0x44800000#32))
    = D' (ix2 q n) + rsA X' q * (H' (ix2 q n) * g (ix2 0 n) - X' (ix2 q n) * rsA X' q * Ideal.div (∑ n : Fin 1024, H' (ix2 q n) * g (ix2 0 n) * (X' (ix2 q n) * rsA X' q)) (Ideal.ofBits .f32 0x44800000#32))
  simp only [rs_eq X X' r q hX, hH, hX, hD]

variable (m : (ℓ : Loc nD τ sig) → Buf (Elt Ideal) ℓ)

theorem idx_at (t : Fin cfg0.N) : win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0]) t

theorem blk0_at (c : Dev nD) (s : Fin cfg0.N) (r : Fin 512) (k : Fin 7168) (h : s.val * 512 + r.val < 8192) :
    iblk m c 0 s (ix2 r k) = V m c main_v3 (ix2 ⟨s.val * 512 + r.val, h⟩ k) := by
  obtain ⟨e0, e1, e2, e3, e4, e5⟩ := idx_at s
  blk_ext [iblk, e0]

theorem blk1_at (c : Dev nD) (s : Fin cfg0.N) (r : Fin 512) (k : Fin 1024) (h : s.val * 512 + r.val < 8192) :
    iblk m c 1 s (ix2 r k) = V m c main_arg0 (ix2 ⟨s.val * 512 + r.val, h⟩ k) := by
  obtain ⟨e0, e1, e2, e3, e4, e5⟩ := idx_at s
  blk_ext [iblk, e1]

theorem blk2_at (c : Dev nD) (s : Fin cfg0.N) (r : Fin 512) (k : Fin 1024) (h : s.val * 512 + r.val < 8192) :
    iblk m c 2 s (ix2 r k) = V m c main_arg4 (ix2 ⟨s.val * 512 + r.val, h⟩ k) := by
  obtain ⟨e0, e1, e2, e3, e4, e5⟩ := idx_at s
  blk_ext [iblk, e2]

theorem blk3_at (c : Dev nD) (s : Fin cfg0.N) : iblk m c 3 s = V m c main_v4 := by
  obtain ⟨e0, e1, e2, e3, e4, e5⟩ := idx_at s
  funext j
  idx_vars j
  blk_ext [iblk, e3]

/-- All rows' gradient of the normalised rows, of this run's arguments. -/
def HH (c : Dev nD) : S8192x1024.Idx → EReal := dhA (V m c main_v3) (Wi (V m c main_v2))

theorem hh_at (c : Dev nD) (s : Fin cfg0.N) (r : Fin 512) (q : Fin 8192) (hq : q.val = s.val * 512 + r.val) (n : Fin 1024) :
    dhK (iblk m c 0 s) (Wi (V m c main_v2)) (ix2 r n) = HH m c (ix2 q n) := by
  have h : s.val * 512 + r.val < 8192 := hq ▸ q.isLt
  have eq : q = ⟨s.val * 512 + r.val, h⟩ := Fin.ext hq
  subst eq
  exact (dhK_at _ _ _).trans (dh_eq _ _ _ r _ (fun k => blk0_at m c s r k h) n)

theorem dx_point (c : Dev nD) (t : Fin cfg0.N) (y : S512x1024.Idx) (i : S8192x1024.Idx) (h0 : (i 0).val = t.val * 512 + (y 0).val) (h1 : (i 1).val = (y 1).val) :
    (outsAt0 m c t.val t.isLt).1 y = dxA (HH m c) (V m c main_arg0) (V m c main_arg4) (V m c main_v4) i := by
  rw [dx_block]
  have h : t.val * 512 + (y 0).val < 8192 := h0 ▸ (i 0).isLt
  have ey : y = ix2 (y 0) (y 1) := funext fun a => by fin_cases a <;> rfl
  have ei : i = ix2 ⟨t.val * 512 + (y 0).val, h⟩ (y 1) := funext fun a => Fin.ext (by fin_cases a <;> assumption)
  rw [ey, ei]
  exact dx_eq _ _ _ _ _ _ _ _ (y 0) _ (fun n => hh_at m c t (y 0) _ rfl n) (fun n => blk1_at m c t (y 0) n h) (fun n => blk2_at m c t (y 0) n h) (blk3_at m c t) (y 1)

theorem dg_point (c : Dev nD) (t : Fin cfg0.N) (ht : t.val % 16 = 15) (y i : S8x1024.Idx) (h0 : (i 0).val = (y 0).val) (h1 : (i 1).val = (y 1).val) :
    (outsAt0 m c t.val t.isLt).2.1 y = dgA (HH m c) (V m c main_arg0) i := by
  have hi : i = y := funext fun a => Fin.ext (by fin_cases a <;> assumption)
  subst hi
  rw [Pipeline.eq_sum_fin_of_reset_step_apply_of_flush (fun n h => (outsAt0 m c n h).2.1) 16 (fun _ => (0 : EReal))
    (fun p j => if (j 0).val = 0 then dgB (dhK (iblk m c 0 p) (Wi (V m c main_v2))) (iblk m c 1 p) (j 1) else 0)
    (fun t h j => (dg_first m c t h j).trans (by split <;> simp)) (fun t h j => dg_next m c t h j) t ht i, zero_add]
  unfold dgA
  by_cases hj : (i 0).val = 0
  · simp only [if_pos hj]
    unfold dgB
    refine Fin.sum_mul_add_congr fun s k hl => ?_
    have hq : s.val * 512 + k.val = (16 * (t.val / 16) + s.val) * 512 + k.val := by
      have := t.isLt
      have hN : cfg0.N = 16 := rfl
      rw [show 16 * (t.val / 16) + s.val = s.val by omega]
    have e1 : ∀ n, iblk m c 1 ⟨16 * (t.val / 16) + s.val, Pipeline.run_point_lt_of_flush t ht s⟩ (ix2 k n) = V m c main_arg0 (ix2 ⟨s.val * 512 + k.val, hl⟩ n) := fun n =>
      (blk1_at m c _ k n (hq ▸ hl)).trans (congrArg (fun q => V m c main_arg0 (ix2 q n)) (Fin.ext hq.symm))
    refine congrArg₂ (fun a b : EReal => a * b) (hh_at m c _ k _ hq (i 1)) (congrArg₂ (fun a b : EReal => a * b) (e1 (i 1)) (rs_eq _ _ k _ e1))
  · simp only [if_neg hj]
    exact Finset.sum_const_zero

theorem arr_dx (c : Dev nD) : (dats m 0 c).arrAt 4 cfg0.N = dxA (HH m c) (V m c main_arg0) (V m c main_arg4) (V m c main_v4) := by
  refine (dats m 0 c).arrAt_eq_of_covers 4 _ (by decide +kernel) fun t hf y => ?_
  obtain ⟨e0, e1, e2, e3, e4, e5⟩ := idx_at t
  blk_simp
  rw [after0_4]
  refine dx_point m c t y _ ?_ ?_
  · blk_simp [e4]
  · blk_simp [e4]

theorem arr_dg (c : Dev nD) : (dats m 0 c).arrAt 5 cfg0.N = dgA (HH m c) (V m c main_arg0) := by
  refine (dats m 0 c).arrAt_eq_of_covers 5 _ (by decide +kernel) fun t hf y => ?_
  obtain ⟨e0, e1, e2, e3, e4, e5⟩ := idx_at t
  blk_simp
  rw [after0_5]
  refine dg_point m c t ((flush0_5 t).mp hf) y _ ?_ ?_
  · blk_simp [e5]
  · blk_simp [e5]

end Cert.KernelInProjIdeal.Value
-- ==== Proof.Inp.NormBwd.lean ====
/- The derivative of a row's normalisation, in the order the kernel forms it and in the order of the plain derivative: equal over real numbers. -/
module

public import proofs.«01_k».proof.Proof.Act.Real

@[expose] public section

noncomputable section

namespace Cert.InpReal

open Idealize.ShloMosaic
open scoped BigOperators

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a * b⁻¹ : ℝ) : EReal) := by
  have hb' : (b : EReal) ≠ 0 := by exact_mod_cast hb
  rw [Ideal.div, if_neg hb', ← EReal.coe_inv, ← EReal.coe_mul]

theorem rsqrt_pos (v : ℝ) (hv : 0 < v) : ∃ r : ℝ, Ideal.rsqrt (v : EReal) = (r : EReal) ∧ r * r = v⁻¹ := by
  rw [Ideal.rsqrt_coe, if_neg (not_lt.2 hv.le), if_neg hv.ne']
  refine ⟨_, rfl, ?_⟩
  first
    | (rw [← mul_inv, Real.mul_self_sqrt hv.le])
    | (rw [one_div, ← mul_inv, Real.mul_self_sqrt hv.le])
    | (rw [div_mul_div_comm, one_mul, Real.mul_self_sqrt hv.le, one_div])

/-- The kernel's order of the derivative is the plain one's. -/
theorem norm_bwd (x h g : Fin 1024 → ℝ) (n : Fin 1024) (e : ℝ) (he : 0 < e) (v r T : EReal)
    (hv : v = Ideal.div (∑ k : Fin 1024, (x k : EReal) * (x k : EReal)) ((1024 : ℝ) : EReal) + (e : EReal)) (hr : r = Ideal.rsqrt v)
    (hT : T = Ideal.div ((∑ k : Fin 1024, (x k : EReal) * ((h k : EReal) * (g k : EReal))) * (((-(1/2) : ℝ) : EReal) * Ideal.div r v)) ((1024 : ℝ) : EReal)) :
    r * ((h n : EReal) * (g n : EReal) - (x n : EReal) * r * Ideal.div (∑ k : Fin 1024, (h k : EReal) * (g k : EReal) * ((x k : EReal) * r)) ((1024 : ℝ) : EReal))
      = (h n : EReal) * (g n : EReal) * r + ((x n : EReal) * T + T * (x n : EReal)) := by
  have hN : (1024 : ℝ) ≠ 0 := by norm_num
  have hv' : v = (((∑ k : Fin 1024, x k * x k) * (1024 : ℝ)⁻¹ + e : ℝ) : EReal) := by
    rw [hv]
    simp only [← EReal.coe_mul, coe_sum]
    rw [div_coe _ _ hN, ← EReal.coe_add]
  have hp : 0 < (∑ k : Fin 1024, x k * x k) * (1024 : ℝ)⁻¹ + e :=
    add_pos_of_nonneg_of_pos (mul_nonneg (Finset.sum_nonneg fun k _ => mul_self_nonneg _) (by norm_num)) he
  generalize (∑ k : Fin 1024, x k * x k) * (1024 : ℝ)⁻¹ + e = w at hv' hp
  obtain ⟨s, hs, hss⟩ := rsqrt_pos w hp
  have hr' : r = (s : EReal) := by rw [hr, hv', hs]
  subst hT hv' hr'
  rw [div_coe s w hp.ne']
  simp only [← EReal.coe_mul, coe_sum]
  rw [div_coe _ _ hN, div_coe _ _ hN]
  simp only [← EReal.coe_mul, ← EReal.coe_sub, ← EReal.coe_add]
  congr 1
  rw [← hss]
  have e1 : ∑ k : Fin 1024, h k * g k * (x k * s) = (∑ k : Fin 1024, x k * (h k * g k)) * s := by
    rw [Finset.sum_mul]
    exact Finset.sum_congr rfl fun k _ => by ring
  rw [e1]
  ring

end Cert.InpReal
-- ==== Proof.Inp.Ref.lean ====
/- The reference's two results, entry by entry. -/
module

public import proofs.«01_k».proof.Proof.Gen.ReferenceInProjIdeal
public import proofs.«01_k».proof.Proof.Gen.ReferenceInProjIdeal.Run
public import proofs.«01_k».proof.Proof.Inp.Arrays
public import proofs.«01_k».proof.Proof.Inp.NormBwd
public import proofs.«01_k».proof.Proof.Act.Finite
public import Idealize.ShloMosaic.Lib.Pointwise
public import Idealize.ShloMosaic.Lib.KernelVsHost

@[expose] public section

set_option maxRecDepth 16384
set_option maxHeartbeats 1000000

noncomputable section

namespace Cert.InpRef

open Idealize.ShloMosaic Idealize.SL.Sem Cert.ReferenceInProjIdeal Cert.ReferenceInProjIdeal.Gen Cert.ReferenceInProjIdeal.Value
open Cert.KernelInProjIdeal.Value (dhA rsA dxA dgA)
open scoped BigOperators

/-- A row's mean square plus the small constant. -/
def vR (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The gradient that reaches a row's mean square. -/
def tR (H x : FVec Ideal S8192x1024 .f32) (g : FVec Ideal S1024 .f32) : FVec Ideal S8192 .f32 :=
  Host.reduceAdd (Host.divf (mulf (shapeCast S8192x1 (Host.reduceAdd (mulf x (mulf H (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (vR x)) (vR x)))) (broadcastInDim S8192x1 ![] bcast_S_S8192x1 (constant S_ .f32 0x44800000#32))) (constant S_ .f32 0x00000000#32) reducesTo_S8192x1_S8192_d1 h_S_

/-- The rows' gradient out of the normalised rows' gradient. -/
def rDx (H x D : FVec Ideal S8192x1024 .f32) (g : FVec Ideal S1024 .f32) : FVec Ideal S8192x1024 .f32 :=
  addf D (addf (addf (mulf (mulf H (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (vR x)))) (mulf x (broadcastInDim S8192x1024 ![0] bcast_S8192_S8192x1024_0 (tR H x g)))) (mulf (broadcastInDim S8192x1024 ![0] bcast_S8192_S8192x1024_0 (tR H x g)) x))

/-- The scale's gradient, as a row. -/
def gR (H x : FVec Ideal S8192x1024 .f32) : FVec Ideal S1x1024 .f32 :=
  broadcastInDim S1x1024 ![1] bcast_S1024_S1x1024_1 (Host.reduceAdd (shapeCast S1x1024 (Host.reduceAdd (mulf (mulf x (broadcastInDim S8192x1024 ![0, 1] bcast_S8192x1_S8192x1024_0_1 (Host.rsqrt (vR x)))) H) (constant S_ .f32 0x00000000#32) reducesTo_S8192x1024_S1024_d0 h_S_) shapeCasts_S1024_S1x1024) (constant S_ .f32 0x00000000#32) reducesTo_S1x1024_S1024_d0 h_S_)

/-- The scale's gradient, padded to eight rows. -/
def rDg (H x : FVec Ideal S8192x1024 .f32) : FVec Ideal S8x1024 .f32 :=
  pad S8x1024 ![0, 0] ![7, 0] ![0, 0] (gR H x) (sitofp .f32 (constantI S_ 32 0#32)) pads_S1x1024_S8x1024_070_000 h_S_

theorem v_at (x : FVec Ideal S8192x1024 .f32) (t : Fin 8192) (z : Fin 1) :
    vR x (ix2 t z) = Ideal.div (∑ n : Fin 1024, x (ix2 t n) * x (ix2 t n)) (Ideal.ofBits .f32 0x44800000#32) + Ideal.ofBits .f32 0x358637BD#32 := by
  pointwise [vR]

theorem t_at (H x : FVec Ideal S8192x1024 .f32) (g : FVec Ideal S1024 .f32) (t : Fin 8192) :
    tR H x g (ix1 t) = Ideal.div ((∑ n : Fin 1024, x (ix2 t n) * (H (ix2 t n) * g (ix1 n))) * (Ideal.ofBits .f32 0xBF000000#32 * Ideal.div (Ideal.rsqrt (vR x (ix2 t 0))) (vR x (ix2 t 0))))
      (Ideal.ofBits .f32 0x44800000#32) := by
  unfold tR
  generalize vR x = V
  pointwise
  exact Fin.sum_univ_one _

theorem dx_at (H x D : FVec Ideal S8192x1024 .f32) (g : FVec Ideal S1024 .f32) (t : Fin 8192) (n : Fin 1024) :
    rDx H x D g (ix2 t n) = D (ix2 t n) + (H (ix2 t n) * g (ix1 n) * Ideal.rsqrt (vR x (ix2 t 0)) + (x (ix2 t n) * tR H x g (ix1 t) + tR H x g (ix1 t) * x (ix2 t n))) := by
  unfold rDx
  generalize tR H x g = T
  generalize vR x = V
  pointwise
  simp only [add_assoc]

theorem g_at (H x : FVec Ideal S8192x1024 .f32) (n : Fin 1024) :
    gR H x (ix2 0 n) = ∑ t : Fin 8192, x (ix2 t n) * Ideal.rsqrt (vR x (ix2 t 0)) * H (ix2 t n) := by
  unfold gR
  generalize vR x = V
  pointwise
  exact Fin.sum_univ_one _

theorem dg_at (H x : FVec Ideal S8192x1024 .f32) : rDg H x = dgA H x := by
  funext i
  idx_vars i
  unfold rDg
  by_cases hi : i0.val = 0
  · refine (pad_apply_of_inside _ _ _ _ _ _ _ _ (ix2 0 i1) fun a => ?_).trans ?_
    · fin_cases a
      · show i0.val = 0 + 0 * (0 + 1)
        omega
      · show i1.val = 0 + i1.val * (0 + 1)
        omega
    · rw [g_at]
      show _ = if i0.val = 0 then _ else _
      rw [if_pos hi]
      refine Finset.sum_congr rfl fun t _ => ?_
      rw [v_at, mul_comm]
      rfl
  · refine (pad_apply_of_not_inside _ _ _ _ _ _ _ _ 0 fun h => hi ?_).trans ?_
    · have h1 : (i0.val - 0) / (0 + 1) < 1 := h.2.2
      omega
    · show _ = if i0.val = 0 then _ else _
      rw [if_neg hi]
      show (((0#32 : BitVec 32).toInt : ℝ) : EReal) = 0
      simp

theorem word_half : Ideal.ofBits .f32 0xBF000000#32 = ((-(1/2) : ℝ) : EReal) := by
  simp [Ideal.ofBits, Ideal.ieee]
  rw [← EReal.coe_mul]
  congr 1
  norm_num

/-- Over real numbers the reference's rows' gradient is the kernel's. -/
theorem dx_eq (H x D : FVec Ideal S8192x1024 .f32) (g : FVec Ideal S1024 .f32) (hH : ∀ i, ActReal.R (H i)) (hx : ∀ i, ActReal.R (x i)) (hg : ∀ i, ActReal.R (g i)) :
    rDx H x D g = dxA H x D (fun i => g (ix1 (i 1))) := by
  choose Hr eH using hH
  choose xr ex using hx
  choose gr eg using hg
  funext i
  idx_vars i
  rw [dx_at]
  refine congrArg (fun z : EReal => D (ix2 i0 i1) + z) ?_
  have e := InpReal.norm_bwd (fun n => xr (ix2 i0 n)) (fun n => Hr (ix2 i0 n)) (fun n => gr (ix1 n)) i1 _ ActReal.word_eps.choose_spec.1 _ _ _ rfl rfl rfl
  simp only [← eH, ← ex, ← eg, ← ActReal.word_eps.choose_spec.2, ← ActReal.word_1024, ← word_half] at e
  rw [t_at, v_at]
  exact e.symm

/-- The reference's product with the weights, entry by entry. -/
def Dr (A : FVec Ideal S8192x7168 .f32) (W : FVec Ideal S1024x7168 .f32) : FVec Ideal S8192x1024 .f32 :=
  Host.dotGeneral dot_S8192x7168_S1024x7168_S8192x1024_1_1_0_0_n_n none A W

theorem dot_at (A : FVec Ideal S8192x7168 .f32) (W : FVec Ideal S1024x7168 .f32) (i : S8192x1024.Idx) :
    Dr A W i = ∑ k : Fin 7168, A (ix2 (i 0) k) * W (ix2 (i 1) k) := by
  idx_vars i
  pointwise [Dr]

theorem res_dx (m : (ℓ : Loc nD τ sig) → Buf (Elt Ideal) ℓ) (c : Dev nD) :
    res_main_v38 (F := Ideal) m c = rDx (Dr (m ((c.tc : Thread nD τ).loc main_arg3)) (m ((c.tc : Thread nD τ).loc main_arg2)))
      (m ((c.tc : Thread nD τ).loc main_arg0)) (m ((c.tc : Thread nD τ).loc main_arg4)) (m ((c.tc : Thread nD τ).loc main_arg1)) := by
  unfold res_main_v38 rDx tR vR Dr
  rfl

end Cert.InpRef
-- ==== Proof.Inp.Agree.lean ====
/- The input projection's backward: the arrays the host prepares, finite arguments, and the claims about both programs. -/
module

public import proofs.«01_k».proof.Proof.Inp.Ref
public import proofs.«01_k».proof.Proof.Gen.KernelInProj
public import proofs.«01_k».proof.Proof.Gen.Pre_in_proj_finite
public import proofs.«01_k».proof.Pre_in_proj_finite
public import Idealize.ShloMosaic.Lib.StableHlo.ReadAt
public import Idealize.ShloMosaic.Lib.Quiescent
public import proofs.«01_k».proof.Proof.Dw.FfnAgree
public import proofs.«01_k».proof.Proof.Dw.InAgree

@[expose] public section

set_option maxRecDepth 16384
set_option maxHeartbeats 1000000

noncomputable section

namespace Cert.KernelInProjIdeal.Value

open Idealize.ShloMosaic Idealize.SL.Sem Cert.KernelInProjIdeal Cert.KernelInProjIdeal.Gen
open Idealize.ShloMosaic.StableHlo

variable (m : (ℓ : Loc nD τ sig) → Buf (Elt Ideal) ℓ)

/-- The weights as the call takes them: transposed, in eight shards. -/
def Gw (w : FVec Ideal S1024x7168 .f32) : FVec Ideal S8x896x1024 .bf16 :=
  truncf .bf16 (shapeCast S8x896x1024 (transpose S7168x1024 [1, 0] w transposes_S1024x7168_S7168x1024_1_0) shapeCasts_S7168x1024_S8x896x1024) bitsLt_bf16_f32

/-- The scale as a row. -/
def Gr (g : FVec Ideal S1024 .f32) : FVec Ideal S1x1024 .f32 := broadcastInDim S1x1024 ![1] bcast_S1024_S1x1024_1 g

theorem w_host (c : Dev nD) : V m c main_v2 = Gw (m ((c.tc : Thread nD τ).loc main_arg2)) := by
  unfold V
  after_reads_simp
  rfl

theorem dp_host (c : Dev nD) : V m c main_v3 = m ((c.tc : Thread nD τ).loc main_arg3) := by
  unfold V
  after_reads_simp
  rfl

theorem g_host (c : Dev nD) : V m c main_v4 = Gr (m ((c.tc : Thread nD τ).loc main_arg1)) := by
  unfold V
  after_reads_simp
  rfl

theorem gr_at (g : FVec Ideal S1024 .f32) : Gr g = fun i => g (ix1 (i 1)) := by
  funext i
  idx_vars i
  pointwise [Gr]

theorem wi_at (w : FVec Ideal S1024x7168 .f32) (k : Fin 7168) (n : Fin 1024) : Wi (Gw w) (ix2 k n) = w (ix2 n k) := by
  pointwise [Wi, Gw]

end Cert.KernelInProjIdeal.Value

namespace Cert.InProj

section
open Idealize.ShloMosaic Idealize.SL.Sem Cert.ReferenceInProjIdeal Cert.ReferenceInProjIdeal.Gen Cert.ReferenceInProjIdeal.Value

/-- The reference has no semaphores, so their counters are zero throughout. -/
theorem frame_reference : Cert.quiescent_ReferenceInProjIdeal := fun m ρ _ =>
  (θ_run defs _ _).mono (fun r h => ⟨fun c => (h c).2.2, sem_eq_zero_of_no_sems rfl r.2⟩) (run m ρ)

theorem frame_reference_pre : Cert.quiescent_ReferenceInProjIdeal_pre_in_proj_finite := fun m ρ _ =>
  (θ_run defs _ _).mono (fun r h => ⟨fun c => (h c).2.2, sem_eq_zero_of_no_sems rfl r.2⟩) (run m ρ)
end

section
open Idealize.ShloMosaic Idealize.SL.Sem Cert.Pre_in_proj_finite Cert.Pre_in_proj_finite.Gen

theorem finite_args (a0 : FVec Ideal S8192x1024 .f32) (a1 : FVec Ideal S1024 .f32) (a2 : FVec Ideal S1024x7168 .f32) (a3 : FVec Ideal S8192x7168 .f32) (a4 : FVec Ideal S8192x1024 .f32)
    (h : fn (F := Ideal) a0 a1 a2 a3 a4 = fun _ => 1#1) : (∀ i, ActReal.R (a0 i)) ∧ (∀ i, ActReal.R (a1 i)) ∧ (∀ i, ActReal.R (a2 i)) ∧ ∀ i, ActReal.R (a3 i) := by
  have e := congrFun h (fun a => a.elim0)
  haveI : Subsingleton S_.Idx := ⟨fun a b => funext fun k => k.elim0⟩
  unfold fn fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨fun i => ActReal.real_of_lt _ _ i ActReal.inf_word (Host.reduce_andi_all _ _ _ _ _ e0 i), fun i => ActReal.real_of_lt _ _ i ActReal.inf_word (Host.reduce_andi_all _ _ _ _ _ e1 i),
    fun i => ActReal.real_of_lt _ _ i ActReal.inf_word (Host.reduce_andi_all _ _ _ _ _ e2 i), fun i => ActReal.real_of_lt _ _ i ActReal.inf_word (Host.reduce_andi_all _ _ _ _ _ e3 i)⟩
end

section
open Idealize.ShloMosaic Idealize.SL.Sem
open Cert.KernelInProjIdeal.Value (dhA dxA dgA Wi Gw Gr)

/-- At bit vectors the kernel and its idealized form run the same body. -/
theorem kernels_eq : @KernelInProj.defs₀ Bits _ _ = @KernelInProjIdeal.defs₀ Bits _ _ := by
  unfold KernelInProj.defs₀ KernelInProjIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : @KernelInProj.defs Bits _ _ = @KernelInProjIdeal.defs Bits _ _ := congrArg (Pipeline.defs (KernelInProjIdeal.pcfgs (F := Bits))) kernels_eq

theorem main_eq : @KernelInProj.main Bits _ _ = @KernelInProjIdeal.main Bits _ _ := rfl

theorem frame_kernel : Cert.quiescent_KernelInProj := fun m ρ _ => by
  have h := KernelInProjIdeal.Gen.frame (F := Bits) m ρ
  rw [← defs_eq, ← main_eq] at h
  exact h

theorem frame_ideal : Cert.quiescent_KernelInProjIdeal := fun m ρ _ => KernelInProjIdeal.Gen.frame (F := Ideal) m ρ

theorem frame_ideal_pre : Cert.quiescent_KernelInProjIdeal_pre_in_proj_finite := fun m ρ _ => KernelInProjIdeal.Gen.frame (F := Ideal) m ρ

/-- The kernel's product with the gathered weights is the reference's. -/
theorem dh_ref (A : FVec Ideal ReferenceInProjIdeal.S8192x7168 .f32) (w : FVec Ideal ReferenceInProjIdeal.S1024x7168 .f32) : dhA A (Wi (Gw w)) = InpRef.Dr A w := by
  funext i
  rw [InpRef.dot_at]
  exact Finset.sum_congr rfl fun k _ => congrArg (fun b : EReal => A (ix2 (i 0) k) * b) (KernelInProjIdeal.Value.wi_at w k (i 1))

theorem dr_real (A : FVec Ideal ReferenceInProjIdeal.S8192x7168 .f32) (w : FVec Ideal ReferenceInProjIdeal.S1024x7168 .f32) (hA : ∀ i, ActReal.R (A i)) (hw : ∀ i, ActReal.R (w i)) (i : ReferenceInProjIdeal.S8192x1024.Idx) :
    ActReal.R (InpRef.Dr A w i) := by
  rw [InpRef.dot_at]
  exact ActReal.R.sum _ _ fun k => (hA _).mul (hw _)

theorem agree : Cert.algebraic_KernelInProjIdeal_ReferenceInProjIdeal_pre_in_proj_finite := by
  intro m g m' g' hpre hargs
  refine ⟨fun c => dxA (dhA (m (c.tc.loc Cert.KernelInProjIdeal.main_arg3)) (Wi (Gw (m (c.tc.loc Cert.KernelInProjIdeal.main_arg2))))) (m (c.tc.loc Cert.KernelInProjIdeal.main_arg0)) (m (c.tc.loc Cert.KernelInProjIdeal.main_arg4)) (Gr (m (c.tc.loc Cert.KernelInProjIdeal.main_arg1))),
    fun c => dgA (dhA (m (c.tc.loc Cert.KernelInProjIdeal.main_arg3)) (Wi (Gw (m (c.tc.loc Cert.KernelInProjIdeal.main_arg2))))) (m (c.tc.loc Cert.KernelInProjIdeal.main_arg0)), ?_, ?_⟩
  · refine (θ_run Cert.KernelInProjIdeal.defs _ _).mono (fun r h c => ?_) (Cert.KernelInProjIdeal.Value.run_blocks m g)
    obtain ⟨h0, h1, kept⟩ := h c
    refine ⟨h0.trans ?_, h1.trans ?_, kept⟩
    · rw [Cert.KernelInProjIdeal.Value.arr_dx m c, Cert.KernelInProjIdeal.Value.HH, Cert.KernelInProjIdeal.Value.w_host m c, Cert.KernelInProjIdeal.Value.dp_host m c, Cert.KernelInProjIdeal.Value.g_host m c,
        Cert.KernelInProjIdeal.Gen.V_main_arg0 m c, Cert.KernelInProjIdeal.Gen.V_main_arg4 m c]
    · rw [Cert.KernelInProjIdeal.Value.arr_dg m c, Cert.KernelInProjIdeal.Value.HH, Cert.KernelInProjIdeal.Value.w_host m c, Cert.KernelInProjIdeal.Value.dp_host m c,
        Cert.KernelInProjIdeal.Gen.V_main_arg0 m c]
  · refine (θ_run Cert.ReferenceInProjIdeal.defs _ _).mono (fun r h c => ?_) (Cert.ReferenceInProjIdeal.Value.run m' g')
    obtain ⟨h0, h1, kept⟩ := h c
    obtain ⟨e0, e1, e2, e3, e4⟩ := hargs c
    obtain ⟨f0, f1, f2, f3⟩ := finite_args _ _ _ _ _ (hpre c)
    refine ⟨h0.trans ?_, h1.trans ?_, kept⟩
    · rw [InpRef.res_dx, e0, e1, e2, e3, e4]
      show _ = dxA _ _ _ _
      rw [dh_ref, Cert.KernelInProjIdeal.Value.gr_at]
      exact InpRef.dx_eq _ _ _ _ (dr_real _ _ f3 f2) f0 f1
    · rw [e0, e2, e3]
      show InpRef.rDg (InpRef.Dr (m (c.tc.loc Cert.KernelInProjIdeal.main_arg3)) (m (c.tc.loc Cert.KernelInProjIdeal.main_arg2))) (m (c.tc.loc Cert.KernelInProjIdeal.main_arg0)) = dgA _ _
      rw [InpRef.dg_at, dh_ref]
end

end Cert.InProj
-- ==== Proof.Ffi.Ref.lean ====
/- The reference's four results for the feed-forward layer's input gradient, entry by entry. -/
module

public import proofs.«01_k».proof.Proof.Gen.ReferenceFfnInIdeal
public import proofs.«01_k».proof.Proof.Gen.ReferenceFfnInIdeal.Run
public import proofs.«01_k».proof.Proof.Inp.Ref

@[expose] public section

set_option maxRecDepth 16384
set_option maxHeartbeats 1000000

noncomputable section

namespace Cert.FfnInRef

open Idealize.ShloMosaic Idealize.SL.Sem Cert.ReferenceFfnInIdeal Cert.ReferenceFfnInIdeal.Gen Cert.ReferenceFfnInIdeal.Value
open Cert.KernelInProjIdeal.Value (rsA dxA dgA)
open scoped BigOperators

/-- The gradient of the normalised rows: both incoming gradients through their weights. -/
def Dr (A B : FVec Ideal S8192x2816 .f32) (wg wu : FVec Ideal S1024x2816 .f32) : FVec Ideal S8192x1024 .f32 :=
  addf (Host.dotGeneral dot_S8192x2816_S1024x2816_S8192x1024_1_1_0_0_n_n none B wu) (Host.dotGeneral dot_S8192x2816_S1024x2816_S8192x1024_1_1_0_0_n_n none A wg)

theorem dot_at (A B : FVec Ideal S8192x2816 .f32) (wg wu : FVec Ideal S1024x2816 .f32) (i : S8192x1024.Idx) :
    Dr A B wg wu i = (∑ k : Fin 2816, A (ix2 (i 0) k) * wg (ix2 (i 1) k)) + ∑ k : Fin 2816, B (ix2 (i 0) k) * wu (ix2 (i 1) k) := by
  rw [add_comm]
  idx_vars i
  pointwise [Dr]

/-- The normalised and scaled rows. -/
def rH (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

theorem h_at (x : FVec Ideal S8192x1024 .f32) (g : FVec Ideal S1024 .f32) (i : S8192x1024.Idx) : rH x g i = x i * rsA x (i 0) * g (ix1 (i 1)) := by
  idx_vars i
  pointwise [rH, rsA]

theorem res_dx (m : (ℓ : Loc nD τ sig) → Buf (Elt Ideal) ℓ) (c : Dev nD) :
    res_main_v41 (F := Ideal) m c = InpRef.rDx (Dr (m ((c.tc : Thread nD τ).loc main_arg9)) (m ((c.tc : Thread nD τ).loc main_arg10)) (m ((c.tc : Thread nD τ).loc main_arg6)) (m ((c.tc : Thread nD τ).loc main_arg7)))
      (m ((c.tc : Thread nD τ).loc main_arg0)) (m ((c.tc : Thread nD τ).loc main_arg2)) (m ((c.tc : Thread nD τ).loc main_arg1)) := by
  unfold res_main_v41 InpRef.rDx InpRef.tR InpRef.vR Dr
  rfl

theorem res_dxb (m : (ℓ : Loc nD τ sig) → Buf (Elt Ideal) ℓ) (c : Dev nD) :
    res_main_v42 (F := Ideal) m c = InpRef.rDx (Dr (m ((c.tc : Thread nD τ).loc main_arg9)) (m ((c.tc : Thread nD τ).loc main_arg10)) (m ((c.tc : Thread nD τ).loc main_arg6)) (m ((c.tc : Thread nD τ).loc main_arg7)))
      (m ((c.tc : Thread nD τ).loc main_arg0)) (m ((c.tc : Thread nD τ).loc main_arg2)) (m ((c.tc : Thread nD τ).loc main_arg1)) := by
  unfold res_main_v42 InpRef.rDx InpRef.tR InpRef.vR Dr
  rfl

end Cert.FfnInRef
-- ==== Proof.Ffi.RunA.lean ====
/- GENERATED, UNTRUSTED: the whole-body RUN of `proofs.«01_k».proof.KernelFfnInIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.KernelFfnInIdeal.Frame.Runs

@[expose] public section

-- membership in a rectangle of production extents (`View.cover_of_tiled`): the elaborator's structural look
-- recurses once per coordinate of the long axes
set_option maxRecDepth 16384

noncomputable section

namespace Cert.KernelFfnInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The gathered weights held whole are what remains after 34 read shares together with the shares: one for each
    semaphore, by its number, so that each of the copies out of the array reads through its own share. -/
theorem read_shares (c : Dev nD) (f : HbBuf0 (F := F) c hbM0_0) :
    (hbPt0 c hbM0_0 f : sProp 𝕄) ⊣⊢ iprop((hbM0_0.view.loc (c : Thread nD τ) ↦{Transfers.shareDrop fullShare 34} f) ∗
      (hbM0_0.view.loc (c : Thread nD τ) ↦{Transfers.shareTokN fullShare 0} f) ∗
      (hbM0_0.view.loc (c : Thread nD τ) ↦{Transfers.shareTokN fullShare 1} f) ∗
      (hbM0_0.view.loc (c : Thread nD τ) ↦{Transfers.shareTokN fullShare 2} f) ∗
      (hbM0_0.view.loc (c : Thread nD τ) ↦{Transfers.shareTokN fullShare 3} f) ∗
      (hbM0_0.view.loc (c : Thread nD τ) ↦{Transfers.shareTokN fullShare 4} f) ∗
      (hbM0_0.view.loc (c : Thread nD τ) ↦{Transfers.shareTokN fullShare 5} f) ∗
      (hbM0_0.view.loc (c : Thread nD τ) ↦{Transfers.shareTokN fullShare 6} f) ∗
      (hbM0_0.view.loc (c : Thread nD τ) ↦{Transfers.shareTokN fullShare 7} f) ∗
      (hbM0_0.view.loc (c : Thread nD τ) ↦{Transfers.shareTokN fullShare 8} f) ∗
      (hbM0_0.view.loc (c : Thread nD τ) ↦{Transfers.shareTokN fullShare 9} f) ∗
      (hbM0_0.view.loc (c : Thread nD τ) ↦{Transfers.shareTokN fullShare 10} f) ∗
      (hbM0_0.view.loc (c : Thread nD τ) ↦{Transfers.shareTokN fullShare 11} f) ∗
      (hbM0_0.view.loc (c : Thread nD τ) ↦{Transfers.shareTokN fullShare 12} f) ∗
      (hbM0_0.view.loc (c : Thread nD τ) ↦{Transfers.shareTokN fullShare 13} f) ∗
      (hbM0_0.view.loc (c : Thread nD τ) ↦{Transfers.shareTokN fullShare 14} f) ∗
      (hbM0_0.view.loc (c : Thread nD τ) ↦{Transfers.shareTokN fullShare 15} f) ∗
      (hbM0_0.view.loc (c : Thread nD τ) ↦{Transfers.shareTokN fullShare 16} f) ∗
      (hbM0_0.view.loc (c : Thread nD τ) ↦{Transfers.shareTokN fullShare 17} f) ∗
      (hbM0_0.view.loc (c : Thread nD τ) ↦{Transfers.shareTokN fullShare 18} f) ∗
      (hbM0_0.view.loc (c : Thread nD τ) ↦{Transfers.shareTokN fullShare 19} f) ∗
      (hbM0_0.view.loc (c : Thread nD τ) ↦{Transfers.shareTokN fullShare 20} f) ∗
      (hbM0_0.view.loc (c : Thread nD τ) ↦{Transfers.shareTokN fullShare 21} f) ∗
      (hbM0_0.view.loc (c : Thread nD τ) ↦{Transfers.shareTokN fullShare 22} f) ∗
      (hbM0_0.view.loc (c : Thread nD τ) ↦{Transfers.shareTokN fullShare 23} f) ∗
      (hbM0_0.view.loc (c : Thread nD τ) ↦{Transfers.shareTokN fullShare 24} f) ∗
      (hbM0_0.view.loc (c : Thread nD τ) ↦{Transfers.shareTokN fullShare 25} f) ∗
      (hbM0_0.view.loc (c : Thread nD τ) ↦{Transfers.shareTokN fullShare 26} f) ∗
      (hbM0_0.view.loc (c : Thread nD τ) ↦{Transfers.shareTokN fullShare 27} f) ∗
      (hbM0_0.view.loc (c : Thread nD τ) ↦{Transfers.shareTokN fullShare 28} f) ∗
      (hbM0_0.view.loc (c : Thread nD τ) ↦{Transfers.shareTokN fullShare 29} f) ∗
      (hbM0_0.view.loc (c : Thread nD τ) ↦{Transfers.shareTokN fullShare 30} f) ∗
      (hbM0_0.view.loc (c : Thread nD τ) ↦{Transfers.shareTokN fullShare 31} f) ∗
      (hbM0_0.view.loc (c : Thread nD τ) ↦{Transfers.shareTokN fullShare 32} f) ∗
      (hbM0_0.view.loc (c : Thread nD τ) ↦{Transfers.shareTokN fullShare 33} f)) := by
  have h := Transfers.pointsTo_toks_range (nD := nD) (τ := τ) (sig := sig) (Ix := Unit) (Val := Elt F) (Name := ℕ) (U := Pipeline.UD sig nD τ) (Lvl := ℕ)
    (ℓ := hbM0_0.view.loc (c : Thread nD τ)) (S := Finset.univ) (f := f) fullShare 34
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33] (by decide) (by decide)] at h
  exact h

-- (the run's proof term is large: the definition's epilogue — `abstractNestedProofs` — walks it past the default budget)
set_option maxHeartbeats 4000000 in
-- each copy into the weights takes its own rows only
set_option sl_exec.dmaWindow true in
set_option sl_exec.dmaWindowSet true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) :
    Σ' (L5 : List (View.Piece (Elt F) S512x1024 .f32)), Σ' (L6 : List (View.Piece (Elt F) S512x1024 .bf16)), Σ' (L7 : List (View.Piece (Elt F) S512x1024 .bf16)), Σ' (L8 : List (View.Piece (Elt F) S8x1024 .f32)), Σ' (LS0 : List (View.Piece (Elt F) S2816x1024 .bf16)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ (∃ W', owes (c : Thread nD τ) 0 W')) -∗ K ⟨⟩))
          ⊢ wp frame (wpE (defs₀ (F := F)) Variants.none c none) Set.univ (cc0_ffn_bwd_in i arg1 harg1 arg2 harg2 arg3 harg3 arg4 harg4 arg5 harg5 (Memref.whole main_v9) (Memref.isWhole_whole _) arg7 harg7 arg8 harg8 arg9 harg9 arg10 harg10 arg11 harg11 arg12 harg12 cc0_scratch2) K } := by
  refine ⟨?_, ?_, ?_, ?_, ?_, ?_, fun W K => ?run⟩
  case run =>
    simp only [cc0_ffn_bwd_in_eq_skeleton]; unfold cc0_ffn_bwd_in_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1; obtain rfl := harg3.eq_unread hf2; obtain rfl := harg4.eq_unread hf3; obtain rfl := harg5.eq_unread hf4
    ihave Hh0 := (read_shares c fh0).1 $$ Hh0
    icases Hh0 with ⟨Hd, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hd Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33]
    · iapply (read_shares c fh0).2
      isplitl [Hd]; · iexact Hd
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      iexact Ht33
    iexists _; iexact HW

end Cert.KernelFfnInIdeal.Gen

end
-- ==== Proof.Ffi.RunB.lean ====
/- GENERATED, UNTRUSTED: the whole-body RUN of `proofs.«01_k».proof.KernelFfnInIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Ffi.RunA

@[expose] public section

-- membership in a rectangle of production extents (`View.cover_of_tiled`): the elaborator's structural look
-- recurses once per coordinate of the long axes
set_option maxRecDepth 16384

noncomputable section

namespace Cert.KernelFfnInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (8) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) :
    Σ' (L5 : List (View.Piece (Elt F) S512x1024 .f32)), Σ' (L6 : List (View.Piece (Elt F) S512x1024 .bf16)), Σ' (L7 : List (View.Piece (Elt F) S512x1024 .bf16)), Σ' (L8 : List (View.Piece (Elt F) S8x1024 .f32)), Σ' (LS0 : List (View.Piece (Elt F) S2816x1024 .bf16)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo8 ∗ owns (c : Thread nD τ) arg11 fullShare xs0 ∗ owns (c : Thread nD τ) arg12 fullShare xs1 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xo8) L8) ∗ owns (c : Thread nD τ) arg11 fullShare xs0 ∗ owns (c : Thread nD τ) arg12 fullShare xs1 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ (∃ W', owes (c : Thread nD τ) 0 W')) -∗ K ⟨⟩))
          ⊢ wp frame (wpE (defs₀ (F := F)) Variants.none c none) Set.univ (cc0_ffn_bwd_in i arg1 harg1 arg2 harg2 arg3 harg3 arg4 harg4 arg5 harg5 (Memref.whole main_v9) (Memref.isWhole_whole _) arg7 harg7 arg8 harg8 arg9 harg9 arg10 harg10 arg11 harg11 arg12 harg12 cc0_scratch2) K } := by
  refine ⟨?_, ?_, ?_, ?_, [], [], fun W K => ?run⟩
  case run =>
    simp only [cc0_ffn_bwd_in_eq_skeleton]; unfold cc0_ffn_bwd_in_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hf8; obtain rfl := harg11.eq_unread hfs0; obtain rfl := harg12.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexact H8
    isplitl [HS0]
    · iexists _; isplitr; · ipureintro; exact harg11.read_unread _
      iexact HS0
    isplitl [HS1]
    · iexists _; isplitr; · ipureintro; exact harg12.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    iexists _; iexact HW

end Cert.KernelFfnInIdeal.Gen

end
-- ==== Proof.Ffi.Frame.lean ====
/- GENERATED, UNTRUSTED: the FRAME CERTIFICATE of `proofs.«01_k».proof.KernelFfnInIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs,
   a scratch accumulator CARRIED between points (stored whole at the grid's first point, its contents after each point stated), `scf.if`s on the coordinates, an operand left in HBM copied into scratch by the body's own DMA within the point —
   framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame_dma`) and `Gen.frame` — the frame claim at any `F`: Proof.lean is
   `theorem Cert.Proof.claim : Cert.Claim := ⟨Gen.facts, fun m ρ _ => Gen.frame m ρ⟩`.
   CLASS R (2 cases of its conditionals, 2 scratch operands, 1 operand staged by the body's own DMA, scratch `arg11`, `arg12` carried between points, outputs [8] live (their block's contents carried over from the point before)): the certificate is whole here — not class A: the kernel takes operands the pipeline does not stage (scratch, semaphores, tables, arrays left in HBM). DO NOT EDIT. -/
module

public import proofs.«01_k».proof.Proof.Ffi.RunB
public import Idealize.ShloMosaic.Lib.Claim

@[expose] public section

-- membership in a rectangle of production extents (`View.cover_of_tiled`): the elaborator's structural look
-- recurses once per coordinate of the long axes
set_option maxRecDepth 16384

noncomputable section

namespace Cert.KernelFfnInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 5 tile its block (1 store of `S512x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) (y : S512x1024.Idx) :
    ∃ pc ∈ (kernelRun0_A c i arg1 harg1 arg2 harg2 arg3 harg3 arg4 harg4 arg5 harg5 arg7 harg7 arg8 harg8 arg9 harg9 arg10 harg10 arg11 harg11 arg12 harg12 hc0 x0 x1 x2 x3 x4 fh0).1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 hc0 x0 x1 x2 x3 x4 fh0).1 S512x1024.size (by sl_kernel_rfl) y

/-- What case A leaves in output 5's staging buffer: its pieces read back over junk. -/
def out0_A_5 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) : Vec F S512x1024 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 arg11 harg11 arg12 harg12 hc0 x0 x1 x2 x3 x4 fh0).1)

/-- Case A's pieces for output 6 tile its block (1 store of `S512x1024`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) (y : S512x1024.Idx) :
    ∃ pc ∈ (kernelRun0_A c i arg1 harg1 arg2 harg2 arg3 harg3 arg4 harg4 arg5 harg5 arg7 harg7 arg8 harg8 arg9 harg9 arg10 harg10 arg11 harg11 arg12 harg12 hc0 x0 x1 x2 x3 x4 fh0).2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 hc0 x0 x1 x2 x3 x4 fh0).2.1 S512x1024.size (by sl_kernel_rfl) y

/-- What case A leaves in output 6's staging buffer: its pieces read back over junk. -/
def out0_A_6 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) : Vec F S512x1024 .bf16 :=
  VO0_6.read (Elt F) (VO0_6.writes (Elt F) VO0_6.junk (kernelRun0_A c i arg1 harg1 arg2 harg2 arg3 harg3 arg4 harg4 arg5 harg5 arg7 harg7 arg8 harg8 arg9 harg9 arg10 harg10 arg11 harg11 arg12 harg12 hc0 x0 x1 x2 x3 x4 fh0).2.1)

/-- Case A's pieces for output 7 tile its block (1 store of `S512x1024`, checked by the kernel's evaluation: Lib/Ring.lean `Piece.tiledL`, linear in the pieces, through a loop's `@[irreducible]` trip theorem too), so they cover it. -/
theorem cover0_A_7 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) (y : S512x1024.Idx) :
    ∃ pc ∈ (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.1 S512x1024.size (by sl_kernel_rfl) y

/-- What case A leaves in output 7's staging buffer: its pieces read back over junk. -/
def out0_A_7 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) : Vec F S512x1024 .bf16 :=
  VO0_7.read (Elt F) (VO0_7.writes (Elt F) VO0_7.junk (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.1)

/-- Case A's pieces for output 8 are of SEVERAL sizes (2 stores of `S1x1024`, `S8x1024`): cut into blocks of `![1, 1024]` they tile its block (checked by the kernel's evaluation: Lib/Ring.lean `Piece.tiledBy`), so they cover it. -/
theorem cover0_A_8 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) (y : S8x1024.Idx) :
    ∃ pc ∈ (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.1, y ∈ pc.1.set :=
  View.cover_of_tiledBy (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.1 ![1, 1024] (by sl_kernel_rfl) y

/-- What case A leaves in output 8's staging buffer: its pieces read back over junk. -/
def out0_A_8 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) : Vec F S8x1024 .f32 :=
  VO0_8.read (Elt F) (VO0_8.writes (Elt F) VO0_8.junk (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.1)

/-- Case A's pieces for scratch `arg11`, which the kernel carries between points, cover it: 8 pieces of `S352x1024` tiling it (Lib/Ring.lean `Piece.tiledL`). -/
theorem scover0_A_0 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.1 S352x1024.size (by sl_kernel_rfl) y

/-- What case A leaves in scratch `arg11`: its pieces read back over junk. -/
def sout0_A_0 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) : Vec F S2816x1024 .bf16 :=
  VS0_0.read (Elt F) (VS0_0.writes (Elt F) VS0_0.junk (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.1)

/-- Case A's pieces for scratch `arg12`, which the kernel carries between points, cover it: 8 pieces of `S352x1024` tiling it (Lib/Ring.lean `Piece.tiledL`). -/
theorem scover0_A_1 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.2.1 S352x1024.size (by sl_kernel_rfl) y

/-- What case A leaves in scratch `arg12`: its pieces read back over junk. -/
def sout0_A_1 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : cond0_0 i)
    (x0 : Vec F S512x2816 .bf16) (x1 : Vec F S512x2816 .bf16) (x2 : Vec F S512x1024 .f32) (x3 : Vec F S512x1024 .f32) (x4 : Vec F S1x1024 .f32) (fh0 : HbBuf0 (F := F) c hbM0_0) : Vec F S2816x1024 .bf16 :=
  VS0_1.read (Elt F) (VS0_1.writes (Elt F) VS0_1.junk (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.2.1)

/-- Case B's pieces for output 5 tile its block (1 store of `S512x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) (y : S512x1024.Idx) :
    ∃ pc ∈ (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).1 S512x1024.size (by sl_kernel_rfl) y

/-- What case B leaves in output 5's staging buffer: its pieces read back over junk. -/
def out0_B_5 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) : Vec F S512x1024 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).1)

/-- Case B's pieces for output 6 tile its block (1 store of `S512x1024`, checked by the kernel's evaluation: Lib/Ring.lean `Piece.tiledL`, linear in the pieces, through a loop's `@[irreducible]` trip theorem too), so they cover it. -/
theorem cover0_B_6 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) (y : S512x1024.Idx) :
    ∃ pc ∈ (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).2.1 S512x1024.size (by sl_kernel_rfl) y

/-- What case B leaves in output 6's staging buffer: its pieces read back over junk. -/
def out0_B_6 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) : Vec F S512x1024 .bf16 :=
  VO0_6.read (Elt F) (VO0_6.writes (Elt F) VO0_6.junk (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).2.1)

/-- Case B's pieces for output 7 tile its block (1 store of `S512x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) (y : S512x1024.Idx) :
    ∃ pc ∈ (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).2.2.1 S512x1024.size (by sl_kernel_rfl) y

/-- What case B leaves in output 7's staging buffer: its pieces read back over junk. -/
def out0_B_7 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) : Vec F S512x1024 .bf16 :=
  VO0_7.read (Elt F) (VO0_7.writes (Elt F) VO0_7.junk (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).2.2.1)

/-- What case B leaves in output 8's staging buffer: its stores read back over what the point before left there (they do not cover the block). -/
def out0_B_8 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) : Vec F S8x1024 .f32 :=
  arg10.view.read (Elt F) (arg10.view.writes (Elt F) (harg10.unread xo8) (kernelRun0_B c i arg1 harg1 arg2 harg2 arg3 harg3 arg4 harg4 arg5 harg5 arg7 harg7 arg8 harg8 arg9 harg9 arg10 harg10 arg11 harg11 arg12 harg12 hc0 x0 x1 x2 x3 x4 xo8 xs0 xs1 fh0).2.2.2.1)

/-- Case B stores nothing into scratch `arg11`: it holds what the point before left. -/
def sout0_B_0 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) : Vec F S2816x1024 .bf16 := xs0

/-- Case B stores nothing into scratch `arg12`: it holds what the point before left. -/
def sout0_B_1 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole) (hc0 : ¬cond0_0 i)
    (x0 : Vec F S512x2816 .bf16) (x1 : Vec F S512x2816 .bf16) (x2 : Vec F S512x1024 .f32) (x3 : Vec F S512x1024 .f32) (x4 : Vec F S1x1024 .f32) (xo8 : Vec F S8x1024 .f32) (xs0 : Vec F S2816x1024 .bf16) (xs1 : Vec F S2816x1024 .bf16) (fh0 : HbBuf0 (F := F) c hbM0_0) : Vec F S2816x1024 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x1024 .bf16 × Vec F S512x1024 .bf16 × Vec F S8x1024 .f32 × Vec F S2816x1024 .bf16 × Vec F S2816x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v9), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v9), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v9), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v9), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v9), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v9))
  | n + 1, hn =>
    if h0 : (n + 1) % 16 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v9), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v9), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v9), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v9), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v9), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v9))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9))

/-- `outsAt0` at a point of case A: that case's contents. -/
theorem outsAt0_A (c : Dev nD) (t : Fin cfg0.N) (h0 : t.val % 16 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (V m c main_v9), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (V m c main_v9), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (V m c main_v9), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (V m c main_v9), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (V m c main_v9), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (V m c main_v9)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(hbPt0 c hbM0_0 (V m c main_v9)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(hbPt0 c hbM0_0 (V m c main_v9))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(hbPt0 c hbM0_0 (V m c main_v9))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 16 = 0) (d) :
    (dats m 0 c).before 8 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_5 out0_A_6 out0_A_7 out0_A_8 sout0_A_0 sout0_A_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (V m c main_v9)).2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [HW]; · iexact HW
      iintro ⟨H0, H1, H2, H3, H4, ⟨%e5, H5⟩, ⟨%e6, H6⟩, ⟨%e7, H7⟩, ⟨%e8, H8⟩, ⟨%es0, HS0⟩, ⟨%es1, HS1⟩, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_8_B m c t h0]
      unfold out0_B_5 out0_B_6 out0_B_7 out0_B_8 sout0_B_0 sout0_B_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ (V m c main_v9)).2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [HW]; · iexact HW
      iintro ⟨H0, H1, H2, H3, H4, ⟨%e5, H5⟩, ⟨%e6, H6⟩, ⟨%e7, H7⟩, H8, HS0, HS1, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]; · iexact HS0
          iexact HS1
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _)
      unfold owns; iexists _; isplitr
      swap; · iexact H8
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15⟩, Hh0⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_KernelFfnInIdeal`'s statement (Defs.lean) at any `F` — Proof.lean cites it at `Bits`:
    `theorem Cert.Proof.claim : Cert.Claim := ⟨Cert.KernelFfnInIdeal.Gen.facts, fun m ρ _ => Cert.KernelFfnInIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelFfnInIdeal.Gen

end
-- ==== Proof.Ffi.Value.lean ====
/- The VALUE LEG of proofs.«01_k».proof.KernelFfnInIdeal's certificate (Lib/Pipeline/Value.lean) for this class-R kernel, in two forms. BLOCKWISE,
   whatever its body computes: `run_blocks` is the frame run `Gen.run_main` with each output array after the run NAMED
   (`(Gen.dats …).arrAt w N`), and per output window `w`: `flushed_w` — what grid point `t` would write back is the
   run's contents for the window (`Gen.outsAtK`) read through the block —, per case `flushed_w_κ` — at a point of that case,
   the case's NAMED TERM (`Gen.outK_κ_W`: its pieces read back; for an output the case reads back, over what the point
   before left) —, when the index map is injective (decided) `disjoint_w` / `blocks_w` — block `t` of the final array
   IS what point `t` wrote —, `entry_w` — an index no block covers keeps the region-entry
   contents. The ACCUMULATED form (`run`: each output array one function of the arguments) is NOT written for this
   kernel:
   the body has transfers of its own: the accumulated form is not written for such a kernel yet.
   The certificate's hand proof unfolds the named terms `flushed_w_κ` cites and sets `run_blocks` beside the
   reference's run. For each carried scratch reset at evenly spaced points the module closes with what a
   point leaves in it over what the point before left (`scAtK_N`) and the scratch after any point as that function's
   fold from the run's last reset (`soutsAtK_N_eq`, `Pipeline.eq_accAt_of_mod`): what a hand proof over it inducts on. -/
module

public import proofs.«01_k».proof.Proof.Ffi.Frame
public import Idealize.ShloMosaic.Lib.Pipeline.Value

@[expose] public section

noncomputable section

namespace Cert.KernelFfnInIdeal.Value

open Cert.KernelFfnInIdeal Cert.KernelFfnInIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (V m c main_v9)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9)) := by
  simp only [flushed5, outsAt0_B m c t h0]

/-- The index map sends distinct grid points to distinct block indices (decided over the 16 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8192x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

-- no `blocks8`: window 8's index map revisits a block index, or its points could not be enumerated here;
-- the final array is still the frame's `arrAt`, to read with Lib/Pipeline/Value.lean's lemmas by hand

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v13_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v13_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v13_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v13_3) = (dats m 0 c).arrAt 8 cfg0.N :=
  (h c).1 8

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 5 cfg0.N
      ∧ r.2.mem ((c : Thread nD τ).loc main_v13_1) = (dats m 0 c).arrAt 6 cfg0.N
      ∧ r.2.mem ((c : Thread nD τ).loc main_v13_2) = (dats m 0 c).arrAt 7 cfg0.N
      ∧ r.2.mem ((c : Thread nD τ).loc main_v13_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2816x1024 .bf16) : Vec F S2816x1024 .bf16 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v9)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2 (V m c main_v9)

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.2.2.1) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S2816x1024 .bf16) : Vec F S2816x1024 .bf16 :=
  if h0 : n % 16 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v9)
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (V m c main_v9)

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2.2.2.2) 16 (fun n h => scAt0_1 m c n h (VS0_1.read (Elt F) VS0_1.junk)) (scAt0_1 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.KernelFfnInIdeal.Value

end
-- ==== Proof.Ffi.Pay.lean ====
/- What the feed-forward layer's input gradient stores for one block of rows, entry by entry. -/
module

public import proofs.«01_k».proof.Proof.Gen.KernelFfnInIdeal
public import proofs.«01_k».proof.Proof.Gen.KernelFfnInIdeal.Skeleton
public import proofs.«01_k».proof.Proof.Inp.Arrays
public import Idealize.ShloMosaic.Lib.Pointwise
public import Idealize.ShloMosaic.Lib.VecWindow
public import Idealize.ShloMosaic.Lib.Pipeline.ValueKit

@[expose] public section

set_option maxRecDepth 16384

noncomputable section

namespace Cert.KernelFfnInIdeal.Value

open Idealize.ShloMosaic Idealize.SL.Sem Cert.KernelFfnInIdeal Cert.KernelFfnInIdeal.Gen
open Cert.KernelInProjIdeal.Value (rsB dxB dgB rsA dxA dgA rs_eq dx_eq)
open scoped BigOperators

/-- The gradient of the normalised rows: both incoming gradients through their weights. -/
def dhB (A : S512x2816.Idx → EReal) (Wg : S2816x1024.Idx → EReal) (B : S512x2816.Idx → EReal) (Wu : S2816x1024.Idx → EReal) (i : S512x1024.Idx) : EReal :=
  (∑ k : Fin 2816, A (ix2 (i 0) k) * Wg (ix2 k (i 1))) + ∑ k : Fin 2816, B (ix2 (i 0) k) * Wu (ix2 k (i 1))

/-- The normalised and scaled rows of a block. -/
def hB (X : S512x1024.Idx → EReal) (g : S1x1024.Idx → EReal) (i : S512x1024.Idx) : EReal :=
  X i * rsB X (i 0) * g (ix2 0 (i 1))

theorem dh_at (A B : Vec Ideal S512x2816 .bf16) (Wg Wu : Vec Ideal S2816x1024 .bf16) (j : S512x1024.Idx) : k0_pay5 (F := Ideal) A Wg B Wu j = dhB A Wg B Wu j := by
  unfold dhB
  idx_vars j
  pointwise [k0_pay5]

theorem h_at (X : Vec Ideal S512x1024 .f32) (g : Vec Ideal S1x1024 .f32) (j : S512x1024.Idx) : k0_pay9 (F := Ideal) X g j = hB X g j := by
  idx_vars j
  pointwise [k0_pay9, k0_pay8, k0_pay7, k0_pay6, rsB, hB]

theorem dx_at (H X D : Vec Ideal S512x1024 .f32) (g : Vec Ideal S1x1024 .f32) (j : S512x1024.Idx) :
    k0_pay2 (F := Ideal) H (k0_pay6 X) (k0_pay7 X) (k0_pay8 g) D j = dxB H X D g j := by
  idx_vars j
  pointwise [k0_pay2, k0_pay8, k0_pay7, k0_pay6, rsB, dxB]

theorem dxb_at (H X D : Vec Ideal S512x1024 .f32) (g : Vec Ideal S1x1024 .f32) (j : S512x1024.Idx) :
    k0_pay3 (F := Ideal) H (k0_pay6 X) (k0_pay7 X) (k0_pay8 g) D j = dxB H X D g j := dx_at H X D g j

theorem dg_at (A B : Vec Ideal S512x2816 .bf16) (Wg Wu : Vec Ideal S2816x1024 .bf16) (X : Vec Ideal S512x1024 .f32) (a : Vec Ideal S1x1024 .f32) (z : Fin 1) (n : Fin 1024) :
    k0_pay1 (F := Ideal) (k0_pay10 a) (k0_pay11 A Wg B Wu X) (ix2 z n) = a (ix2 z n) + dgB (k0_pay5 (F := Ideal) A Wg B Wu) X n := by
  unfold k0_pay11
  generalize k0_pay5 (F := Ideal) A Wg B Wu = H
  pointwise [k0_pay1, k0_pay10, k0_pay7, k0_pay6, rsB, dgB]

theorem zero_at (j : S8x1024.Idx) : k0_pay4 (F := Ideal) j = (0 : EReal) := by
  idx_vars j
  pointwise [k0_pay4]

end Cert.KernelFfnInIdeal.Value
-- ==== Proof.Ffi.Load.lean ====
/- The weights the first block's copies bring into the two kept buffers. -/
module

public import proofs.«01_k».proof.Proof.Ffi.Value
public import proofs.«01_k».proof.Proof.Ffi.Pay
public import Idealize.ShloMosaic.Lib.Pipeline.ReadBack

@[expose] public section

set_option maxRecDepth 16384

noncomputable section

namespace Cert.KernelFfnInIdeal.Value

open Idealize.ShloMosaic Idealize.SL.Sem Cert.KernelFfnInIdeal Cert.KernelFfnInIdeal.Gen
open Cert.KernelInProjIdeal.Value (emb_norm)
open scoped BigOperators

/-- A load of all of a buffer out of stores that are blocks of `G` and cover it reads `G`. -/
theorem readCov_all {sp : Space} {s : Shape} {e : EltTy} (v : View sig .tc sp s e) (G : s.Idx → Elt Ideal e) (L : List (View.Piece (Elt Ideal) s e))
    (hp : View.PiecesOf G L) (hc : ∀ y, ∃ p ∈ L, y ∈ p.1.set) {off : Fin s.rank → ℕ} (h : ∀ a, off a = 0) (inb : ∀ a, off a + s.size a ≤ s.size a) :
    v.readCov L (Rect.unit off s.size inb).toLoadRect = G := by
  rw [View.readCov_eq_canon']
  exact (funext fun j => View.canon_apply_of_pieces G L hp.mem _ (hc _) : _ = View.ld G (Rect.unit off s.size inb)).trans (View.ld_unit_lit inb G h)

/-- The eight shards of the gate weights, one after the other. -/
def Wg (f : Vec Ideal S8x1440x1024 .bf16) (j : S2816x1024.Idx) : EReal :=
  f (ix3 ⟨(j 0).val / 352, by have := (j 0).isLt; exact Nat.div_lt_of_lt_mul this⟩ ⟨384 + (j 0).val % 352, by have := Nat.mod_lt (j 0).val (show 0 < 352 by norm_num); omega⟩ (j 1))

/-- The eight shards of the up weights, one after the other. -/
def Wu (f : Vec Ideal S8x1440x1024 .bf16) (j : S2816x1024.Idx) : EReal :=
  f (ix3 ⟨(j 0).val / 352, by have := (j 0).isLt; exact Nat.div_lt_of_lt_mul this⟩ ⟨736 + (j 0).val % 352, by have := Nat.mod_lt (j 0).val (show 0 < 352 by norm_num); omega⟩ (j 1))

variable (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S2816x1024 .bf16) (harg11 : arg11.IsWhole) (arg12 : Memref sig .tc .vmem S2816x1024 .bf16) (harg12 : arg12.IsWhole)
    (x0 : Vec Ideal S512x2816 .bf16) (x1 : Vec Ideal S512x2816 .bf16) (x2 : Vec Ideal S512x1024 .f32) (x3 : Vec Ideal S512x1024 .f32) (x4 : Vec Ideal S1x1024 .f32) (fh0 : HbBuf0 (F := Ideal) c hbM0_0)

theorem dma_g0 (x : S352x1024.Idx) :
    kernelRun0_A.sl.dma0 c fh0 x = Wg fh0 (ix2 ⟨0 + (x 0).val, Nat.lt_of_lt_of_le (Nat.add_lt_add_left (x 0).isLt 0) (by decide)⟩ (x 1)) := by
  simp only [kernelRun0_A.sl.dma0, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 0 + 1 * 0 = x0.val / 352
    omega
  · show 384 + 1 * x0.val = 384 + x0.val % 352
    omega
  · show 0 + 1 * x1.val = x1.val
    omega

theorem dma_g1 (x : S352x1024.Idx) :
    kernelRun0_A.sl.dma0_1 c fh0 x = Wg fh0 (ix2 ⟨352 + (x 0).val, Nat.lt_of_lt_of_le (Nat.add_lt_add_left (x 0).isLt 352) (by decide)⟩ (x 1)) := by
  simp only [kernelRun0_A.sl.dma0_1, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 1 + 1 * 0 = (352 + x0.val) / 352
    omega
  · show 384 + 1 * x0.val = 384 + (352 + x0.val) % 352
    omega
  · show 0 + 1 * x1.val = x1.val
    omega

theorem dma_g2 (x : S352x1024.Idx) :
    kernelRun0_A.sl.dma0_2 c fh0 x = Wg fh0 (ix2 ⟨704 + (x 0).val, Nat.lt_of_lt_of_le (Nat.add_lt_add_left (x 0).isLt 704) (by decide)⟩ (x 1)) := by
  simp only [kernelRun0_A.sl.dma0_2, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 2 + 1 * 0 = (704 + x0.val) / 352
    omega
  · show 384 + 1 * x0.val = 384 + (704 + x0.val) % 352
    omega
  · show 0 + 1 * x1.val = x1.val
    omega

theorem dma_g3 (x : S352x1024.Idx) :
    kernelRun0_A.sl.dma0_3 c fh0 x = Wg fh0 (ix2 ⟨1056 + (x 0).val, Nat.lt_of_lt_of_le (Nat.add_lt_add_left (x 0).isLt 1056) (by decide)⟩ (x 1)) := by
  simp only [kernelRun0_A.sl.dma0_3, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 3 + 1 * 0 = (1056 + x0.val) / 352
    omega
  · show 384 + 1 * x0.val = 384 + (1056 + x0.val) % 352
    omega
  · show 0 + 1 * x1.val = x1.val
    omega

theorem dma_g4 (x : S352x1024.Idx) :
    kernelRun0_A.sl.dma0_4 c fh0 x = Wg fh0 (ix2 ⟨1408 + (x 0).val, Nat.lt_of_lt_of_le (Nat.add_lt_add_left (x 0).isLt 1408) (by decide)⟩ (x 1)) := by
  simp only [kernelRun0_A.sl.dma0_4, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 4 + 1 * 0 = (1408 + x0.val) / 352
    omega
  · show 384 + 1 * x0.val = 384 + (1408 + x0.val) % 352
    omega
  · show 0 + 1 * x1.val = x1.val
    omega

theorem dma_g5 (x : S352x1024.Idx) :
    kernelRun0_A.sl.dma0_5 c fh0 x = Wg fh0 (ix2 ⟨1760 + (x 0).val, Nat.lt_of_lt_of_le (Nat.add_lt_add_left (x 0).isLt 1760) (by decide)⟩ (x 1)) := by
  simp only [kernelRun0_A.sl.dma0_5, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 5 + 1 * 0 = (1760 + x0.val) / 352
    omega
  · show 384 + 1 * x0.val = 384 + (1760 + x0.val) % 352
    omega
  · show 0 + 1 * x1.val = x1.val
    omega

theorem dma_g6 (x : S352x1024.Idx) :
    kernelRun0_A.sl.dma0_6 c fh0 x = Wg fh0 (ix2 ⟨2112 + (x 0).val, Nat.lt_of_lt_of_le (Nat.add_lt_add_left (x 0).isLt 2112) (by decide)⟩ (x 1)) := by
  simp only [kernelRun0_A.sl.dma0_6, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 6 + 1 * 0 = (2112 + x0.val) / 352
    omega
  · show 384 + 1 * x0.val = 384 + (2112 + x0.val) % 352
    omega
  · show 0 + 1 * x1.val = x1.val
    omega

theorem dma_g7 (x : S352x1024.Idx) :
    kernelRun0_A.sl.dma0_7 c fh0 x = Wg fh0 (ix2 ⟨2464 + (x 0).val, Nat.lt_of_lt_of_le (Nat.add_lt_add_left (x 0).isLt 2464) (by decide)⟩ (x 1)) := by
  simp only [kernelRun0_A.sl.dma0_7, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 7 + 1 * 0 = (2464 + x0.val) / 352
    omega
  · show 384 + 1 * x0.val = 384 + (2464 + x0.val) % 352
    omega
  · show 0 + 1 * x1.val = x1.val
    omega

theorem dma_u0 (x : S352x1024.Idx) :
    kernelRun0_A.sl.dma0_8 c fh0 x = Wu fh0 (ix2 ⟨0 + (x 0).val, Nat.lt_of_lt_of_le (Nat.add_lt_add_left (x 0).isLt 0) (by decide)⟩ (x 1)) := by
  simp only [kernelRun0_A.sl.dma0_8, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 0 + 1 * 0 = x0.val / 352
    omega
  · show 736 + 1 * x0.val = 736 + x0.val % 352
    omega
  · show 0 + 1 * x1.val = x1.val
    omega

theorem dma_u1 (x : S352x1024.Idx) :
    kernelRun0_A.sl.dma0_9 c fh0 x = Wu fh0 (ix2 ⟨352 + (x 0).val, Nat.lt_of_lt_of_le (Nat.add_lt_add_left (x 0).isLt 352) (by decide)⟩ (x 1)) := by
  simp only [kernelRun0_A.sl.dma0_9, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 1 + 1 * 0 = (352 + x0.val) / 352
    omega
  · show 736 + 1 * x0.val = 736 + (352 + x0.val) % 352
    omega
  · show 0 + 1 * x1.val = x1.val
    omega

theorem dma_u2 (x : S352x1024.Idx) :
    kernelRun0_A.sl.dma0_10 c fh0 x = Wu fh0 (ix2 ⟨704 + (x 0).val, Nat.lt_of_lt_of_le (Nat.add_lt_add_left (x 0).isLt 704) (by decide)⟩ (x 1)) := by
  simp only [kernelRun0_A.sl.dma0_10, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 2 + 1 * 0 = (704 + x0.val) / 352
    omega
  · show 736 + 1 * x0.val = 736 + (704 + x0.val) % 352
    omega
  · show 0 + 1 * x1.val = x1.val
    omega

theorem dma_u3 (x : S352x1024.Idx) :
    kernelRun0_A.sl.dma0_11 c fh0 x = Wu fh0 (ix2 ⟨1056 + (x 0).val, Nat.lt_of_lt_of_le (Nat.add_lt_add_left (x 0).isLt 1056) (by decide)⟩ (x 1)) := by
  simp only [kernelRun0_A.sl.dma0_11, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 3 + 1 * 0 = (1056 + x0.val) / 352
    omega
  · show 736 + 1 * x0.val = 736 + (1056 + x0.val) % 352
    omega
  · show 0 + 1 * x1.val = x1.val
    omega

theorem dma_u4 (x : S352x1024.Idx) :
    kernelRun0_A.sl.dma0_12 c fh0 x = Wu fh0 (ix2 ⟨1408 + (x 0).val, Nat.lt_of_lt_of_le (Nat.add_lt_add_left (x 0).isLt 1408) (by decide)⟩ (x 1)) := by
  simp only [kernelRun0_A.sl.dma0_12, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 4 + 1 * 0 = (1408 + x0.val) / 352
    omega
  · show 736 + 1 * x0.val = 736 + (1408 + x0.val) % 352
    omega
  · show 0 + 1 * x1.val = x1.val
    omega

theorem dma_u5 (x : S352x1024.Idx) :
    kernelRun0_A.sl.dma0_13 c fh0 x = Wu fh0 (ix2 ⟨1760 + (x 0).val, Nat.lt_of_lt_of_le (Nat.add_lt_add_left (x 0).isLt 1760) (by decide)⟩ (x 1)) := by
  simp only [kernelRun0_A.sl.dma0_13, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 5 + 1 * 0 = (1760 + x0.val) / 352
    omega
  · show 736 + 1 * x0.val = 736 + (1760 + x0.val) % 352
    omega
  · show 0 + 1 * x1.val = x1.val
    omega

theorem dma_u6 (x : S352x1024.Idx) :
    kernelRun0_A.sl.dma0_14 c fh0 x = Wu fh0 (ix2 ⟨2112 + (x 0).val, Nat.lt_of_lt_of_le (Nat.add_lt_add_left (x 0).isLt 2112) (by decide)⟩ (x 1)) := by
  simp only [kernelRun0_A.sl.dma0_14, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 6 + 1 * 0 = (2112 + x0.val) / 352
    omega
  · show 736 + 1 * x0.val = 736 + (2112 + x0.val) % 352
    omega
  · show 0 + 1 * x1.val = x1.val
    omega

theorem dma_u7 (x : S352x1024.Idx) :
    kernelRun0_A.sl.dma0_15 c fh0 x = Wu fh0 (ix2 ⟨2464 + (x 0).val, Nat.lt_of_lt_of_le (Nat.add_lt_add_left (x 0).isLt 2464) (by decide)⟩ (x 1)) := by
  simp only [kernelRun0_A.sl.dma0_15, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 7 + 1 * 0 = (2464 + x0.val) / 352
    omega
  · show 736 + 1 * x0.val = 736 + (2464 + x0.val) % 352
    omega
  · show 0 + 1 * x1.val = x1.val
    omega

/-- What the copies store are blocks of the weights. -/
theorem pieces_g {hc0} :
    View.PiecesOf (Wg fh0) (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.1 := by
  unfold kernelRun0_A
  dsimp only
  refine ⟨fun x => ?_, fun x => ?_, fun x => ?_, fun x => ?_, fun x => ?_, fun x => ?_, fun x => ?_, fun x => ?_, trivial⟩
  · change S352x1024.Idx at x
    refine (dma_g7 c fh0 x).trans ?_
    pointwise [emb_norm]
  · change S352x1024.Idx at x
    refine (dma_g6 c fh0 x).trans ?_
    pointwise [emb_norm]
  · change S352x1024.Idx at x
    refine (dma_g5 c fh0 x).trans ?_
    pointwise [emb_norm]
  · change S352x1024.Idx at x
    refine (dma_g4 c fh0 x).trans ?_
    pointwise [emb_norm]
  · change S352x1024.Idx at x
    refine (dma_g3 c fh0 x).trans ?_
    pointwise [emb_norm]
  · change S352x1024.Idx at x
    refine (dma_g2 c fh0 x).trans ?_
    pointwise [emb_norm]
  · change S352x1024.Idx at x
    refine (dma_g1 c fh0 x).trans ?_
    pointwise [emb_norm]
  · change S352x1024.Idx at x
    refine (dma_g0 c fh0 x).trans ?_
    pointwise [emb_norm]

theorem canon_g {hc0} : View.canon (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.1 = Wg fh0 :=
  funext fun y => View.canon_apply_of_pieces (Wg fh0) _ (pieces_g c i arg1 harg1 arg2 harg2 arg3 harg3 arg4 harg4 arg5 harg5 arg7 harg7 arg8 harg8 arg9 harg9 arg10 harg10 arg11 harg11 arg12 harg12 x0 x1 x2 x3 x4 fh0).mem y (scover0_A_0 c i arg1 harg1 arg2 harg2 arg3 harg3 arg4 harg4 arg5 harg5 arg7 harg7 arg8 harg8 arg9 harg9 arg10 harg10 arg11 harg11 arg12 harg12 hc0 x0 x1 x2 x3 x4 fh0 y)

theorem sout_g {hc0} : sout0_A_0 c i arg1 harg1 arg2 harg2 arg3 harg3 arg4 harg4 arg5 harg5 arg7 harg7 arg8 harg8 arg9 harg9 arg10 harg10 arg11 harg11 arg12 harg12 hc0 x0 x1 x2 x3 x4 fh0 = Wg fh0 := by
  unfold sout0_A_0
  rw [View.read_writes_junk_eq_canon]
  exact canon_g c i arg1 harg1 arg2 harg2 arg3 harg3 arg4 harg4 arg5 harg5 arg7 harg7 arg8 harg8 arg9 harg9 arg10 harg10 arg11 harg11 arg12 harg12 x0 x1 x2 x3 x4 fh0

/-- What the load of the weights reads within the first block. -/
theorem load_g {hc0} :
    arg11.view.readCov (Val := Elt Ideal) (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.1 (Rect.unit (s := S2816x1024) ![0, 0] S2816x1024.size inb_S2816x1024_S2816x1024_0_0).toLoadRect = Wg fh0 := by
  exact readCov_all arg11.view (Wg fh0) _ (pieces_g c i arg1 harg1 arg2 harg2 arg3 harg3 arg4 harg4 arg5 harg5 arg7 harg7 arg8 harg8 arg9 harg9 arg10 harg10 arg11 harg11 arg12 harg12 x0 x1 x2 x3 x4 fh0) (scover0_A_0 c i arg1 harg1 arg2 harg2 arg3 harg3 arg4 harg4 arg5 harg5 arg7 harg7 arg8 harg8 arg9 harg9 arg10 harg10 arg11 harg11 arg12 harg12 hc0 x0 x1 x2 x3 x4 fh0) (by decide) inb_S2816x1024_S2816x1024_0_0

/-- What the copies store are blocks of the weights. -/
theorem pieces_u {hc0} :
    View.PiecesOf (Wu fh0) (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.2.1 := by
  unfold kernelRun0_A
  dsimp only
  refine ⟨fun x => ?_, fun x => ?_, fun x => ?_, fun x => ?_, fun x => ?_, fun x => ?_, fun x => ?_, fun x => ?_, trivial⟩
  · change S352x1024.Idx at x
    refine (dma_u7 c fh0 x).trans ?_
    pointwise [emb_norm]
  · change S352x1024.Idx at x
    refine (dma_u6 c fh0 x).trans ?_
    pointwise [emb_norm]
  · change S352x1024.Idx at x
    refine (dma_u5 c fh0 x).trans ?_
    pointwise [emb_norm]
  · change S352x1024.Idx at x
    refine (dma_u4 c fh0 x).trans ?_
    pointwise [emb_norm]
  · change S352x1024.Idx at x
    refine (dma_u3 c fh0 x).trans ?_
    pointwise [emb_norm]
  · change S352x1024.Idx at x
    refine (dma_u2 c fh0 x).trans ?_
    pointwise [emb_norm]
  · change S352x1024.Idx at x
    refine (dma_u1 c fh0 x).trans ?_
    pointwise [emb_norm]
  · change S352x1024.Idx at x
    refine (dma_u0 c fh0 x).trans ?_
    pointwise [emb_norm]

theorem canon_u {hc0} : View.canon (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.2.1 = Wu fh0 :=
  funext fun y => View.canon_apply_of_pieces (Wu fh0) _ (pieces_u c i arg1 harg1 arg2 harg2 arg3 harg3 arg4 harg4 arg5 harg5 arg7 harg7 arg8 harg8 arg9 harg9 arg10 harg10 arg11 harg11 arg12 harg12 x0 x1 x2 x3 x4 fh0).mem y (scover0_A_1 c i arg1 harg1 arg2 harg2 arg3 harg3 arg4 harg4 arg5 harg5 arg7 harg7 arg8 harg8 arg9 harg9 arg10 harg10 arg11 harg11 arg12 harg12 hc0 x0 x1 x2 x3 x4 fh0 y)

theorem sout_u {hc0} : sout0_A_1 c i arg1 harg1 arg2 harg2 arg3 harg3 arg4 harg4 arg5 harg5 arg7 harg7 arg8 harg8 arg9 harg9 arg10 harg10 arg11 harg11 arg12 harg12 hc0 x0 x1 x2 x3 x4 fh0 = Wu fh0 := by
  unfold sout0_A_1
  rw [View.read_writes_junk_eq_canon]
  exact canon_u c i arg1 harg1 arg2 harg2 arg3 harg3 arg4 harg4 arg5 harg5 arg7 harg7 arg8 harg8 arg9 harg9 arg10 harg10 arg11 harg11 arg12 harg12 x0 x1 x2 x3 x4 fh0

/-- What the load of the weights reads within the first block. -/
theorem load_u {hc0} :
    arg12.view.readCov (Val := Elt Ideal) (kernelRun0_A c i arg1 harg1 arg2 harg2 arg3 harg3 arg4 harg4 arg5 harg5 arg7 harg7 arg8 harg8 arg9 harg9 arg10 harg10 arg11 harg11 arg12 harg12 hc0 x0 x1 x2 x3 x4 fh0).2.2.2.2.2.1 (Rect.unit (s := S2816x1024) ![0, 0] S2816x1024.size inb_S2816x1024_S2816x1024_0_0).toLoadRect = Wu fh0 := by
  exact readCov_all arg12.view (Wu fh0) _ (pieces_u c i arg1 harg1 arg2 harg2 arg3 harg3 arg4 harg4 arg5 harg5 arg7 harg7 arg8 harg8 arg9 harg9 arg10 harg10 arg11 harg11 arg12 harg12 x0 x1 x2 x3 x4 fh0) (scover0_A_1 c i arg1 harg1 arg2 harg2 arg3 harg3 arg4 harg4 arg5 harg5 arg7 harg7 arg8 harg8 arg9 harg9 arg10 harg10 arg11 harg11 arg12 harg12 hc0 x0 x1 x2 x3 x4 fh0) (by decide) inb_S2816x1024_S2816x1024_0_0

end Cert.KernelFfnInIdeal.Value
-- ==== Proof.Ffi.Body.lean ====
/- What each block of rows leaves in the four results and in the kept weights. -/
module

public import proofs.«01_k».proof.Proof.Ffi.Load

@[expose] public section

set_option maxRecDepth 16384

noncomputable section

namespace Cert.KernelFfnInIdeal.Value

open Idealize.ShloMosaic Idealize.SL.Sem Cert.KernelFfnInIdeal Cert.KernelFfnInIdeal.Gen
open Cert.KernelInProjIdeal.Value (rsB dxB dgB row0_canon)
open scoped BigOperators

/-- A store into the first row, over any contents. -/
theorem row0_writes {κ : Kind} {sp : Space} (v : View sig κ sp S8x1024 .f32) (f : v.ty.Contents (Elt Ideal)) (w : (Rect.unit (s := S8x1024) ![0, 0] S1x1024.size inb_S8x1024_S1x1024_0_0).shape.Idx → Elt Ideal .f32) (y : S8x1024.Idx) :
    v.read (Elt Ideal) (v.writes (Elt Ideal) f [(⟨Rect.unit (s := S8x1024) ![0, 0] S1x1024.size inb_S8x1024_S1x1024_0_0, w⟩ : View.Piece (Elt Ideal) S8x1024 .f32)]) y
      = if (y 0).val = 0 then w (ix2 0 (y 1)) else v.read (Elt Ideal) f y := by
  by_cases hj : (y 0).val = 0
  · rw [if_pos hj]
    exact View.read_writes_cons_unit_of_mem v f inb_S8x1024_S1x1024_0_0 w [] y (ix2 0 (y 1)) rfl fun a => by
      fin_cases a
      · exact hj
      · show (y 1).val = 0 + (y 1).val
        omega
  · rw [if_neg hj]
    refine View.read_writes_cons_unit_of_not_mem v f inb_S8x1024_S1x1024_0_0 w [] y rfl 0 (Or.inr ?_)
    show 0 + 1 ≤ (y 0).val
    omega

variable (m : (ℓ : Loc nD τ sig) → Buf (Elt Ideal) ℓ)

theorem kept_g_first (c : Dev nD) (t : Fin cfg0.N) (h0 : t.val % 16 = 0) : (outsAt0 m c t.val t.isLt).2.2.2.2.1 = Wg (V m c main_v9) := by
  rw [outsAt0_A m c t h0]
  dsimp only
  exact sout_g (hc0 := (hcond0_0 t).mpr h0) _ _ _ _ _ _ _ _ _ _ _ _ _ _ _ _ _ _ _ _ _ _ _ _ _ _ _ _ _ _

theorem kept_g_next (c : Dev nD) (t : Fin cfg0.N) (h0 : ¬t.val % 16 = 0) : (outsAt0 m c t.val t.isLt).2.2.2.2.1 = (outsAt0 m c (t.val - 1) (Nat.lt_of_le_of_lt (Nat.sub_le _ _) t.isLt)).2.2.2.2.1 := by
  rw [outsAt0_B m c t h0]
  rfl

/-- The kept weights after any block are the gathered ones. -/
theorem kept_g (c : Dev nD) : ∀ (n : ℕ) (h : n < cfg0.N), (outsAt0 m c n h).2.2.2.2.1 = Wg (V m c main_v9) := by
  intro n
  induction n with
  | zero =>
    intro h
    exact kept_g_first m c ⟨0, h⟩ rfl
  | succ n ih =>
    intro h
    have hN : cfg0.N = 16 := rfl
    exact (kept_g_next m c ⟨n + 1, h⟩ (by show ¬(n + 1) % 16 = 0; omega)).trans (ih (Nat.lt_of_succ_lt h))

theorem kept_u_first (c : Dev nD) (t : Fin cfg0.N) (h0 : t.val % 16 = 0) : (outsAt0 m c t.val t.isLt).2.2.2.2.2 = Wu (V m c main_v9) := by
  rw [outsAt0_A m c t h0]
  dsimp only
  exact sout_u (hc0 := (hcond0_0 t).mpr h0) _ _ _ _ _ _ _ _ _ _ _ _ _ _ _ _ _ _ _ _ _ _ _ _ _ _ _ _ _ _

theorem kept_u_next (c : Dev nD) (t : Fin cfg0.N) (h0 : ¬t.val % 16 = 0) : (outsAt0 m c t.val t.isLt).2.2.2.2.2 = (outsAt0 m c (t.val - 1) (Nat.lt_of_le_of_lt (Nat.sub_le _ _) t.isLt)).2.2.2.2.2 := by
  rw [outsAt0_B m c t h0]
  rfl

/-- The kept weights after any block are the gathered ones. -/
theorem kept_u (c : Dev nD) : ∀ (n : ℕ) (h : n < cfg0.N), (outsAt0 m c n h).2.2.2.2.2 = Wu (V m c main_v9) := by
  intro n
  induction n with
  | zero =>
    intro h
    exact kept_u_first m c ⟨0, h⟩ rfl
  | succ n ih =>
    intro h
    have hN : cfg0.N = 16 := rfl
    exact (kept_u_next m c ⟨n + 1, h⟩ (by show ¬(n + 1) % 16 = 0; omega)).trans (ih (Nat.lt_of_succ_lt h))

/-- What a later block reads of the kept weights. -/
theorem rd_g (c : Dev nD) (t : Fin cfg0.N) :
    View.read (Elt Ideal) (View.whole cc0_scratch0) ((Memref.isWhole_whole cc0_scratch0).unread (outsAt0 m c (t.val - 1) (Nat.lt_of_le_of_lt (Nat.sub_le _ _) t.isLt)).2.2.2.2.1) = Wg (V m c main_v9) :=
  ((Memref.isWhole_whole cc0_scratch0).read_unread _).trans (kept_g m c _ _)

/-- What a later block reads of the kept weights. -/
theorem rd_u (c : Dev nD) (t : Fin cfg0.N) :
    View.read (Elt Ideal) (View.whole cc0_scratch1) ((Memref.isWhole_whole cc0_scratch1).unread (outsAt0 m c (t.val - 1) (Nat.lt_of_le_of_lt (Nat.sub_le _ _) t.isLt)).2.2.2.2.2) = Wu (V m c main_v9) :=
  ((Memref.isWhole_whole cc0_scratch1).read_unread _).trans (kept_u m c _ _)

/-- The gradient of a block's normalised rows. -/
def HB (c : Dev nD) (t : Fin cfg0.N) : Vec Ideal S512x1024 .f32 := k0_pay5 (F := Ideal) (iblk m c 0 t) (Wg (V m c main_v9)) (iblk m c 1 t) (Wu (V m c main_v9))

/-- The rows' gradient after a block. -/
theorem dx_block (c : Dev nD) (t : Fin cfg0.N) (j : S512x1024.Idx) : (outsAt0 m c t.val t.isLt).1 j = dxB (HB m c t) (iblk m c 3 t) (iblk m c 2 t) (iblk m c 4 t) j := by
  by_cases h0 : t.val % 16 = 0
  · rw [outsAt0_A m c t h0]
    frame_out
    rw [dx_at]
    exact congrArg₂ (fun a b => dxB (k0_pay5 (F := Ideal) (iblk m c 0 t) a (iblk m c 1 t) b) (iblk m c 3 t) (iblk m c 2 t) (iblk m c 4 t) j) (load_g (hc0 := (hcond0_0 t).mpr h0) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (V m c main_v9))
      (load_u (hc0 := (hcond0_0 t).mpr h0) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (V m c main_v9))
  · rw [outsAt0_B m c t h0]
    frame_out
    rw [dx_at]
    exact congrArg₂ (fun a b => dxB (k0_pay5 (F := Ideal) (iblk m c 0 t) a (iblk m c 1 t) b) (iblk m c 3 t) (iblk m c 2 t) (iblk m c 4 t) j) (rd_g m c t) (rd_u m c t)

/-- The same, as the copy kept for the weight gradients. -/
theorem dxb_block (c : Dev nD) (t : Fin cfg0.N) (j : S512x1024.Idx) : (outsAt0 m c t.val t.isLt).2.1 j = dxB (HB m c t) (iblk m c 3 t) (iblk m c 2 t) (iblk m c 4 t) j := by
  by_cases h0 : t.val % 16 = 0
  · rw [outsAt0_A m c t h0]
    frame_out
    rw [dxb_at]
    exact congrArg₂ (fun a b => dxB (k0_pay5 (F := Ideal) (iblk m c 0 t) a (iblk m c 1 t) b) (iblk m c 3 t) (iblk m c 2 t) (iblk m c 4 t) j) (load_g (hc0 := (hcond0_0 t).mpr h0) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (V m c main_v9))
      (load_u (hc0 := (hcond0_0 t).mpr h0) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (V m c main_v9))
  · rw [outsAt0_B m c t h0]
    frame_out
    rw [dxb_at]
    exact congrArg₂ (fun a b => dxB (k0_pay5 (F := Ideal) (iblk m c 0 t) a (iblk m c 1 t) b) (iblk m c 3 t) (iblk m c 2 t) (iblk m c 4 t) j) (rd_g m c t) (rd_u m c t)

/-- The normalised and scaled rows after a block. -/
theorem h_block (c : Dev nD) (t : Fin cfg0.N) (j : S512x1024.Idx) : (outsAt0 m c t.val t.isLt).2.2.1 j = hB (iblk m c 3 t) (iblk m c 4 t) j := by
  by_cases h0 : t.val % 16 = 0
  · rw [outsAt0_A m c t h0]
    frame_out
    exact h_at _ _ j
  · rw [outsAt0_B m c t h0]
    frame_out
    exact h_at _ _ j

theorem dg_first (c : Dev nD) (t : Fin cfg0.N) (h0 : t.val % 16 = 0) (j : S8x1024.Idx) :
    (outsAt0 m c t.val t.isLt).2.2.2.1 j = if (j 0).val = 0 then 0 + dgB (HB m c t) (iblk m c 3 t) (j 1) else 0 := by
  rw [outsAt0_A m c t h0]
  frame_out
  refine (row0_canon _ _ j).trans ?_
  by_cases hj : (j 0).val = 0
  · rw [if_pos hj, if_pos hj]
    refine (dg_at _ _ _ _ _ _ 0 (j 1)).trans ?_
    refine congrArg₂ (fun a b : EReal => a + b) ?_ (congrArg₂ (fun a b => dgB (k0_pay5 (F := Ideal) (iblk m c 0 t) a (iblk m c 1 t) b) (iblk m c 3 t) (j 1)) (load_g (hc0 := (hcond0_0 t).mpr h0) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (V m c main_v9))
      (load_u (hc0 := (hcond0_0 t).mpr h0) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (V m c main_v9)))
    rw [View.readCov_fill _ _ _ _ _ (by decide)]
    exact zero_at _
  · rw [if_neg hj, if_neg hj, View.canon_cons_unit_lit _ _ _ (by decide)]
    exact zero_at _

theorem dg_next (c : Dev nD) (t : Fin cfg0.N) (h0 : ¬t.val % 16 = 0) (j : S8x1024.Idx) :
    (outsAt0 m c t.val t.isLt).2.2.2.1 j = (outsAt0 m c (t.val - 1) (Nat.lt_of_le_of_lt (Nat.sub_le _ _) t.isLt)).2.2.2.1 j + if (j 0).val = 0 then dgB (HB m c t) (iblk m c 3 t) (j 1) else 0 := by
  rw [outsAt0_B m c t h0]
  frame_out
  refine (row0_writes _ _ _ j).trans ?_
  have hr : View.read (Elt Ideal) (ms0_8 t).view ((hs0_8 t).unread (outsAt0 m c (t.val - 1) (Nat.lt_of_le_of_lt (Nat.sub_le _ _) t.isLt)).2.2.2.1) = (outsAt0 m c (t.val - 1) (Nat.lt_of_le_of_lt (Nat.sub_le _ _) t.isLt)).2.2.2.1 := (hs0_8 t).read_unread _
  by_cases hj : (j 0).val = 0
  · rw [if_pos hj, if_pos hj]
    refine (dg_at _ _ _ _ _ _ 0 (j 1)).trans ?_
    refine congrArg₂ (fun a b : EReal => a + b) ?_ (congrArg₂ (fun a b => dgB (k0_pay5 (F := Ideal) (iblk m c 0 t) a (iblk m c 1 t) b) (iblk m c 3 t) (j 1)) (rd_g m c t) (rd_u m c t))
    refine congrArg (outsAt0 m c (t.val - 1) (Nat.lt_of_le_of_lt (Nat.sub_le _ _) t.isLt)).2.2.2.1 (funext fun a => Fin.ext ?_)
    fin_cases a
    · exact hj.symm
    · show 0 + 1 * (j 1).val = (j 1).val
      omega
  · rw [if_neg hj, if_neg hj, add_zero]
    exact congrFun hr j

end Cert.KernelFfnInIdeal.Value
-- ==== Proof.Ffi.Arrays.lean ====
/- The four results of the feed-forward layer's input gradient after the run. -/
module

public import proofs.«01_k».proof.Proof.Ffi.Body

@[expose] public section

set_option maxRecDepth 16384

noncomputable section

namespace Cert.KernelFfnInIdeal.Value

open Idealize.ShloMosaic Idealize.SL.Sem Cert.KernelFfnInIdeal Cert.KernelFfnInIdeal.Gen
open Cert.KernelInProjIdeal.Value (rsB dxB dgB rsA dxA dgA rs_eq dx_eq)
open scoped BigOperators

/-- The gradient of the normalised rows, over all rows. -/
def dhA (A B : S8192x2816.Idx → EReal) (Vg Vu : S2816x1024.Idx → EReal) (i : S8192x1024.Idx) : EReal :=
  (∑ k : Fin 2816, A (ix2 (i 0) k) * Vg (ix2 k (i 1))) + ∑ k : Fin 2816, B (ix2 (i 0) k) * Vu (ix2 k (i 1))

/-- All normalised and scaled rows. -/
def hA (X : S8192x1024.Idx → EReal) (g : S1x1024.Idx → EReal) (i : S8192x1024.Idx) : EReal :=
  X i * rsA X (i 0) * g (ix2 0 (i 1))

theorem dh_eq (A B : S512x2816.Idx → EReal) (A' B' : S8192x2816.Idx → EReal) (Vg Vu : S2816x1024.Idx → EReal) (r : Fin 512) (q : Fin 8192) (hA : ∀ k, A (ix2 r k) = A' (ix2 q k))
    (hB : ∀ k, B (ix2 r k) = B' (ix2 q k)) (n : Fin 1024) : dhB A Vg B Vu (ix2 r n) = dhA A' B' Vg Vu (ix2 q n) := by
  show (∑ k : Fin 2816, A (ix2 r k) * Vg (ix2 k n)) + (∑ k : Fin 2816, B (ix2 r k) * Vu (ix2 k n)) = (∑ k : Fin 2816, A' (ix2 q k) * Vg (ix2 k n)) + ∑ k : Fin 2816, B' (ix2 q k) * Vu (ix2 k n)
  simp only [hA, hB]

theorem h_eq (X : S512x1024.Idx → EReal) (X' : S8192x1024.Idx → EReal) (g g' : S1x1024.Idx → EReal) (r : Fin 512) (q : Fin 8192) (hX : ∀ n, X (ix2 r n) = X' (ix2 q n)) (hg : g = g')
    (n : Fin 1024) : hB X g (ix2 r n) = hA X' g' (ix2 q n) := by
  subst hg
  show X (ix2 r n) * rsB X r * g (ix2 0 n) = X' (ix2 q n) * rsA X' q * g (ix2 0 n)
  rw [rs_eq X X' r q hX, hX]

variable (m : (ℓ : Loc nD τ sig) → Buf (Elt Ideal) ℓ)

theorem idx_at (t : Fin cfg0.N) : win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0] ∧ win0_8.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0] ∧ win0_8.index t = ![0, 0]) t

theorem blk0_at (c : Dev nD) (s : Fin cfg0.N) (r : Fin 512) (k : Fin 2816) (h : s.val * 512 + r.val < 8192) :
    iblk m c 0 s (ix2 r k) = V m c main_v10 (ix2 ⟨s.val * 512 + r.val, h⟩ k) := by
  obtain ⟨e0, e1, e2, e3, e4, e5, e6, e7, e8⟩ := idx_at s
  blk_ext [iblk, e0]

theorem blk1_at (c : Dev nD) (s : Fin cfg0.N) (r : Fin 512) (k : Fin 2816) (h : s.val * 512 + r.val < 8192) :
    iblk m c 1 s (ix2 r k) = V m c main_v11 (ix2 ⟨s.val * 512 + r.val, h⟩ k) := by
  obtain ⟨e0, e1, e2, e3, e4, e5, e6, e7, e8⟩ := idx_at s
  blk_ext [iblk, e1]

theorem blk2_at (c : Dev nD) (s : Fin cfg0.N) (r : Fin 512) (k : Fin 1024) (h : s.val * 512 + r.val < 8192) :
    iblk m c 2 s (ix2 r k) = V m c main_arg2 (ix2 ⟨s.val * 512 + r.val, h⟩ k) := by
  obtain ⟨e0, e1, e2, e3, e4, e5, e6, e7, e8⟩ := idx_at s
  blk_ext [iblk, e2]

theorem blk3_at (c : Dev nD) (s : Fin cfg0.N) (r : Fin 512) (k : Fin 1024) (h : s.val * 512 + r.val < 8192) :
    iblk m c 3 s (ix2 r k) = V m c main_arg0 (ix2 ⟨s.val * 512 + r.val, h⟩ k) := by
  obtain ⟨e0, e1, e2, e3, e4, e5, e6, e7, e8⟩ := idx_at s
  blk_ext [iblk, e3]

theorem blk4_at (c : Dev nD) (s : Fin cfg0.N) : iblk m c 4 s = V m c main_v12 := by
  obtain ⟨e0, e1, e2, e3, e4, e5, e6, e7, e8⟩ := idx_at s
  funext j
  idx_vars j
  blk_ext [iblk, e4]

/-- All rows' gradient of the normalised rows, of this run's arguments. -/
def HH (c : Dev nD) : S8192x1024.Idx → EReal := dhA (V m c main_v10) (V m c main_v11) (Wg (V m c main_v9)) (Wu (V m c main_v9))

theorem hh_at (c : Dev nD) (s : Fin cfg0.N) (r : Fin 512) (q : Fin 8192) (hq : q.val = s.val * 512 + r.val) (n : Fin 1024) :
    HB m c s (ix2 r n) = HH m c (ix2 q n) := by
  have h : s.val * 512 + r.val < 8192 := hq ▸ q.isLt
  have eq : q = ⟨s.val * 512 + r.val, h⟩ := Fin.ext hq
  subst eq
  exact (dh_at _ _ _ _ _).trans (dh_eq _ _ _ _ _ _ r _ (fun k => blk0_at m c s r k h) (fun k => blk1_at m c s r k h) n)

theorem dx_point (c : Dev nD) (t : Fin cfg0.N) (y : S512x1024.Idx) (i : S8192x1024.Idx) (h0 : (i 0).val = t.val * 512 + (y 0).val) (h1 : (i 1).val = (y 1).val) :
    (outsAt0 m c t.val t.isLt).1 y = dxA (HH m c) (V m c main_arg0) (V m c main_arg2) (V m c main_v12) i := by
  rw [dx_block]
  have h : t.val * 512 + (y 0).val < 8192 := h0 ▸ (i 0).isLt
  have ey : y = ix2 (y 0) (y 1) := funext fun a => by fin_cases a <;> rfl
  have ei : i = ix2 ⟨t.val * 512 + (y 0).val, h⟩ (y 1) := funext fun a => Fin.ext (by fin_cases a <;> assumption)
  rw [ey, ei]
  exact dx_eq _ _ _ _ _ _ _ _ (y 0) _ (fun n => hh_at m c t (y 0) _ rfl n) (fun n => blk3_at m c t (y 0) n h) (fun n => blk2_at m c t (y 0) n h) (blk4_at m c t) (y 1)

theorem dxb_point (c : Dev nD) (t : Fin cfg0.N) (y : S512x1024.Idx) (i : S8192x1024.Idx) (h0 : (i 0).val = t.val * 512 + (y 0).val) (h1 : (i 1).val = (y 1).val) :
    (outsAt0 m c t.val t.isLt).2.1 y = dxA (HH m c) (V m c main_arg0) (V m c main_arg2) (V m c main_v12) i := by
  rw [dxb_block]
  have h : t.val * 512 + (y 0).val < 8192 := h0 ▸ (i 0).isLt
  have ey : y = ix2 (y 0) (y 1) := funext fun a => by fin_cases a <;> rfl
  have ei : i = ix2 ⟨t.val * 512 + (y 0).val, h⟩ (y 1) := funext fun a => Fin.ext (by fin_cases a <;> assumption)
  rw [ey, ei]
  exact dx_eq _ _ _ _ _ _ _ _ (y 0) _ (fun n => hh_at m c t (y 0) _ rfl n) (fun n => blk3_at m c t (y 0) n h) (fun n => blk2_at m c t (y 0) n h) (blk4_at m c t) (y 1)

theorem h_point (c : Dev nD) (t : Fin cfg0.N) (y : S512x1024.Idx) (i : S8192x1024.Idx) (h0 : (i 0).val = t.val * 512 + (y 0).val) (h1 : (i 1).val = (y 1).val) :
    (outsAt0 m c t.val t.isLt).2.2.1 y = hA (V m c main_arg0) (V m c main_v12) i := by
  rw [h_block]
  have h : t.val * 512 + (y 0).val < 8192 := h0 ▸ (i 0).isLt
  have ey : y = ix2 (y 0) (y 1) := funext fun a => by fin_cases a <;> rfl
  have ei : i = ix2 ⟨t.val * 512 + (y 0).val, h⟩ (y 1) := funext fun a => Fin.ext (by fin_cases a <;> assumption)
  rw [ey, ei]
  exact h_eq _ _ _ _ (y 0) _ (fun n => blk3_at m c t (y 0) n h) (blk4_at m c t) (y 1)

theorem dg_point (c : Dev nD) (t : Fin cfg0.N) (ht : t.val % 16 = 15) (y i : S8x1024.Idx) (h0 : (i 0).val = (y 0).val) (h1 : (i 1).val = (y 1).val) :
    (outsAt0 m c t.val t.isLt).2.2.2.1 y = dgA (HH m c) (V m c main_arg0) i := by
  have hi : i = y := funext fun a => Fin.ext (by fin_cases a <;> assumption)
  subst hi
  rw [Pipeline.eq_sum_fin_of_reset_step_apply_of_flush (fun n h => (outsAt0 m c n h).2.2.2.1) 16 (fun _ => (0 : EReal))
    (fun p j => if (j 0).val = 0 then dgB (HB m c p) (iblk m c 3 p) (j 1) else 0)
    (fun t h j => (dg_first m c t h j).trans (by split <;> simp)) (fun t h j => dg_next m c t h j) t ht i, zero_add]
  unfold dgA
  by_cases hj : (i 0).val = 0
  · simp only [if_pos hj]
    unfold dgB
    refine Fin.sum_mul_add_congr fun s k hl => ?_
    have hq : s.val * 512 + k.val = (16 * (t.val / 16) + s.val) * 512 + k.val := by
      have := t.isLt
      have hN : cfg0.N = 16 := rfl
      rw [show 16 * (t.val / 16) + s.val = s.val by omega]
    have e1 : ∀ n, iblk m c 3 ⟨16 * (t.val / 16) + s.val, Pipeline.run_point_lt_of_flush t ht s⟩ (ix2 k n) = V m c main_arg0 (ix2 ⟨s.val * 512 + k.val, hl⟩ n) := fun n =>
      (blk3_at m c _ k n (hq ▸ hl)).trans (congrArg (fun q => V m c main_arg0 (ix2 q n)) (Fin.ext hq.symm))
    refine congrArg₂ (fun a b : EReal => a * b) (hh_at m c _ k _ hq (i 1)) (congrArg₂ (fun a b : EReal => a * b) (e1 (i 1)) (rs_eq _ _ k _ e1))
  · simp only [if_neg hj]
    exact Finset.sum_const_zero

theorem arr_dx (c : Dev nD) : (dats m 0 c).arrAt 5 cfg0.N = dxA (HH m c) (V m c main_arg0) (V m c main_arg2) (V m c main_v12) := by
  refine (dats m 0 c).arrAt_eq_of_covers 5 _ (by decide +kernel) fun t hf y => ?_
  obtain ⟨e0, e1, e2, e3, e4, e5, e6, e7, e8⟩ := idx_at t
  blk_simp
  rw [after0_5]
  refine dx_point m c t y _ ?_ ?_
  · blk_simp [e5]
  · blk_simp [e5]

theorem arr_dxb (c : Dev nD) : (dats m 0 c).arrAt 6 cfg0.N = dxA (HH m c) (V m c main_arg0) (V m c main_arg2) (V m c main_v12) := by
  refine (dats m 0 c).arrAt_eq_of_covers 6 _ (by decide +kernel) fun t hf y => ?_
  obtain ⟨e0, e1, e2, e3, e4, e5, e6, e7, e8⟩ := idx_at t
  blk_simp
  rw [after0_6]
  refine dxb_point m c t y _ ?_ ?_
  · blk_simp [e6]
  · blk_simp [e6]

theorem arr_h (c : Dev nD) : (dats m 0 c).arrAt 7 cfg0.N = hA (V m c main_arg0) (V m c main_v12) := by
  refine (dats m 0 c).arrAt_eq_of_covers 7 _ (by decide +kernel) fun t hf y => ?_
  obtain ⟨e0, e1, e2, e3, e4, e5, e6, e7, e8⟩ := idx_at t
  blk_simp
  rw [after0_7]
  refine h_point m c t y _ ?_ ?_
  · blk_simp [e7]
  · blk_simp [e7]

theorem arr_dg (c : Dev nD) : (dats m 0 c).arrAt 8 cfg0.N = dgA (HH m c) (V m c main_arg0) := by
  refine (dats m 0 c).arrAt_eq_of_covers 8 _ (by decide +kernel) fun t hf y => ?_
  obtain ⟨e0, e1, e2, e3, e4, e5, e6, e7, e8⟩ := idx_at t
  blk_simp
  rw [after0_8]
  refine dg_point m c t ((flush0_8 t).mp hf) y _ ?_ ?_
  · blk_simp [e8]
  · blk_simp [e8]

end Cert.KernelFfnInIdeal.Value
-- ==== Proof.Ffi.Agree.lean ====
/- The feed-forward layer's input gradient: the arrays the host prepares, finite arguments, and the claims about both programs. -/
module

public import proofs.«01_k».proof.Proof.Ffi.Ref
public import proofs.«01_k».proof.Proof.Ffi.Arrays
public import proofs.«01_k».proof.Proof.Gen.KernelFfnIn
public import proofs.«01_k».proof.Proof.Gen.Pre_ffn_in_finite
public import proofs.«01_k».proof.Pre_ffn_in_finite
public import Idealize.ShloMosaic.Lib.StableHlo.ReadAt
public import Idealize.ShloMosaic.Lib.Quiescent
public import proofs.«01_k».proof.Proof.Inp.Agree

@[expose] public section

set_option maxRecDepth 16384
set_option maxHeartbeats 1000000

noncomputable section

namespace Cert.KernelFfnInIdeal.Value

open Idealize.ShloMosaic Idealize.SL.Sem Cert.KernelFfnInIdeal Cert.KernelFfnInIdeal.Gen
open Idealize.ShloMosaic.StableHlo

variable (m : (ℓ : Loc nD τ sig) → Buf (Elt Ideal) ℓ)

/-- The scale as a row. -/
def Gr (g : FVec Ideal S1024 .f32) : FVec Ideal S1x1024 .f32 := broadcastInDim S1x1024 ![1] bcast_S1024_S1x1024_1 g

theorem dg_host (c : Dev nD) : V m c main_v10 = m ((c.tc : Thread nD τ).loc main_arg9) := by
  unfold V
  after_reads_simp
  rfl

theorem du_host (c : Dev nD) : V m c main_v11 = m ((c.tc : Thread nD τ).loc main_arg10) := by
  unfold V
  after_reads_simp
  rfl

theorem g_host (c : Dev nD) : V m c main_v12 = Gr (m ((c.tc : Thread nD τ).loc main_arg1)) := by
  unfold V
  after_reads_simp
  rfl

theorem gr_at (g : FVec Ideal S1024 .f32) : Gr g = fun i => g (ix1 (i 1)) := by
  funext i
  idx_vars i
  pointwise [Gr]

theorem gath_g (c : Dev nD) (w : S1024x2816.Idx → EReal) (hw : w = m ((c.tc : Thread nD τ).loc main_arg6)) (p : Fin 8) (r : Fin 352) (k : Fin 1024) (h : 384 + r.val < 1440) (h' : 352 * p.val + r.val < 2816) :
    V m c main_v9 (ix3 p ⟨384 + r.val, h⟩ k) = w (ix2 k ⟨352 * p.val + r.val, h'⟩) := by
  have hr := r.isLt
  unfold V
  after_reads_at
  rw [dif_neg (by omega), dif_neg (by omega), dif_neg (by omega), dif_pos (by omega)]
  after_reads_at
  rw [hw]
  exact congrArg (m ((c.tc : Thread nD τ).loc main_arg6)) (congrArg (fun q => ix2 k q) (Fin.ext (by show p.val * 352 + (384 + r.val - 128 - 128 - 128) = 352 * p.val + r.val; omega)))

/-- The weights the call holds are the gate weights, transposed. -/
theorem wg_host (c : Dev nD) (w : S1024x2816.Idx → EReal) (hw : w = m ((c.tc : Thread nD τ).loc main_arg6)) (k : Fin 2816) (n : Fin 1024) : Wg (V m c main_v9) (ix2 k n) = w (ix2 n k) := by
  have hj : k.val < 2816 := k.isLt
  have hp : k.val / 352 < 8 := by omega
  have hr : k.val % 352 < 352 := Nat.mod_lt _ (by norm_num)
  exact (gath_g m c w hw ⟨k.val / 352, hp⟩ ⟨k.val % 352, hr⟩ n (by show 384 + k.val % 352 < 1440; omega) (by show 352 * (k.val / 352) + k.val % 352 < 2816; omega)).trans
    (congrArg w (congrArg (fun q => ix2 n q) (Fin.ext (Nat.div_add_mod _ _))))

theorem gath_u (c : Dev nD) (w : S1024x2816.Idx → EReal) (hw : w = m ((c.tc : Thread nD τ).loc main_arg7)) (p : Fin 8) (r : Fin 352) (k : Fin 1024) (h : 736 + r.val < 1440) (h' : 352 * p.val + r.val < 2816) :
    V m c main_v9 (ix3 p ⟨736 + r.val, h⟩ k) = w (ix2 k ⟨352 * p.val + r.val, h'⟩) := by
  have hr := r.isLt
  unfold V
  after_reads_at
  rw [dif_neg (by omega), dif_neg (by omega), dif_neg (by omega), dif_neg (by omega), dif_pos (by omega)]
  after_reads_at
  rw [hw]
  exact congrArg (m ((c.tc : Thread nD τ).loc main_arg7)) (congrArg (fun q => ix2 k q) (Fin.ext (by show p.val * 352 + (736 + r.val - 128 - 128 - 128 - 352) = 352 * p.val + r.val; omega)))

/-- The weights the call holds are the up weights, transposed. -/
theorem wu_host (c : Dev nD) (w : S1024x2816.Idx → EReal) (hw : w = m ((c.tc : Thread nD τ).loc main_arg7)) (k : Fin 2816) (n : Fin 1024) : Wu (V m c main_v9) (ix2 k n) = w (ix2 n k) := by
  have hj : k.val < 2816 := k.isLt
  have hp : k.val / 352 < 8 := by omega
  have hr : k.val % 352 < 352 := Nat.mod_lt _ (by norm_num)
  exact (gath_u m c w hw ⟨k.val / 352, hp⟩ ⟨k.val % 352, hr⟩ n (by show 736 + k.val % 352 < 1440; omega) (by show 352 * (k.val / 352) + k.val % 352 < 2816; omega)).trans
    (congrArg w (congrArg (fun q => ix2 n q) (Fin.ext (Nat.div_add_mod _ _))))

/-- The kernel's product with transposed weights is the reference's. -/
theorem dh_ref (A B : FVec Ideal S8192x2816 .f32) (Vg Vu : S2816x1024.Idx → EReal) (wg wu : FVec Ideal S1024x2816 .f32) (hg : ∀ k n, Vg (ix2 k n) = wg (ix2 n k))
    (hu : ∀ k n, Vu (ix2 k n) = wu (ix2 n k)) : dhA A B Vg Vu = FfnInRef.Dr A B wg wu := by
  funext i
  rw [FfnInRef.dot_at]
  exact congrArg₂ (fun a b : EReal => a + b) (Finset.sum_congr rfl fun k _ => congrArg (fun b : EReal => A (ix2 (i 0) k) * b) (hg k (i 1)))
    (Finset.sum_congr rfl fun k _ => congrArg (fun b : EReal => B (ix2 (i 0) k) * b) (hu k (i 1)))

theorem hh_ref (c : Dev nD) : HH m c = FfnInRef.Dr (m ((c.tc : Thread nD τ).loc main_arg9)) (m ((c.tc : Thread nD τ).loc main_arg10)) (m ((c.tc : Thread nD τ).loc main_arg6)) (m ((c.tc : Thread nD τ).loc main_arg7)) := by
  unfold HH
  rw [dg_host, du_host]
  exact dh_ref _ _ _ _ _ _ (wg_host m c _ rfl) (wu_host m c _ rfl)

end Cert.KernelFfnInIdeal.Value

namespace Cert.FfnIn

section
open Idealize.ShloMosaic Idealize.SL.Sem Cert.ReferenceFfnInIdeal Cert.ReferenceFfnInIdeal.Gen Cert.ReferenceFfnInIdeal.Value

/-- The reference has no semaphores, so their counters are zero throughout. -/
theorem frame_reference : Cert.quiescent_ReferenceFfnInIdeal := fun m ρ _ =>
  (θ_run defs _ _).mono (fun r h => ⟨fun c => (h c).2.2.2.2, sem_eq_zero_of_no_sems rfl r.2⟩) (run m ρ)

theorem frame_reference_pre : Cert.quiescent_ReferenceFfnInIdeal_pre_ffn_in_finite := fun m ρ _ =>
  (θ_run defs _ _).mono (fun r h => ⟨fun c => (h c).2.2.2.2, sem_eq_zero_of_no_sems rfl r.2⟩) (run m ρ)
end

section
open Idealize.ShloMosaic Idealize.SL.Sem Cert.Pre_ffn_in_finite Cert.Pre_ffn_in_finite.Gen

theorem finite_args (a0 : FVec Ideal S8192x1024 .f32) (a1 : FVec Ideal S1024 .f32) (a2 : FVec Ideal S8192x1024 .f32) (a3 a4 a5 : FVec Ideal S1024x1024 .f32) (a6 a7 : FVec Ideal S1024x2816 .f32)
    (a8 : FVec Ideal S2816x1024 .f32) (a9 a10 : FVec Ideal S8192x2816 .f32) (h : fn (F := Ideal) a0 a1 a2 a3 a4 a5 a6 a7 a8 a9 a10 = fun _ => 1#1) :
    (∀ i, ActReal.R (a0 i)) ∧ (∀ i, ActReal.R (a1 i)) ∧ (∀ i, ActReal.R (a6 i)) ∧ (∀ i, ActReal.R (a7 i)) ∧ (∀ i, ActReal.R (a9 i)) ∧ ∀ i, ActReal.R (a10 i) := by
  have e := congrFun h (fun a => a.elim0)
  haveI : Subsingleton S_.Idx := ⟨fun a b => funext fun k => k.elim0⟩
  unfold fn fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => ActReal.real_of_lt _ _ i ActReal.inf_word (Host.reduce_andi_all _ _ _ _ _ e0 i), fun i => ActReal.real_of_lt _ _ i ActReal.inf_word (Host.reduce_andi_all _ _ _ _ _ e1 i), fun i => ActReal.real_of_lt _ _ i ActReal.inf_word (Host.reduce_andi_all _ _ _ _ _ e2 i), fun i => ActReal.real_of_lt _ _ i ActReal.inf_word (Host.reduce_andi_all _ _ _ _ _ e3 i), fun i => ActReal.real_of_lt _ _ i ActReal.inf_word (Host.reduce_andi_all _ _ _ _ _ e4 i), fun i => ActReal.real_of_lt _ _ i ActReal.inf_word (Host.reduce_andi_all _ _ _ _ _ e5 i)⟩
end

section
open Idealize.ShloMosaic Idealize.SL.Sem
open Cert.KernelInProjIdeal.Value (dxA dgA rsA)
open Cert.KernelFfnInIdeal.Value (hA Gr)

/-- At bit vectors the kernel and its idealized form run the same body. -/
theorem kernels_eq : @KernelFfnIn.defs₀ Bits _ _ = @KernelFfnInIdeal.defs₀ Bits _ _ := by
  unfold KernelFfnIn.defs₀ KernelFfnInIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : @KernelFfnIn.defs Bits _ _ = @KernelFfnInIdeal.defs Bits _ _ := congrArg (Pipeline.defs (KernelFfnInIdeal.pcfgs (F := Bits))) kernels_eq

theorem main_eq : @KernelFfnIn.main Bits _ _ = @KernelFfnInIdeal.main Bits _ _ := rfl

theorem frame_kernel : Cert.quiescent_KernelFfnIn := fun m ρ _ => by
  have h := KernelFfnInIdeal.Gen.frame (F := Bits) m ρ
  rw [← defs_eq, ← main_eq] at h
  exact h

theorem frame_ideal : Cert.quiescent_KernelFfnInIdeal := fun m ρ _ => KernelFfnInIdeal.Gen.frame (F := Ideal) m ρ

theorem frame_ideal_pre : Cert.quiescent_KernelFfnInIdeal_pre_ffn_in_finite := fun m ρ _ => KernelFfnInIdeal.Gen.frame (F := Ideal) m ρ

theorem dr_real (A B : FVec Ideal ReferenceFfnInIdeal.S8192x2816 .f32) (wg wu : FVec Ideal ReferenceFfnInIdeal.S1024x2816 .f32) (hA : ∀ i, ActReal.R (A i)) (hB : ∀ i, ActReal.R (B i))
    (hg : ∀ i, ActReal.R (wg i)) (hu : ∀ i, ActReal.R (wu i)) (i : ReferenceFfnInIdeal.S8192x1024.Idx) : ActReal.R (FfnInRef.Dr A B wg wu i) := by
  rw [FfnInRef.dot_at]
  exact (ActReal.R.sum _ _ fun k => (hA _).mul (hg _)).add (ActReal.R.sum _ _ fun k => (hB _).mul (hu _))

theorem agree : Cert.algebraic_KernelFfnInIdeal_ReferenceFfnInIdeal_pre_ffn_in_finite := by
  intro m g m' g' hpre hargs
  refine ⟨fun c => dxA (FfnInRef.Dr (m (c.tc.loc Cert.KernelFfnInIdeal.main_arg9)) (m (c.tc.loc Cert.KernelFfnInIdeal.main_arg10)) (m (c.tc.loc Cert.KernelFfnInIdeal.main_arg6)) (m (c.tc.loc Cert.KernelFfnInIdeal.main_arg7))) (m (c.tc.loc Cert.KernelFfnInIdeal.main_arg0)) (m (c.tc.loc Cert.KernelFfnInIdeal.main_arg2)) (Gr (m (c.tc.loc Cert.KernelFfnInIdeal.main_arg1))), fun c => dxA (FfnInRef.Dr (m (c.tc.loc Cert.KernelFfnInIdeal.main_arg9)) (m (c.tc.loc Cert.KernelFfnInIdeal.main_arg10)) (m (c.tc.loc Cert.KernelFfnInIdeal.main_arg6)) (m (c.tc.loc Cert.KernelFfnInIdeal.main_arg7))) (m (c.tc.loc Cert.KernelFfnInIdeal.main_arg0)) (m (c.tc.loc Cert.KernelFfnInIdeal.main_arg2)) (Gr (m (c.tc.loc Cert.KernelFfnInIdeal.main_arg1))),
    fun c => hA (m (c.tc.loc Cert.KernelFfnInIdeal.main_arg0)) (Gr (m (c.tc.loc Cert.KernelFfnInIdeal.main_arg1))), fun c => dgA (FfnInRef.Dr (m (c.tc.loc Cert.KernelFfnInIdeal.main_arg9)) (m (c.tc.loc Cert.KernelFfnInIdeal.main_arg10)) (m (c.tc.loc Cert.KernelFfnInIdeal.main_arg6)) (m (c.tc.loc Cert.KernelFfnInIdeal.main_arg7))) (m (c.tc.loc Cert.KernelFfnInIdeal.main_arg0)), ?_, ?_⟩
  · refine (θ_run Cert.KernelFfnInIdeal.defs _ _).mono (fun r h c => ?_) (Cert.KernelFfnInIdeal.Value.run_blocks m g)
    obtain ⟨h0, h1, h2, h3, kept⟩ := h c
    refine ⟨h0.trans ?_, h1.trans ?_, h2.trans ?_, h3.trans ?_, kept⟩
    · rw [Cert.KernelFfnInIdeal.Value.arr_dx m c, Cert.KernelFfnInIdeal.Value.hh_ref m c, Cert.KernelFfnInIdeal.Value.g_host m c, Cert.KernelFfnInIdeal.Gen.V_main_arg0 m c, Cert.KernelFfnInIdeal.Gen.V_main_arg2 m c]
    · rw [Cert.KernelFfnInIdeal.Value.arr_dxb m c, Cert.KernelFfnInIdeal.Value.hh_ref m c, Cert.KernelFfnInIdeal.Value.g_host m c, Cert.KernelFfnInIdeal.Gen.V_main_arg0 m c, Cert.KernelFfnInIdeal.Gen.V_main_arg2 m c]
    · rw [Cert.KernelFfnInIdeal.Value.arr_h m c, Cert.KernelFfnInIdeal.Value.g_host m c, Cert.KernelFfnInIdeal.Gen.V_main_arg0 m c]
    · rw [Cert.KernelFfnInIdeal.Value.arr_dg m c, Cert.KernelFfnInIdeal.Value.hh_ref m c, Cert.KernelFfnInIdeal.Gen.V_main_arg0 m c]
  · refine (θ_run Cert.ReferenceFfnInIdeal.defs _ _).mono (fun r h c => ?_) (Cert.ReferenceFfnInIdeal.Value.run m' g')
    obtain ⟨h0, h1, h2, h3, kept⟩ := h c
    obtain ⟨e0, e1, e2, e3, e4, e5, e6, e7, e8, e9, e10⟩ := hargs c
    obtain ⟨f0, f1, f6, f7, f9, f10⟩ := finite_args _ _ _ _ _ _ _ _ _ _ _ (hpre c)
    have hx : InpRef.rDx (FfnInRef.Dr (m (c.tc.loc Cert.KernelFfnInIdeal.main_arg9)) (m (c.tc.loc Cert.KernelFfnInIdeal.main_arg10)) (m (c.tc.loc Cert.KernelFfnInIdeal.main_arg6)) (m (c.tc.loc Cert.KernelFfnInIdeal.main_arg7))) (m (c.tc.loc Cert.KernelFfnInIdeal.main_arg0)) (m (c.tc.loc Cert.KernelFfnInIdeal.main_arg2)) (m (c.tc.loc Cert.KernelFfnInIdeal.main_arg1)) = dxA (FfnInRef.Dr (m (c.tc.loc Cert.KernelFfnInIdeal.main_arg9)) (m (c.tc.loc Cert.KernelFfnInIdeal.main_arg10)) (m (c.tc.loc Cert.KernelFfnInIdeal.main_arg6)) (m (c.tc.loc Cert.KernelFfnInIdeal.main_arg7))) (m (c.tc.loc Cert.KernelFfnInIdeal.main_arg0)) (m (c.tc.loc Cert.KernelFfnInIdeal.main_arg2)) (Gr (m (c.tc.loc Cert.KernelFfnInIdeal.main_arg1))) := by
      rw [Cert.KernelFfnInIdeal.Value.gr_at]
      exact InpRef.dx_eq _ _ _ _ (dr_real _ _ _ _ f9 f10 f6 f7) f0 f1
    refine ⟨h0.trans ?_, h1.trans ?_, h2.trans ?_, h3.trans ?_, kept⟩
    · rw [FfnInRef.res_dx, e0, e1, e2, e6, e7, e9, e10]
      exact hx
    · rw [FfnInRef.res_dxb, e0, e1, e2, e6, e7, e9, e10]
      exact hx
    · rw [e0, e1]
      show _ = hA (m (c.tc.loc Cert.KernelFfnInIdeal.main_arg0)) (Gr (m (c.tc.loc Cert.KernelFfnInIdeal.main_arg1)))
      rw [Cert.KernelFfnInIdeal.Value.gr_at]
      exact funext fun i => FfnInRef.h_at _ _ i
    · rw [e0, e6, e7, e9, e10]
      exact InpRef.dg_at (FfnInRef.Dr (m (c.tc.loc Cert.KernelFfnInIdeal.main_arg9)) (m (c.tc.loc Cert.KernelFfnInIdeal.main_arg10)) (m (c.tc.loc Cert.KernelFfnInIdeal.main_arg6)) (m (c.tc.loc Cert.KernelFfnInIdeal.main_arg7))) (m (c.tc.loc Cert.KernelFfnInIdeal.main_arg0))
end

end Cert.FfnIn
-- ==== Proof.Ffw.Ref.lean ====
/- The reference's three results for the forward feed-forward layer, entry by entry. -/
module

public import proofs.«01_k».proof.Proof.Gen.ReferenceFfnFwdIdeal
public import proofs.«01_k».proof.Proof.Gen.ReferenceFfnFwdIdeal.Run
public import proofs.«01_k».proof.Proof.Act.RefVal
public import proofs.«01_k».proof.Proof.Ffi.Ref

@[expose] public section

set_option maxRecDepth 16384
set_option maxHeartbeats 1000000

noncomputable section

namespace Cert.FfnFwdRef

open Idealize.ShloMosaic Idealize.SL.Sem Cert.ReferenceFfnFwdIdeal Cert.ReferenceFfnFwdIdeal.Gen Cert.ReferenceFfnFwdIdeal.Value
open Cert.KernelInProjIdeal.Value (rsA)
open Cert.KernelIdeal.Value (sg)
open scoped BigOperators

/-- The normalised and scaled rows. -/
def rH (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))

theorem h_at (x : FVec Ideal S8192x1024 .f32) (g : FVec Ideal S1024 .f32) (i : S8192x1024.Idx) : rH x g i = x i * rsA x (i 0) * g (ix1 (i 1)) := by
  idx_vars i
  pointwise [rH, rsA]

/-- Rows times a weight. -/
def rG (h : FVec Ideal S8192x1024 .f32) (w : FVec Ideal S1024x2816 .f32) : FVec Ideal S8192x2816 .f32 :=
  Host.dotGeneral dot_S8192x1024_S1024x2816_S8192x2816_1_0_0_1_n_n none h w

theorem g_at (h : FVec Ideal S8192x1024 .f32) (w : FVec Ideal S1024x2816 .f32) (i : S8192x2816.Idx) : rG h w i = ∑ k : Fin 1024, h (ix2 (i 0) k) * w (ix2 k (i 1)) := by
  idx_vars i
  pointwise [rG]

/-- The rows plus the gated hidden layer times the down weight. -/
def rX (x : FVec Ideal S8192x1024 .f32) (G U : FVec Ideal S8192x2816 .f32) (w : FVec Ideal S2816x1024 .f32) : FVec Ideal S8192x1024 .f32 :=
  addf x (Host.dotGeneral dot_S8192x2816_S2816x1024_S8192x1024_1_0_0_1_n_n none (mulf (mulf G (Host.divf (broadcastInDim S8192x2816 ![] bcast_S_S8192x2816 (constant S_ .f32 0x3F800000#32)) (addf (broadcastInDim S8192x2816 ![] bcast_S_S8192x2816 (constant S_ .f32 0x3F800000#32)) (Host.exp (Host.negf G))))) U) w)

theorem x_at (x : FVec Ideal S8192x1024 .f32) (G U : FVec Ideal S8192x2816 .f32) (w : FVec Ideal S2816x1024 .f32) (i : S8192x1024.Idx) :
    rX x G U w i = x i + ∑ f : Fin 2816, G (ix2 (i 0) f) * sg (G (ix2 (i 0) f)) * U (ix2 (i 0) f) * w (ix2 f (i 1)) := by
  idx_vars i
  pointwise [rX, sg]
  simp only [zero_sub]

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = rX (m ((c.tc : Thread nD τ).loc main_arg0)) (rG (rH (m ((c.tc : Thread nD τ).loc main_arg0)) (m ((c.tc : Thread nD τ).loc main_arg1))) (m ((c.tc : Thread nD τ).loc main_arg5))) (rG (rH (m ((c.tc : Thread nD τ).loc main_arg0)) (m ((c.tc : Thread nD τ).loc main_arg1))) (m ((c.tc : Thread nD τ).loc main_arg6))) (m ((c.tc : Thread nD τ).loc main_arg7))
      ∧ r.2.mem ((c.tc : Thread nD τ).loc main_v19) = rG (rH (m ((c.tc : Thread nD τ).loc main_arg0)) (m ((c.tc : Thread nD τ).loc main_arg1))) (m ((c.tc : Thread nD τ).loc main_arg5))
      ∧ r.2.mem ((c.tc : Thread nD τ).loc main_v20) = rG (rH (m ((c.tc : Thread nD τ).loc main_arg0)) (m ((c.tc : Thread nD τ).loc main_arg1))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans rfl, (h c).2.1.trans rfl, (h c).2.2.1.trans rfl, (h c).2.2.2⟩) (run m ρ)

end Cert.FfnFwdRef
-- ==== Proof.Ffw.RunA.lean ====
/- GENERATED, UNTRUSTED: the whole-body RUN of `proofs.«01_k».proof.KernelFfnFwdIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.KernelFfnFwdIdeal.Frame.Runs

@[expose] public section

-- membership in a rectangle of production extents (`View.cover_of_tiled`): the elaborator's structural look
-- recurses once per coordinate of the long axes
set_option maxRecDepth 16384

noncomputable section

namespace Cert.KernelFfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The gathered weights held whole are what remains after 34 read shares together with the shares: one for each
    semaphore, by its number, so that each of the copies out of the array reads through its own share. -/
theorem read_shares (c : Dev nD) (f : HbBuf0 (F := F) c hbM0_0) :
    (hbPt0 c hbM0_0 f : sProp 𝕄) ⊣⊢ iprop((hbM0_0.view.loc (c : Thread nD τ) ↦{Transfers.shareDrop fullShare 34} f) ∗
      (hbM0_0.view.loc (c : Thread nD τ) ↦{Transfers.shareTokN fullShare 0} f) ∗
      (hbM0_0.view.loc (c : Thread nD τ) ↦{Transfers.shareTokN fullShare 1} f) ∗
      (hbM0_0.view.loc (c : Thread nD τ) ↦{Transfers.shareTokN fullShare 2} f) ∗
      (hbM0_0.view.loc (c : Thread nD τ) ↦{Transfers.shareTokN fullShare 3} f) ∗
      (hbM0_0.view.loc (c : Thread nD τ) ↦{Transfers.shareTokN fullShare 4} f) ∗
      (hbM0_0.view.loc (c : Thread nD τ) ↦{Transfers.shareTokN fullShare 5} f) ∗
      (hbM0_0.view.loc (c : Thread nD τ) ↦{Transfers.shareTokN fullShare 6} f) ∗
      (hbM0_0.view.loc (c : Thread nD τ) ↦{Transfers.shareTokN fullShare 7} f) ∗
      (hbM0_0.view.loc (c : Thread nD τ) ↦{Transfers.shareTokN fullShare 8} f) ∗
      (hbM0_0.view.loc (c : Thread nD τ) ↦{Transfers.shareTokN fullShare 9} f) ∗
      (hbM0_0.view.loc (c : Thread nD τ) ↦{Transfers.shareTokN fullShare 10} f) ∗
      (hbM0_0.view.loc (c : Thread nD τ) ↦{Transfers.shareTokN fullShare 11} f) ∗
      (hbM0_0.view.loc (c : Thread nD τ) ↦{Transfers.shareTokN fullShare 12} f) ∗
      (hbM0_0.view.loc (c : Thread nD τ) ↦{Transfers.shareTokN fullShare 13} f) ∗
      (hbM0_0.view.loc (c : Thread nD τ) ↦{Transfers.shareTokN fullShare 14} f) ∗
      (hbM0_0.view.loc (c : Thread nD τ) ↦{Transfers.shareTokN fullShare 15} f) ∗
      (hbM0_0.view.loc (c : Thread nD τ) ↦{Transfers.shareTokN fullShare 16} f) ∗
      (hbM0_0.view.loc (c : Thread nD τ) ↦{Transfers.shareTokN fullShare 17} f) ∗
      (hbM0_0.view.loc (c : Thread nD τ) ↦{Transfers.shareTokN fullShare 18} f) ∗
      (hbM0_0.view.loc (c : Thread nD τ) ↦{Transfers.shareTokN fullShare 19} f) ∗
      (hbM0_0.view.loc (c : Thread nD τ) ↦{Transfers.shareTokN fullShare 20} f) ∗
      (hbM0_0.view.loc (c : Thread nD τ) ↦{Transfers.shareTokN fullShare 21} f) ∗
      (hbM0_0.view.loc (c : Thread nD τ) ↦{Transfers.shareTokN fullShare 22} f) ∗
      (hbM0_0.view.loc (c : Thread nD τ) ↦{Transfers.shareTokN fullShare 23} f) ∗
      (hbM0_0.view.loc (c : Thread nD τ) ↦{Transfers.shareTokN fullShare 24} f) ∗
      (hbM0_0.view.loc (c : Thread nD τ) ↦{Transfers.shareTokN fullShare 25} f) ∗
      (hbM0_0.view.loc (c : Thread nD τ) ↦{Transfers.shareTokN fullShare 26} f) ∗
      (hbM0_0.view.loc (c : Thread nD τ) ↦{Transfers.shareTokN fullShare 27} f) ∗
      (hbM0_0.view.loc (c : Thread nD τ) ↦{Transfers.shareTokN fullShare 28} f) ∗
      (hbM0_0.view.loc (c : Thread nD τ) ↦{Transfers.shareTokN fullShare 29} f) ∗
      (hbM0_0.view.loc (c : Thread nD τ) ↦{Transfers.shareTokN fullShare 30} f) ∗
      (hbM0_0.view.loc (c : Thread nD τ) ↦{Transfers.shareTokN fullShare 31} f) ∗
      (hbM0_0.view.loc (c : Thread nD τ) ↦{Transfers.shareTokN fullShare 32} f) ∗
      (hbM0_0.view.loc (c : Thread nD τ) ↦{Transfers.shareTokN fullShare 33} f)) := by
  have h := Transfers.pointsTo_toks_range (nD := nD) (τ := τ) (sig := sig) (Ix := Unit) (Val := Elt F) (Name := ℕ) (U := Pipeline.UD sig nD τ) (Lvl := ℕ)
    (ℓ := hbM0_0.view.loc (c : Thread nD τ)) (S := Finset.univ) (f := f) fullShare 34
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33] (by decide) (by decide)] at h
  exact h

-- (the run's proof term is large: the definition's epilogue — `abstractNestedProofs` — walks it past the default budget)
set_option maxHeartbeats 8000000 in
-- each copy into the weights takes its own rows only
set_option sl_exec.dmaWindow true in
set_option sl_exec.dmaWindowSet true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) :
    Σ' (L2 : List (View.Piece (Elt F) S512x1024 .f32)), Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .bf16)), Σ' (LS2 : List (View.Piece (Elt F) S2816x1024 .bf16)), { LT3 : List (View.Piece (Elt F) S512x1024 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LT3) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v9) (Memref.isWhole_whole _) arg4 harg4 arg5 harg5 arg6 harg6 arg7 harg7 arg8 harg8 arg9 harg9 arg10 harg10 cc0_scratch4) K } := by
  refine ⟨?_, ?_, ?_, ?_, ?_, ?_, ?_, fun W K => ?run⟩
  case run =>
    simp only [cc0_ffn_fwd_eq_skeleton]; unfold cc0_ffn_fwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1
    ihave Hh0 := (read_shares c fh0).1 $$ Hh0
    icases Hh0 with ⟨Hd, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hd Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33]
    · iapply (read_shares c fh0).2
      isplitl [Hd]; · iexact Hd
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      iexact Ht33
    iexists _; iexact HW

end Cert.KernelFfnFwdIdeal.Gen

end
-- ==== Proof.Ffw.RunB.lean ====
/- GENERATED, UNTRUSTED: the whole-body RUN of `proofs.«01_k».proof.KernelFfnFwdIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Ffw.RunA

@[expose] public section

-- membership in a rectangle of production extents (`View.cover_of_tiled`): the elaborator's structural look
-- recurses once per coordinate of the long axes
set_option maxRecDepth 16384

noncomputable section

namespace Cert.KernelFfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) :
    Σ' (L2 : List (View.Piece (Elt F) S512x1024 .f32)), Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .bf16)), Σ' (LS2 : List (View.Piece (Elt F) S2816x1024 .bf16)), { LT3 : List (View.Piece (Elt F) S512x1024 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0 ∗ owns (c : Thread nD τ) arg8 fullShare xs1 ∗ owns (c : Thread nD τ) arg9 fullShare xs2 ∗ (∃ f, arg10.view.loc (c : Thread nD τ) ↦[arg10.view.set]{fullShare} arg10.view.writes (Elt F) f LT3) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v9) (Memref.isWhole_whole _) arg4 harg4 arg5 harg5 arg6 harg6 arg7 harg7 arg8 harg8 arg9 harg9 arg10 harg10 cc0_scratch4) K } := by
  refine ⟨?_, ?_, ?_, [], [], [], ?_, fun W K => ?run⟩
  case run =>
    simp only [cc0_ffn_fwd_eq_skeleton]; unfold cc0_ffn_fwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg7.eq_unread hfs0; obtain rfl := harg8.eq_unread hfs1; obtain rfl := harg9.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.KernelFfnFwdIdeal.Gen

end
-- ==== Proof.Ffw.Frame.lean ====
/- GENERATED, UNTRUSTED: the FRAME CERTIFICATE of `proofs.«01_k».proof.KernelFfnFwdIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs,
   a scratch accumulator CARRIED between points (stored whole at the grid's first point, its contents after each point stated), `scf.if`s on the coordinates, an operand left in HBM copied into scratch by the body's own DMA within the point —
   framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame_dma`) and `Gen.frame` — the frame claim at any `F`: Proof.lean is
   `theorem Cert.Proof.claim : Cert.Claim := ⟨Gen.facts, fun m ρ _ => Gen.frame m ρ⟩`.
   CLASS R (2 cases of its conditionals, 4 scratch operands, 1 operand staged by the body's own DMA, scratch `arg7`, `arg8`, `arg9` carried between points, scratch `arg10` posted (its store pieces named, `LT·`, in the run of each case that posts it)): the certificate is whole here — not class A: the kernel takes operands the pipeline does not stage (scratch, semaphores, tables, arrays left in HBM). DO NOT EDIT. -/
module

public import proofs.«01_k».proof.Proof.Ffw.RunB
public import Idealize.ShloMosaic.Lib.Claim

@[expose] public section

-- membership in a rectangle of production extents (`View.cover_of_tiled`): the elaborator's structural look
-- recurses once per coordinate of the long axes
set_option maxRecDepth 16384

noncomputable section

namespace Cert.KernelFfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 2 tile its block (1 store of `S512x1024`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) (y : S512x1024.Idx) :
    ∃ pc ∈ (kernelRun0_A c i arg1 harg1 arg2 harg2 arg4 harg4 arg5 harg5 arg6 harg6 arg7 harg7 arg8 harg8 arg9 harg9 arg10 harg10 hc0 x0 x1 fh0).1, y ∈ pc.1.set :=
  View.cover_of_tiledL (kernelRun0_A c i arg1 harg1 arg2 harg2 arg4 harg4 arg5 harg5 arg6 harg6 arg7 harg7 arg8 harg8 arg9 harg9 arg10 harg10 hc0 x0 x1 fh0).1 S512x1024.size (by sl_kernel_rfl) y

/-- What case A leaves in output 2's staging buffer: its pieces read back over junk. -/
def out0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) : Vec F S512x1024 .f32 :=
  VO0_2.read (Elt F) (VO0_2.writes (Elt F) VO0_2.junk (kernelRun0_A c i arg1 harg1 arg2 harg2 arg4 harg4 arg5 harg5 arg6 harg6 arg7 harg7 arg8 harg8 arg9 harg9 arg10 harg10 hc0 x0 x1 fh0).1)

/-- Case A's pieces for output 3 tile its block (11 stores of `S512x256`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) (y : S512x2816.Idx) :
    ∃ pc ∈ (kernelRun0_A c i arg1 harg1 arg2 harg2 arg4 harg4 arg5 harg5 arg6 harg6 arg7 harg7 arg8 harg8 arg9 harg9 arg10 harg10 hc0 x0 x1 fh0).2.1, y ∈ pc.1.set :=
  View.cover_of_tiledL (kernelRun0_A c i arg1 harg1 arg2 harg2 arg4 harg4 arg5 harg5 arg6 harg6 arg7 harg7 arg8 harg8 arg9 harg9 arg10 harg10 hc0 x0 x1 fh0).2.1 S512x256.size (by sl_kernel_rfl) y

/-- What case A leaves in output 3's staging buffer: its pieces read back over junk. -/
def out0_A_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) : Vec F S512x2816 .bf16 :=
  VO0_3.read (Elt F) (VO0_3.writes (Elt F) VO0_3.junk (kernelRun0_A c i arg1 harg1 arg2 harg2 arg4 harg4 arg5 harg5 arg6 harg6 arg7 harg7 arg8 harg8 arg9 harg9 arg10 harg10 hc0 x0 x1 fh0).2.1)

/-- Case A's pieces for output 4 tile its block (11 stores of `S512x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) (y : S512x2816.Idx) :
    ∃ pc ∈ (kernelRun0_A c i arg1 harg1 arg2 harg2 arg4 harg4 arg5 harg5 arg6 harg6 arg7 harg7 arg8 harg8 arg9 harg9 arg10 harg10 hc0 x0 x1 fh0).2.2.1, y ∈ pc.1.set :=
  View.cover_of_tiledL (kernelRun0_A c i arg1 harg1 arg2 harg2 arg4 harg4 arg5 harg5 arg6 harg6 arg7 harg7 arg8 harg8 arg9 harg9 arg10 harg10 hc0 x0 x1 fh0).2.2.1 S512x256.size (by sl_kernel_rfl) y

/-- What case A leaves in output 4's staging buffer: its pieces read back over junk. -/
def out0_A_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) : Vec F S512x2816 .bf16 :=
  VO0_4.read (Elt F) (VO0_4.writes (Elt F) VO0_4.junk (kernelRun0_A c i arg1 harg1 arg2 harg2 arg4 harg4 arg5 harg5 arg6 harg6 arg7 harg7 arg8 harg8 arg9 harg9 arg10 harg10 hc0 x0 x1 fh0).2.2.1)

/-- Case A's pieces for scratch `arg7`, which the kernel carries between points, cover it: 8 pieces of `S352x1024` tiling it (Lib/Ring.lean `Piece.tiledL`). -/
theorem scover0_A_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) (y : S2816x1024.Idx) :
    ∃ pc ∈ (kernelRun0_A c i arg1 harg1 arg2 harg2 arg4 harg4 arg5 harg5 arg6 harg6 arg7 harg7 arg8 harg8 arg9 harg9 arg10 harg10 hc0 x0 x1 fh0).2.2.2.1, y ∈ pc.1.set :=
  View.cover_of_tiledL (kernelRun0_A c i arg1 harg1 arg2 harg2 arg4 harg4 arg5 harg5 arg6 harg6 arg7 harg7 arg8 harg8 arg9 harg9 arg10 harg10 hc0 x0 x1 fh0).2.2.2.1 S352x1024.size (by sl_kernel_rfl) y

/-- What case A leaves in scratch `arg7`: its pieces read back over junk. -/
def sout0_A_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) : Vec F S2816x1024 .bf16 :=
  VS0_0.read (Elt F) (VS0_0.writes (Elt F) VS0_0.junk (kernelRun0_A c i arg1 harg1 arg2 harg2 arg4 harg4 arg5 harg5 arg6 harg6 arg7 harg7 arg8 harg8 arg9 harg9 arg10 harg10 hc0 x0 x1 fh0).2.2.2.1)

/-- Case A's pieces for scratch `arg8`, which the kernel carries between points, cover it: 8 pieces of `S352x1024` tiling it (Lib/Ring.lean `Piece.tiledL`). -/
theorem scover0_A_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) (y : S2816x1024.Idx) :
    ∃ pc ∈ (kernelRun0_A c i arg1 harg1 arg2 harg2 arg4 harg4 arg5 harg5 arg6 harg6 arg7 harg7 arg8 harg8 arg9 harg9 arg10 harg10 hc0 x0 x1 fh0).2.2.2.2.1, y ∈ pc.1.set :=
  View.cover_of_tiledL (kernelRun0_A c i arg1 harg1 arg2 harg2 arg4 harg4 arg5 harg5 arg6 harg6 arg7 harg7 arg8 harg8 arg9 harg9 arg10 harg10 hc0 x0 x1 fh0).2.2.2.2.1 S352x1024.size (by sl_kernel_rfl) y

/-- What case A leaves in scratch `arg8`: its pieces read back over junk. -/
def sout0_A_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) : Vec F S2816x1024 .bf16 :=
  VS0_1.read (Elt F) (VS0_1.writes (Elt F) VS0_1.junk (kernelRun0_A c i arg1 harg1 arg2 harg2 arg4 harg4 arg5 harg5 arg6 harg6 arg7 harg7 arg8 harg8 arg9 harg9 arg10 harg10 hc0 x0 x1 fh0).2.2.2.2.1)

/-- Case A's pieces for scratch `arg9`, which the kernel carries between points, cover it: 8 pieces of `S352x1024` tiling it (Lib/Ring.lean `Piece.tiledL`). -/
theorem scover0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) (y : S2816x1024.Idx) :
    ∃ pc ∈ (kernelRun0_A c i arg1 harg1 arg2 harg2 arg4 harg4 arg5 harg5 arg6 harg6 arg7 harg7 arg8 harg8 arg9 harg9 arg10 harg10 hc0 x0 x1 fh0).2.2.2.2.2.1, y ∈ pc.1.set :=
  View.cover_of_tiledL (kernelRun0_A c i arg1 harg1 arg2 harg2 arg4 harg4 arg5 harg5 arg6 harg6 arg7 harg7 arg8 harg8 arg9 harg9 arg10 harg10 hc0 x0 x1 fh0).2.2.2.2.2.1 S352x1024.size (by sl_kernel_rfl) y

/-- What case A leaves in scratch `arg9`: its pieces read back over junk. -/
def sout0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : cond0_0 i)
    (x0 : Vec F S512x1024 .f32) (x1 : Vec F S1x1024 .f32) (fh0 : HbBuf0 (F := F) c hbM0_0) : Vec F S2816x1024 .bf16 :=
  VS0_2.read (Elt F) (VS0_2.writes (Elt F) VS0_2.junk (kernelRun0_A c i arg1 harg1 arg2 harg2 arg4 harg4 arg5 harg5 arg6 harg6 arg7 harg7 arg8 harg8 arg9 harg9 arg10 harg10 hc0 x0 x1 fh0).2.2.2.2.2.1)

/-- Case B's pieces for output 2 tile its block (1 store of `S512x1024`, checked by the kernel's evaluation: Lib/Ring.lean `Piece.tiledL`, linear in the pieces, through a loop's `@[irreducible]` trip theorem too), so they cover it. -/
theorem cover0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x1024.Idx) :
    ∃ pc ∈ (kernelRun0_B c i arg1 harg1 arg2 harg2 arg4 harg4 arg5 harg5 arg6 harg6 arg7 harg7 arg8 harg8 arg9 harg9 arg10 harg10 hc0 x0 x1 xs0 xs1 xs2 fh0).1, y ∈ pc.1.set :=
  View.cover_of_tiledL (kernelRun0_B c i arg1 harg1 arg2 harg2 arg4 harg4 arg5 harg5 arg6 harg6 arg7 harg7 arg8 harg8 arg9 harg9 arg10 harg10 hc0 x0 x1 xs0 xs1 xs2 fh0).1 S512x1024.size (by sl_kernel_rfl) y

/-- What case B leaves in output 2's staging buffer: its pieces read back over junk. -/
def out0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x1024 .f32 :=
  VO0_2.read (Elt F) (VO0_2.writes (Elt F) VO0_2.junk (kernelRun0_B c i arg1 harg1 arg2 harg2 arg4 harg4 arg5 harg5 arg6 harg6 arg7 harg7 arg8 harg8 arg9 harg9 arg10 harg10 hc0 x0 x1 xs0 xs1 xs2 fh0).1)

/-- Case B's pieces for output 3 tile its block (11 stores of `S512x256`, checked by the kernel's evaluation: Lib/Ring.lean `Piece.tiledL`, linear in the pieces, through a loop's `@[irreducible]` trip theorem too), so they cover it. -/
theorem cover0_B_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x2816.Idx) :
    ∃ pc ∈ (kernelRun0_B c i arg1 harg1 arg2 harg2 arg4 harg4 arg5 harg5 arg6 harg6 arg7 harg7 arg8 harg8 arg9 harg9 arg10 harg10 hc0 x0 x1 xs0 xs1 xs2 fh0).2.1, y ∈ pc.1.set :=
  View.cover_of_tiledL (kernelRun0_B c i arg1 harg1 arg2 harg2 arg4 harg4 arg5 harg5 arg6 harg6 arg7 harg7 arg8 harg8 arg9 harg9 arg10 harg10 hc0 x0 x1 xs0 xs1 xs2 fh0).2.1 S512x256.size (by sl_kernel_rfl) y

/-- What case B leaves in output 3's staging buffer: its pieces read back over junk. -/
def out0_B_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x2816 .bf16 :=
  VO0_3.read (Elt F) (VO0_3.writes (Elt F) VO0_3.junk (kernelRun0_B c i arg1 harg1 arg2 harg2 arg4 harg4 arg5 harg5 arg6 harg6 arg7 harg7 arg8 harg8 arg9 harg9 arg10 harg10 hc0 x0 x1 xs0 xs1 xs2 fh0).2.1)

/-- Case B's pieces for output 4 tile its block (11 stores of `S512x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x2816.Idx) :
    ∃ pc ∈ (kernelRun0_B c i arg1 harg1 arg2 harg2 arg4 harg4 arg5 harg5 arg6 harg6 arg7 harg7 arg8 harg8 arg9 harg9 arg10 harg10 hc0 x0 x1 xs0 xs1 xs2 fh0).2.2.1, y ∈ pc.1.set :=
  View.cover_of_tiledL (kernelRun0_B c i arg1 harg1 arg2 harg2 arg4 harg4 arg5 harg5 arg6 harg6 arg7 harg7 arg8 harg8 arg9 harg9 arg10 harg10 hc0 x0 x1 xs0 xs1 xs2 fh0).2.2.1 S512x256.size (by sl_kernel_rfl) y

/-- What case B leaves in output 4's staging buffer: its pieces read back over junk. -/
def out0_B_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x2816 .bf16 :=
  VO0_4.read (Elt F) (VO0_4.writes (Elt F) VO0_4.junk (kernelRun0_B c i arg1 harg1 arg2 harg2 arg4 harg4 arg5 harg5 arg6 harg6 arg7 harg7 arg8 harg8 arg9 harg9 arg10 harg10 hc0 x0 x1 xs0 xs1 xs2 fh0).2.2.1)

/-- Case B stores nothing into scratch `arg7`: it holds what the point before left. -/
def sout0_B_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs0

/-- Case B stores nothing into scratch `arg8`: it holds what the point before left. -/
def sout0_B_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs1

/-- Case B stores nothing into scratch `arg9`: it holds what the point before left. -/
def sout0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x2816 .bf16 × Vec F S512x2816 .bf16 × Vec F S2816x1024 .bf16 × Vec F S2816x1024 .bf16 × Vec F S2816x1024 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (V m c main_v9), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (V m c main_v9), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (V m c main_v9), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (V m c main_v9), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (V m c main_v9), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (V m c main_v9))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (V m c main_v9), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (V m c main_v9), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (V m c main_v9), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (V m c main_v9), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (V m c main_v9), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (V m c main_v9))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_v9))

/-- `outsAt0` at a point of case A: that case's contents. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9), sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2) ∗ (∃ d, owns (c : Thread nD τ) scM0_3 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v9)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2) ∗ (∃ d, owns (c : Thread nD τ) scM0_3 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v9))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2) ∗ (∃ d, owns (c : Thread nD τ) scM0_3 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v9))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_2 out0_A_3 out0_A_4 sout0_A_0 sout0_A_1 sout0_A_2; (try dsimp only)
      iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ _ _ ((hcond0_0 t).mpr h0) (iblk m c 0 t) (iblk m c 1 t) (V m c main_v9)).2.2.2.2.2.2.2 W _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [HW]; · iexact HW
      iintro ⟨H0, H1, ⟨%e2, H2⟩, ⟨%e3, H3⟩, ⟨%e4, H4⟩, ⟨%es0, HS0⟩, ⟨%es1, HS1⟩, ⟨%es2, HS2⟩, ⟨%fT3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _)
          iexists _; unfold owns; iexists _; isplitr
          swap; · iexact HS3
          ipureintro; rfl
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_2 out0_B_3 out0_B_4 sout0_B_0 sout0_B_1 sout0_B_2; (try dsimp only)
      iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ _ _ (fun h => h0 ((hcond0_0 t).mp h)) (iblk m c 0 t) (iblk m c 1 t) _ _ _ (V m c main_v9)).2.2.2.2.2.2.2 W _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [HW]; · iexact HW
      iintro ⟨H0, H1, ⟨%e2, H2⟩, ⟨%e3, H3⟩, ⟨%e4, H4⟩, HS0, HS1, HS2, ⟨%fT3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2 HS3]
        · isplitl [HS0]; · iexact HS0
          isplitl [HS1]; · iexact HS1
          isplitl [HS2]; · iexact HS2
          iexists _; unfold owns; iexists _; isplitr
          swap; · iexact HS3
          ipureintro; rfl
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2 HS3]
  · isplitl [HS0]
    · iexists _; iexact HS0
    isplitl [HS1]
    · iexists _; iexact HS1
    isplitl [HS2]
    · iexists _; iexact HS2
    iexact HS3
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelFfnFwdIdeal`'s statement (Defs.lean) at any `F` — Proof.lean cites it at `Bits`:
    `theorem Cert.Proof.claim : Cert.Claim := ⟨Cert.KernelFfnFwdIdeal.Gen.facts, fun m ρ _ => Cert.KernelFfnFwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelFfnFwdIdeal.Gen

end
-- ==== Proof.Ffw.Value.lean ====
/- The VALUE LEG of proofs.«01_k».proof.KernelFfnFwdIdeal's certificate (Lib/Pipeline/Value.lean) for this class-R kernel, in two forms. BLOCKWISE,
   whatever its body computes: `run_blocks` is the frame run `Gen.run_main` with each output array after the run NAMED
   (`(Gen.dats …).arrAt w N`), and per output window `w`: `flushed_w` — what grid point `t` would write back is the
   run's contents for the window (`Gen.outsAtK`) read through the block —, per case `flushed_w_κ` — at a point of that case,
   the case's NAMED TERM (`Gen.outK_κ_W`: its pieces read back; for an output the case reads back, over what the point
   before left) —, when the index map is injective (decided) `disjoint_w` / `blocks_w` — block `t` of the final array
   IS what point `t` wrote —, `entry_w` — an index no block covers keeps the region-entry
   contents. The ACCUMULATED form (`run`: each output array one function of the arguments) is NOT written for this
   kernel:
   the body has transfers of its own: the accumulated form is not written for such a kernel yet.
   The certificate's hand proof unfolds the named terms `flushed_w_κ` cites and sets `run_blocks` beside the
   reference's run. For each carried scratch reset at evenly spaced points the module closes with what a
   point leaves in it over what the point before left (`scAtK_N`) and the scratch after any point as that function's
   fold from the run's last reset (`soutsAtK_N_eq`, `Pipeline.eq_accAt_of_mod`): what a hand proof over it inducts on. -/
module

public import proofs.«01_k».proof.Proof.Ffw.Frame
public import Idealize.ShloMosaic.Lib.Pipeline.Value

@[expose] public section

noncomputable section

namespace Cert.KernelFfnFwdIdeal.Value

open Cert.KernelFfnFwdIdeal Cert.KernelFfnFwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 16 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 16 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9)) := by
  simp only [flushed3, outsAt0_B m c t h0]

/-- The index map sends distinct grid points to distinct block indices (decided over the 16 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8192x2816.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 2), read through the window's block. -/
theorem flushed4 (c : Dev nD) (t : Fin cfg0.N) :
    (dats m 0 c).flushed 4 t = (cfg0.win 4).cut (grid0.coords t) ((outsAt0 m c t.val t.isLt).2.2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 16 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (V m c main_v9)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 16 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v9)) := by
  simp only [flushed4, outsAt0_B m c t h0]

/-- The index map sends distinct grid points to distinct block indices (decided over the 16 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x2816.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v11_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v11_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v11_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 2 cfg0.N
      ∧ r.2.mem ((c : Thread nD τ).loc main_v11_1) = (dats m 0 c).arrAt 3 cfg0.N
      ∧ r.2.mem ((c : Thread nD τ).loc main_v11_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post2 m r h c,
      post3 m r h c,
      post4 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2816x1024 .bf16) : Vec F S2816x1024 .bf16 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (V m c main_v9)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2 (V m c main_v9)

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.2.1) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S2816x1024 .bf16) : Vec F S2816x1024 .bf16 :=
  if h0 : n % 16 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (V m c main_v9)
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2 (V m c main_v9)

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.1 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2.2.2.1) 16 (fun n h => scAt0_1 m c n h (VS0_1.read (Elt F) VS0_1.junk)) (scAt0_1 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 2: what each point leaves in it, and its fold -/

end Cert.KernelFfnFwdIdeal.Value

end
-- ==== Proof.Ffw.Pay.lean ====
/- What the forward feed-forward layer computes for one block of rows, chunk of hidden columns by chunk. -/
module

public import proofs.«01_k».proof.Proof.Gen.KernelFfnFwdIdeal
public import proofs.«01_k».proof.Proof.Gen.KernelFfnFwdIdeal.Skeleton
public import proofs.«01_k».proof.Proof.Act.Chunk
public import proofs.«01_k».proof.Proof.Ffi.Pay

@[expose] public section

set_option maxRecDepth 16384

noncomputable section

namespace Cert.KernelFfnFwdIdeal.Value

open Idealize.ShloMosaic Idealize.SL.Sem Cert.KernelFfnFwdIdeal Cert.KernelFfnFwdIdeal.Gen
open Cert.KernelInProjIdeal.Value (rsB)
open Cert.KernelFfnInIdeal.Value (hB)
open Cert.KernelIdeal.Value (sg)
open scoped BigOperators

/-- A block of normalised rows times the transpose of a weight. -/
def gt (H : S512x1024.Idx → EReal) (W : S2816x1024.Idx → EReal) (i : S512x2816.Idx) : EReal :=
  ∑ k : Fin 1024, H (ix2 (i 0) k) * W (ix2 (i 1) k)

/-- The gated hidden layer of a block. -/
def act (H : S512x1024.Idx → EReal) (Wg Wu : S2816x1024.Idx → EReal) (i : S512x2816.Idx) : EReal :=
  gt H Wg i * sg (gt H Wg i) * gt H Wu i

/-- A weight's rows from `o` on, 256 of them. -/
def rows (W : Vec Ideal S2816x1024 .bf16) (o : ℕ) (inb : ∀ a, (![o, 0] : Fin 2 → ℕ) a + S256x1024.size a ≤ S2816x1024.size a) : Vec Ideal S256x1024 .bf16 :=
  View.ld W (Rect.unit (s := S2816x1024) ![o, 0] S256x1024.size inb)

theorem rows_at (W : Vec Ideal S2816x1024 .bf16) (o : ℕ) (ho : o + 256 ≤ 2816) (inb : ∀ a, (![o, 0] : Fin 2 → ℕ) a + S256x1024.size a ≤ S2816x1024.size a) (x : Fin 256) (k : Fin 1024) :
    rows W o inb (ix2 x k) = W (ix2 ⟨o + x.val, Nat.lt_of_lt_of_le (Nat.add_lt_add_left x.isLt o) ho⟩ k) := by
  unfold rows
  refine congrArg W (funext fun a => Fin.ext ?_)
  fin_cases a
  · show o + 1 * x.val = o + x.val
    omega
  · show 0 + 1 * k.val = k.val
    omega

theorem h_at (X : Vec Ideal S512x1024 .f32) (g : Vec Ideal S1x1024 .f32) (j : S512x1024.Idx) : k0_pay2 (F := Ideal) X g j = hB X g j := by
  idx_vars j
  pointwise [k0_pay2, rsB, hB]

theorem gt_at (H : Vec Ideal S512x1024 .bf16) (W : Vec Ideal S2816x1024 .bf16) (o : ℕ) (ho : o + 256 ≤ 2816) (inb : ∀ a, (![o, 0] : Fin 2 → ℕ) a + S256x1024.size a ≤ S2816x1024.size a) (x : S512x256.Idx) :
    k0_pay7 (F := Ideal) H (rows W o inb) x = gt H W (ix2 (x 0) ⟨o + (x 1).val, Nat.lt_of_lt_of_le (Nat.add_lt_add_left (x 1).isLt o) ho⟩) := by
  unfold gt
  idx_vars x
  pointwise [k0_pay7]
  simp only [rows_at _ o ho]

/-- One chunk of hidden columns added to the rows. -/
def st (H : Vec Ideal S512x1024 .bf16) (Wg Wu Wd : Vec Ideal S2816x1024 .bf16) (o : ℕ) (inb : ∀ a, (![o, 0] : Fin 2 → ℕ) a + S256x1024.size a ≤ S2816x1024.size a) (a : Vec Ideal S512x1024 .f32) : Vec Ideal S512x1024 .f32 :=
  k0_pay13 (F := Ideal) H (rows Wg o inb) (rows Wu o inb) a (rows Wd o inb)

theorem st_at (H : Vec Ideal S512x1024 .bf16) (Wg Wu Wd : Vec Ideal S2816x1024 .bf16) (o : ℕ) (ho : o + 256 ≤ 2816) (inb : ∀ a, (![o, 0] : Fin 2 → ℕ) a + S256x1024.size a ≤ S2816x1024.size a) (a : Vec Ideal S512x1024 .f32) (j : S512x1024.Idx) :
    st H Wg Wu Wd o inb a j = a j + ∑ f : Fin 256, act H Wg Wu (ix2 (j 0) ⟨o + f.val, Nat.lt_of_lt_of_le (Nat.add_lt_add_left f.isLt o) ho⟩) * Wd (ix2 ⟨o + f.val, Nat.lt_of_lt_of_le (Nat.add_lt_add_left f.isLt o) ho⟩ (j 1)) := by
  unfold act st gt
  idx_vars j
  pointwise [k0_pay13, k0_pay12, k0_pay11, sg]
  simp only [rows_at _ o ho]

/-- The eleven chunks one after the other. -/
def xo (H : Vec Ideal S512x1024 .bf16) (Wg Wu Wd : Vec Ideal S2816x1024 .bf16) (X : Vec Ideal S512x1024 .f32) : Vec Ideal S512x1024 .f32 :=
  st H Wg Wu Wd 2560 inb_S2816x1024_S256x1024_2560_0 (st H Wg Wu Wd 2304 inb_S2816x1024_S256x1024_2304_0 (st H Wg Wu Wd 2048 inb_S2816x1024_S256x1024_2048_0
    (st H Wg Wu Wd 1792 inb_S2816x1024_S256x1024_1792_0 (st H Wg Wu Wd 1536 inb_S2816x1024_S256x1024_1536_0 (st H Wg Wu Wd 1280 inb_S2816x1024_S256x1024_1280_0
    (st H Wg Wu Wd 1024 inb_S2816x1024_S256x1024_1024_0 (st H Wg Wu Wd 768 inb_S2816x1024_S256x1024_768_0 (st H Wg Wu Wd 512 inb_S2816x1024_S256x1024_512_0
    (st H Wg Wu Wd 256 inb_S2816x1024_S256x1024_256_0 (st H Wg Wu Wd 0 inb_S2816x1024_S256x1024_0_0 X))))))))))

/-- Eleven terms added one by one are their sum added at once. -/
theorem sum11 (G : Fin 11 → EReal) (x : EReal) : x + G 0 + G 1 + G 2 + G 3 + G 4 + G 5 + G 6 + G 7 + G 8 + G 9 + G 10 = x + ∑ c : Fin 11, G c := by
  simp only [Fin.sum_univ_castSucc, Fin.sum_univ_zero, zero_add, add_assoc]
  rfl

theorem xo_at (H : Vec Ideal S512x1024 .bf16) (Wg Wu Wd : Vec Ideal S2816x1024 .bf16) (X : Vec Ideal S512x1024 .f32) (j : S512x1024.Idx) :
    xo H Wg Wu Wd X j = X j + ∑ f : Fin 2816, act H Wg Wu (ix2 (j 0) f) * Wd (ix2 f (j 1)) := by
  refine Eq.trans ?_ (congrArg (X j + ·) (Fin.sum_mul_add_congr (S := 11) (n := 256) (F := fun c f => act H Wg Wu (ix2 (j 0) ⟨c.val * 256 + f.val, by have := c.isLt; have := f.isLt; omega⟩) * Wd (ix2 ⟨c.val * 256 + f.val, by have := c.isLt; have := f.isLt; omega⟩ (j 1)))
    (fun s k hl => rfl)))
  unfold xo
  rw [st_at _ _ _ _ 2560 (by norm_num), st_at _ _ _ _ 2304 (by norm_num), st_at _ _ _ _ 2048 (by norm_num), st_at _ _ _ _ 1792 (by norm_num), st_at _ _ _ _ 1536 (by norm_num), st_at _ _ _ _ 1280 (by norm_num), st_at _ _ _ _ 1024 (by norm_num), st_at _ _ _ _ 768 (by norm_num), st_at _ _ _ _ 512 (by norm_num), st_at _ _ _ _ 256 (by norm_num), st_at _ _ _ _ 0 (by norm_num)]
  exact sum11 (fun c => ∑ f : Fin 256, act H Wg Wu (ix2 (j 0) ⟨c.val * 256 + f.val, by have := c.isLt; have := f.isLt; omega⟩) * Wd (ix2 ⟨c.val * 256 + f.val, by have := c.isLt; have := f.isLt; omega⟩ (j 1))) (X j)

end Cert.KernelFfnFwdIdeal.Value

end
-- ==== Proof.Ffw.Load.lean ====
/- The weights the first block's copies bring into the three kept buffers. -/
module

public import proofs.«01_k».proof.Proof.Ffw.Value
public import proofs.«01_k».proof.Proof.Ffw.Pay
public import Idealize.ShloMosaic.Lib.Pipeline.ReadBack

@[expose] public section

set_option maxRecDepth 16384

noncomputable section

namespace Cert.KernelFfnFwdIdeal.Value

open Idealize.ShloMosaic Idealize.SL.Sem Cert.KernelFfnFwdIdeal Cert.KernelFfnFwdIdeal.Gen
open Cert.KernelInProjIdeal.Value (emb_norm)
open scoped BigOperators

/-- A load out of stores that are blocks of `G` and cover the buffer reads `G`. -/
theorem readCov_of {sp : Space} {s : Shape} {e : EltTy} (v : View sig .tc sp s e) (G : s.Idx → Elt Ideal e) (L : List (View.Piece (Elt Ideal) s e))
    (hp : View.PiecesOf G L) (hc : ∀ y, ∃ p ∈ L, y ∈ p.1.set) (r : Rect s) : v.readCov L r.toLoadRect = View.ld G r := by
  rw [View.readCov_eq_canon']
  exact funext fun j => View.canon_apply_of_pieces G L hp.mem _ (hc _)

/-- The eight shards of the gate weights, one after the other. -/
def Wg (f : Vec Ideal S8x1440x1024 .bf16) (j : S2816x1024.Idx) : EReal :=
  f (ix3 ⟨(j 0).val / 352, by have := (j 0).isLt; exact Nat.div_lt_of_lt_mul this⟩ ⟨384 + (j 0).val % 352, by have := Nat.mod_lt (j 0).val (show 0 < 352 by norm_num); omega⟩ (j 1))

/-- The eight shards of the up weights, one after the other. -/
def Wu (f : Vec Ideal S8x1440x1024 .bf16) (j : S2816x1024.Idx) : EReal :=
  f (ix3 ⟨(j 0).val / 352, by have := (j 0).isLt; exact Nat.div_lt_of_lt_mul this⟩ ⟨736 + (j 0).val % 352, by have := Nat.mod_lt (j 0).val (show 0 < 352 by norm_num); omega⟩ (j 1))

/-- The eight shards of the down weights, one after the other. -/
def Wd (f : Vec Ideal S8x1440x1024 .bf16) (j : S2816x1024.Idx) : EReal :=
  f (ix3 ⟨(j 0).val / 352, by have := (j 0).isLt; exact Nat.div_lt_of_lt_mul this⟩ ⟨1088 + (j 0).val % 352, by have := Nat.mod_lt (j 0).val (show 0 < 352 by norm_num); omega⟩ (j 1))

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole)
    (x0 : Vec Ideal S512x1024 .f32) (x1 : Vec Ideal S1x1024 .f32) (fh0 : HbBuf0 (F := Ideal) c hbM0_0)

theorem dma_g0 (x : S352x1024.Idx) :
    kernelRun0_A.sl.dma0 c fh0 x = Wg fh0 (ix2 ⟨0 + (x 0).val, Nat.lt_of_lt_of_le (Nat.add_lt_add_left (x 0).isLt 0) (by decide)⟩ (x 1)) := by
  simp only [kernelRun0_A.sl.dma0, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 0 + 1 * 0 = x0.val / 352
    omega
  · show 384 + 1 * x0.val = 384 + x0.val % 352
    omega
  · show 0 + 1 * x1.val = x1.val
    omega

theorem dma_g1 (x : S352x1024.Idx) :
    kernelRun0_A.sl.dma0_1 c fh0 x = Wg fh0 (ix2 ⟨352 + (x 0).val, Nat.lt_of_lt_of_le (Nat.add_lt_add_left (x 0).isLt 352) (by decide)⟩ (x 1)) := by
  simp only [kernelRun0_A.sl.dma0_1, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 1 + 1 * 0 = (352 + x0.val) / 352
    omega
  · show 384 + 1 * x0.val = 384 + (352 + x0.val) % 352
    omega
  · show 0 + 1 * x1.val = x1.val
    omega

theorem dma_g2 (x : S352x1024.Idx) :
    kernelRun0_A.sl.dma0_2 c fh0 x = Wg fh0 (ix2 ⟨704 + (x 0).val, Nat.lt_of_lt_of_le (Nat.add_lt_add_left (x 0).isLt 704) (by decide)⟩ (x 1)) := by
  simp only [kernelRun0_A.sl.dma0_2, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 2 + 1 * 0 = (704 + x0.val) / 352
    omega
  · show 384 + 1 * x0.val = 384 + (704 + x0.val) % 352
    omega
  · show 0 + 1 * x1.val = x1.val
    omega

theorem dma_g3 (x : S352x1024.Idx) :
    kernelRun0_A.sl.dma0_3 c fh0 x = Wg fh0 (ix2 ⟨1056 + (x 0).val, Nat.lt_of_lt_of_le (Nat.add_lt_add_left (x 0).isLt 1056) (by decide)⟩ (x 1)) := by
  simp only [kernelRun0_A.sl.dma0_3, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 3 + 1 * 0 = (1056 + x0.val) / 352
    omega
  · show 384 + 1 * x0.val = 384 + (1056 + x0.val) % 352
    omega
  · show 0 + 1 * x1.val = x1.val
    omega

theorem dma_g4 (x : S352x1024.Idx) :
    kernelRun0_A.sl.dma0_4 c fh0 x = Wg fh0 (ix2 ⟨1408 + (x 0).val, Nat.lt_of_lt_of_le (Nat.add_lt_add_left (x 0).isLt 1408) (by decide)⟩ (x 1)) := by
  simp only [kernelRun0_A.sl.dma0_4, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 4 + 1 * 0 = (1408 + x0.val) / 352
    omega
  · show 384 + 1 * x0.val = 384 + (1408 + x0.val) % 352
    omega
  · show 0 + 1 * x1.val = x1.val
    omega

theorem dma_g5 (x : S352x1024.Idx) :
    kernelRun0_A.sl.dma0_5 c fh0 x = Wg fh0 (ix2 ⟨1760 + (x 0).val, Nat.lt_of_lt_of_le (Nat.add_lt_add_left (x 0).isLt 1760) (by decide)⟩ (x 1)) := by
  simp only [kernelRun0_A.sl.dma0_5, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 5 + 1 * 0 = (1760 + x0.val) / 352
    omega
  · show 384 + 1 * x0.val = 384 + (1760 + x0.val) % 352
    omega
  · show 0 + 1 * x1.val = x1.val
    omega

theorem dma_g6 (x : S352x1024.Idx) :
    kernelRun0_A.sl.dma0_6 c fh0 x = Wg fh0 (ix2 ⟨2112 + (x 0).val, Nat.lt_of_lt_of_le (Nat.add_lt_add_left (x 0).isLt 2112) (by decide)⟩ (x 1)) := by
  simp only [kernelRun0_A.sl.dma0_6, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 6 + 1 * 0 = (2112 + x0.val) / 352
    omega
  · show 384 + 1 * x0.val = 384 + (2112 + x0.val) % 352
    omega
  · show 0 + 1 * x1.val = x1.val
    omega

theorem dma_g7 (x : S352x1024.Idx) :
    kernelRun0_A.sl.dma0_7 c fh0 x = Wg fh0 (ix2 ⟨2464 + (x 0).val, Nat.lt_of_lt_of_le (Nat.add_lt_add_left (x 0).isLt 2464) (by decide)⟩ (x 1)) := by
  simp only [kernelRun0_A.sl.dma0_7, View.read_apply, cast_eq]
  simp only [View.emb, Function.Embedding.trans_apply, Equiv.coe_toEmbedding, Function.Embedding.refl_apply]
  idx_vars x
  pointwise [Wg]
  have hx := x0.isLt
  refine congrArg fh0 (funext fun a => Fin.ext ?_)
  fin_cases a
  · show 7 + 1 * 0 = (2464 + x0.val) / 352
    omega
  · show 384 + 1 * x0.val = 384 + (2464 + x0.val) % 352
    omega
  · show 0 + 1 * x1.val = x1.val
    omega

theorem dma_u0 (x : S352x1024.Idx) :
    kernelRun0_A.sl.dma0_8 c fh0 x = Wu fh0 (ix2 ⟨0 + (x 0).val, Nat.lt_of_lt_of_le (Nat.add_lt_add_left (x 0).isLt 0) (by decide)⟩ (x 1)) := by
  simp only [kernelRun0_A.sl.dma0_8, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 0 + 1 * 0 = x0.val / 352
    omega
  · show 736 + 1 * x0.val = 736 + x0.val % 352
    omega
  · show 0 + 1 * x1.val = x1.val
    omega

theorem dma_u1 (x : S352x1024.Idx) :
    kernelRun0_A.sl.dma0_9 c fh0 x = Wu fh0 (ix2 ⟨352 + (x 0).val, Nat.lt_of_lt_of_le (Nat.add_lt_add_left (x 0).isLt 352) (by decide)⟩ (x 1)) := by
  simp only [kernelRun0_A.sl.dma0_9, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 1 + 1 * 0 = (352 + x0.val) / 352
    omega
  · show 736 + 1 * x0.val = 736 + (352 + x0.val) % 352
    omega
  · show 0 + 1 * x1.val = x1.val
    omega

theorem dma_u2 (x : S352x1024.Idx) :
    kernelRun0_A.sl.dma0_10 c fh0 x = Wu fh0 (ix2 ⟨704 + (x 0).val, Nat.lt_of_lt_of_le (Nat.add_lt_add_left (x 0).isLt 704) (by decide)⟩ (x 1)) := by
  simp only [kernelRun0_A.sl.dma0_10, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 2 + 1 * 0 = (704 + x0.val) / 352
    omega
  · show 736 + 1 * x0.val = 736 + (704 + x0.val) % 352
    omega
  · show 0 + 1 * x1.val = x1.val
    omega

theorem dma_u3 (x : S352x1024.Idx) :
    kernelRun0_A.sl.dma0_11 c fh0 x = Wu fh0 (ix2 ⟨1056 + (x 0).val, Nat.lt_of_lt_of_le (Nat.add_lt_add_left (x 0).isLt 1056) (by decide)⟩ (x 1)) := by
  simp only [kernelRun0_A.sl.dma0_11, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 3 + 1 * 0 = (1056 + x0.val) / 352
    omega
  · show 736 + 1 * x0.val = 736 + (1056 + x0.val) % 352
    omega
  · show 0 + 1 * x1.val = x1.val
    omega

theorem dma_u4 (x : S352x1024.Idx) :
    kernelRun0_A.sl.dma0_12 c fh0 x = Wu fh0 (ix2 ⟨1408 + (x 0).val, Nat.lt_of_lt_of_le (Nat.add_lt_add_left (x 0).isLt 1408) (by decide)⟩ (x 1)) := by
  simp only [kernelRun0_A.sl.dma0_12, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 4 + 1 * 0 = (1408 + x0.val) / 352
    omega
  · show 736 + 1 * x0.val = 736 + (1408 + x0.val) % 352
    omega
  · show 0 + 1 * x1.val = x1.val
    omega

theorem dma_u5 (x : S352x1024.Idx) :
    kernelRun0_A.sl.dma0_13 c fh0 x = Wu fh0 (ix2 ⟨1760 + (x 0).val, Nat.lt_of_lt_of_le (Nat.add_lt_add_left (x 0).isLt 1760) (by decide)⟩ (x 1)) := by
  simp only [kernelRun0_A.sl.dma0_13, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 5 + 1 * 0 = (1760 + x0.val) / 352
    omega
  · show 736 + 1 * x0.val = 736 + (1760 + x0.val) % 352
    omega
  · show 0 + 1 * x1.val = x1.val
    omega

theorem dma_u6 (x : S352x1024.Idx) :
    kernelRun0_A.sl.dma0_14 c fh0 x = Wu fh0 (ix2 ⟨2112 + (x 0).val, Nat.lt_of_lt_of_le (Nat.add_lt_add_left (x 0).isLt 2112) (by decide)⟩ (x 1)) := by
  simp only [kernelRun0_A.sl.dma0_14, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 6 + 1 * 0 = (2112 + x0.val) / 352
    omega
  · show 736 + 1 * x0.val = 736 + (2112 + x0.val) % 352
    omega
  · show 0 + 1 * x1.val = x1.val
    omega

theorem dma_u7 (x : S352x1024.Idx) :
    kernelRun0_A.sl.dma0_15 c fh0 x = Wu fh0 (ix2 ⟨2464 + (x 0).val, Nat.lt_of_lt_of_le (Nat.add_lt_add_left (x 0).isLt 2464) (by decide)⟩ (x 1)) := by
  simp only [kernelRun0_A.sl.dma0_15, View.read_apply, cast_eq]
  simp only [View.emb, Function.Embedding.trans_apply, Equiv.coe_toEmbedding, Function.Embedding.refl_apply]
  idx_vars x
  pointwise [Wu]
  have hx := x0.isLt
  refine congrArg fh0 (funext fun a => Fin.ext ?_)
  fin_cases a
  · show 7 + 1 * 0 = (2464 + x0.val) / 352
    omega
  · show 736 + 1 * x0.val = 736 + (2464 + x0.val) % 352
    omega
  · show 0 + 1 * x1.val = x1.val
    omega

theorem dma_d0 (x : S352x1024.Idx) :
    kernelRun0_A.sl.dma0_16 c fh0 x = Wd fh0 (ix2 ⟨0 + (x 0).val, Nat.lt_of_lt_of_le (Nat.add_lt_add_left (x 0).isLt 0) (by decide)⟩ (x 1)) := by
  simp only [kernelRun0_A.sl.dma0_16, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 0 + 1 * 0 = x0.val / 352
    omega
  · show 1088 + 1 * x0.val = 1088 + x0.val % 352
    omega
  · show 0 + 1 * x1.val = x1.val
    omega

theorem dma_d1 (x : S352x1024.Idx) :
    kernelRun0_A.sl.dma0_17 c fh0 x = Wd fh0 (ix2 ⟨352 + (x 0).val, Nat.lt_of_lt_of_le (Nat.add_lt_add_left (x 0).isLt 352) (by decide)⟩ (x 1)) := by
  simp only [kernelRun0_A.sl.dma0_17, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 1 + 1 * 0 = (352 + x0.val) / 352
    omega
  · show 1088 + 1 * x0.val = 1088 + (352 + x0.val) % 352
    omega
  · show 0 + 1 * x1.val = x1.val
    omega

theorem dma_d2 (x : S352x1024.Idx) :
    kernelRun0_A.sl.dma0_18 c fh0 x = Wd fh0 (ix2 ⟨704 + (x 0).val, Nat.lt_of_lt_of_le (Nat.add_lt_add_left (x 0).isLt 704) (by decide)⟩ (x 1)) := by
  simp only [kernelRun0_A.sl.dma0_18, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 2 + 1 * 0 = (704 + x0.val) / 352
    omega
  · show 1088 + 1 * x0.val = 1088 + (704 + x0.val) % 352
    omega
  · show 0 + 1 * x1.val = x1.val
    omega

theorem dma_d3 (x : S352x1024.Idx) :
    kernelRun0_A.sl.dma0_19 c fh0 x = Wd fh0 (ix2 ⟨1056 + (x 0).val, Nat.lt_of_lt_of_le (Nat.add_lt_add_left (x 0).isLt 1056) (by decide)⟩ (x 1)) := by
  simp only [kernelRun0_A.sl.dma0_19, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 3 + 1 * 0 = (1056 + x0.val) / 352
    omega
  · show 1088 + 1 * x0.val = 1088 + (1056 + x0.val) % 352
    omega
  · show 0 + 1 * x1.val = x1.val
    omega

theorem dma_d4 (x : S352x1024.Idx) :
    kernelRun0_A.sl.dma0_20 c fh0 x = Wd fh0 (ix2 ⟨1408 + (x 0).val, Nat.lt_of_lt_of_le (Nat.add_lt_add_left (x 0).isLt 1408) (by decide)⟩ (x 1)) := by
  simp only [kernelRun0_A.sl.dma0_20, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 4 + 1 * 0 = (1408 + x0.val) / 352
    omega
  · show 1088 + 1 * x0.val = 1088 + (1408 + x0.val) % 352
    omega
  · show 0 + 1 * x1.val = x1.val
    omega

theorem dma_d5 (x : S352x1024.Idx) :
    kernelRun0_A.sl.dma0_21 c fh0 x = Wd fh0 (ix2 ⟨1760 + (x 0).val, Nat.lt_of_lt_of_le (Nat.add_lt_add_left (x 0).isLt 1760) (by decide)⟩ (x 1)) := by
  simp only [kernelRun0_A.sl.dma0_21, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 5 + 1 * 0 = (1760 + x0.val) / 352
    omega
  · show 1088 + 1 * x0.val = 1088 + (1760 + x0.val) % 352
    omega
  · show 0 + 1 * x1.val = x1.val
    omega

theorem dma_d6 (x : S352x1024.Idx) :
    kernelRun0_A.sl.dma0_22 c fh0 x = Wd fh0 (ix2 ⟨2112 + (x 0).val, Nat.lt_of_lt_of_le (Nat.add_lt_add_left (x 0).isLt 2112) (by decide)⟩ (x 1)) := by
  simp only [kernelRun0_A.sl.dma0_22, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 6 + 1 * 0 = (2112 + x0.val) / 352
    omega
  · show 1088 + 1 * x0.val = 1088 + (2112 + x0.val) % 352
    omega
  · show 0 + 1 * x1.val = x1.val
    omega

theorem dma_d7 (x : S352x1024.Idx) :
    kernelRun0_A.sl.dma0_23 c fh0 x = Wd fh0 (ix2 ⟨2464 + (x 0).val, Nat.lt_of_lt_of_le (Nat.add_lt_add_left (x 0).isLt 2464) (by decide)⟩ (x 1)) := by
  simp only [kernelRun0_A.sl.dma0_23, View.read_apply, cast_eq]
  simp only [View.emb, Function.Embedding.trans_apply, Equiv.coe_toEmbedding, Function.Embedding.refl_apply]
  idx_vars x
  pointwise [Wd]
  have hx := x0.isLt
  refine congrArg fh0 (funext fun a => Fin.ext ?_)
  fin_cases a
  · show 7 + 1 * 0 = (2464 + x0.val) / 352
    omega
  · show 1088 + 1 * x0.val = 1088 + (2464 + x0.val) % 352
    omega
  · show 0 + 1 * x1.val = x1.val
    omega

/-- What the copies store are blocks of the weights. -/
theorem pieces_g {hc0} :
    View.PiecesOf (Wg fh0) (kernelRun0_A c i arg1 harg1 arg2 harg2 arg4 harg4 arg5 harg5 arg6 harg6 arg7 harg7 arg8 harg8 arg9 harg9 arg10 harg10 hc0 x0 x1 fh0).2.2.2.1 := by
  unfold kernelRun0_A
  dsimp only
  refine ⟨fun x => ?_, fun x => ?_, fun x => ?_, fun x => ?_, fun x => ?_, fun x => ?_, fun x => ?_, fun x => ?_, trivial⟩
  · change S352x1024.Idx at x
    refine (dma_g7 c fh0 x).trans ?_
    pointwise [emb_norm]
  · change S352x1024.Idx at x
    refine (dma_g6 c fh0 x).trans ?_
    pointwise [emb_norm]
  · change S352x1024.Idx at x
    refine (dma_g5 c fh0 x).trans ?_
    pointwise [emb_norm]
  · change S352x1024.Idx at x
    refine (dma_g4 c fh0 x).trans ?_
    pointwise [emb_norm]
  · change S352x1024.Idx at x
    refine (dma_g3 c fh0 x).trans ?_
    pointwise [emb_norm]
  · change S352x1024.Idx at x
    refine (dma_g2 c fh0 x).trans ?_
    pointwise [emb_norm]
  · change S352x1024.Idx at x
    refine (dma_g1 c fh0 x).trans ?_
    pointwise [emb_norm]
  · change S352x1024.Idx at x
    refine (dma_g0 c fh0 x).trans ?_
    pointwise [emb_norm]

theorem canon_g {hc0} : View.canon (kernelRun0_A c i arg1 harg1 arg2 harg2 arg4 harg4 arg5 harg5 arg6 harg6 arg7 harg7 arg8 harg8 arg9 harg9 arg10 harg10 hc0 x0 x1 fh0).2.2.2.1 = Wg fh0 :=
  funext fun y => View.canon_apply_of_pieces (Wg fh0) _ (pieces_g c i arg1 harg1 arg2 harg2 arg4 harg4 arg5 harg5 arg6 harg6 arg7 harg7 arg8 harg8 arg9 harg9 arg10 harg10 x0 x1 fh0).mem y (scover0_A_0 c i arg1 harg1 arg2 harg2 arg4 harg4 arg5 harg5 arg6 harg6 arg7 harg7 arg8 harg8 arg9 harg9 arg10 harg10 hc0 x0 x1 fh0 y)

theorem sout_g {hc0} : sout0_A_0 c i arg1 harg1 arg2 harg2 arg4 harg4 arg5 harg5 arg6 harg6 arg7 harg7 arg8 harg8 arg9 harg9 arg10 harg10 hc0 x0 x1 fh0 = Wg fh0 := by
  unfold sout0_A_0
  rw [View.read_writes_junk_eq_canon]
  exact canon_g c i arg1 harg1 arg2 harg2 arg4 harg4 arg5 harg5 arg6 harg6 arg7 harg7 arg8 harg8 arg9 harg9 arg10 harg10 x0 x1 fh0

/-- What a load of the weights reads within the first block. -/
theorem load_g {hc0} (r : Rect S2816x1024) :
    arg7.view.readCov (Val := Elt Ideal) (kernelRun0_A c i arg1 harg1 arg2 harg2 arg4 harg4 arg5 harg5 arg6 harg6 arg7 harg7 arg8 harg8 arg9 harg9 arg10 harg10 hc0 x0 x1 fh0).2.2.2.1 r.toLoadRect = View.ld (Wg fh0) r :=
  readCov_of arg7.view (Wg fh0) _ (pieces_g c i arg1 harg1 arg2 harg2 arg4 harg4 arg5 harg5 arg6 harg6 arg7 harg7 arg8 harg8 arg9 harg9 arg10 harg10 x0 x1 fh0) (scover0_A_0 c i arg1 harg1 arg2 harg2 arg4 harg4 arg5 harg5 arg6 harg6 arg7 harg7 arg8 harg8 arg9 harg9 arg10 harg10 hc0 x0 x1 fh0) r

/-- What the copies store are blocks of the weights. -/
theorem pieces_u {hc0} :
    View.PiecesOf (Wu fh0) (kernelRun0_A c i arg1 harg1 arg2 harg2 arg4 harg4 arg5 harg5 arg6 harg6 arg7 harg7 arg8 harg8 arg9 harg9 arg10 harg10 hc0 x0 x1 fh0).2.2.2.2.1 := by
  unfold kernelRun0_A
  dsimp only
  refine ⟨fun x => ?_, fun x => ?_, fun x => ?_, fun x => ?_, fun x => ?_, fun x => ?_, fun x => ?_, fun x => ?_, trivial⟩
  · change S352x1024.Idx at x
    refine (dma_u7 c fh0 x).trans ?_
    pointwise [emb_norm]
  · change S352x1024.Idx at x
    refine (dma_u6 c fh0 x).trans ?_
    pointwise [emb_norm]
  · change S352x1024.Idx at x
    refine (dma_u5 c fh0 x).trans ?_
    pointwise [emb_norm]
  · change S352x1024.Idx at x
    refine (dma_u4 c fh0 x).trans ?_
    pointwise [emb_norm]
  · change S352x1024.Idx at x
    refine (dma_u3 c fh0 x).trans ?_
    pointwise [emb_norm]
  · change S352x1024.Idx at x
    refine (dma_u2 c fh0 x).trans ?_
    pointwise [emb_norm]
  · change S352x1024.Idx at x
    refine (dma_u1 c fh0 x).trans ?_
    pointwise [emb_norm]
  · change S352x1024.Idx at x
    refine (dma_u0 c fh0 x).trans ?_
    pointwise [emb_norm]

theorem canon_u {hc0} : View.canon (kernelRun0_A c i arg1 harg1 arg2 harg2 arg4 harg4 arg5 harg5 arg6 harg6 arg7 harg7 arg8 harg8 arg9 harg9 arg10 harg10 hc0 x0 x1 fh0).2.2.2.2.1 = Wu fh0 :=
  funext fun y => View.canon_apply_of_pieces (Wu fh0) _ (pieces_u c i arg1 harg1 arg2 harg2 arg4 harg4 arg5 harg5 arg6 harg6 arg7 harg7 arg8 harg8 arg9 harg9 arg10 harg10 x0 x1 fh0).mem y (scover0_A_1 c i arg1 harg1 arg2 harg2 arg4 harg4 arg5 harg5 arg6 harg6 arg7 harg7 arg8 harg8 arg9 harg9 arg10 harg10 hc0 x0 x1 fh0 y)

theorem sout_u {hc0} : sout0_A_1 c i arg1 harg1 arg2 harg2 arg4 harg4 arg5 harg5 arg6 harg6 arg7 harg7 arg8 harg8 arg9 harg9 arg10 harg10 hc0 x0 x1 fh0 = Wu fh0 := by
  unfold sout0_A_1
  rw [View.read_writes_junk_eq_canon]
  exact canon_u c i arg1 harg1 arg2 harg2 arg4 harg4 arg5 harg5 arg6 harg6 arg7 harg7 arg8 harg8 arg9 harg9 arg10 harg10 x0 x1 fh0

/-- What a load of the weights reads within the first block. -/
theorem load_u {hc0} (r : Rect S2816x1024) :
    arg8.view.readCov (Val := Elt Ideal) (kernelRun0_A c i arg1 harg1 arg2 harg2 arg4 harg4 arg5 harg5 arg6 harg6 arg7 harg7 arg8 harg8 arg9 harg9 arg10 harg10 hc0 x0 x1 fh0).2.2.2.2.1 r.toLoadRect = View.ld (Wu fh0) r :=
  readCov_of arg8.view (Wu fh0) _ (pieces_u c i arg1 harg1 arg2 harg2 arg4 harg4 arg5 harg5 arg6 harg6 arg7 harg7 arg8 harg8 arg9 harg9 arg10 harg10 x0 x1 fh0) (scover0_A_1 c i arg1 harg1 arg2 harg2 arg4 harg4 arg5 harg5 arg6 harg6 arg7 harg7 arg8 harg8 arg9 harg9 arg10 harg10 hc0 x0 x1 fh0) r

/-- What the copies store are blocks of the weights. -/
theorem pieces_d {hc0} :
    View.PiecesOf (Wd fh0) (kernelRun0_A c i arg1 harg1 arg2 harg2 arg4 harg4 arg5 harg5 arg6 harg6 arg7 harg7 arg8 harg8 arg9 harg9 arg10 harg10 hc0 x0 x1 fh0).2.2.2.2.2.1 := by
  unfold kernelRun0_A
  dsimp only
  refine ⟨fun x => ?_, fun x => ?_, fun x => ?_, fun x => ?_, fun x => ?_, fun x => ?_, fun x => ?_, fun x => ?_, trivial⟩
  · change S352x1024.Idx at x
    refine (dma_d7 c fh0 x).trans ?_
    pointwise [emb_norm]
  · change S352x1024.Idx at x
    refine (dma_d6 c fh0 x).trans ?_
    pointwise [emb_norm]
  · change S352x1024.Idx at x
    refine (dma_d5 c fh0 x).trans ?_
    pointwise [emb_norm]
  · change S352x1024.Idx at x
    refine (dma_d4 c fh0 x).trans ?_
    pointwise [emb_norm]
  · change S352x1024.Idx at x
    refine (dma_d3 c fh0 x).trans ?_
    pointwise [emb_norm]
  · change S352x1024.Idx at x
    refine (dma_d2 c fh0 x).trans ?_
    pointwise [emb_norm]
  · change S352x1024.Idx at x
    refine (dma_d1 c fh0 x).trans ?_
    pointwise [emb_norm]
  · change S352x1024.Idx at x
    refine (dma_d0 c fh0 x).trans ?_
    pointwise [emb_norm]

theorem canon_d {hc0} : View.canon (kernelRun0_A c i arg1 harg1 arg2 harg2 arg4 harg4 arg5 harg5 arg6 harg6 arg7 harg7 arg8 harg8 arg9 harg9 arg10 harg10 hc0 x0 x1 fh0).2.2.2.2.2.1 = Wd fh0 :=
  funext fun y => View.canon_apply_of_pieces (Wd fh0) _ (pieces_d c i arg1 harg1 arg2 harg2 arg4 harg4 arg5 harg5 arg6 harg6 arg7 harg7 arg8 harg8 arg9 harg9 arg10 harg10 x0 x1 fh0).mem y (scover0_A_2 c i arg1 harg1 arg2 harg2 arg4 harg4 arg5 harg5 arg6 harg6 arg7 harg7 arg8 harg8 arg9 harg9 arg10 harg10 hc0 x0 x1 fh0 y)

theorem sout_d {hc0} : sout0_A_2 c i arg1 harg1 arg2 harg2 arg4 harg4 arg5 harg5 arg6 harg6 arg7 harg7 arg8 harg8 arg9 harg9 arg10 harg10 hc0 x0 x1 fh0 = Wd fh0 := by
  unfold sout0_A_2
  rw [View.read_writes_junk_eq_canon]
  exact canon_d c i arg1 harg1 arg2 harg2 arg4 harg4 arg5 harg5 arg6 harg6 arg7 harg7 arg8 harg8 arg9 harg9 arg10 harg10 x0 x1 fh0

/-- What a load of the weights reads within the first block. -/
theorem load_d {hc0} (r : Rect S2816x1024) :
    arg9.view.readCov (Val := Elt Ideal) (kernelRun0_A c i arg1 harg1 arg2 harg2 arg4 harg4 arg5 harg5 arg6 harg6 arg7 harg7 arg8 harg8 arg9 harg9 arg10 harg10 hc0 x0 x1 fh0).2.2.2.2.2.1 r.toLoadRect = View.ld (Wd fh0) r :=
  readCov_of arg9.view (Wd fh0) _ (pieces_d c i arg1 harg1 arg2 harg2 arg4 harg4 arg5 harg5 arg6 harg6 arg7 harg7 arg8 harg8 arg9 harg9 arg10 harg10 x0 x1 fh0) (scover0_A_2 c i arg1 harg1 arg2 harg2 arg4 harg4 arg5 harg5 arg6 harg6 arg7 harg7 arg8 harg8 arg9 harg9 arg10 harg10 hc0 x0 x1 fh0) r

end Cert.KernelFfnFwdIdeal.Value
-- ==== Proof.Ffw.Chunk.lean ====
/- The values of one block of rows: what its eleven chunks leave in the three result windows. -/
module

public import proofs.«01_k».proof.Proof.Ffw.Load

@[expose] public section

set_option maxRecDepth 16384
set_option maxHeartbeats 1000000

noncomputable section

namespace Cert.KernelFfnFwdIdeal.Value

open Idealize.ShloMosaic Idealize.SL.Sem Cert.KernelFfnFwdIdeal Cert.KernelFfnFwdIdeal.Gen
open scoped BigOperators

/-- A load out of a buffer held whole. -/
theorem rd_part {κ : Kind} {sp : Space} {s : Shape} {e : EltTy} (v : Memref sig κ sp s e) (h : v.IsWhole) (x : s.Idx → Elt Ideal e) (r : Rect s) :
    v.view.readAt (Elt Ideal) r.toLoadRect (h.unread x) = View.ld x r := by
  rw [View.readAt_eq_ld, h.read_unread]

theorem ld_x (x : Vec Ideal S512x1024 .f32) : View.ld x (Rect.unit (s := S512x1024) ![0, 0] ![512, 1024] inb_S512x1024_S512x1024_0_0) = x :=
  View.ld_unit_lit _ x (by decide)

theorem ld_g (x : Vec Ideal S1x1024 .f32) : View.ld x (Rect.unit (s := S1x1024) ![0, 0] ![1, 1024] inb_S1x1024_S1x1024_0_0) = x :=
  View.ld_unit_lit _ x (by decide)

/-- A chunk's columns, placed in the window. -/
theorem gt_piece (H : Vec Ideal S512x1024 .bf16) (W : Vec Ideal S2816x1024 .bf16) (o : ℕ) (ho : o + 256 ≤ 2816) (inb) (inb') (x : S512x256.Idx) :
    k0_pay7 (F := Ideal) H (rows W o inb) x = gt H W ((Rect.unit (s := S512x2816) ![0, o] S512x256.size inb').emb x) := by
  refine (gt_at H W o ho inb x).trans (congrArg (gt H W) (funext fun a => Fin.ext ?_))
  fin_cases a
  · show (x 0).val = 0 + 1 * (x 0).val
    omega
  · show o + (x 1).val = o + 1 * (x 1).val
    omega

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole)
    (x0 : Vec Ideal S512x1024 .f32) (x1 : Vec Ideal S1x1024 .f32) (xs0 xs1 xs2 : Vec Ideal S2816x1024 .bf16) (fh0 : HbBuf0 (F := Ideal) c hbM0_0)

/-- The gate columns a later block stores, chunk by chunk. -/
theorem pieces_B_3 {hc0} : View.PiecesOf (gt (k0_pay2 (F := Ideal) x0 x1) xs0) (kernelRun0_B c i arg1 harg1 arg2 harg2 arg4 harg4 arg5 harg5 arg6 harg6 arg7 harg7 arg8 harg8 arg9 harg9 arg10 harg10 hc0 x0 x1 xs0 xs1 xs2 fh0).2.1 := by
  unfold kernelRun0_B
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, rd_part, ld_x, ld_g]
  · exact gt_piece (k0_pay2 (F := Ideal) x0 x1) xs0 2560 (by norm_num) inb_S2816x1024_S256x1024_2560_0 inb_S512x2816_S512x256_0_2560 x
  · exact gt_piece (k0_pay2 (F := Ideal) x0 x1) xs0 2304 (by norm_num) inb_S2816x1024_S256x1024_2304_0 inb_S512x2816_S512x256_0_2304 x
  · exact gt_piece (k0_pay2 (F := Ideal) x0 x1) xs0 2048 (by norm_num) inb_S2816x1024_S256x1024_2048_0 inb_S512x2816_S512x256_0_2048 x
  · exact gt_piece (k0_pay2 (F := Ideal) x0 x1) xs0 1792 (by norm_num) inb_S2816x1024_S256x1024_1792_0 inb_S512x2816_S512x256_0_1792 x
  · exact gt_piece (k0_pay2 (F := Ideal) x0 x1) xs0 1536 (by norm_num) inb_S2816x1024_S256x1024_1536_0 inb_S512x2816_S512x256_0_1536 x
  · exact gt_piece (k0_pay2 (F := Ideal) x0 x1) xs0 1280 (by norm_num) inb_S2816x1024_S256x1024_1280_0 inb_S512x2816_S512x256_0_1280 x
  · exact gt_piece (k0_pay2 (F := Ideal) x0 x1) xs0 1024 (by norm_num) inb_S2816x1024_S256x1024_1024_0 inb_S512x2816_S512x256_0_1024 x
  · exact gt_piece (k0_pay2 (F := Ideal) x0 x1) xs0 768 (by norm_num) inb_S2816x1024_S256x1024_768_0 inb_S512x2816_S512x256_0_768 x
  · exact gt_piece (k0_pay2 (F := Ideal) x0 x1) xs0 512 (by norm_num) inb_S2816x1024_S256x1024_512_0 inb_S512x2816_S512x256_0_512 x
  · exact gt_piece (k0_pay2 (F := Ideal) x0 x1) xs0 256 (by norm_num) inb_S2816x1024_S256x1024_256_0 inb_S512x2816_S512x256_0_256 x
  · exact gt_piece (k0_pay2 (F := Ideal) x0 x1) xs0 0 (by norm_num) inb_S2816x1024_S256x1024_0_0 inb_S512x2816_S512x256_0_0 x

theorem out_B_3 {hc0} : out0_B_3 c i arg1 harg1 arg2 harg2 arg4 harg4 arg5 harg5 arg6 harg6 arg7 harg7 arg8 harg8 arg9 harg9 arg10 harg10 hc0 x0 x1 xs0 xs1 xs2 fh0 = gt (k0_pay2 (F := Ideal) x0 x1) xs0 := by
  unfold out0_B_3
  rw [View.read_writes_junk_eq_canon]
  exact funext fun y => View.canon_apply_of_pieces _ _ (pieces_B_3 c i arg1 harg1 arg2 harg2 arg4 harg4 arg5 harg5 arg6 harg6 arg7 harg7 arg8 harg8 arg9 harg9 arg10 harg10 x0 x1 xs0 xs1 xs2 fh0).mem y (cover0_B_3 c i arg1 harg1 arg2 harg2 arg4 harg4 arg5 harg5 arg6 harg6 arg7 harg7 arg8 harg8 arg9 harg9 arg10 harg10 hc0 x0 x1 xs0 xs1 xs2 fh0 y)

/-- The up columns a later block stores, chunk by chunk. -/
theorem pieces_B_4 {hc0} : View.PiecesOf (gt (k0_pay2 (F := Ideal) x0 x1) xs1) (kernelRun0_B c i arg1 harg1 arg2 harg2 arg4 harg4 arg5 harg5 arg6 harg6 arg7 harg7 arg8 harg8 arg9 harg9 arg10 harg10 hc0 x0 x1 xs0 xs1 xs2 fh0).2.2.1 := by
  unfold kernelRun0_B
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, rd_part, ld_x, ld_g]
  · exact gt_piece (k0_pay2 (F := Ideal) x0 x1) xs1 2560 (by norm_num) inb_S2816x1024_S256x1024_2560_0 inb_S512x2816_S512x256_0_2560 x
  · exact gt_piece (k0_pay2 (F := Ideal) x0 x1) xs1 2304 (by norm_num) inb_S2816x1024_S256x1024_2304_0 inb_S512x2816_S512x256_0_2304 x
  · exact gt_piece (k0_pay2 (F := Ideal) x0 x1) xs1 2048 (by norm_num) inb_S2816x1024_S256x1024_2048_0 inb_S512x2816_S512x256_0_2048 x
  · exact gt_piece (k0_pay2 (F := Ideal) x0 x1) xs1 1792 (by norm_num) inb_S2816x1024_S256x1024_1792_0 inb_S512x2816_S512x256_0_1792 x
  · exact gt_piece (k0_pay2 (F := Ideal) x0 x1) xs1 1536 (by norm_num) inb_S2816x1024_S256x1024_1536_0 inb_S512x2816_S512x256_0_1536 x
  · exact gt_piece (k0_pay2 (F := Ideal) x0 x1) xs1 1280 (by norm_num) inb_S2816x1024_S256x1024_1280_0 inb_S512x2816_S512x256_0_1280 x
  · exact gt_piece (k0_pay2 (F := Ideal) x0 x1) xs1 1024 (by norm_num) inb_S2816x1024_S256x1024_1024_0 inb_S512x2816_S512x256_0_1024 x
  · exact gt_piece (k0_pay2 (F := Ideal) x0 x1) xs1 768 (by norm_num) inb_S2816x1024_S256x1024_768_0 inb_S512x2816_S512x256_0_768 x
  · exact gt_piece (k0_pay2 (F := Ideal) x0 x1) xs1 512 (by norm_num) inb_S2816x1024_S256x1024_512_0 inb_S512x2816_S512x256_0_512 x
  · exact gt_piece (k0_pay2 (F := Ideal) x0 x1) xs1 256 (by norm_num) inb_S2816x1024_S256x1024_256_0 inb_S512x2816_S512x256_0_256 x
  · exact gt_piece (k0_pay2 (F := Ideal) x0 x1) xs1 0 (by norm_num) inb_S2816x1024_S256x1024_0_0 inb_S512x2816_S512x256_0_0 x

theorem out_B_4 {hc0} : out0_B_4 c i arg1 harg1 arg2 harg2 arg4 harg4 arg5 harg5 arg6 harg6 arg7 harg7 arg8 harg8 arg9 harg9 arg10 harg10 hc0 x0 x1 xs0 xs1 xs2 fh0 = gt (k0_pay2 (F := Ideal) x0 x1) xs1 := by
  unfold out0_B_4
  rw [View.read_writes_junk_eq_canon]
  exact funext fun y => View.canon_apply_of_pieces _ _ (pieces_B_4 c i arg1 harg1 arg2 harg2 arg4 harg4 arg5 harg5 arg6 harg6 arg7 harg7 arg8 harg8 arg9 harg9 arg10 harg10 x0 x1 xs0 xs1 xs2 fh0).mem y (cover0_B_4 c i arg1 harg1 arg2 harg2 arg4 harg4 arg5 harg5 arg6 harg6 arg7 harg7 arg8 harg8 arg9 harg9 arg10 harg10 hc0 x0 x1 xs0 xs1 xs2 fh0 y)

/-- The gate columns the first block stores, chunk by chunk. -/
theorem pieces_A_3 {hc0} : View.PiecesOf (gt (k0_pay2 (F := Ideal) x0 x1) (Wg fh0)) (kernelRun0_A c i arg1 harg1 arg2 harg2 arg4 harg4 arg5 harg5 arg6 harg6 arg7 harg7 arg8 harg8 arg9 harg9 arg10 harg10 hc0 x0 x1 fh0).2.1 := by
  have eg := load_g c i arg1 harg1 arg2 harg2 arg4 harg4 arg5 harg5 arg6 harg6 arg7 harg7 arg8 harg8 arg9 harg9 arg10 harg10 x0 x1 fh0 (hc0 := hc0)
  have eu := load_u c i arg1 harg1 arg2 harg2 arg4 harg4 arg5 harg5 arg6 harg6 arg7 harg7 arg8 harg8 arg9 harg9 arg10 harg10 x0 x1 fh0 (hc0 := hc0)
  have ed := load_d c i arg1 harg1 arg2 harg2 arg4 harg4 arg5 harg5 arg6 harg6 arg7 harg7 arg8 harg8 arg9 harg9 arg10 harg10 x0 x1 fh0 (hc0 := hc0)
  unfold kernelRun0_A at eg eu ed
  dsimp only at eg eu ed
  unfold kernelRun0_A
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.v, kernelRun0_A.sl.v22, kernelRun0_A.sl.v25, kernelRun0_A.sl.v40, kernelRun0_A.sl.v46, kernelRun0_A.sl.v49, kernelRun0_A.sl.v64, kernelRun0_A.sl.v70, kernelRun0_A.sl.v73, kernelRun0_A.sl.v88, kernelRun0_A.sl.v97, kernelRun0_A.sl.v112, kernelRun0_A.sl.v118, kernelRun0_A.sl.v121, kernelRun0_A.sl.v136, kernelRun0_A.sl.v142, kernelRun0_A.sl.v145, kernelRun0_A.sl.v160, kernelRun0_A.sl.v166, kernelRun0_A.sl.v169, kernelRun0_A.sl.v184, kernelRun0_A.sl.v190, kernelRun0_A.sl.v193, kernelRun0_A.sl.v208, kernelRun0_A.sl.v214, kernelRun0_A.sl.v217, kernelRun0_A.sl.v232, kernelRun0_A.sl.v238, kernelRun0_A.sl.v241, kernelRun0_A.sl.v256, kernelRun0_A.sl.v262, kernelRun0_A.sl.v265, kernelRun0_A.sl.v280, rd_part, ld_x, ld_g, eg, eu, ed]
  · exact gt_piece (k0_pay2 (F := Ideal) x0 x1) (Wg fh0) 2560 (by norm_num) inb_S2816x1024_S256x1024_2560_0 inb_S512x2816_S512x256_0_2560 x
  · exact gt_piece (k0_pay2 (F := Ideal) x0 x1) (Wg fh0) 2304 (by norm_num) inb_S2816x1024_S256x1024_2304_0 inb_S512x2816_S512x256_0_2304 x
  · exact gt_piece (k0_pay2 (F := Ideal) x0 x1) (Wg fh0) 2048 (by norm_num) inb_S2816x1024_S256x1024_2048_0 inb_S512x2816_S512x256_0_2048 x
  · exact gt_piece (k0_pay2 (F := Ideal) x0 x1) (Wg fh0) 1792 (by norm_num) inb_S2816x1024_S256x1024_1792_0 inb_S512x2816_S512x256_0_1792 x
  · exact gt_piece (k0_pay2 (F := Ideal) x0 x1) (Wg fh0) 1536 (by norm_num) inb_S2816x1024_S256x1024_1536_0 inb_S512x2816_S512x256_0_1536 x
  · exact gt_piece (k0_pay2 (F := Ideal) x0 x1) (Wg fh0) 1280 (by norm_num) inb_S2816x1024_S256x1024_1280_0 inb_S512x2816_S512x256_0_1280 x
  · exact gt_piece (k0_pay2 (F := Ideal) x0 x1) (Wg fh0) 1024 (by norm_num) inb_S2816x1024_S256x1024_1024_0 inb_S512x2816_S512x256_0_1024 x
  · exact gt_piece (k0_pay2 (F := Ideal) x0 x1) (Wg fh0) 768 (by norm_num) inb_S2816x1024_S256x1024_768_0 inb_S512x2816_S512x256_0_768 x
  · exact gt_piece (k0_pay2 (F := Ideal) x0 x1) (Wg fh0) 512 (by norm_num) inb_S2816x1024_S256x1024_512_0 inb_S512x2816_S512x256_0_512 x
  · exact gt_piece (k0_pay2 (F := Ideal) x0 x1) (Wg fh0) 256 (by norm_num) inb_S2816x1024_S256x1024_256_0 inb_S512x2816_S512x256_0_256 x
  · exact gt_piece (k0_pay2 (F := Ideal) x0 x1) (Wg fh0) 0 (by norm_num) inb_S2816x1024_S256x1024_0_0 inb_S512x2816_S512x256_0_0 x

theorem out_A_3 {hc0} : out0_A_3 c i arg1 harg1 arg2 harg2 arg4 harg4 arg5 harg5 arg6 harg6 arg7 harg7 arg8 harg8 arg9 harg9 arg10 harg10 hc0 x0 x1 fh0 = gt (k0_pay2 (F := Ideal) x0 x1) (Wg fh0) := by
  unfold out0_A_3
  rw [View.read_writes_junk_eq_canon]
  exact funext fun y => View.canon_apply_of_pieces _ _ (pieces_A_3 c i arg1 harg1 arg2 harg2 arg4 harg4 arg5 harg5 arg6 harg6 arg7 harg7 arg8 harg8 arg9 harg9 arg10 harg10 x0 x1 fh0).mem y (cover0_A_3 c i arg1 harg1 arg2 harg2 arg4 harg4 arg5 harg5 arg6 harg6 arg7 harg7 arg8 harg8 arg9 harg9 arg10 harg10 hc0 x0 x1 fh0 y)

/-- The up columns the first block stores, chunk by chunk. -/
theorem pieces_A_4 {hc0} : View.PiecesOf (gt (k0_pay2 (F := Ideal) x0 x1) (Wu fh0)) (kernelRun0_A c i arg1 harg1 arg2 harg2 arg4 harg4 arg5 harg5 arg6 harg6 arg7 harg7 arg8 harg8 arg9 harg9 arg10 harg10 hc0 x0 x1 fh0).2.2.1 := by
  have eg := load_g c i arg1 harg1 arg2 harg2 arg4 harg4 arg5 harg5 arg6 harg6 arg7 harg7 arg8 harg8 arg9 harg9 arg10 harg10 x0 x1 fh0 (hc0 := hc0)
  have eu := load_u c i arg1 harg1 arg2 harg2 arg4 harg4 arg5 harg5 arg6 harg6 arg7 harg7 arg8 harg8 arg9 harg9 arg10 harg10 x0 x1 fh0 (hc0 := hc0)
  have ed := load_d c i arg1 harg1 arg2 harg2 arg4 harg4 arg5 harg5 arg6 harg6 arg7 harg7 arg8 harg8 arg9 harg9 arg10 harg10 x0 x1 fh0 (hc0 := hc0)
  unfold kernelRun0_A at eg eu ed
  dsimp only at eg eu ed
  unfold kernelRun0_A
  dsimp only
  refine ⟨fun x => ?_, fun x => ?_, fun x => ?_, fun x => ?_, fun x => ?_, fun x => ?_, fun x => ?_, fun x => ?_, fun x => ?_, fun x => ?_, fun x => ?_, trivial⟩
  all_goals
    change S512x256.Idx at x
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.v, kernelRun0_A.sl.v22, kernelRun0_A.sl.v25, kernelRun0_A.sl.v40, kernelRun0_A.sl.v46, kernelRun0_A.sl.v49, kernelRun0_A.sl.v64, kernelRun0_A.sl.v70, kernelRun0_A.sl.v73, kernelRun0_A.sl.v88, kernelRun0_A.sl.v97, kernelRun0_A.sl.v112, kernelRun0_A.sl.v118, kernelRun0_A.sl.v121, kernelRun0_A.sl.v136, kernelRun0_A.sl.v142, kernelRun0_A.sl.v145, kernelRun0_A.sl.v160, kernelRun0_A.sl.v166, kernelRun0_A.sl.v169, kernelRun0_A.sl.v184, kernelRun0_A.sl.v190, kernelRun0_A.sl.v193, kernelRun0_A.sl.v208, kernelRun0_A.sl.v214, kernelRun0_A.sl.v217, kernelRun0_A.sl.v232, kernelRun0_A.sl.v238, kernelRun0_A.sl.v241, kernelRun0_A.sl.v256, kernelRun0_A.sl.v262, kernelRun0_A.sl.v265, kernelRun0_A.sl.v280, rd_part, ld_x, ld_g, eg, eu, ed]
  · exact gt_piece (k0_pay2 (F := Ideal) x0 x1) (Wu fh0) 2560 (by norm_num) inb_S2816x1024_S256x1024_2560_0 inb_S512x2816_S512x256_0_2560 x
  · exact gt_piece (k0_pay2 (F := Ideal) x0 x1) (Wu fh0) 2304 (by norm_num) inb_S2816x1024_S256x1024_2304_0 inb_S512x2816_S512x256_0_2304 x
  · exact gt_piece (k0_pay2 (F := Ideal) x0 x1) (Wu fh0) 2048 (by norm_num) inb_S2816x1024_S256x1024_2048_0 inb_S512x2816_S512x256_0_2048 x
  · exact gt_piece (k0_pay2 (F := Ideal) x0 x1) (Wu fh0) 1792 (by norm_num) inb_S2816x1024_S256x1024_1792_0 inb_S512x2816_S512x256_0_1792 x
  · exact gt_piece (k0_pay2 (F := Ideal) x0 x1) (Wu fh0) 1536 (by norm_num) inb_S2816x1024_S256x1024_1536_0 inb_S512x2816_S512x256_0_1536 x
  · exact gt_piece (k0_pay2 (F := Ideal) x0 x1) (Wu fh0) 1280 (by norm_num) inb_S2816x1024_S256x1024_1280_0 inb_S512x2816_S512x256_0_1280 x
  · exact gt_piece (k0_pay2 (F := Ideal) x0 x1) (Wu fh0) 1024 (by norm_num) inb_S2816x1024_S256x1024_1024_0 inb_S512x2816_S512x256_0_1024 x
  · exact gt_piece (k0_pay2 (F := Ideal) x0 x1) (Wu fh0) 768 (by norm_num) inb_S2816x1024_S256x1024_768_0 inb_S512x2816_S512x256_0_768 x
  · exact gt_piece (k0_pay2 (F := Ideal) x0 x1) (Wu fh0) 512 (by norm_num) inb_S2816x1024_S256x1024_512_0 inb_S512x2816_S512x256_0_512 x
  · exact gt_piece (k0_pay2 (F := Ideal) x0 x1) (Wu fh0) 256 (by norm_num) inb_S2816x1024_S256x1024_256_0 inb_S512x2816_S512x256_0_256 x
  · exact gt_piece (k0_pay2 (F := Ideal) x0 x1) (Wu fh0) 0 (by norm_num) inb_S2816x1024_S256x1024_0_0 inb_S512x2816_S512x256_0_0 x

theorem out_A_4 {hc0} : out0_A_4 c i arg1 harg1 arg2 harg2 arg4 harg4 arg5 harg5 arg6 harg6 arg7 harg7 arg8 harg8 arg9 harg9 arg10 harg10 hc0 x0 x1 fh0 = gt (k0_pay2 (F := Ideal) x0 x1) (Wu fh0) := by
  unfold out0_A_4
  rw [View.read_writes_junk_eq_canon]
  exact funext fun y => View.canon_apply_of_pieces _ _ (pieces_A_4 c i arg1 harg1 arg2 harg2 arg4 harg4 arg5 harg5 arg6 harg6 arg7 harg7 arg8 harg8 arg9 harg9 arg10 harg10 x0 x1 fh0).mem y (cover0_A_4 c i arg1 harg1 arg2 harg2 arg4 harg4 arg5 harg5 arg6 harg6 arg7 harg7 arg8 harg8 arg9 harg9 arg10 harg10 hc0 x0 x1 fh0 y)

end Cert.KernelFfnFwdIdeal.Value

end
-- ==== Proof.Ffw.Total.lean ====
/- The values of one block of rows: the sum its eleven chunks leave in the first result. -/
module

public import proofs.«01_k».proof.Proof.Ffw.Chunk

@[expose] public section

set_option maxRecDepth 16384
set_option maxHeartbeats 1000000

noncomputable section

namespace Cert.KernelFfnFwdIdeal.Value

open Idealize.ShloMosaic Idealize.SL.Sem Cert.KernelFfnFwdIdeal Cert.KernelFfnFwdIdeal.Gen
open scoped BigOperators

section
variable (X a : Vec Ideal S512x1024 .f32) (g : Vec Ideal S1x1024 .f32) (H : Vec Ideal S512x1024 .bf16) (wg wu wd : Vec Ideal S256x1024 .bf16)

/-! Every chunk runs the same operations, however its values are split between the steps. -/

theorem p6 : k0_pay6 (F := Ideal) (k0_pay4 X g wg) (k0_pay5 X g wu) a (FloatOps.ofBits .bf16 0#16) wd = k0_pay13 (F := Ideal) (k0_pay2 (F := Ideal) X g) wg wu a wd := rfl

theorem p10 : k0_pay10 (F := Ideal) a (k0_pay9 H wg wu) wd = k0_pay13 (F := Ideal) H wg wu a wd := rfl

theorem p16 : k0_pay16 (F := Ideal) H wg wu a wd = k0_pay13 (F := Ideal) H wg wu a wd := rfl

theorem p19 : k0_pay19 (F := Ideal) (k0_pay17 H wg) (k0_pay18 H wu) a wd = k0_pay13 (F := Ideal) H wg wu a wd := rfl

theorem p24 : k0_pay24 (F := Ideal) (k0_pay20 H wg) (k0_pay21 H wu) a (k0_pay22 H wg) k0_pay23 wd = k0_pay13 (F := Ideal) H wg wu a wd := rfl

theorem p28 : k0_pay28 (F := Ideal) (k0_pay27 H wg wu a wd) = k0_pay13 (F := Ideal) H wg wu a wd := rfl

theorem p31 : k0_pay31 (F := Ideal) H wg wu a wd = k0_pay13 (F := Ideal) H wg wu a wd := rfl

theorem p34 : k0_pay34 (F := Ideal) H (k0_pay32 H wg) wu a wd = k0_pay13 (F := Ideal) H wg wu a wd := rfl

theorem p37 : k0_pay37 (F := Ideal) (k0_pay35 H wg) (k0_pay36 H wu) a wd = k0_pay13 (F := Ideal) H wg wu a wd := rfl

theorem p1 : k0_pay1 (F := Ideal) (k0_pay39 H wu) a (k0_pay40 H wg) wd = k0_pay13 (F := Ideal) H wg wu a wd := rfl

theorem p3 : k0_pay3 (F := Ideal) X = X := by
  funext j
  idx_vars j
  pointwise [k0_pay3]

end

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S512x1024 .f32) (harg10 : arg10.IsWhole)
    (x0 : Vec Ideal S512x1024 .f32) (x1 : Vec Ideal S1x1024 .f32) (xs0 xs1 xs2 : Vec Ideal S2816x1024 .bf16) (fh0 : HbBuf0 (F := Ideal) c hbM0_0)

/-- The rows a later block stores: the accumulator once the eleven chunks are in. -/
theorem out_B_2 {hc0} : out0_B_2 c i arg1 harg1 arg2 harg2 arg4 harg4 arg5 harg5 arg6 harg6 arg7 harg7 arg8 harg8 arg9 harg9 arg10 harg10 hc0 x0 x1 xs0 xs1 xs2 fh0 = xo (k0_pay2 (F := Ideal) x0 x1) xs0 xs1 xs2 x0 := by
  unfold out0_B_2
  rw [View.read_writes_junk_eq_canon]
  unfold kernelRun0_B
  dsimp only
  refine (View.canon_cons_unit_lit _ _ _ (by decide)).trans ?_
  simp only [kernelRun0_B.sl.v286, kernelRun0_B.sl.v270, kernelRun0_B.sl.v246, kernelRun0_B.sl.v222, kernelRun0_B.sl.v198, kernelRun0_B.sl.v174, kernelRun0_B.sl.v150, kernelRun0_B.sl.v126, kernelRun0_B.sl.v102, kernelRun0_B.sl.v78, kernelRun0_B.sl.v54, kernelRun0_B.sl.v30, kernelRun0_B.sl.HS3_12, kernelRun0_B.sl.HS3_11, kernelRun0_B.sl.HS3_10, kernelRun0_B.sl.HS3_9, kernelRun0_B.sl.HS3_8, kernelRun0_B.sl.HS3_7, kernelRun0_B.sl.HS3_6, kernelRun0_B.sl.HS3_5, kernelRun0_B.sl.HS3_4, kernelRun0_B.sl.HS3_3, kernelRun0_B.sl.HS3_2, kernelRun0_B.sl.HS3_1, ↓View.readCov_cons_toLoadRect, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.cst_20, rd_part, ld_x, ld_g, p6, p10, p16, p19, p24, p28, p31, p34, p37, p1, p3]
  unfold xo st rows
  rfl

/-- The rows the first block stores: the accumulator once the eleven chunks are in. -/
theorem out_A_2 {hc0} : out0_A_2 c i arg1 harg1 arg2 harg2 arg4 harg4 arg5 harg5 arg6 harg6 arg7 harg7 arg8 harg8 arg9 harg9 arg10 harg10 hc0 x0 x1 fh0 = xo (k0_pay2 (F := Ideal) x0 x1) (Wg fh0) (Wu fh0) (Wd fh0) x0 := by
  have eg := load_g c i arg1 harg1 arg2 harg2 arg4 harg4 arg5 harg5 arg6 harg6 arg7 harg7 arg8 harg8 arg9 harg9 arg10 harg10 x0 x1 fh0 (hc0 := hc0)
  have eu := load_u c i arg1 harg1 arg2 harg2 arg4 harg4 arg5 harg5 arg6 harg6 arg7 harg7 arg8 harg8 arg9 harg9 arg10 harg10 x0 x1 fh0 (hc0 := hc0)
  have ed := load_d c i arg1 harg1 arg2 harg2 arg4 harg4 arg5 harg5 arg6 harg6 arg7 harg7 arg8 harg8 arg9 harg9 arg10 harg10 x0 x1 fh0 (hc0 := hc0)
  unfold kernelRun0_A at eg eu ed
  dsimp only at eg eu ed
  unfold out0_A_2
  rw [View.read_writes_junk_eq_canon]
  unfold kernelRun0_A
  dsimp only
  refine (View.canon_cons_unit_lit _ _ _ (by decide)).trans ?_
  simp only [kernelRun0_A.sl.v286, kernelRun0_A.sl.v270, kernelRun0_A.sl.v246, kernelRun0_A.sl.v222, kernelRun0_A.sl.v198, kernelRun0_A.sl.v174, kernelRun0_A.sl.v150, kernelRun0_A.sl.v126, kernelRun0_A.sl.v102, kernelRun0_A.sl.v78, kernelRun0_A.sl.v54, kernelRun0_A.sl.v30, kernelRun0_A.sl.HS3_12, kernelRun0_A.sl.HS3_11, kernelRun0_A.sl.HS3_10, kernelRun0_A.sl.HS3_9, kernelRun0_A.sl.HS3_8, kernelRun0_A.sl.HS3_7, kernelRun0_A.sl.HS3_6, kernelRun0_A.sl.HS3_5, kernelRun0_A.sl.HS3_4, kernelRun0_A.sl.HS3_3, kernelRun0_A.sl.HS3_2, kernelRun0_A.sl.HS3_1, ↓View.readCov_cons_toLoadRect, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.v, kernelRun0_A.sl.v22, kernelRun0_A.sl.v25, kernelRun0_A.sl.v40, kernelRun0_A.sl.v46, kernelRun0_A.sl.v49, kernelRun0_A.sl.v64, kernelRun0_A.sl.v70, kernelRun0_A.sl.v73, kernelRun0_A.sl.v88, kernelRun0_A.sl.v97, kernelRun0_A.sl.v112, kernelRun0_A.sl.v118, kernelRun0_A.sl.v121, kernelRun0_A.sl.v136, kernelRun0_A.sl.v142, kernelRun0_A.sl.v145, kernelRun0_A.sl.v160, kernelRun0_A.sl.v166, kernelRun0_A.sl.v169, kernelRun0_A.sl.v184, kernelRun0_A.sl.v190, kernelRun0_A.sl.v193, kernelRun0_A.sl.v208, kernelRun0_A.sl.v214, kernelRun0_A.sl.v217, kernelRun0_A.sl.v232, kernelRun0_A.sl.v238, kernelRun0_A.sl.v241, kernelRun0_A.sl.v256, kernelRun0_A.sl.v262, kernelRun0_A.sl.v265, kernelRun0_A.sl.v280, kernelRun0_A.sl.cst_20, rd_part, ld_x, ld_g, eg, eu, ed, p6, p10, p16, p19, p24, p28, p31, p34, p37, p1, p3]
  unfold xo st rows
  rfl

end Cert.KernelFfnFwdIdeal.Value

end
-- ==== Proof.Ffw.Body.lean ====
/- What each block of rows leaves in the three results and in the kept weights. -/
module

public import proofs.«01_k».proof.Proof.Ffw.Total

@[expose] public section

set_option maxRecDepth 16384

noncomputable section

namespace Cert.KernelFfnFwdIdeal.Value

open Idealize.ShloMosaic Idealize.SL.Sem Cert.KernelFfnFwdIdeal Cert.KernelFfnFwdIdeal.Gen
open scoped BigOperators

variable (m : (ℓ : Loc nD τ sig) → Buf (Elt Ideal) ℓ)

theorem kept_g_first (c : Dev nD) (t : Fin cfg0.N) (h0 : t.val % 16 = 0) : (outsAt0 m c t.val t.isLt).2.2.2.1 = Wg (V m c main_v9) := by
  rw [outsAt0_A m c t h0]
  dsimp only
  exact sout_g (hc0 := (hcond0_0 t).mpr h0) _ _ _ _ _ _ _ _ _ _ _ _ _ _ _ _ _ _ _ _ _ _ _

theorem kept_g_next (c : Dev nD) (t : Fin cfg0.N) (h0 : ¬t.val % 16 = 0) : (outsAt0 m c t.val t.isLt).2.2.2.1 = (outsAt0 m c (t.val - 1) (Nat.lt_of_le_of_lt (Nat.sub_le _ _) t.isLt)).2.2.2.1 := by
  rw [outsAt0_B m c t h0]
  rfl

theorem kept_u_first (c : Dev nD) (t : Fin cfg0.N) (h0 : t.val % 16 = 0) : (outsAt0 m c t.val t.isLt).2.2.2.2.1 = Wu (V m c main_v9) := by
  rw [outsAt0_A m c t h0]
  dsimp only
  exact sout_u (hc0 := (hcond0_0 t).mpr h0) _ _ _ _ _ _ _ _ _ _ _ _ _ _ _ _ _ _ _ _ _ _ _

theorem kept_u_next (c : Dev nD) (t : Fin cfg0.N) (h0 : ¬t.val % 16 = 0) : (outsAt0 m c t.val t.isLt).2.2.2.2.1 = (outsAt0 m c (t.val - 1) (Nat.lt_of_le_of_lt (Nat.sub_le _ _) t.isLt)).2.2.2.2.1 := by
  rw [outsAt0_B m c t h0]
  rfl

theorem kept_d_first (c : Dev nD) (t : Fin cfg0.N) (h0 : t.val % 16 = 0) : (outsAt0 m c t.val t.isLt).2.2.2.2.2 = Wd (V m c main_v9) := by
  rw [outsAt0_A m c t h0]
  dsimp only
  exact sout_d (hc0 := (hcond0_0 t).mpr h0) _ _ _ _ _ _ _ _ _ _ _ _ _ _ _ _ _ _ _ _ _ _ _

theorem kept_d_next (c : Dev nD) (t : Fin cfg0.N) (h0 : ¬t.val % 16 = 0) : (outsAt0 m c t.val t.isLt).2.2.2.2.2 = (outsAt0 m c (t.val - 1) (Nat.lt_of_le_of_lt (Nat.sub_le _ _) t.isLt)).2.2.2.2.2 := by
  rw [outsAt0_B m c t h0]
  rfl

/-- The kept weights after any block are the gathered ones. -/
theorem kept (c : Dev nD) : ∀ (n : ℕ) (h : n < cfg0.N), (outsAt0 m c n h).2.2.2.1 = Wg (V m c main_v9) ∧ (outsAt0 m c n h).2.2.2.2.1 = Wu (V m c main_v9) ∧ (outsAt0 m c n h).2.2.2.2.2 = Wd (V m c main_v9) := by
  intro n
  induction n with
  | zero => exact fun h => ⟨kept_g_first m c ⟨0, h⟩ rfl, kept_u_first m c ⟨0, h⟩ rfl, kept_d_first m c ⟨0, h⟩ rfl⟩
  | succ n ih =>
    intro h
    have hN : cfg0.N = 16 := rfl
    have hn : ¬(n + 1) % 16 = 0 := by omega
    obtain ⟨e0, e1, e2⟩ := ih (Nat.lt_of_succ_lt h)
    exact ⟨(kept_g_next m c ⟨n + 1, h⟩ hn).trans e0, (kept_u_next m c ⟨n + 1, h⟩ hn).trans e1, (kept_d_next m c ⟨n + 1, h⟩ hn).trans e2⟩

theorem x_block (c : Dev nD) (t : Fin cfg0.N) : (outsAt0 m c t.val t.isLt).1 = xo (k0_pay2 (F := Ideal) (iblk m c 0 t) (iblk m c 1 t)) (Wg (V m c main_v9)) (Wu (V m c main_v9)) (Wd (V m c main_v9)) (iblk m c 0 t) := by
  by_cases h0 : t.val % 16 = 0
  · rw [outsAt0_A m c t h0]
    dsimp only
    exact out_A_2 (hc0 := (hcond0_0 t).mpr h0) _ _ _ _ _ _ _ _ _ _ _ _ _ _ _ _ _ _ _ _ _ _ _
  · rw [outsAt0_B m c t h0]
    dsimp only
    obtain ⟨e0, e1, e2⟩ := kept m c (t.val - 1) (Nat.lt_of_le_of_lt (Nat.sub_le _ _) t.isLt)
    refine (out_B_2 (hc0 := fun h => h0 ((hcond0_0 t).mp h)) _ _ _ _ _ _ _ _ _ _ _ _ _ _ _ _ _ _ _ _ _ _ _ _ _ _).trans ?_
    rw [e0, e1, e2]

theorem gg_block (c : Dev nD) (t : Fin cfg0.N) : (outsAt0 m c t.val t.isLt).2.1 = gt (k0_pay2 (F := Ideal) (iblk m c 0 t) (iblk m c 1 t)) (Wg (V m c main_v9)) := by
  by_cases h0 : t.val % 16 = 0
  · rw [outsAt0_A m c t h0]
    dsimp only
    exact out_A_3 (hc0 := (hcond0_0 t).mpr h0) _ _ _ _ _ _ _ _ _ _ _ _ _ _ _ _ _ _ _ _ _ _ _
  · rw [outsAt0_B m c t h0]
    dsimp only
    obtain ⟨e0, e1, e2⟩ := kept m c (t.val - 1) (Nat.lt_of_le_of_lt (Nat.sub_le _ _) t.isLt)
    refine (out_B_3 (hc0 := fun h => h0 ((hcond0_0 t).mp h)) _ _ _ _ _ _ _ _ _ _ _ _ _ _ _ _ _ _ _ _ _ _ _ _ _ _).trans ?_
    rw [e0]

theorem uu_block (c : Dev nD) (t : Fin cfg0.N) : (outsAt0 m c t.val t.isLt).2.2.1 = gt (k0_pay2 (F := Ideal) (iblk m c 0 t) (iblk m c 1 t)) (Wu (V m c main_v9)) := by
  by_cases h0 : t.val % 16 = 0
  · rw [outsAt0_A m c t h0]
    dsimp only
    exact out_A_4 (hc0 := (hcond0_0 t).mpr h0) _ _ _ _ _ _ _ _ _ _ _ _ _ _ _ _ _ _ _ _ _ _ _
  · rw [outsAt0_B m c t h0]
    dsimp only
    obtain ⟨e0, e1, e2⟩ := kept m c (t.val - 1) (Nat.lt_of_le_of_lt (Nat.sub_le _ _) t.isLt)
    refine (out_B_4 (hc0 := fun h => h0 ((hcond0_0 t).mp h)) _ _ _ _ _ _ _ _ _ _ _ _ _ _ _ _ _ _ _ _ _ _ _ _ _ _).trans ?_
    rw [e1]

end Cert.KernelFfnFwdIdeal.Value
-- ==== Proof.Ffw.Arrays.lean ====
/- The three results of the forward feed-forward layer after the run. -/
module

public import proofs.«01_k».proof.Proof.Ffw.Body
public import proofs.«01_k».proof.Proof.Ffi.Arrays

@[expose] public section

set_option maxRecDepth 16384

noncomputable section

namespace Cert.KernelFfnFwdIdeal.Value

open Idealize.ShloMosaic Idealize.SL.Sem Cert.KernelFfnFwdIdeal Cert.KernelFfnFwdIdeal.Gen
open Cert.KernelFfnInIdeal.Value (hA hB h_eq)
open Cert.KernelIdeal.Value (sg)
open scoped BigOperators

/-- All rows times the transpose of a weight. -/
def gtA (H : S8192x1024.Idx → EReal) (W : S2816x1024.Idx → EReal) (i : S8192x2816.Idx) : EReal :=
  ∑ k : Fin 1024, H (ix2 (i 0) k) * W (ix2 (i 1) k)

/-- All rows plus the gated hidden layer times the down weight. -/
def xA (X : S8192x1024.Idx → EReal) (G U : S8192x2816.Idx → EReal) (Wd : S2816x1024.Idx → EReal) (i : S8192x1024.Idx) : EReal :=
  X i + ∑ f : Fin 2816, G (ix2 (i 0) f) * sg (G (ix2 (i 0) f)) * U (ix2 (i 0) f) * Wd (ix2 f (i 1))

theorem gt_eq (H : S512x1024.Idx → EReal) (H' : S8192x1024.Idx → EReal) (W : S2816x1024.Idx → EReal) (r : Fin 512) (q : Fin 8192) (hH : ∀ k, H (ix2 r k) = H' (ix2 q k)) (n : Fin 2816) :
    gt H W (ix2 r n) = gtA H' W (ix2 q n) := by
  show (∑ k : Fin 1024, H (ix2 r k) * W (ix2 n k)) = ∑ k : Fin 1024, H' (ix2 q k) * W (ix2 n k)
  simp only [hH]

theorem x_eq (H X : S512x1024.Idx → EReal) (H' X' : S8192x1024.Idx → EReal) (Wg Wu Wd : S2816x1024.Idx → EReal) (r : Fin 512) (q : Fin 8192) (hH : ∀ k, H (ix2 r k) = H' (ix2 q k)) (hX : ∀ n, X (ix2 r n) = X' (ix2 q n)) (n : Fin 1024) :
    xo H Wg Wu Wd X (ix2 r n) = xA X' (gtA H' Wg) (gtA H' Wu) Wd (ix2 q n) := by
  rw [xo_at]
  show X (ix2 r n) + (∑ f : Fin 2816, gt H Wg (ix2 r f) * sg (gt H Wg (ix2 r f)) * gt H Wu (ix2 r f) * Wd (ix2 f n)) = X' (ix2 q n) + ∑ f : Fin 2816, gtA H' Wg (ix2 q f) * sg (gtA H' Wg (ix2 q f)) * gtA H' Wu (ix2 q f) * Wd (ix2 f n)
  rw [hX]
  refine congrArg (X' (ix2 q n) + ·) (Finset.sum_congr rfl fun f _ => ?_)
  rw [gt_eq H H' Wg r q hH, gt_eq H H' Wu r q hH]

variable (m : (ℓ : Loc nD τ sig) → Buf (Elt Ideal) ℓ)

theorem idx_at (t : Fin cfg0.N) : win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0]) t

theorem blk0_at (c : Dev nD) (s : Fin cfg0.N) (r : Fin 512) (k : Fin 1024) (h : s.val * 512 + r.val < 8192) :
    iblk m c 0 s (ix2 r k) = V m c main_arg0 (ix2 ⟨s.val * 512 + r.val, h⟩ k) := by
  obtain ⟨e0, e1, e2, e3, e4⟩ := idx_at s
  blk_ext [iblk, e0]

theorem blk1_at (c : Dev nD) (s : Fin cfg0.N) : iblk m c 1 s = V m c main_v10 := by
  obtain ⟨e0, e1, e2, e3, e4⟩ := idx_at s
  funext j
  idx_vars j
  blk_ext [iblk, e1]

theorem row_at (c : Dev nD) (t : Fin cfg0.N) (r : Fin 512) (h : t.val * 512 + r.val < 8192) (k : Fin 1024) :
    k0_pay2 (F := Ideal) (iblk m c 0 t) (iblk m c 1 t) (ix2 r k) = hA (V m c main_arg0) (V m c main_v10) (ix2 ⟨t.val * 512 + r.val, h⟩ k) :=
  (h_at _ _ _).trans (h_eq _ _ _ _ r _ (fun n => blk0_at m c t r n h) (blk1_at m c t) k)

theorem x_point (c : Dev nD) (t : Fin cfg0.N) (y : S512x1024.Idx) (i : S8192x1024.Idx) (h0 : (i 0).val = t.val * 512 + (y 0).val) (h1 : (i 1).val = (y 1).val) :
    (outsAt0 m c t.val t.isLt).1 y = xA (V m c main_arg0) (gtA (hA (V m c main_arg0) (V m c main_v10)) (Wg (V m c main_v9))) (gtA (hA (V m c main_arg0) (V m c main_v10)) (Wu (V m c main_v9))) (Wd (V m c main_v9)) i := by
  rw [x_block]
  have h : t.val * 512 + (y 0).val < 8192 := h0 ▸ (i 0).isLt
  have ey : y = ix2 (y 0) (y 1) := funext fun a => by fin_cases a <;> rfl
  have ei : i = ix2 ⟨t.val * 512 + (y 0).val, h⟩ (y 1) := funext fun a => Fin.ext (by fin_cases a <;> assumption)
  rw [ey, ei]
  exact x_eq _ _ _ _ _ _ _ (y 0) _ (row_at m c t (y 0) h) (fun n => blk0_at m c t (y 0) n h) (y 1)

theorem arr_x (c : Dev nD) : (dats m 0 c).arrAt 2 cfg0.N = xA (V m c main_arg0) (gtA (hA (V m c main_arg0) (V m c main_v10)) (Wg (V m c main_v9))) (gtA (hA (V m c main_arg0) (V m c main_v10)) (Wu (V m c main_v9))) (Wd (V m c main_v9)) := by
  refine (dats m 0 c).arrAt_eq_of_covers 2 _ (by decide +kernel) fun t hf y => ?_
  obtain ⟨e0, e1, e2, e3, e4⟩ := idx_at t
  blk_simp
  rw [after0_2]
  refine x_point m c t y _ ?_ ?_
  · blk_simp [e2]
  · blk_simp [e2]

theorem gg_point (c : Dev nD) (t : Fin cfg0.N) (y : S512x2816.Idx) (i : S8192x2816.Idx) (h0 : (i 0).val = t.val * 512 + (y 0).val) (h1 : (i 1).val = (y 1).val) :
    (outsAt0 m c t.val t.isLt).2.1 y = gtA (hA (V m c main_arg0) (V m c main_v10)) (Wg (V m c main_v9)) i := by
  rw [gg_block]
  have h : t.val * 512 + (y 0).val < 8192 := h0 ▸ (i 0).isLt
  have ey : y = ix2 (y 0) (y 1) := funext fun a => by fin_cases a <;> rfl
  have ei : i = ix2 ⟨t.val * 512 + (y 0).val, h⟩ (y 1) := funext fun a => Fin.ext (by fin_cases a <;> assumption)
  rw [ey, ei]
  exact gt_eq _ _ _ (y 0) _ (row_at m c t (y 0) h) (y 1)

theorem arr_gg (c : Dev nD) : (dats m 0 c).arrAt 3 cfg0.N = gtA (hA (V m c main_arg0) (V m c main_v10)) (Wg (V m c main_v9)) := by
  refine (dats m 0 c).arrAt_eq_of_covers 3 _ (by decide +kernel) fun t hf y => ?_
  obtain ⟨e0, e1, e2, e3, e4⟩ := idx_at t
  blk_simp
  rw [after0_3]
  refine gg_point m c t y _ ?_ ?_
  · blk_simp [e3]
  · blk_simp [e3]

theorem uu_point (c : Dev nD) (t : Fin cfg0.N) (y : S512x2816.Idx) (i : S8192x2816.Idx) (h0 : (i 0).val = t.val * 512 + (y 0).val) (h1 : (i 1).val = (y 1).val) :
    (outsAt0 m c t.val t.isLt).2.2.1 y = gtA (hA (V m c main_arg0) (V m c main_v10)) (Wu (V m c main_v9)) i := by
  rw [uu_block]
  have h : t.val * 512 + (y 0).val < 8192 := h0 ▸ (i 0).isLt
  have ey : y = ix2 (y 0) (y 1) := funext fun a => by fin_cases a <;> rfl
  have ei : i = ix2 ⟨t.val * 512 + (y 0).val, h⟩ (y 1) := funext fun a => Fin.ext (by fin_cases a <;> assumption)
  rw [ey, ei]
  exact gt_eq _ _ _ (y 0) _ (row_at m c t (y 0) h) (y 1)

theorem arr_uu (c : Dev nD) : (dats m 0 c).arrAt 4 cfg0.N = gtA (hA (V m c main_arg0) (V m c main_v10)) (Wu (V m c main_v9)) := by
  refine (dats m 0 c).arrAt_eq_of_covers 4 _ (by decide +kernel) fun t hf y => ?_
  obtain ⟨e0, e1, e2, e3, e4⟩ := idx_at t
  blk_simp
  rw [after0_4]
  refine uu_point m c t y _ ?_ ?_
  · blk_simp [e4]
  · blk_simp [e4]

end Cert.KernelFfnFwdIdeal.Value
-- ==== Proof.Ffw.Agree.lean ====
/- The forward feed-forward layer: the arrays the host prepares and the claims about both programs. -/
module

public import proofs.«01_k».proof.Proof.Ffw.Ref
public import proofs.«01_k».proof.Proof.Ffw.Arrays
public import proofs.«01_k».proof.Proof.Gen.KernelFfnFwd
public import Idealize.ShloMosaic.Lib.StableHlo.ReadAt
public import Idealize.ShloMosaic.Lib.Quiescent
public import proofs.«01_k».proof.Proof.Ffi.Agree

@[expose] public section

set_option maxRecDepth 16384
set_option maxHeartbeats 1000000

noncomputable section

namespace Cert.KernelFfnFwdIdeal.Value

open Idealize.ShloMosaic Idealize.SL.Sem Cert.KernelFfnFwdIdeal Cert.KernelFfnFwdIdeal.Gen
open Idealize.ShloMosaic.StableHlo
open Cert.KernelFfnInIdeal.Value (hA)
open scoped BigOperators

variable (m : (ℓ : Loc nD τ sig) → Buf (Elt Ideal) ℓ)

/-- The scale as a row. -/
def Gr (g : FVec Ideal S1024 .f32) : FVec Ideal S1x1024 .f32 := broadcastInDim S1x1024 ![1] bcast_S1024_S1x1024_1 g

theorem g_host (c : Dev nD) : V m c main_v10 = Gr (m ((c.tc : Thread nD τ).loc main_arg1)) := by
  unfold V
  after_reads_simp
  rfl

theorem gr_at (g : FVec Ideal S1024 .f32) : Gr g = fun i => g (ix1 (i 1)) := by
  funext i
  idx_vars i
  pointwise [Gr]

theorem gath_g (c : Dev nD) (w : S1024x2816.Idx → EReal) (hw : w = m ((c.tc : Thread nD τ).loc main_arg5)) (p : Fin 8) (r : Fin 352) (k : Fin 1024) (h : 384 + r.val < 1440) (h' : 352 * p.val + r.val < 2816) :
    V m c main_v9 (ix3 p ⟨384 + r.val, h⟩ k) = w (ix2 k ⟨352 * p.val + r.val, h'⟩) := by
  have hr := r.isLt
  unfold V
  after_reads_at
  rw [dif_neg (by omega), dif_neg (by omega), dif_neg (by omega), dif_pos (by omega)]
  after_reads_at
  rw [hw]
  exact congrArg (m ((c.tc : Thread nD τ).loc main_arg5)) (congrArg (fun q => ix2 k q) (Fin.ext (by show p.val * 352 + (384 + r.val - 128 - 128 - 128) = 352 * p.val + r.val; omega)))

/-- The weights the call holds are the gate weights, transposed. -/
theorem wg_host (c : Dev nD) (w : S1024x2816.Idx → EReal) (hw : w = m ((c.tc : Thread nD τ).loc main_arg5)) (k : Fin 2816) (n : Fin 1024) : Wg (V m c main_v9) (ix2 k n) = w (ix2 n k) := by
  have hj : k.val < 2816 := k.isLt
  have hp : k.val / 352 < 8 := by omega
  have hr : k.val % 352 < 352 := Nat.mod_lt _ (by norm_num)
  exact (gath_g m c w hw ⟨k.val / 352, hp⟩ ⟨k.val % 352, hr⟩ n (by show 384 + k.val % 352 < 1440; omega) (by show 352 * (k.val / 352) + k.val % 352 < 2816; omega)).trans
    (congrArg w (congrArg (fun q => ix2 n q) (Fin.ext (Nat.div_add_mod _ _))))

theorem gath_u (c : Dev nD) (w : S1024x2816.Idx → EReal) (hw : w = m ((c.tc : Thread nD τ).loc main_arg6)) (p : Fin 8) (r : Fin 352) (k : Fin 1024) (h : 736 + r.val < 1440) (h' : 352 * p.val + r.val < 2816) :
    V m c main_v9 (ix3 p ⟨736 + r.val, h⟩ k) = w (ix2 k ⟨352 * p.val + r.val, h'⟩) := by
  have hr := r.isLt
  unfold V
  after_reads_at
  rw [dif_neg (by omega), dif_neg (by omega), dif_neg (by omega), dif_neg (by omega), dif_pos (by omega)]
  after_reads_at
  rw [hw]
  exact congrArg (m ((c.tc : Thread nD τ).loc main_arg6)) (congrArg (fun q => ix2 k q) (Fin.ext (by show p.val * 352 + (736 + r.val - 128 - 128 - 128 - 352) = 352 * p.val + r.val; omega)))

/-- The weights the call holds are the up weights, transposed. -/
theorem wu_host (c : Dev nD) (w : S1024x2816.Idx → EReal) (hw : w = m ((c.tc : Thread nD τ).loc main_arg6)) (k : Fin 2816) (n : Fin 1024) : Wu (V m c main_v9) (ix2 k n) = w (ix2 n k) := by
  have hj : k.val < 2816 := k.isLt
  have hp : k.val / 352 < 8 := by omega
  have hr : k.val % 352 < 352 := Nat.mod_lt _ (by norm_num)
  exact (gath_u m c w hw ⟨k.val / 352, hp⟩ ⟨k.val % 352, hr⟩ n (by show 736 + k.val % 352 < 1440; omega) (by show 352 * (k.val / 352) + k.val % 352 < 2816; omega)).trans
    (congrArg w (congrArg (fun q => ix2 n q) (Fin.ext (Nat.div_add_mod _ _))))

theorem gath_d (c : Dev nD) (w : S2816x1024.Idx → EReal) (hw : w = m ((c.tc : Thread nD τ).loc main_arg7)) (p : Fin 8) (r : Fin 352) (k : Fin 1024) (h : 1088 + r.val < 1440) (h' : 352 * p.val + r.val < 2816) :
    V m c main_v9 (ix3 p ⟨1088 + r.val, h⟩ k) = w (ix2 ⟨352 * p.val + r.val, h'⟩ k) := by
  unfold V
  after_reads_at
  rw [dif_neg (by omega), dif_neg (by omega), dif_neg (by omega), dif_neg (by omega), dif_neg (by omega)]
  after_reads_at
  rw [hw]
  exact congrArg (m ((c.tc : Thread nD τ).loc main_arg7)) (congrArg (fun q => ix2 q k) (Fin.ext (by show p.val * 352 + (1088 + r.val - 128 - 128 - 128 - 352 - 352) = 352 * p.val + r.val; omega)))

/-- The last weight the call holds is the down weight. -/
theorem wd_host (c : Dev nD) (w : S2816x1024.Idx → EReal) (hw : w = m ((c.tc : Thread nD τ).loc main_arg7)) : Wd (V m c main_v9) = w := by
  funext j
  have hj : (j 0).val < 2816 := (j 0).isLt
  have hp : (j 0).val / 352 < 8 := by omega
  have hr : (j 0).val % 352 < 352 := Nat.mod_lt _ (by norm_num)
  refine (gath_d m c w hw ⟨(j 0).val / 352, hp⟩ ⟨(j 0).val % 352, hr⟩ (j 1) (by show 1088 + (j 0).val % 352 < 1440; omega) (by show 352 * ((j 0).val / 352) + (j 0).val % 352 < 2816; omega)).trans (congrArg w ?_)
  funext a
  fin_cases a
  · exact Fin.ext (Nat.div_add_mod _ _)
  · rfl

/-- The kernel's product with transposed weights is the reference's. -/
theorem gt_ref (X : FVec Ideal S8192x1024 .f32) (g : FVec Ideal S1024 .f32) (W : S2816x1024.Idx → EReal) (w : FVec Ideal S1024x2816 .f32) (h : ∀ k n, W (ix2 k n) = w (ix2 n k)) :
    gtA (hA X (Gr g)) W = FfnFwdRef.rG (FfnFwdRef.rH X g) w := by
  funext i
  rw [FfnFwdRef.g_at, gr_at]
  exact Finset.sum_congr rfl fun k _ => congrArg₂ (fun a b : EReal => a * b) (FfnFwdRef.h_at X g (ix2 (i 0) k)).symm (h (i 1) k)

theorem x_ref (X : FVec Ideal S8192x1024 .f32) (G U : FVec Ideal S8192x2816 .f32) (w : FVec Ideal S2816x1024 .f32) : xA X G U w = FfnFwdRef.rX X G U w :=
  funext fun i => (FfnFwdRef.x_at X G U w i).symm

theorem gg_ref (c : Dev nD) : gtA (hA (V m c main_arg0) (V m c main_v10)) (Wg (V m c main_v9)) = FfnFwdRef.rG (FfnFwdRef.rH (m ((c.tc : Thread nD τ).loc main_arg0)) (m ((c.tc : Thread nD τ).loc main_arg1))) (m ((c.tc : Thread nD τ).loc main_arg5)) := by
  rw [V_main_arg0 m c, g_host]
  exact gt_ref _ _ _ _ (wg_host m c _ rfl)

theorem uu_ref (c : Dev nD) : gtA (hA (V m c main_arg0) (V m c main_v10)) (Wu (V m c main_v9)) = FfnFwdRef.rG (FfnFwdRef.rH (m ((c.tc : Thread nD τ).loc main_arg0)) (m ((c.tc : Thread nD τ).loc main_arg1))) (m ((c.tc : Thread nD τ).loc main_arg6)) := by
  rw [V_main_arg0 m c, g_host]
  exact gt_ref _ _ _ _ (wu_host m c _ rfl)

end Cert.KernelFfnFwdIdeal.Value

namespace Cert.FfnFwd

section
open Idealize.ShloMosaic Idealize.SL.Sem Cert.ReferenceFfnFwdIdeal Cert.ReferenceFfnFwdIdeal.Gen Cert.ReferenceFfnFwdIdeal.Value

/-- The reference has no semaphores, so their counters are zero throughout. -/
theorem frame_reference : Cert.quiescent_ReferenceFfnFwdIdeal := fun m ρ _ =>
  (θ_run defs _ _).mono (fun r h => ⟨fun c => (h c).2.2.2, sem_eq_zero_of_no_sems rfl r.2⟩) (run m ρ)
end

section
open Idealize.ShloMosaic Idealize.SL.Sem

/-- At bit vectors the kernel and its idealized form run the same body. -/
theorem kernels_eq : @KernelFfnFwd.defs₀ Bits _ _ = @KernelFfnFwdIdeal.defs₀ Bits _ _ := by
  unfold KernelFfnFwd.defs₀ KernelFfnFwdIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : @KernelFfnFwd.defs Bits _ _ = @KernelFfnFwdIdeal.defs Bits _ _ := congrArg (Pipeline.defs (KernelFfnFwdIdeal.pcfgs (F := Bits))) kernels_eq

theorem main_eq : @KernelFfnFwd.main Bits _ _ = @KernelFfnFwdIdeal.main Bits _ _ := rfl

theorem frame_kernel : Cert.quiescent_KernelFfnFwd := fun m ρ _ => by
  have h := KernelFfnFwdIdeal.Gen.frame (F := Bits) m ρ
  rw [← defs_eq, ← main_eq] at h
  exact h

theorem frame_ideal : Cert.quiescent_KernelFfnFwdIdeal := fun m ρ _ => KernelFfnFwdIdeal.Gen.frame (F := Ideal) m ρ

theorem agree : Cert.algebraic_KernelFfnFwdIdeal_ReferenceFfnFwdIdeal := by
  intro m g m' g' hpre hargs
  refine ⟨fun c => FfnFwdRef.rX (m (c.tc.loc Cert.KernelFfnFwdIdeal.main_arg0)) (FfnFwdRef.rG (FfnFwdRef.rH (m (c.tc.loc Cert.KernelFfnFwdIdeal.main_arg0)) (m (c.tc.loc Cert.KernelFfnFwdIdeal.main_arg1))) (m (c.tc.loc Cert.KernelFfnFwdIdeal.main_arg5))) (FfnFwdRef.rG (FfnFwdRef.rH (m (c.tc.loc Cert.KernelFfnFwdIdeal.main_arg0)) (m (c.tc.loc Cert.KernelFfnFwdIdeal.main_arg1))) (m (c.tc.loc Cert.KernelFfnFwdIdeal.main_arg6))) (m (c.tc.loc Cert.KernelFfnFwdIdeal.main_arg7)),
    fun c => FfnFwdRef.rG (FfnFwdRef.rH (m (c.tc.loc Cert.KernelFfnFwdIdeal.main_arg0)) (m (c.tc.loc Cert.KernelFfnFwdIdeal.main_arg1))) (m (c.tc.loc Cert.KernelFfnFwdIdeal.main_arg5)), fun c => FfnFwdRef.rG (FfnFwdRef.rH (m (c.tc.loc Cert.KernelFfnFwdIdeal.main_arg0)) (m (c.tc.loc Cert.KernelFfnFwdIdeal.main_arg1))) (m (c.tc.loc Cert.KernelFfnFwdIdeal.main_arg6)), ?_, ?_⟩
  · refine (θ_run Cert.KernelFfnFwdIdeal.defs _ _).mono (fun r h c => ?_) (Cert.KernelFfnFwdIdeal.Value.run_blocks m g)
    obtain ⟨h0, h1, h2, kept⟩ := h c
    refine ⟨h0.trans ?_, h1.trans ?_, h2.trans ?_, kept⟩
    · rw [Cert.KernelFfnFwdIdeal.Value.arr_x m c, Cert.KernelFfnFwdIdeal.Value.gg_ref m c, Cert.KernelFfnFwdIdeal.Value.uu_ref m c, Cert.KernelFfnFwdIdeal.Value.wd_host m c _ rfl, Cert.KernelFfnFwdIdeal.Gen.V_main_arg0 m c]
      exact Cert.KernelFfnFwdIdeal.Value.x_ref _ _ _ _
    · exact (Cert.KernelFfnFwdIdeal.Value.arr_gg m c).trans (Cert.KernelFfnFwdIdeal.Value.gg_ref m c)
    · exact (Cert.KernelFfnFwdIdeal.Value.arr_uu m c).trans (Cert.KernelFfnFwdIdeal.Value.uu_ref m c)
  · refine (θ_run Cert.ReferenceFfnFwdIdeal.defs _ _).mono (fun r h c => ?_) (Cert.FfnFwdRef.run_ref m' g')
    obtain ⟨h0, h1, h2, kept⟩ := h c
    obtain ⟨e0, e1, e2, e3, e4, e5, e6, e7⟩ := hargs c
    refine ⟨h0.trans ?_, h1.trans ?_, h2.trans ?_, kept⟩
    · rw [e0, e1, e5, e6, e7]
    · rw [e0, e1, e5]
    · rw [e0, e1, e6]
end

end Cert.FfnFwd
-- ==== Proof.lean ====
module

public import proofs.«01_k».proof.Proof.Act.Arrays
public import proofs.«01_k».proof.Proof.Act.Prefix
public import proofs.«01_k».proof.Proof.Act.Finite
public import proofs.«01_k».proof.Proof.Act.Same
public import proofs.«01_k».proof.Proof.Gen.ReferenceIdeal.Run
public import proofs.«01_k».proof.Proof.Dw.InAgree
public import proofs.«01_k».proof.Proof.Dw.FfnAgree
public import proofs.«01_k».proof.Proof.Gen.KernelDwIn
public import proofs.«01_k».proof.Proof.Gen.KernelDwFfn
public import proofs.«01_k».proof.Proof.Gen.ReferenceDwInIdeal
public import proofs.«01_k».proof.Proof.Gen.ReferenceDwFfnIdeal
public import proofs.«01_k».proof.Proof.Inp.Agree
public import proofs.«01_k».proof.Proof.Ffi.Agree
public import proofs.«01_k».proof.Proof.Ffw.Agree
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_all_finite
public import Idealize.ShloMosaic.Adequacy
public import Idealize.ShloMosaic.Init
public import Idealize.ShloMosaic.Lib.Quiescent

@[expose] public section

set_option maxRecDepth 16384
set_option maxHeartbeats 1000000

noncomputable section

namespace Cert.Proof

open Idealize.ShloMosaic Idealize.SL.Sem

theorem frame_ideal : Cert.quiescent_KernelIdeal := fun m ρ _ => Cert.KernelIdeal.Gen.frame (F := Ideal) m ρ

theorem frame_ideal_pre : Cert.quiescent_KernelIdeal_pre_all_finite := fun m ρ _ => Cert.KernelIdeal.Gen.frame (F := Ideal) m ρ

/-- The reference has no semaphores, so their counters are zero throughout. -/
theorem frame_reference : Cert.quiescent_ReferenceIdeal := fun m ρ _ =>
  (θ_run Cert.ReferenceIdeal.defs _ _).mono (fun r h => ⟨fun c => (h c).2.2.2, sem_eq_zero_of_no_sems rfl r.2⟩) (Cert.ActRef.run_ref m ρ)

theorem frame_reference_pre : Cert.quiescent_ReferenceIdeal_pre_all_finite := fun m ρ _ => frame_reference m ρ trivial

section
open Cert.KernelIdeal Cert.KernelIdeal.Gen Cert.KernelIdeal.Value

/-- The factors of the gate's gradient are real when the arguments are. -/
theorem products_real (x : FVec Ideal S8192x1024 .f32) (g : FVec Ideal S1024 .f32) (dx : FVec Ideal S8192x1024 .f32) (wu : FVec Ideal S1024x2816 .f32) (wd : FVec Ideal S2816x1024 .f32)
    (h : (∀ i, ActReal.R (x i)) ∧ (∀ i, ActReal.R (g i)) ∧ (∀ i, ActReal.R (dx i)) ∧ (∀ i, ActReal.R (wu i)) ∧ ∀ i, ActReal.R (wd i)) (i : S8192x2816.Idx) :
    ActReal.R (gDf dx wd i * Hdot x g wu i) :=
  (ActReal.df_real dx wd h.2.2.1 h.2.2.2.2 i).mul (ActReal.hdot_real x g wu h.1 h.2.1 h.2.2.2.1 i)
end

theorem agree : Cert.algebraic_KernelIdeal_ReferenceIdeal_pre_all_finite := by
  intro m g m' g' hpre hargs
  refine ⟨fun c => Cert.KernelIdeal.Value.gDgg (m (c.tc.loc Cert.KernelIdeal.main_arg2)) (Cert.KernelIdeal.Value.Hdot (m (c.tc.loc Cert.KernelIdeal.main_arg0)) (m (c.tc.loc Cert.KernelIdeal.main_arg1)) (m (c.tc.loc Cert.KernelIdeal.main_arg6)))
      (Cert.KernelIdeal.Value.Hdot (m (c.tc.loc Cert.KernelIdeal.main_arg0)) (m (c.tc.loc Cert.KernelIdeal.main_arg1)) (m (c.tc.loc Cert.KernelIdeal.main_arg7))) (m (c.tc.loc Cert.KernelIdeal.main_arg8)),
    fun c => Cert.KernelIdeal.Value.gDuu (m (c.tc.loc Cert.KernelIdeal.main_arg2)) (Cert.KernelIdeal.Value.Hdot (m (c.tc.loc Cert.KernelIdeal.main_arg0)) (m (c.tc.loc Cert.KernelIdeal.main_arg1)) (m (c.tc.loc Cert.KernelIdeal.main_arg6))) (m (c.tc.loc Cert.KernelIdeal.main_arg8)),
    fun c => Cert.KernelIdeal.Value.gDwd (m (c.tc.loc Cert.KernelIdeal.main_arg2)) (Cert.KernelIdeal.Value.Hdot (m (c.tc.loc Cert.KernelIdeal.main_arg0)) (m (c.tc.loc Cert.KernelIdeal.main_arg1)) (m (c.tc.loc Cert.KernelIdeal.main_arg6)))
      (Cert.KernelIdeal.Value.Hdot (m (c.tc.loc Cert.KernelIdeal.main_arg0)) (m (c.tc.loc Cert.KernelIdeal.main_arg1)) (m (c.tc.loc Cert.KernelIdeal.main_arg7))), ?_, ?_⟩
  · refine (θ_run Cert.KernelIdeal.defs _ _).mono (fun r h c => ?_) (Cert.KernelIdeal.Value.run_blocks m g)
    obtain ⟨h0, h1, a0, a1, a2, a3, a4, a5, a6, a7, a8, h2⟩ := h c
    refine ⟨h0.trans ?_, h1.trans ?_, h2.trans ?_, a0, a1, a2, a3, a4, a5, a6, a7, a8⟩
    · rw [Cert.KernelIdeal.Value.arr3 m c, Cert.KernelIdeal.Gen.V_main_arg2 m c, Cert.KernelIdeal.Value.gg_host m c, Cert.KernelIdeal.Value.uu_host m c, Cert.KernelIdeal.Value.wg_host m c _ rfl]
    · rw [Cert.KernelIdeal.Value.arr4 m c, Cert.KernelIdeal.Gen.V_main_arg2 m c, Cert.KernelIdeal.Value.gg_host m c, Cert.KernelIdeal.Value.wg_host m c _ rfl]
    · refine (Cert.KernelIdeal.Value.hbm_after m c ⟨15, by rw [show Cert.KernelIdeal.cfg0.N = 16 from Cert.KernelIdeal.Gen.N_0]; omega⟩ rfl).trans ?_
      rw [Cert.KernelIdeal.Gen.V_main_arg2 m c, Cert.KernelIdeal.Value.gg_host m c, Cert.KernelIdeal.Value.uu_host m c]
  · refine (θ_run Cert.ReferenceIdeal.defs _ _).mono (fun r h c => ?_) (Cert.ActRef.run_ref m' g')
    obtain ⟨h0, h1, h2, kept⟩ := h c
    obtain ⟨e0, e1, e2, e3, e4, e5, e6, e7, e8⟩ := hargs c
    have hR := products_real _ _ _ _ _ (ActReal.finite_args _ _ _ _ _ _ _ _ _ (hpre c))
    refine ⟨h0.trans ?_, h1.trans ?_, h2.trans ?_, kept⟩
    · rw [e0, e1, e2, e6, e7, e8]
      exact Cert.ActRef.rgg_at _ _ _ _ hR
    · rw [e0, e1, e2, e6, e8]
      exact Cert.ActRef.ruu_at _ _ _
    · rw [e0, e1, e2, e6, e7]
      exact Cert.ActRef.rwd_at _ _ _

theorem claim : Cert.Claim := ⟨Cert.Kernel.Gen.facts, Cert.KernelIdeal.Gen.facts, Cert.ReferenceIdeal.Gen.facts,
  Cert.KernelDwIn.Gen.facts, Cert.KernelDwInIdeal.Gen.facts, Cert.ReferenceDwInIdeal.Gen.facts,
  Cert.KernelDwFfn.Gen.facts, Cert.KernelDwFfnIdeal.Gen.facts, Cert.ReferenceDwFfnIdeal.Gen.facts,
  Cert.KernelInProj.Gen.facts, Cert.KernelInProjIdeal.Gen.facts, Cert.ReferenceInProjIdeal.Gen.facts,
  Cert.KernelFfnIn.Gen.facts, Cert.KernelFfnInIdeal.Gen.facts, Cert.ReferenceFfnInIdeal.Gen.facts,
  Cert.KernelFfnFwd.Gen.facts, Cert.KernelFfnFwdIdeal.Gen.facts, Cert.ReferenceFfnFwdIdeal.Gen.facts, Cert.Pre_all_finite.Gen.facts, Cert.Pre_in_proj_finite.Gen.facts, Cert.Pre_ffn_in_finite.Gen.facts,
  ActSame.frame_kernel, frame_ideal, frame_ideal_pre, frame_reference, frame_reference_pre,
  DwIn.frame_kernel, DwIn.frame_ideal, DwIn.frame_reference, DwFfn.frame_kernel, DwFfn.frame_ideal, DwFfn.frame_reference,
  InProj.frame_kernel, InProj.frame_ideal, InProj.frame_ideal_pre, InProj.frame_reference, InProj.frame_reference_pre,
  FfnIn.frame_kernel, FfnIn.frame_ideal, FfnIn.frame_ideal_pre, FfnIn.frame_reference, FfnIn.frame_reference_pre,
  FfnFwd.frame_kernel, FfnFwd.frame_ideal, FfnFwd.frame_reference,
  trivial, agree, trivial, DwIn.agree, trivial, DwFfn.agree, trivial, InProj.agree, trivial, FfnIn.agree, trivial, FfnFwd.agree⟩

end Cert.Proof

end
